-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v15_0)) (v1 : (c : Dev Cert.Kernel12Ideal.nD) → Buf (Elt Ideal) ((c.tc : Thread Cert.Kernel12Ideal.nD Cert.Kernel12Ideal.τ).loc Cert.Kernel12Ideal.main_v15_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v15_0) = v0 c
          ∧ r.2.mem ((c.tc : Thread Cert.Kernel12Ideal.nD Cert.Kernel12Ideal.τ).loc Cert.Kernel12Ideal.main_v15_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v60) = v0 c
          ∧ r.2.mem ((c.tc : Thread Cert.Reference12Ideal.nD Cert.Reference12Ideal.τ).loc Cert.Reference12Ideal.main_v61) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S9216x5120 : Shape := ⟨2, ![9216, 5120]⟩
abbrev S64x4x3x512 : Shape := ⟨4, ![64, 4, 3, 512]⟩
abbrev S512x512 : Shape := ⟨2, ![512, 512]⟩
abbrev S4x5x128x512 : Shape := ⟨4, ![4, 5, 128, 512]⟩
abbrev S4x1024x512 : Shape := ⟨3, ![4, 1024, 512]⟩
abbrev S8192x2048 : Shape := ⟨2, ![8192, 2048]⟩
abbrev S4x1x3x512 : Shape := ⟨4, ![4, 1, 3, 512]⟩
abbrev S512x128 : Shape := ⟨2, ![512, 128]⟩
abbrev S8192x128 : Shape := ⟨2, ![8192, 128]⟩
abbrev S1x5x128x512 : Shape := ⟨4, ![1, 5, 128, 512]⟩
abbrev S1x1024x512 : Shape := ⟨3, ![1, 1024, 512]⟩
abbrev S4x16x16x512 : Shape := ⟨4, ![4, 16, 16, 512]⟩
abbrev S4x512x128 : Shape := ⟨3, ![4, 512, 128]⟩
abbrev S112x512 : Shape := ⟨2, ![112, 512]⟩
abbrev S128x512 : Shape := ⟨2, ![128, 512]⟩
abbrev S128x128 : Shape := ⟨2, ![128, 128]⟩
abbrev S1x512x512 : Shape := ⟨3, ![1, 512, 512]⟩
abbrev S512 : Shape := ⟨1, ![512]⟩
abbrev S1x512 : Shape := ⟨2, ![1, 512]⟩
abbrev S1x512x128 : Shape := ⟨3, ![1, 512, 128]⟩
abbrev S1x1x128x512 : Shape := ⟨4, ![1, 1, 128, 512]⟩
abbrev S640x512 : Shape := ⟨2, ![640, 512]⟩
abbrev S640x128 : Shape := ⟨2, ![640, 128]⟩
abbrev S128 : Shape := ⟨1, ![128]⟩
abbrev S1x128 : Shape := ⟨2, ![1, 128]⟩
abbrev S16x8x512 : Shape := ⟨3, ![16, 8, 512]⟩
abbrev S16x16x512 : Shape := ⟨3, ![16, 16, 512]⟩
abbrev S1x16x16x512 : Shape := ⟨4, ![1, 16, 16, 512]⟩
abbrev S512x256 : Shape := ⟨2, ![512, 256]⟩
abbrev S1x1x16x512 : Shape := ⟨4, ![1, 1, 16, 512]⟩
abbrev S16x512 : Shape := ⟨2, ![16, 512]⟩
abbrev S256x512 : Shape := ⟨2, ![256, 512]⟩
abbrev S1x1x3x512 : Shape := ⟨4, ![1, 1, 3, 512]⟩
abbrev S3x512 : Shape := ⟨2, ![3, 512]⟩

abbrev nBuf : Space → Nat
  | .hbm => 8
  | .vmem => 24
  | .smem => 0
  | _ => 0

abbrev bufTy : (tb : Table) → Fin (tcTables nBuf tb) → BufTy
  | .hbm, ⟨0, _⟩ => ⟨S9216x5120, .f32⟩
  | .hbm, ⟨1, _⟩ => ⟨S9216x5120, .bf16⟩
  | .hbm, ⟨2, _⟩ => ⟨S64x4x3x512, .f32⟩
  | .hbm, ⟨3, _⟩ => ⟨S512x512, .bf16⟩
  | .hbm, ⟨4, _⟩ => ⟨S512x512, .bf16⟩
  | .hbm, ⟨5, _⟩ => ⟨S4x5x128x512, .f32⟩
  | .hbm, ⟨6, _⟩ => ⟨S4x1024x512, .f32⟩
  | .hbm, ⟨7, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S4x1x3x512, .f32⟩
  | .local _ .vmem, ⟨3, _⟩ => ⟨S4x1x3x512, .f32⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S1x5x128x512, .f32⟩
  | .local _ .vmem, ⟨17, _⟩ => ⟨S1x5x128x512, .f32⟩
  | .local _ .vmem, ⟨18, _⟩ => ⟨S1x1024x512, .f32⟩
  | .local _ .vmem, ⟨19, _⟩ => ⟨S1x1024x512, .f32⟩
  | .local _ .vmem, ⟨20, _⟩ => ⟨S512x512, .bf16⟩
  | .local _ .vmem, ⟨21, _⟩ => ⟨S512x512, .bf16⟩
  | .local _ .vmem, ⟨22, _⟩ => ⟨S4x16x16x512, .bf16⟩
  | .local _ .vmem, ⟨23, _⟩ => ⟨S4x512x128, .f32⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c504_i32 : BitVec 32 := 504#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c8_i32 : BitVec 32 := 8#32
  let v44 : BitVec 32 := Scalar.muli v33 c8_i32
  let v45 : BitVec 32 := Scalar.subi c504_i32 v44
  v45
def k0_off1 (i : grid0.Coords) (c0_i32_6 : BitVec 32) : Fin 3 → Nat :=
  let c0_13 : Index := 0#32
  let c504_i32 : BitVec 32 := 504#32
  let c4_i32 : BitVec 32 := 4#32
  let arg1 : BitVec 32 := BitVec.ofNat 32 (i 1).val
  let v32 : BitVec 32 := Scalar.muli c4_i32 arg1
  let v33 : BitVec 32 := Scalar.addi v32 c0_i32_6
  let c8_i32 : BitVec 32 := 8#32
  let v44 : BitVec 32 := Scalar.muli v33 c8_i32
  let v45 : BitVec 32 := Scalar.subi c504_i32 v44
  let v46 : BitVec 32 := v45
  let v49 : Index := Scalar.indexCast v46
  let c0_14 : Index := 0#32
  ![0, v49.toNat, 0]
def k0_mult2 (i : grid0.Coords) : BitVec 32 :=
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c4_i32_61 : BitVec 32 := 4#32
  let v159 : BitVec 32 := Scalar.subi v33 c4_i32_61
  let c0_i32_62 : BitVec 32 := 0#32
  let v160 : BitVec 32 := Scalar.maxsi v159 c0_i32_62
  let c128_i32_63 : BitVec 32 := 128#32
  let v161 : BitVec 32 := Scalar.muli v160 c128_i32_63
  v161
def k0_off2 (i : grid0.Coords) (c0_i32_6 : BitVec 32) (c0_i32_64 : BitVec 32) : Fin 4 → Nat :=
  let c0_68 : Index := 0#32
  let c4_i32 : BitVec 32 := 4#32
  let arg1 : BitVec 32 := BitVec.ofNat 32 (i 1).val
  let v32 : BitVec 32 := Scalar.muli c4_i32 arg1
  let v33 : BitVec 32 := Scalar.addi v32 c0_i32_6
  let c4_i32_61 : BitVec 32 := 4#32
  let v159 : BitVec 32 := Scalar.subi v33 c4_i32_61
  let c0_i32_62 : BitVec 32 := 0#32
  let v160 : BitVec 32 := Scalar.maxsi v159 c0_i32_62
  let v163 : BitVec 32 := Scalar.addi v160 c0_i32_64
  let v164 : BitVec 32 := Scalar.subi v33 v163
  let c0_i32_66 : BitVec 32 := 0#32
  let v168 : BitVec 1 := Scalar.cmpi .slt v164 c0_i32_66
  let c4_i32_67 : BitVec 32 := 4#32
  let c4_i32_65 : BitVec 32 := 4#32
  let v166 : BitVec 1 := Scalar.cmpi .eq v164 c4_i32_65
  let c3_i32 : BitVec 32 := 3#32
  let c2_i32 : BitVec 32 := 2#32
  let v165 : BitVec 32 := Scalar.minsi v164 c2_i32
  let v167 : BitVec 32 := Scalar.select v166 c3_i32 v165
  let v169 : BitVec 32 := Scalar.select v168 c4_i32_67 v167
  let v170 : Index := Scalar.indexCast v169
  let c0_69 : Index := 0#32
  let c0_70 : Index := 0#32
  ![0, v170.toNat, 0, 0]
def k0_off3 (i : grid0.Coords) (c0_i32_6 : BitVec 32) : Fin 2 → Nat :=
  let c4_i32 : BitVec 32 := 4#32
  let arg1 : BitVec 32 := BitVec.ofNat 32 (i 1).val
  let v32 : BitVec 32 := Scalar.muli c4_i32 arg1
  let v33 : BitVec 32 := Scalar.addi v32 c0_i32_6
  let c4_i32_61 : BitVec 32 := 4#32
  let v159 : BitVec 32 := Scalar.subi v33 c4_i32_61
  let c0_i32_62 : BitVec 32 := 0#32
  let v160 : BitVec 32 := Scalar.maxsi v159 c0_i32_62
  let c128_i32_63 : BitVec 32 := 128#32
  let v161 : BitVec 32 := Scalar.muli v160 c128_i32_63
  let v162 : BitVec 32 := v161
  let v217 : Index := Scalar.indexCast v162
  let c0_110 : Index := 0#32
  ![v217.toNat, 0]
def k0_mult3 (i : grid0.Coords) : BitVec 32 :=
  let c504_i32_206 : BitVec 32 := 504#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c8_i32_205 : BitVec 32 := 8#32
  let v483 : BitVec 32 := Scalar.muli v472 c8_i32_205
  let v484 : BitVec 32 := Scalar.subi c504_i32_206 v483
  v484
def k0_mult4 (i : grid0.Coords) : BitVec 32 :=
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c4_i32_263 : BitVec 32 := 4#32
  let v598 : BitVec 32 := Scalar.subi v472 c4_i32_263
  let c0_i32_264 : BitVec 32 := 0#32
  let v599 : BitVec 32 := Scalar.maxsi v598 c0_i32_264
  let c128_i32_265 : BitVec 32 := 128#32
  let v600 : BitVec 32 := Scalar.muli v599 c128_i32_265
  v600
def k0_mult5 (i : grid0.Coords) : BitVec 32 :=
  let c504_i32_410 : BitVec 32 := 504#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c8_i32_409 : BitVec 32 := 8#32
  let v922 : BitVec 32 := Scalar.muli v911 c8_i32_409
  let v923 : BitVec 32 := Scalar.subi c504_i32_410 v922
  v923
def k0_mult6 (i : grid0.Coords) : BitVec 32 :=
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c4_i32_467 : BitVec 32 := 4#32
  let v1037 : BitVec 32 := Scalar.subi v911 c4_i32_467
  let c0_i32_468 : BitVec 32 := 0#32
  let v1038 : BitVec 32 := Scalar.maxsi v1037 c0_i32_468
  let c128_i32_469 : BitVec 32 := 128#32
  let v1039 : BitVec 32 := Scalar.muli v1038 c128_i32_469
  v1039
def k0_mult7 (i : grid0.Coords) : BitVec 32 :=
  let c504_i32_614 : BitVec 32 := 504#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c8_i32_613 : BitVec 32 := 8#32
  let v1361 : BitVec 32 := Scalar.muli v1350 c8_i32_613
  let v1362 : BitVec 32 := Scalar.subi c504_i32_614 v1361
  v1362
def k0_mult8 (i : grid0.Coords) : BitVec 32 :=
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c4_i32_671 : BitVec 32 := 4#32
  let v1476 : BitVec 32 := Scalar.subi v1350 c4_i32_671
  let c0_i32_672 : BitVec 32 := 0#32
  let v1477 : BitVec 32 := Scalar.maxsi v1476 c0_i32_672
  let c128_i32_673 : BitVec 32 := 128#32
  let v1478 : BitVec 32 := Scalar.muli v1477 c128_i32_673
  v1478
@[reducible] def k0_t1_loop (i : grid0.Coords) : Scf.Loop 32 :=
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_848 : BitVec 32 := 1#32
  ⟨c0_i32_846, v1855, c1_i32_848⟩
def k0_mult9 (i : grid0.Coords) (k0_t1 : Fin (k0_t1_loop i).trips) : BitVec 32 :=
  let c3_i32_1025 : BitVec 32 := 3#32
  let c0_i32_846 : BitVec 32 := 0#32
  let c1_i32_848 : BitVec 32 := 1#32
  let arg15 : BitVec 32 := Scf.iv c0_i32_846 c1_i32_848 k0_t1
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off4 (i : grid0.Coords) (k0_t1 : Fin (k0_t1_loop i).trips) (c0_i32_1026 : BitVec 32) : Fin 2 → Nat :=
  let c3_i32_1025 : BitVec 32 := 3#32
  let c0_i32_846 : BitVec 32 := 0#32
  let c1_i32_848 : BitVec 32 := 1#32
  let arg15 : BitVec 32 := Scf.iv c0_i32_846 c1_i32_848 k0_t1
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off5 (i : grid0.Coords) (k0_t1 : Fin (k0_t1_loop i).trips) (c0_i32_1026 : BitVec 32) : Fin 4 → Nat :=
  let c0_1028 : Index := 0#32
  let c3_i32_1025 : BitVec 32 := 3#32
  let c0_i32_846 : BitVec 32 := 0#32
  let c1_i32_848 : BitVec 32 := 1#32
  let arg15 : BitVec 32 := Scf.iv c0_i32_846 c1_i32_848 k0_t1
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![0, v2311.toNat, 0, 0]
def k0_mult10 (i : grid0.Coords) (k0_t1 : Fin (k0_t1_loop i).trips) : BitVec 32 :=
  let c3_i32_1032 : BitVec 32 := 3#32
  let c0_i32_846 : BitVec 32 := 0#32
  let c1_i32_848 : BitVec 32 := 1#32
  let arg15 : BitVec 32 := Scf.iv c0_i32_846 c1_i32_848 k0_t1
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult11 (i : grid0.Coords) (k0_t1 : Fin (k0_t1_loop i).trips) : BitVec 32 :=
  let c3_i32_1040 : BitVec 32 := 3#32
  let c0_i32_846 : BitVec 32 := 0#32
  let c1_i32_848 : BitVec 32 := 1#32
  let arg15 : BitVec 32 := Scf.iv c0_i32_846 c1_i32_848 k0_t1
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult12 (i : grid0.Coords) (k0_t1 : Fin (k0_t1_loop i).trips) : BitVec 32 :=
  let c3_i32_1048 : BitVec 32 := 3#32
  let c0_i32_846 : BitVec 32 := 0#32
  let c1_i32_848 : BitVec 32 := 1#32
  let arg15 : BitVec 32 := Scf.iv c0_i32_846 c1_i32_848 k0_t1
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult13 (i : grid0.Coords) (k0_t1 : Fin (k0_t1_loop i).trips) : BitVec 32 :=
  let c3_i32_1055 : BitVec 32 := 3#32
  let c0_i32_846 : BitVec 32 := 0#32
  let c1_i32_848 : BitVec 32 := 1#32
  let arg15 : BitVec 32 := Scf.iv c0_i32_846 c1_i32_848 k0_t1
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult14 (i : grid0.Coords) (k0_t1 : Fin (k0_t1_loop i).trips) : BitVec 32 :=
  let c3_i32_1062 : BitVec 32 := 3#32
  let c0_i32_846 : BitVec 32 := 0#32
  let c1_i32_848 : BitVec 32 := 1#32
  let arg15 : BitVec 32 := Scf.iv c0_i32_846 c1_i32_848 k0_t1
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t2_loop (i : grid0.Coords) : Scf.Loop 32 :=
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let v1852 : BitVec 32 := Scalar.addi c0_i32_846 v1851
  let c1_i32_849 : BitVec 32 := 1#32
  ⟨v1855, v1852, c1_i32_849⟩
def k0_mult15 (i : grid0.Coords) (k0_t2 : Fin (k0_t2_loop i).trips) : BitVec 32 :=
  let c3_i32_1025 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off6 (i : grid0.Coords) (k0_t2 : Fin (k0_t2_loop i).trips) (c0_i32_1026 : BitVec 32) : Fin 2 → Nat :=
  let c3_i32_1025 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off7 (i : grid0.Coords) (k0_t2 : Fin (k0_t2_loop i).trips) (c0_i32_1026 : BitVec 32) : Fin 4 → Nat :=
  let c0_1028 : Index := 0#32
  let c3_i32_1025 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![0, v2311.toNat, 0, 0]
def k0_mult16 (i : grid0.Coords) (k0_t2 : Fin (k0_t2_loop i).trips) : BitVec 32 :=
  let c3_i32_1032 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult17 (i : grid0.Coords) (k0_t2 : Fin (k0_t2_loop i).trips) : BitVec 32 :=
  let c3_i32_1040 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult18 (i : grid0.Coords) (k0_t2 : Fin (k0_t2_loop i).trips) : BitVec 32 :=
  let c3_i32_1048 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult19 (i : grid0.Coords) (k0_t2 : Fin (k0_t2_loop i).trips) : BitVec 32 :=
  let c3_i32_1055 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult20 (i : grid0.Coords) (k0_t2 : Fin (k0_t2_loop i).trips) : BitVec 32 :=
  let c3_i32_1062 : BitVec 32 := 3#32
  let c0_i32_846 : BitVec 32 := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1851 : BitVec 32 := Scalar.subi v1841 c0_i32_846
  let c1_i32_847 : BitVec 32 := 1#32
  let v1853 : BitVec 32 := Scalar.divsi v1851 c1_i32_847
  let v1854 : BitVec 32 := Scalar.muli v1853 c1_i32_847
  let v1855 : BitVec 32 := Scalar.addi c0_i32_846 v1854
  let c1_i32_849 : BitVec 32 := 1#32
  let arg15 : BitVec 32 := Scf.iv v1855 c1_i32_849 k0_t2
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t3_loop (i : grid0.Coords) : Scf.Loop 32 :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let c1_i32_852 : BitVec 32 := 1#32
  ⟨v1858, v1863, c1_i32_852⟩
def k0_mult21 (i : grid0.Coords) (k0_t3 : Fin (k0_t3_loop i).trips) : BitVec 32 :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c1_i32_852 : BitVec 32 := 1#32
  let arg15 : BitVec 32 := Scf.iv v1858 c1_i32_852 k0_t3
  let c512_i32 : BitVec 32 := 512#32
  let v2304 : BitVec 32 := Scalar.muli arg15 c512_i32
  v2304
def k0_off8 (i : grid0.Coords) (k0_t3 : Fin (k0_t3_loop i).trips) : Fin 2 → Nat :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c1_i32_852 : BitVec 32 := 1#32
  let arg15 : BitVec 32 := Scf.iv v1858 c1_i32_852 k0_t3
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off9 (i : grid0.Coords) (k0_t3 : Fin (k0_t3_loop i).trips) : Fin 4 → Nat :=
  let c0_1026 : Index := 0#32
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c1_i32_852 : BitVec 32 := 1#32
  let arg15 : BitVec 32 := Scf.iv v1858 c1_i32_852 k0_t3
  let v2309 : Index := Scalar.indexCast arg15
  let c0_1027 : Index := 0#32
  let c0_1028 : Index := 0#32
  ![0, v2309.toNat, 0, 0]
def k0_off10 (i : grid0.Coords) (k0_t3 : Fin (k0_t3_loop i).trips) (c0_i32_1031 : BitVec 32) : Fin 4 → Nat :=
  let c0_1035 : Index := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c3_i32_850 : BitVec 32 := 3#32
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c1_i32_852 : BitVec 32 := 1#32
  let arg15 : BitVec 32 := Scf.iv v1858 c1_i32_852 k0_t3
  let c4_i32_1030 : BitVec 32 := 4#32
  let v2314 : BitVec 32 := Scalar.muli arg15 c4_i32_1030
  let v2315 : BitVec 32 := Scalar.addi v2314 c0_i32_1031
  let v2316 : BitVec 32 := Scalar.subi v33 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult22 (i : grid0.Coords) (k0_t3 : Fin (k0_t3_loop i).trips) : BitVec 32 :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c1_i32_852 : BitVec 32 := 1#32
  let arg15 : BitVec 32 := Scf.iv v1858 c1_i32_852 k0_t3
  let c512_i32_1062 : BitVec 32 := 512#32
  let v2352 : BitVec 32 := Scalar.muli arg15 c512_i32_1062
  v2352
@[reducible] def k0_t4_loop (i : grid0.Coords) : Scf.Loop 32 :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let v1860 : BitVec 32 := Scalar.addi v1858 v1859
  let c1_i32_853 : BitVec 32 := 1#32
  ⟨v1863, v1860, c1_i32_853⟩
def k0_mult23 (i : grid0.Coords) (k0_t4 : Fin (k0_t4_loop i).trips) : BitVec 32 :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let c1_i32_853 : BitVec 32 := 1#32
  let arg15 : BitVec 32 := Scf.iv v1863 c1_i32_853 k0_t4
  let c512_i32 : BitVec 32 := 512#32
  let v2304 : BitVec 32 := Scalar.muli arg15 c512_i32
  v2304
def k0_off11 (i : grid0.Coords) (k0_t4 : Fin (k0_t4_loop i).trips) : Fin 2 → Nat :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let c1_i32_853 : BitVec 32 := 1#32
  let arg15 : BitVec 32 := Scf.iv v1863 c1_i32_853 k0_t4
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off12 (i : grid0.Coords) (k0_t4 : Fin (k0_t4_loop i).trips) : Fin 4 → Nat :=
  let c0_1026 : Index := 0#32
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let c1_i32_853 : BitVec 32 := 1#32
  let arg15 : BitVec 32 := Scf.iv v1863 c1_i32_853 k0_t4
  let v2309 : Index := Scalar.indexCast arg15
  let c0_1027 : Index := 0#32
  let c0_1028 : Index := 0#32
  ![0, v2309.toNat, 0, 0]
def k0_off13 (i : grid0.Coords) (k0_t4 : Fin (k0_t4_loop i).trips) (c0_i32_1031 : BitVec 32) : Fin 4 → Nat :=
  let c0_1035 : Index := 0#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c3_i32_850 : BitVec 32 := 3#32
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let c1_i32_853 : BitVec 32 := 1#32
  let arg15 : BitVec 32 := Scf.iv v1863 c1_i32_853 k0_t4
  let c4_i32_1030 : BitVec 32 := 4#32
  let v2314 : BitVec 32 := Scalar.muli arg15 c4_i32_1030
  let v2315 : BitVec 32 := Scalar.addi v2314 c0_i32_1031
  let v2316 : BitVec 32 := Scalar.subi v33 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult24 (i : grid0.Coords) (k0_t4 : Fin (k0_t4_loop i).trips) : BitVec 32 :=
  let c3_i32_850 : BitVec 32 := 3#32
  let c4_i32 : BitVec 32 := 4#32
  let arg1 : BitVec 32 := BitVec.ofNat 32 (i 1).val
  let v32 : BitVec 32 := Scalar.muli c4_i32 arg1
  let c0_i32_6 : BitVec 32 := 0#32
  let v33 : BitVec 32 := Scalar.addi v32 c0_i32_6
  let c1_i32_821 : BitVec 32 := 1#32
  let v1806 : BitVec 32 := Scalar.subi v33 c1_i32_821
  let c0_i32_822 : BitVec 32 := 0#32
  let v1807 : BitVec 32 := Scalar.maxsi v1806 c0_i32_822
  let c0_i32_824 : BitVec 32 := 0#32
  let v1809 : BitVec 1 := Scalar.cmpi .sgt v1807 c0_i32_824
  let v1810 : BitVec 32 := Scalar.extui v1809
  let c0_i32_825 : BitVec 32 := 0#32
  let v1811 : BitVec 1 := Scalar.cmpi .slt v1807 c0_i32_825
  let v1812 : BitVec 32 := Scalar.extui v1811
  let v1813 : BitVec 32 := Scalar.subi v1810 v1812
  let c4_i32_823 : BitVec 32 := 4#32
  let c0_i32_826 : BitVec 32 := 0#32
  let v1814 : BitVec 1 := Scalar.cmpi .sgt c4_i32_823 c0_i32_826
  let v1815 : BitVec 32 := Scalar.extui v1814
  let c0_i32_827 : BitVec 32 := 0#32
  let v1816 : BitVec 1 := Scalar.cmpi .slt c4_i32_823 c0_i32_827
  let v1817 : BitVec 32 := Scalar.extui v1816
  let v1818 : BitVec 32 := Scalar.subi v1815 v1817
  let v1819 : BitVec 1 := Scalar.cmpi .ne v1813 v1818
  let v1820 : BitVec 32 := Scalar.remsi v1807 c4_i32_823
  let c0_i32_828 : BitVec 32 := 0#32
  let v1821 : BitVec 1 := Scalar.cmpi .ne v1820 c0_i32_828
  let v1822 : BitVec 1 := Scalar.andi v1819 v1821
  let v1808 : BitVec 32 := Scalar.divsi v1807 c4_i32_823
  let c1_i32_829 : BitVec 32 := 1#32
  let v1823 : BitVec 32 := Scalar.subi v1808 c1_i32_829
  let v1824 : BitVec 32 := Scalar.select v1822 v1823 v1808
  let c0_i32_831 : BitVec 32 := 0#32
  let v1826 : BitVec 1 := Scalar.cmpi .sgt v1824 c0_i32_831
  let v1827 : BitVec 32 := Scalar.extui v1826
  let c0_i32_832 : BitVec 32 := 0#32
  let v1828 : BitVec 1 := Scalar.cmpi .slt v1824 c0_i32_832
  let v1829 : BitVec 32 := Scalar.extui v1828
  let v1830 : BitVec 32 := Scalar.subi v1827 v1829
  let c3_i32_830 : BitVec 32 := 3#32
  let c0_i32_833 : BitVec 32 := 0#32
  let v1831 : BitVec 1 := Scalar.cmpi .sgt c3_i32_830 c0_i32_833
  let v1832 : BitVec 32 := Scalar.extui v1831
  let c0_i32_834 : BitVec 32 := 0#32
  let v1833 : BitVec 1 := Scalar.cmpi .slt c3_i32_830 c0_i32_834
  let v1834 : BitVec 32 := Scalar.extui v1833
  let v1835 : BitVec 32 := Scalar.subi v1832 v1834
  let v1836 : BitVec 1 := Scalar.cmpi .ne v1830 v1835
  let v1837 : BitVec 32 := Scalar.remsi v1824 c3_i32_830
  let c0_i32_835 : BitVec 32 := 0#32
  let v1838 : BitVec 1 := Scalar.cmpi .ne v1837 c0_i32_835
  let v1839 : BitVec 1 := Scalar.andi v1836 v1838
  let v1825 : BitVec 32 := Scalar.divsi v1824 c3_i32_830
  let c1_i32_836 : BitVec 32 := 1#32
  let v1840 : BitVec 32 := Scalar.subi v1825 c1_i32_836
  let v1841 : BitVec 32 := Scalar.select v1839 v1840 v1825
  let v1858 : BitVec 32 := Scalar.muli c3_i32_850 v1841
  let c4_i32_813 : BitVec 32 := 4#32
  let v1788 : BitVec 32 := Scalar.addi v33 c4_i32_813
  let c0_i32_815 : BitVec 32 := 0#32
  let v1790 : BitVec 1 := Scalar.cmpi .sgt v1788 c0_i32_815
  let v1791 : BitVec 32 := Scalar.extui v1790
  let c0_i32_816 : BitVec 32 := 0#32
  let v1792 : BitVec 1 := Scalar.cmpi .slt v1788 c0_i32_816
  let v1793 : BitVec 32 := Scalar.extui v1792
  let v1794 : BitVec 32 := Scalar.subi v1791 v1793
  let c4_i32_814 : BitVec 32 := 4#32
  let c0_i32_817 : BitVec 32 := 0#32
  let v1795 : BitVec 1 := Scalar.cmpi .sgt c4_i32_814 c0_i32_817
  let v1796 : BitVec 32 := Scalar.extui v1795
  let c0_i32_818 : BitVec 32 := 0#32
  let v1797 : BitVec 1 := Scalar.cmpi .slt c4_i32_814 c0_i32_818
  let v1798 : BitVec 32 := Scalar.extui v1797
  let v1799 : BitVec 32 := Scalar.subi v1796 v1798
  let v1800 : BitVec 1 := Scalar.cmpi .ne v1794 v1799
  let v1801 : BitVec 32 := Scalar.remsi v1788 c4_i32_814
  let c0_i32_819 : BitVec 32 := 0#32
  let v1802 : BitVec 1 := Scalar.cmpi .ne v1801 c0_i32_819
  let v1803 : BitVec 1 := Scalar.andi v1800 v1802
  let v1789 : BitVec 32 := Scalar.divsi v1788 c4_i32_814
  let c1_i32_820 : BitVec 32 := 1#32
  let v1804 : BitVec 32 := Scalar.subi v1789 c1_i32_820
  let v1805 : BitVec 32 := Scalar.select v1803 v1804 v1789
  let v1859 : BitVec 32 := Scalar.subi v1805 v1858
  let c1_i32_851 : BitVec 32 := 1#32
  let v1861 : BitVec 32 := Scalar.divsi v1859 c1_i32_851
  let v1862 : BitVec 32 := Scalar.muli v1861 c1_i32_851
  let v1863 : BitVec 32 := Scalar.addi v1858 v1862
  let c1_i32_853 : BitVec 32 := 1#32
  let arg15 : BitVec 32 := Scf.iv v1863 c1_i32_853 k0_t4
  let c512_i32_1062 : BitVec 32 := 512#32
  let v2352 : BitVec 32 := Scalar.muli arg15 c512_i32_1062
  v2352
@[reducible] def k0_t5_loop (i : grid0.Coords) : Scf.Loop 32 :=
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_901 : BitVec 32 := 1#32
  ⟨c0_i32_899, v1984, c1_i32_901⟩
def k0_mult25 (i : grid0.Coords) (k0_t5 : Fin (k0_t5_loop i).trips) : BitVec 32 :=
  let c3_i32_1025 : BitVec 32 := 3#32
  let c0_i32_899 : BitVec 32 := 0#32
  let c1_i32_901 : BitVec 32 := 1#32
  let arg15 : BitVec 32 := Scf.iv c0_i32_899 c1_i32_901 k0_t5
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off14 (i : grid0.Coords) (k0_t5 : Fin (k0_t5_loop i).trips) (c0_i32_1026 : BitVec 32) : Fin 2 → Nat :=
  let c3_i32_1025 : BitVec 32 := 3#32
  let c0_i32_899 : BitVec 32 := 0#32
  let c1_i32_901 : BitVec 32 := 1#32
  let arg15 : BitVec 32 := Scf.iv c0_i32_899 c1_i32_901 k0_t5
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off15 (i : grid0.Coords) (k0_t5 : Fin (k0_t5_loop i).trips) (c0_i32_1026 : BitVec 32) : Fin 4 → Nat :=
  let c1_1028 : Index := 1#32
  let c3_i32_1025 : BitVec 32 := 3#32
  let c0_i32_899 : BitVec 32 := 0#32
  let c1_i32_901 : BitVec 32 := 1#32
  let arg15 : BitVec 32 := Scf.iv c0_i32_899 c1_i32_901 k0_t5
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![1, v2311.toNat, 0, 0]
def k0_mult26 (i : grid0.Coords) (k0_t5 : Fin (k0_t5_loop i).trips) : BitVec 32 :=
  let c3_i32_1032 : BitVec 32 := 3#32
  let c0_i32_899 : BitVec 32 := 0#32
  let c1_i32_901 : BitVec 32 := 1#32
  let arg15 : BitVec 32 := Scf.iv c0_i32_899 c1_i32_901 k0_t5
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult27 (i : grid0.Coords) (k0_t5 : Fin (k0_t5_loop i).trips) : BitVec 32 :=
  let c3_i32_1040 : BitVec 32 := 3#32
  let c0_i32_899 : BitVec 32 := 0#32
  let c1_i32_901 : BitVec 32 := 1#32
  let arg15 : BitVec 32 := Scf.iv c0_i32_899 c1_i32_901 k0_t5
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult28 (i : grid0.Coords) (k0_t5 : Fin (k0_t5_loop i).trips) : BitVec 32 :=
  let c3_i32_1048 : BitVec 32 := 3#32
  let c0_i32_899 : BitVec 32 := 0#32
  let c1_i32_901 : BitVec 32 := 1#32
  let arg15 : BitVec 32 := Scf.iv c0_i32_899 c1_i32_901 k0_t5
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult29 (i : grid0.Coords) (k0_t5 : Fin (k0_t5_loop i).trips) : BitVec 32 :=
  let c3_i32_1055 : BitVec 32 := 3#32
  let c0_i32_899 : BitVec 32 := 0#32
  let c1_i32_901 : BitVec 32 := 1#32
  let arg15 : BitVec 32 := Scf.iv c0_i32_899 c1_i32_901 k0_t5
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult30 (i : grid0.Coords) (k0_t5 : Fin (k0_t5_loop i).trips) : BitVec 32 :=
  let c3_i32_1062 : BitVec 32 := 3#32
  let c0_i32_899 : BitVec 32 := 0#32
  let c1_i32_901 : BitVec 32 := 1#32
  let arg15 : BitVec 32 := Scf.iv c0_i32_899 c1_i32_901 k0_t5
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t6_loop (i : grid0.Coords) : Scf.Loop 32 :=
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let v1981 : BitVec 32 := Scalar.addi c0_i32_899 v1980
  let c1_i32_902 : BitVec 32 := 1#32
  ⟨v1984, v1981, c1_i32_902⟩
def k0_mult31 (i : grid0.Coords) (k0_t6 : Fin (k0_t6_loop i).trips) : BitVec 32 :=
  let c3_i32_1025 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off16 (i : grid0.Coords) (k0_t6 : Fin (k0_t6_loop i).trips) (c0_i32_1026 : BitVec 32) : Fin 2 → Nat :=
  let c3_i32_1025 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off17 (i : grid0.Coords) (k0_t6 : Fin (k0_t6_loop i).trips) (c0_i32_1026 : BitVec 32) : Fin 4 → Nat :=
  let c1_1028 : Index := 1#32
  let c3_i32_1025 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![1, v2311.toNat, 0, 0]
def k0_mult32 (i : grid0.Coords) (k0_t6 : Fin (k0_t6_loop i).trips) : BitVec 32 :=
  let c3_i32_1032 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult33 (i : grid0.Coords) (k0_t6 : Fin (k0_t6_loop i).trips) : BitVec 32 :=
  let c3_i32_1040 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult34 (i : grid0.Coords) (k0_t6 : Fin (k0_t6_loop i).trips) : BitVec 32 :=
  let c3_i32_1048 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult35 (i : grid0.Coords) (k0_t6 : Fin (k0_t6_loop i).trips) : BitVec 32 :=
  let c3_i32_1055 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult36 (i : grid0.Coords) (k0_t6 : Fin (k0_t6_loop i).trips) : BitVec 32 :=
  let c3_i32_1062 : BitVec 32 := 3#32
  let c0_i32_899 : BitVec 32 := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1980 : BitVec 32 := Scalar.subi v1970 c0_i32_899
  let c1_i32_900 : BitVec 32 := 1#32
  let v1982 : BitVec 32 := Scalar.divsi v1980 c1_i32_900
  let v1983 : BitVec 32 := Scalar.muli v1982 c1_i32_900
  let v1984 : BitVec 32 := Scalar.addi c0_i32_899 v1983
  let c1_i32_902 : BitVec 32 := 1#32
  let arg15 : BitVec 32 := Scf.iv v1984 c1_i32_902 k0_t6
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t7_loop (i : grid0.Coords) : Scf.Loop 32 :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let c1_i32_905 : BitVec 32 := 1#32
  ⟨v1987, v1992, c1_i32_905⟩
def k0_mult37 (i : grid0.Coords) (k0_t7 : Fin (k0_t7_loop i).trips) : BitVec 32 :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c1_i32_905 : BitVec 32 := 1#32
  let arg15 : BitVec 32 := Scf.iv v1987 c1_i32_905 k0_t7
  let c512_i32 : BitVec 32 := 512#32
  let v2304 : BitVec 32 := Scalar.muli arg15 c512_i32
  v2304
def k0_off18 (i : grid0.Coords) (k0_t7 : Fin (k0_t7_loop i).trips) : Fin 2 → Nat :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c1_i32_905 : BitVec 32 := 1#32
  let arg15 : BitVec 32 := Scf.iv v1987 c1_i32_905 k0_t7
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off19 (i : grid0.Coords) (k0_t7 : Fin (k0_t7_loop i).trips) : Fin 4 → Nat :=
  let c1_1026 : Index := 1#32
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c1_i32_905 : BitVec 32 := 1#32
  let arg15 : BitVec 32 := Scf.iv v1987 c1_i32_905 k0_t7
  let v2309 : Index := Scalar.indexCast arg15
  let c0_1027 : Index := 0#32
  let c0_1028 : Index := 0#32
  ![1, v2309.toNat, 0, 0]
def k0_off20 (i : grid0.Coords) (k0_t7 : Fin (k0_t7_loop i).trips) (c0_i32_1031 : BitVec 32) : Fin 4 → Nat :=
  let c0_1035 : Index := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c3_i32_903 : BitVec 32 := 3#32
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c1_i32_905 : BitVec 32 := 1#32
  let arg15 : BitVec 32 := Scf.iv v1987 c1_i32_905 k0_t7
  let c4_i32_1030 : BitVec 32 := 4#32
  let v2314 : BitVec 32 := Scalar.muli arg15 c4_i32_1030
  let v2315 : BitVec 32 := Scalar.addi v2314 c0_i32_1031
  let v2316 : BitVec 32 := Scalar.subi v472 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult38 (i : grid0.Coords) (k0_t7 : Fin (k0_t7_loop i).trips) : BitVec 32 :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c1_i32_905 : BitVec 32 := 1#32
  let arg15 : BitVec 32 := Scf.iv v1987 c1_i32_905 k0_t7
  let c512_i32_1062 : BitVec 32 := 512#32
  let v2352 : BitVec 32 := Scalar.muli arg15 c512_i32_1062
  v2352
@[reducible] def k0_t8_loop (i : grid0.Coords) : Scf.Loop 32 :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let v1989 : BitVec 32 := Scalar.addi v1987 v1988
  let c1_i32_906 : BitVec 32 := 1#32
  ⟨v1992, v1989, c1_i32_906⟩
def k0_mult39 (i : grid0.Coords) (k0_t8 : Fin (k0_t8_loop i).trips) : BitVec 32 :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let c1_i32_906 : BitVec 32 := 1#32
  let arg15 : BitVec 32 := Scf.iv v1992 c1_i32_906 k0_t8
  let c512_i32 : BitVec 32 := 512#32
  let v2304 : BitVec 32 := Scalar.muli arg15 c512_i32
  v2304
def k0_off21 (i : grid0.Coords) (k0_t8 : Fin (k0_t8_loop i).trips) : Fin 2 → Nat :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let c1_i32_906 : BitVec 32 := 1#32
  let arg15 : BitVec 32 := Scf.iv v1992 c1_i32_906 k0_t8
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off22 (i : grid0.Coords) (k0_t8 : Fin (k0_t8_loop i).trips) : Fin 4 → Nat :=
  let c1_1026 : Index := 1#32
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let c1_i32_906 : BitVec 32 := 1#32
  let arg15 : BitVec 32 := Scf.iv v1992 c1_i32_906 k0_t8
  let v2309 : Index := Scalar.indexCast arg15
  let c0_1027 : Index := 0#32
  let c0_1028 : Index := 0#32
  ![1, v2309.toNat, 0, 0]
def k0_off23 (i : grid0.Coords) (k0_t8 : Fin (k0_t8_loop i).trips) (c0_i32_1031 : BitVec 32) : Fin 4 → Nat :=
  let c0_1035 : Index := 0#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c3_i32_903 : BitVec 32 := 3#32
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let c1_i32_906 : BitVec 32 := 1#32
  let arg15 : BitVec 32 := Scf.iv v1992 c1_i32_906 k0_t8
  let c4_i32_1030 : BitVec 32 := 4#32
  let v2314 : BitVec 32 := Scalar.muli arg15 c4_i32_1030
  let v2315 : BitVec 32 := Scalar.addi v2314 c0_i32_1031
  let v2316 : BitVec 32 := Scalar.subi v472 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult40 (i : grid0.Coords) (k0_t8 : Fin (k0_t8_loop i).trips) : BitVec 32 :=
  let c3_i32_903 : BitVec 32 := 3#32
  let c4_i32_201 : BitVec 32 := 4#32
  let arg1 : BitVec 32 := BitVec.ofNat 32 (i 1).val
  let v471 : BitVec 32 := Scalar.muli c4_i32_201 arg1
  let c1_i32_202 : BitVec 32 := 1#32
  let v472 : BitVec 32 := Scalar.addi v471 c1_i32_202
  let c1_i32_874 : BitVec 32 := 1#32
  let v1935 : BitVec 32 := Scalar.subi v472 c1_i32_874
  let c0_i32_875 : BitVec 32 := 0#32
  let v1936 : BitVec 32 := Scalar.maxsi v1935 c0_i32_875
  let c0_i32_877 : BitVec 32 := 0#32
  let v1938 : BitVec 1 := Scalar.cmpi .sgt v1936 c0_i32_877
  let v1939 : BitVec 32 := Scalar.extui v1938
  let c0_i32_878 : BitVec 32 := 0#32
  let v1940 : BitVec 1 := Scalar.cmpi .slt v1936 c0_i32_878
  let v1941 : BitVec 32 := Scalar.extui v1940
  let v1942 : BitVec 32 := Scalar.subi v1939 v1941
  let c4_i32_876 : BitVec 32 := 4#32
  let c0_i32_879 : BitVec 32 := 0#32
  let v1943 : BitVec 1 := Scalar.cmpi .sgt c4_i32_876 c0_i32_879
  let v1944 : BitVec 32 := Scalar.extui v1943
  let c0_i32_880 : BitVec 32 := 0#32
  let v1945 : BitVec 1 := Scalar.cmpi .slt c4_i32_876 c0_i32_880
  let v1946 : BitVec 32 := Scalar.extui v1945
  let v1947 : BitVec 32 := Scalar.subi v1944 v1946
  let v1948 : BitVec 1 := Scalar.cmpi .ne v1942 v1947
  let v1949 : BitVec 32 := Scalar.remsi v1936 c4_i32_876
  let c0_i32_881 : BitVec 32 := 0#32
  let v1950 : BitVec 1 := Scalar.cmpi .ne v1949 c0_i32_881
  let v1951 : BitVec 1 := Scalar.andi v1948 v1950
  let v1937 : BitVec 32 := Scalar.divsi v1936 c4_i32_876
  let c1_i32_882 : BitVec 32 := 1#32
  let v1952 : BitVec 32 := Scalar.subi v1937 c1_i32_882
  let v1953 : BitVec 32 := Scalar.select v1951 v1952 v1937
  let c0_i32_884 : BitVec 32 := 0#32
  let v1955 : BitVec 1 := Scalar.cmpi .sgt v1953 c0_i32_884
  let v1956 : BitVec 32 := Scalar.extui v1955
  let c0_i32_885 : BitVec 32 := 0#32
  let v1957 : BitVec 1 := Scalar.cmpi .slt v1953 c0_i32_885
  let v1958 : BitVec 32 := Scalar.extui v1957
  let v1959 : BitVec 32 := Scalar.subi v1956 v1958
  let c3_i32_883 : BitVec 32 := 3#32
  let c0_i32_886 : BitVec 32 := 0#32
  let v1960 : BitVec 1 := Scalar.cmpi .sgt c3_i32_883 c0_i32_886
  let v1961 : BitVec 32 := Scalar.extui v1960
  let c0_i32_887 : BitVec 32 := 0#32
  let v1962 : BitVec 1 := Scalar.cmpi .slt c3_i32_883 c0_i32_887
  let v1963 : BitVec 32 := Scalar.extui v1962
  let v1964 : BitVec 32 := Scalar.subi v1961 v1963
  let v1965 : BitVec 1 := Scalar.cmpi .ne v1959 v1964
  let v1966 : BitVec 32 := Scalar.remsi v1953 c3_i32_883
  let c0_i32_888 : BitVec 32 := 0#32
  let v1967 : BitVec 1 := Scalar.cmpi .ne v1966 c0_i32_888
  let v1968 : BitVec 1 := Scalar.andi v1965 v1967
  let v1954 : BitVec 32 := Scalar.divsi v1953 c3_i32_883
  let c1_i32_889 : BitVec 32 := 1#32
  let v1969 : BitVec 32 := Scalar.subi v1954 c1_i32_889
  let v1970 : BitVec 32 := Scalar.select v1968 v1969 v1954
  let v1987 : BitVec 32 := Scalar.muli c3_i32_903 v1970
  let c4_i32_866 : BitVec 32 := 4#32
  let v1917 : BitVec 32 := Scalar.addi v472 c4_i32_866
  let c0_i32_868 : BitVec 32 := 0#32
  let v1919 : BitVec 1 := Scalar.cmpi .sgt v1917 c0_i32_868
  let v1920 : BitVec 32 := Scalar.extui v1919
  let c0_i32_869 : BitVec 32 := 0#32
  let v1921 : BitVec 1 := Scalar.cmpi .slt v1917 c0_i32_869
  let v1922 : BitVec 32 := Scalar.extui v1921
  let v1923 : BitVec 32 := Scalar.subi v1920 v1922
  let c4_i32_867 : BitVec 32 := 4#32
  let c0_i32_870 : BitVec 32 := 0#32
  let v1924 : BitVec 1 := Scalar.cmpi .sgt c4_i32_867 c0_i32_870
  let v1925 : BitVec 32 := Scalar.extui v1924
  let c0_i32_871 : BitVec 32 := 0#32
  let v1926 : BitVec 1 := Scalar.cmpi .slt c4_i32_867 c0_i32_871
  let v1927 : BitVec 32 := Scalar.extui v1926
  let v1928 : BitVec 32 := Scalar.subi v1925 v1927
  let v1929 : BitVec 1 := Scalar.cmpi .ne v1923 v1928
  let v1930 : BitVec 32 := Scalar.remsi v1917 c4_i32_867
  let c0_i32_872 : BitVec 32 := 0#32
  let v1931 : BitVec 1 := Scalar.cmpi .ne v1930 c0_i32_872
  let v1932 : BitVec 1 := Scalar.andi v1929 v1931
  let v1918 : BitVec 32 := Scalar.divsi v1917 c4_i32_867
  let c1_i32_873 : BitVec 32 := 1#32
  let v1933 : BitVec 32 := Scalar.subi v1918 c1_i32_873
  let v1934 : BitVec 32 := Scalar.select v1932 v1933 v1918
  let v1988 : BitVec 32 := Scalar.subi v1934 v1987
  let c1_i32_904 : BitVec 32 := 1#32
  let v1990 : BitVec 32 := Scalar.divsi v1988 c1_i32_904
  let v1991 : BitVec 32 := Scalar.muli v1990 c1_i32_904
  let v1992 : BitVec 32 := Scalar.addi v1987 v1991
  let c1_i32_906 : BitVec 32 := 1#32
  let arg15 : BitVec 32 := Scf.iv v1992 c1_i32_906 k0_t8
  let c512_i32_1062 : BitVec 32 := 512#32
  let v2352 : BitVec 32 := Scalar.muli arg15 c512_i32_1062
  v2352
@[reducible] def k0_t9_loop (i : grid0.Coords) : Scf.Loop 32 :=
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_954 : BitVec 32 := 1#32
  ⟨c0_i32_952, v2113, c1_i32_954⟩
def k0_mult41 (i : grid0.Coords) (k0_t9 : Fin (k0_t9_loop i).trips) : BitVec 32 :=
  let c3_i32_1025 : BitVec 32 := 3#32
  let c0_i32_952 : BitVec 32 := 0#32
  let c1_i32_954 : BitVec 32 := 1#32
  let arg15 : BitVec 32 := Scf.iv c0_i32_952 c1_i32_954 k0_t9
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off24 (i : grid0.Coords) (k0_t9 : Fin (k0_t9_loop i).trips) (c0_i32_1026 : BitVec 32) : Fin 2 → Nat :=
  let c3_i32_1025 : BitVec 32 := 3#32
  let c0_i32_952 : BitVec 32 := 0#32
  let c1_i32_954 : BitVec 32 := 1#32
  let arg15 : BitVec 32 := Scf.iv c0_i32_952 c1_i32_954 k0_t9
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off25 (i : grid0.Coords) (k0_t9 : Fin (k0_t9_loop i).trips) (c0_i32_1026 : BitVec 32) : Fin 4 → Nat :=
  let c2_1028 : Index := 2#32
  let c3_i32_1025 : BitVec 32 := 3#32
  let c0_i32_952 : BitVec 32 := 0#32
  let c1_i32_954 : BitVec 32 := 1#32
  let arg15 : BitVec 32 := Scf.iv c0_i32_952 c1_i32_954 k0_t9
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![2, v2311.toNat, 0, 0]
def k0_mult42 (i : grid0.Coords) (k0_t9 : Fin (k0_t9_loop i).trips) : BitVec 32 :=
  let c3_i32_1032 : BitVec 32 := 3#32
  let c0_i32_952 : BitVec 32 := 0#32
  let c1_i32_954 : BitVec 32 := 1#32
  let arg15 : BitVec 32 := Scf.iv c0_i32_952 c1_i32_954 k0_t9
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult43 (i : grid0.Coords) (k0_t9 : Fin (k0_t9_loop i).trips) : BitVec 32 :=
  let c3_i32_1040 : BitVec 32 := 3#32
  let c0_i32_952 : BitVec 32 := 0#32
  let c1_i32_954 : BitVec 32 := 1#32
  let arg15 : BitVec 32 := Scf.iv c0_i32_952 c1_i32_954 k0_t9
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult44 (i : grid0.Coords) (k0_t9 : Fin (k0_t9_loop i).trips) : BitVec 32 :=
  let c3_i32_1048 : BitVec 32 := 3#32
  let c0_i32_952 : BitVec 32 := 0#32
  let c1_i32_954 : BitVec 32 := 1#32
  let arg15 : BitVec 32 := Scf.iv c0_i32_952 c1_i32_954 k0_t9
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult45 (i : grid0.Coords) (k0_t9 : Fin (k0_t9_loop i).trips) : BitVec 32 :=
  let c3_i32_1055 : BitVec 32 := 3#32
  let c0_i32_952 : BitVec 32 := 0#32
  let c1_i32_954 : BitVec 32 := 1#32
  let arg15 : BitVec 32 := Scf.iv c0_i32_952 c1_i32_954 k0_t9
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult46 (i : grid0.Coords) (k0_t9 : Fin (k0_t9_loop i).trips) : BitVec 32 :=
  let c3_i32_1062 : BitVec 32 := 3#32
  let c0_i32_952 : BitVec 32 := 0#32
  let c1_i32_954 : BitVec 32 := 1#32
  let arg15 : BitVec 32 := Scf.iv c0_i32_952 c1_i32_954 k0_t9
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t10_loop (i : grid0.Coords) : Scf.Loop 32 :=
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let v2110 : BitVec 32 := Scalar.addi c0_i32_952 v2109
  let c1_i32_955 : BitVec 32 := 1#32
  ⟨v2113, v2110, c1_i32_955⟩
def k0_mult47 (i : grid0.Coords) (k0_t10 : Fin (k0_t10_loop i).trips) : BitVec 32 :=
  let c3_i32_1025 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off26 (i : grid0.Coords) (k0_t10 : Fin (k0_t10_loop i).trips) (c0_i32_1026 : BitVec 32) : Fin 2 → Nat :=
  let c3_i32_1025 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off27 (i : grid0.Coords) (k0_t10 : Fin (k0_t10_loop i).trips) (c0_i32_1026 : BitVec 32) : Fin 4 → Nat :=
  let c2_1028 : Index := 2#32
  let c3_i32_1025 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![2, v2311.toNat, 0, 0]
def k0_mult48 (i : grid0.Coords) (k0_t10 : Fin (k0_t10_loop i).trips) : BitVec 32 :=
  let c3_i32_1032 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult49 (i : grid0.Coords) (k0_t10 : Fin (k0_t10_loop i).trips) : BitVec 32 :=
  let c3_i32_1040 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult50 (i : grid0.Coords) (k0_t10 : Fin (k0_t10_loop i).trips) : BitVec 32 :=
  let c3_i32_1048 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult51 (i : grid0.Coords) (k0_t10 : Fin (k0_t10_loop i).trips) : BitVec 32 :=
  let c3_i32_1055 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult52 (i : grid0.Coords) (k0_t10 : Fin (k0_t10_loop i).trips) : BitVec 32 :=
  let c3_i32_1062 : BitVec 32 := 3#32
  let c0_i32_952 : BitVec 32 := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2109 : BitVec 32 := Scalar.subi v2099 c0_i32_952
  let c1_i32_953 : BitVec 32 := 1#32
  let v2111 : BitVec 32 := Scalar.divsi v2109 c1_i32_953
  let v2112 : BitVec 32 := Scalar.muli v2111 c1_i32_953
  let v2113 : BitVec 32 := Scalar.addi c0_i32_952 v2112
  let c1_i32_955 : BitVec 32 := 1#32
  let arg15 : BitVec 32 := Scf.iv v2113 c1_i32_955 k0_t10
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t11_loop (i : grid0.Coords) : Scf.Loop 32 :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let c1_i32_958 : BitVec 32 := 1#32
  ⟨v2116, v2121, c1_i32_958⟩
def k0_mult53 (i : grid0.Coords) (k0_t11 : Fin (k0_t11_loop i).trips) : BitVec 32 :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c1_i32_958 : BitVec 32 := 1#32
  let arg15 : BitVec 32 := Scf.iv v2116 c1_i32_958 k0_t11
  let c512_i32 : BitVec 32 := 512#32
  let v2304 : BitVec 32 := Scalar.muli arg15 c512_i32
  v2304
def k0_off28 (i : grid0.Coords) (k0_t11 : Fin (k0_t11_loop i).trips) : Fin 2 → Nat :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c1_i32_958 : BitVec 32 := 1#32
  let arg15 : BitVec 32 := Scf.iv v2116 c1_i32_958 k0_t11
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off29 (i : grid0.Coords) (k0_t11 : Fin (k0_t11_loop i).trips) : Fin 4 → Nat :=
  let c2_1026 : Index := 2#32
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c1_i32_958 : BitVec 32 := 1#32
  let arg15 : BitVec 32 := Scf.iv v2116 c1_i32_958 k0_t11
  let v2309 : Index := Scalar.indexCast arg15
  let c0_1027 : Index := 0#32
  let c0_1028 : Index := 0#32
  ![2, v2309.toNat, 0, 0]
def k0_off30 (i : grid0.Coords) (k0_t11 : Fin (k0_t11_loop i).trips) (c0_i32_1031 : BitVec 32) : Fin 4 → Nat :=
  let c0_1035 : Index := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c3_i32_956 : BitVec 32 := 3#32
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c1_i32_958 : BitVec 32 := 1#32
  let arg15 : BitVec 32 := Scf.iv v2116 c1_i32_958 k0_t11
  let c4_i32_1030 : BitVec 32 := 4#32
  let v2314 : BitVec 32 := Scalar.muli arg15 c4_i32_1030
  let v2315 : BitVec 32 := Scalar.addi v2314 c0_i32_1031
  let v2316 : BitVec 32 := Scalar.subi v911 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult54 (i : grid0.Coords) (k0_t11 : Fin (k0_t11_loop i).trips) : BitVec 32 :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c1_i32_958 : BitVec 32 := 1#32
  let arg15 : BitVec 32 := Scf.iv v2116 c1_i32_958 k0_t11
  let c512_i32_1062 : BitVec 32 := 512#32
  let v2352 : BitVec 32 := Scalar.muli arg15 c512_i32_1062
  v2352
@[reducible] def k0_t12_loop (i : grid0.Coords) : Scf.Loop 32 :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let v2118 : BitVec 32 := Scalar.addi v2116 v2117
  let c1_i32_959 : BitVec 32 := 1#32
  ⟨v2121, v2118, c1_i32_959⟩
def k0_mult55 (i : grid0.Coords) (k0_t12 : Fin (k0_t12_loop i).trips) : BitVec 32 :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let c1_i32_959 : BitVec 32 := 1#32
  let arg15 : BitVec 32 := Scf.iv v2121 c1_i32_959 k0_t12
  let c512_i32 : BitVec 32 := 512#32
  let v2304 : BitVec 32 := Scalar.muli arg15 c512_i32
  v2304
def k0_off31 (i : grid0.Coords) (k0_t12 : Fin (k0_t12_loop i).trips) : Fin 2 → Nat :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let c1_i32_959 : BitVec 32 := 1#32
  let arg15 : BitVec 32 := Scf.iv v2121 c1_i32_959 k0_t12
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off32 (i : grid0.Coords) (k0_t12 : Fin (k0_t12_loop i).trips) : Fin 4 → Nat :=
  let c2_1026 : Index := 2#32
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let c1_i32_959 : BitVec 32 := 1#32
  let arg15 : BitVec 32 := Scf.iv v2121 c1_i32_959 k0_t12
  let v2309 : Index := Scalar.indexCast arg15
  let c0_1027 : Index := 0#32
  let c0_1028 : Index := 0#32
  ![2, v2309.toNat, 0, 0]
def k0_off33 (i : grid0.Coords) (k0_t12 : Fin (k0_t12_loop i).trips) (c0_i32_1031 : BitVec 32) : Fin 4 → Nat :=
  let c0_1035 : Index := 0#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c3_i32_956 : BitVec 32 := 3#32
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let c1_i32_959 : BitVec 32 := 1#32
  let arg15 : BitVec 32 := Scf.iv v2121 c1_i32_959 k0_t12
  let c4_i32_1030 : BitVec 32 := 4#32
  let v2314 : BitVec 32 := Scalar.muli arg15 c4_i32_1030
  let v2315 : BitVec 32 := Scalar.addi v2314 c0_i32_1031
  let v2316 : BitVec 32 := Scalar.subi v911 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult56 (i : grid0.Coords) (k0_t12 : Fin (k0_t12_loop i).trips) : BitVec 32 :=
  let c3_i32_956 : BitVec 32 := 3#32
  let c4_i32_405 : BitVec 32 := 4#32
  let arg1 : BitVec 32 := BitVec.ofNat 32 (i 1).val
  let v910 : BitVec 32 := Scalar.muli c4_i32_405 arg1
  let c2_i32_406 : BitVec 32 := 2#32
  let v911 : BitVec 32 := Scalar.addi v910 c2_i32_406
  let c1_i32_927 : BitVec 32 := 1#32
  let v2064 : BitVec 32 := Scalar.subi v911 c1_i32_927
  let c0_i32_928 : BitVec 32 := 0#32
  let v2065 : BitVec 32 := Scalar.maxsi v2064 c0_i32_928
  let c0_i32_930 : BitVec 32 := 0#32
  let v2067 : BitVec 1 := Scalar.cmpi .sgt v2065 c0_i32_930
  let v2068 : BitVec 32 := Scalar.extui v2067
  let c0_i32_931 : BitVec 32 := 0#32
  let v2069 : BitVec 1 := Scalar.cmpi .slt v2065 c0_i32_931
  let v2070 : BitVec 32 := Scalar.extui v2069
  let v2071 : BitVec 32 := Scalar.subi v2068 v2070
  let c4_i32_929 : BitVec 32 := 4#32
  let c0_i32_932 : BitVec 32 := 0#32
  let v2072 : BitVec 1 := Scalar.cmpi .sgt c4_i32_929 c0_i32_932
  let v2073 : BitVec 32 := Scalar.extui v2072
  let c0_i32_933 : BitVec 32 := 0#32
  let v2074 : BitVec 1 := Scalar.cmpi .slt c4_i32_929 c0_i32_933
  let v2075 : BitVec 32 := Scalar.extui v2074
  let v2076 : BitVec 32 := Scalar.subi v2073 v2075
  let v2077 : BitVec 1 := Scalar.cmpi .ne v2071 v2076
  let v2078 : BitVec 32 := Scalar.remsi v2065 c4_i32_929
  let c0_i32_934 : BitVec 32 := 0#32
  let v2079 : BitVec 1 := Scalar.cmpi .ne v2078 c0_i32_934
  let v2080 : BitVec 1 := Scalar.andi v2077 v2079
  let v2066 : BitVec 32 := Scalar.divsi v2065 c4_i32_929
  let c1_i32_935 : BitVec 32 := 1#32
  let v2081 : BitVec 32 := Scalar.subi v2066 c1_i32_935
  let v2082 : BitVec 32 := Scalar.select v2080 v2081 v2066
  let c0_i32_937 : BitVec 32 := 0#32
  let v2084 : BitVec 1 := Scalar.cmpi .sgt v2082 c0_i32_937
  let v2085 : BitVec 32 := Scalar.extui v2084
  let c0_i32_938 : BitVec 32 := 0#32
  let v2086 : BitVec 1 := Scalar.cmpi .slt v2082 c0_i32_938
  let v2087 : BitVec 32 := Scalar.extui v2086
  let v2088 : BitVec 32 := Scalar.subi v2085 v2087
  let c3_i32_936 : BitVec 32 := 3#32
  let c0_i32_939 : BitVec 32 := 0#32
  let v2089 : BitVec 1 := Scalar.cmpi .sgt c3_i32_936 c0_i32_939
  let v2090 : BitVec 32 := Scalar.extui v2089
  let c0_i32_940 : BitVec 32 := 0#32
  let v2091 : BitVec 1 := Scalar.cmpi .slt c3_i32_936 c0_i32_940
  let v2092 : BitVec 32 := Scalar.extui v2091
  let v2093 : BitVec 32 := Scalar.subi v2090 v2092
  let v2094 : BitVec 1 := Scalar.cmpi .ne v2088 v2093
  let v2095 : BitVec 32 := Scalar.remsi v2082 c3_i32_936
  let c0_i32_941 : BitVec 32 := 0#32
  let v2096 : BitVec 1 := Scalar.cmpi .ne v2095 c0_i32_941
  let v2097 : BitVec 1 := Scalar.andi v2094 v2096
  let v2083 : BitVec 32 := Scalar.divsi v2082 c3_i32_936
  let c1_i32_942 : BitVec 32 := 1#32
  let v2098 : BitVec 32 := Scalar.subi v2083 c1_i32_942
  let v2099 : BitVec 32 := Scalar.select v2097 v2098 v2083
  let v2116 : BitVec 32 := Scalar.muli c3_i32_956 v2099
  let c4_i32_919 : BitVec 32 := 4#32
  let v2046 : BitVec 32 := Scalar.addi v911 c4_i32_919
  let c0_i32_921 : BitVec 32 := 0#32
  let v2048 : BitVec 1 := Scalar.cmpi .sgt v2046 c0_i32_921
  let v2049 : BitVec 32 := Scalar.extui v2048
  let c0_i32_922 : BitVec 32 := 0#32
  let v2050 : BitVec 1 := Scalar.cmpi .slt v2046 c0_i32_922
  let v2051 : BitVec 32 := Scalar.extui v2050
  let v2052 : BitVec 32 := Scalar.subi v2049 v2051
  let c4_i32_920 : BitVec 32 := 4#32
  let c0_i32_923 : BitVec 32 := 0#32
  let v2053 : BitVec 1 := Scalar.cmpi .sgt c4_i32_920 c0_i32_923
  let v2054 : BitVec 32 := Scalar.extui v2053
  let c0_i32_924 : BitVec 32 := 0#32
  let v2055 : BitVec 1 := Scalar.cmpi .slt c4_i32_920 c0_i32_924
  let v2056 : BitVec 32 := Scalar.extui v2055
  let v2057 : BitVec 32 := Scalar.subi v2054 v2056
  let v2058 : BitVec 1 := Scalar.cmpi .ne v2052 v2057
  let v2059 : BitVec 32 := Scalar.remsi v2046 c4_i32_920
  let c0_i32_925 : BitVec 32 := 0#32
  let v2060 : BitVec 1 := Scalar.cmpi .ne v2059 c0_i32_925
  let v2061 : BitVec 1 := Scalar.andi v2058 v2060
  let v2047 : BitVec 32 := Scalar.divsi v2046 c4_i32_920
  let c1_i32_926 : BitVec 32 := 1#32
  let v2062 : BitVec 32 := Scalar.subi v2047 c1_i32_926
  let v2063 : BitVec 32 := Scalar.select v2061 v2062 v2047
  let v2117 : BitVec 32 := Scalar.subi v2063 v2116
  let c1_i32_957 : BitVec 32 := 1#32
  let v2119 : BitVec 32 := Scalar.divsi v2117 c1_i32_957
  let v2120 : BitVec 32 := Scalar.muli v2119 c1_i32_957
  let v2121 : BitVec 32 := Scalar.addi v2116 v2120
  let c1_i32_959 : BitVec 32 := 1#32
  let arg15 : BitVec 32 := Scf.iv v2121 c1_i32_959 k0_t12
  let c512_i32_1062 : BitVec 32 := 512#32
  let v2352 : BitVec 32 := Scalar.muli arg15 c512_i32_1062
  v2352
@[reducible] def k0_t13_loop (i : grid0.Coords) : Scf.Loop 32 :=
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1007 : BitVec 32 := 1#32
  ⟨c0_i32_1005, v2242, c1_i32_1007⟩
def k0_mult57 (i : grid0.Coords) (k0_t13 : Fin (k0_t13_loop i).trips) : BitVec 32 :=
  let c3_i32_1025 : BitVec 32 := 3#32
  let c0_i32_1005 : BitVec 32 := 0#32
  let c1_i32_1007 : BitVec 32 := 1#32
  let arg15 : BitVec 32 := Scf.iv c0_i32_1005 c1_i32_1007 k0_t13
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off34 (i : grid0.Coords) (k0_t13 : Fin (k0_t13_loop i).trips) (c0_i32_1026 : BitVec 32) : Fin 2 → Nat :=
  let c3_i32_1025 : BitVec 32 := 3#32
  let c0_i32_1005 : BitVec 32 := 0#32
  let c1_i32_1007 : BitVec 32 := 1#32
  let arg15 : BitVec 32 := Scf.iv c0_i32_1005 c1_i32_1007 k0_t13
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off35 (i : grid0.Coords) (k0_t13 : Fin (k0_t13_loop i).trips) (c0_i32_1026 : BitVec 32) : Fin 4 → Nat :=
  let c3_1028 : Index := 3#32
  let c3_i32_1025 : BitVec 32 := 3#32
  let c0_i32_1005 : BitVec 32 := 0#32
  let c1_i32_1007 : BitVec 32 := 1#32
  let arg15 : BitVec 32 := Scf.iv c0_i32_1005 c1_i32_1007 k0_t13
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![3, v2311.toNat, 0, 0]
def k0_mult58 (i : grid0.Coords) (k0_t13 : Fin (k0_t13_loop i).trips) : BitVec 32 :=
  let c3_i32_1032 : BitVec 32 := 3#32
  let c0_i32_1005 : BitVec 32 := 0#32
  let c1_i32_1007 : BitVec 32 := 1#32
  let arg15 : BitVec 32 := Scf.iv c0_i32_1005 c1_i32_1007 k0_t13
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult59 (i : grid0.Coords) (k0_t13 : Fin (k0_t13_loop i).trips) : BitVec 32 :=
  let c3_i32_1040 : BitVec 32 := 3#32
  let c0_i32_1005 : BitVec 32 := 0#32
  let c1_i32_1007 : BitVec 32 := 1#32
  let arg15 : BitVec 32 := Scf.iv c0_i32_1005 c1_i32_1007 k0_t13
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult60 (i : grid0.Coords) (k0_t13 : Fin (k0_t13_loop i).trips) : BitVec 32 :=
  let c3_i32_1048 : BitVec 32 := 3#32
  let c0_i32_1005 : BitVec 32 := 0#32
  let c1_i32_1007 : BitVec 32 := 1#32
  let arg15 : BitVec 32 := Scf.iv c0_i32_1005 c1_i32_1007 k0_t13
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult61 (i : grid0.Coords) (k0_t13 : Fin (k0_t13_loop i).trips) : BitVec 32 :=
  let c3_i32_1055 : BitVec 32 := 3#32
  let c0_i32_1005 : BitVec 32 := 0#32
  let c1_i32_1007 : BitVec 32 := 1#32
  let arg15 : BitVec 32 := Scf.iv c0_i32_1005 c1_i32_1007 k0_t13
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult62 (i : grid0.Coords) (k0_t13 : Fin (k0_t13_loop i).trips) : BitVec 32 :=
  let c3_i32_1062 : BitVec 32 := 3#32
  let c0_i32_1005 : BitVec 32 := 0#32
  let c1_i32_1007 : BitVec 32 := 1#32
  let arg15 : BitVec 32 := Scf.iv c0_i32_1005 c1_i32_1007 k0_t13
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t14_loop (i : grid0.Coords) : Scf.Loop 32 :=
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let v2239 : BitVec 32 := Scalar.addi c0_i32_1005 v2238
  let c1_i32_1008 : BitVec 32 := 1#32
  ⟨v2242, v2239, c1_i32_1008⟩
def k0_mult63 (i : grid0.Coords) (k0_t14 : Fin (k0_t14_loop i).trips) : BitVec 32 :=
  let c3_i32_1025 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2304 : BitVec 32 := Scalar.muli c3_i32_1025 arg15
  let c0_i32_1026 : BitVec 32 := 0#32
  let v2305 : BitVec 32 := Scalar.addi v2304 c0_i32_1026
  let c512_i32 : BitVec 32 := 512#32
  let v2306 : BitVec 32 := Scalar.muli v2305 c512_i32
  v2306
def k0_off36 (i : grid0.Coords) (k0_t14 : Fin (k0_t14_loop i).trips) (c0_i32_1026 : BitVec 32) : Fin 2 → Nat :=
  let c3_i32_1025 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2304 : BitVec 32 := Scalar.muli c3_i32_1025 arg15
  let v2305 : BitVec 32 := Scalar.addi v2304 c0_i32_1026
  let c512_i32 : BitVec 32 := 512#32
  let v2306 : BitVec 32 := Scalar.muli v2305 c512_i32
  let v2307 : BitVec 32 := v2306
  let v2308 : Index := Scalar.indexCast v2307
  let c0_1027 : Index := 0#32
  ![v2308.toNat, 0]
def k0_off37 (i : grid0.Coords) (k0_t14 : Fin (k0_t14_loop i).trips) (c0_i32_1026 : BitVec 32) : Fin 4 → Nat :=
  let c3_1028 : Index := 3#32
  let c3_i32_1025 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2304 : BitVec 32 := Scalar.muli c3_i32_1025 arg15
  let v2305 : BitVec 32 := Scalar.addi v2304 c0_i32_1026
  let v2311 : Index := Scalar.indexCast v2305
  let c0_1029 : Index := 0#32
  let c0_1030 : Index := 0#32
  ![3, v2311.toNat, 0, 0]
def k0_mult64 (i : grid0.Coords) (k0_t14 : Fin (k0_t14_loop i).trips) : BitVec 32 :=
  let c3_i32_1032 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2316 : BitVec 32 := Scalar.muli c3_i32_1032 arg15
  let c1_i32_1033 : BitVec 32 := 1#32
  let v2317 : BitVec 32 := Scalar.addi v2316 c1_i32_1033
  let c512_i32_1034 : BitVec 32 := 512#32
  let v2318 : BitVec 32 := Scalar.muli v2317 c512_i32_1034
  v2318
def k0_mult65 (i : grid0.Coords) (k0_t14 : Fin (k0_t14_loop i).trips) : BitVec 32 :=
  let c3_i32_1040 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2328 : BitVec 32 := Scalar.muli c3_i32_1040 arg15
  let c2_i32_1041 : BitVec 32 := 2#32
  let v2329 : BitVec 32 := Scalar.addi v2328 c2_i32_1041
  let c512_i32_1042 : BitVec 32 := 512#32
  let v2330 : BitVec 32 := Scalar.muli v2329 c512_i32_1042
  v2330
def k0_mult66 (i : grid0.Coords) (k0_t14 : Fin (k0_t14_loop i).trips) : BitVec 32 :=
  let c3_i32_1048 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2340 : BitVec 32 := Scalar.muli c3_i32_1048 arg15
  let c0_i32_1049 : BitVec 32 := 0#32
  let v2341 : BitVec 32 := Scalar.addi v2340 c0_i32_1049
  let c512_i32_1050 : BitVec 32 := 512#32
  let v2342 : BitVec 32 := Scalar.muli v2341 c512_i32_1050
  v2342
def k0_mult67 (i : grid0.Coords) (k0_t14 : Fin (k0_t14_loop i).trips) : BitVec 32 :=
  let c3_i32_1055 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2363 : BitVec 32 := Scalar.muli c3_i32_1055 arg15
  let c1_i32_1056 : BitVec 32 := 1#32
  let v2364 : BitVec 32 := Scalar.addi v2363 c1_i32_1056
  let c512_i32_1057 : BitVec 32 := 512#32
  let v2365 : BitVec 32 := Scalar.muli v2364 c512_i32_1057
  v2365
def k0_mult68 (i : grid0.Coords) (k0_t14 : Fin (k0_t14_loop i).trips) : BitVec 32 :=
  let c3_i32_1062 : BitVec 32 := 3#32
  let c0_i32_1005 : BitVec 32 := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2238 : BitVec 32 := Scalar.subi v2228 c0_i32_1005
  let c1_i32_1006 : BitVec 32 := 1#32
  let v2240 : BitVec 32 := Scalar.divsi v2238 c1_i32_1006
  let v2241 : BitVec 32 := Scalar.muli v2240 c1_i32_1006
  let v2242 : BitVec 32 := Scalar.addi c0_i32_1005 v2241
  let c1_i32_1008 : BitVec 32 := 1#32
  let arg15 : BitVec 32 := Scf.iv v2242 c1_i32_1008 k0_t14
  let v2386 : BitVec 32 := Scalar.muli c3_i32_1062 arg15
  let c2_i32_1063 : BitVec 32 := 2#32
  let v2387 : BitVec 32 := Scalar.addi v2386 c2_i32_1063
  let c512_i32_1064 : BitVec 32 := 512#32
  let v2388 : BitVec 32 := Scalar.muli v2387 c512_i32_1064
  v2388
@[reducible] def k0_t15_loop (i : grid0.Coords) : Scf.Loop 32 :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let c1_i32_1011 : BitVec 32 := 1#32
  ⟨v2245, v2250, c1_i32_1011⟩
def k0_mult69 (i : grid0.Coords) (k0_t15 : Fin (k0_t15_loop i).trips) : BitVec 32 :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c1_i32_1011 : BitVec 32 := 1#32
  let arg15 : BitVec 32 := Scf.iv v2245 c1_i32_1011 k0_t15
  let c512_i32 : BitVec 32 := 512#32
  let v2304 : BitVec 32 := Scalar.muli arg15 c512_i32
  v2304
def k0_off38 (i : grid0.Coords) (k0_t15 : Fin (k0_t15_loop i).trips) : Fin 2 → Nat :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c1_i32_1011 : BitVec 32 := 1#32
  let arg15 : BitVec 32 := Scf.iv v2245 c1_i32_1011 k0_t15
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off39 (i : grid0.Coords) (k0_t15 : Fin (k0_t15_loop i).trips) : Fin 4 → Nat :=
  let c3_1026 : Index := 3#32
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c1_i32_1011 : BitVec 32 := 1#32
  let arg15 : BitVec 32 := Scf.iv v2245 c1_i32_1011 k0_t15
  let v2309 : Index := Scalar.indexCast arg15
  let c0_1027 : Index := 0#32
  let c0_1028 : Index := 0#32
  ![3, v2309.toNat, 0, 0]
def k0_off40 (i : grid0.Coords) (k0_t15 : Fin (k0_t15_loop i).trips) (c0_i32_1031 : BitVec 32) : Fin 4 → Nat :=
  let c0_1035 : Index := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c3_i32_1009 : BitVec 32 := 3#32
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c1_i32_1011 : BitVec 32 := 1#32
  let arg15 : BitVec 32 := Scf.iv v2245 c1_i32_1011 k0_t15
  let c4_i32_1030 : BitVec 32 := 4#32
  let v2314 : BitVec 32 := Scalar.muli arg15 c4_i32_1030
  let v2315 : BitVec 32 := Scalar.addi v2314 c0_i32_1031
  let v2316 : BitVec 32 := Scalar.subi v1350 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult70 (i : grid0.Coords) (k0_t15 : Fin (k0_t15_loop i).trips) : BitVec 32 :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c1_i32_1011 : BitVec 32 := 1#32
  let arg15 : BitVec 32 := Scf.iv v2245 c1_i32_1011 k0_t15
  let c512_i32_1062 : BitVec 32 := 512#32
  let v2352 : BitVec 32 := Scalar.muli arg15 c512_i32_1062
  v2352
@[reducible] def k0_t16_loop (i : grid0.Coords) : Scf.Loop 32 :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let v2247 : BitVec 32 := Scalar.addi v2245 v2246
  let c1_i32_1012 : BitVec 32 := 1#32
  ⟨v2250, v2247, c1_i32_1012⟩
def k0_mult71 (i : grid0.Coords) (k0_t16 : Fin (k0_t16_loop i).trips) : BitVec 32 :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let c1_i32_1012 : BitVec 32 := 1#32
  let arg15 : BitVec 32 := Scf.iv v2250 c1_i32_1012 k0_t16
  let c512_i32 : BitVec 32 := 512#32
  let v2304 : BitVec 32 := Scalar.muli arg15 c512_i32
  v2304
def k0_off41 (i : grid0.Coords) (k0_t16 : Fin (k0_t16_loop i).trips) : Fin 2 → Nat :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let c1_i32_1012 : BitVec 32 := 1#32
  let arg15 : BitVec 32 := Scf.iv v2250 c1_i32_1012 k0_t16
  let c512_i32 : BitVec 32 := 512#32
  let v2304 : BitVec 32 := Scalar.muli arg15 c512_i32
  let v2305 : BitVec 32 := v2304
  let v2306 : Index := Scalar.indexCast v2305
  let c0_1025 : Index := 0#32
  ![v2306.toNat, 0]
def k0_off42 (i : grid0.Coords) (k0_t16 : Fin (k0_t16_loop i).trips) : Fin 4 → Nat :=
  let c3_1026 : Index := 3#32
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let c1_i32_1012 : BitVec 32 := 1#32
  let arg15 : BitVec 32 := Scf.iv v2250 c1_i32_1012 k0_t16
  let v2309 : Index := Scalar.indexCast arg15
  let c0_1027 : Index := 0#32
  let c0_1028 : Index := 0#32
  ![3, v2309.toNat, 0, 0]
def k0_off43 (i : grid0.Coords) (k0_t16 : Fin (k0_t16_loop i).trips) (c0_i32_1031 : BitVec 32) : Fin 4 → Nat :=
  let c0_1035 : Index := 0#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c3_i32_1009 : BitVec 32 := 3#32
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let c1_i32_1012 : BitVec 32 := 1#32
  let arg15 : BitVec 32 := Scf.iv v2250 c1_i32_1012 k0_t16
  let c4_i32_1030 : BitVec 32 := 4#32
  let v2314 : BitVec 32 := Scalar.muli arg15 c4_i32_1030
  let v2315 : BitVec 32 := Scalar.addi v2314 c0_i32_1031
  let v2316 : BitVec 32 := Scalar.subi v1350 v2315
  let c0_i32_1033 : BitVec 32 := 0#32
  let v2318 : BitVec 1 := Scalar.cmpi .slt v2316 c0_i32_1033
  let c4_i32_1034 : BitVec 32 := 4#32
  let c2_i32_1032 : BitVec 32 := 2#32
  let v2317 : BitVec 32 := Scalar.minsi v2316 c2_i32_1032
  let v2319 : BitVec 32 := Scalar.select v2318 c4_i32_1034 v2317
  let v2320 : Index := Scalar.indexCast v2319
  let c0_1036 : Index := 0#32
  let c0_1037 : Index := 0#32
  ![0, v2320.toNat, 0, 0]
def k0_mult72 (i : grid0.Coords) (k0_t16 : Fin (k0_t16_loop i).trips) : BitVec 32 :=
  let c3_i32_1009 : BitVec 32 := 3#32
  let c4_i32_609 : BitVec 32 := 4#32
  let arg1 : BitVec 32 := BitVec.ofNat 32 (i 1).val
  let v1349 : BitVec 32 := Scalar.muli c4_i32_609 arg1
  let c3_i32_610 : BitVec 32 := 3#32
  let v1350 : BitVec 32 := Scalar.addi v1349 c3_i32_610
  let c1_i32_980 : BitVec 32 := 1#32
  let v2193 : BitVec 32 := Scalar.subi v1350 c1_i32_980
  let c0_i32_981 : BitVec 32 := 0#32
  let v2194 : BitVec 32 := Scalar.maxsi v2193 c0_i32_981
  let c0_i32_983 : BitVec 32 := 0#32
  let v2196 : BitVec 1 := Scalar.cmpi .sgt v2194 c0_i32_983
  let v2197 : BitVec 32 := Scalar.extui v2196
  let c0_i32_984 : BitVec 32 := 0#32
  let v2198 : BitVec 1 := Scalar.cmpi .slt v2194 c0_i32_984
  let v2199 : BitVec 32 := Scalar.extui v2198
  let v2200 : BitVec 32 := Scalar.subi v2197 v2199
  let c4_i32_982 : BitVec 32 := 4#32
  let c0_i32_985 : BitVec 32 := 0#32
  let v2201 : BitVec 1 := Scalar.cmpi .sgt c4_i32_982 c0_i32_985
  let v2202 : BitVec 32 := Scalar.extui v2201
  let c0_i32_986 : BitVec 32 := 0#32
  let v2203 : BitVec 1 := Scalar.cmpi .slt c4_i32_982 c0_i32_986
  let v2204 : BitVec 32 := Scalar.extui v2203
  let v2205 : BitVec 32 := Scalar.subi v2202 v2204
  let v2206 : BitVec 1 := Scalar.cmpi .ne v2200 v2205
  let v2207 : BitVec 32 := Scalar.remsi v2194 c4_i32_982
  let c0_i32_987 : BitVec 32 := 0#32
  let v2208 : BitVec 1 := Scalar.cmpi .ne v2207 c0_i32_987
  let v2209 : BitVec 1 := Scalar.andi v2206 v2208
  let v2195 : BitVec 32 := Scalar.divsi v2194 c4_i32_982
  let c1_i32_988 : BitVec 32 := 1#32
  let v2210 : BitVec 32 := Scalar.subi v2195 c1_i32_988
  let v2211 : BitVec 32 := Scalar.select v2209 v2210 v2195
  let c0_i32_990 : BitVec 32 := 0#32
  let v2213 : BitVec 1 := Scalar.cmpi .sgt v2211 c0_i32_990
  let v2214 : BitVec 32 := Scalar.extui v2213
  let c0_i32_991 : BitVec 32 := 0#32
  let v2215 : BitVec 1 := Scalar.cmpi .slt v2211 c0_i32_991
  let v2216 : BitVec 32 := Scalar.extui v2215
  let v2217 : BitVec 32 := Scalar.subi v2214 v2216
  let c3_i32_989 : BitVec 32 := 3#32
  let c0_i32_992 : BitVec 32 := 0#32
  let v2218 : BitVec 1 := Scalar.cmpi .sgt c3_i32_989 c0_i32_992
  let v2219 : BitVec 32 := Scalar.extui v2218
  let c0_i32_993 : BitVec 32 := 0#32
  let v2220 : BitVec 1 := Scalar.cmpi .slt c3_i32_989 c0_i32_993
  let v2221 : BitVec 32 := Scalar.extui v2220
  let v2222 : BitVec 32 := Scalar.subi v2219 v2221
  let v2223 : BitVec 1 := Scalar.cmpi .ne v2217 v2222
  let v2224 : BitVec 32 := Scalar.remsi v2211 c3_i32_989
  let c0_i32_994 : BitVec 32 := 0#32
  let v2225 : BitVec 1 := Scalar.cmpi .ne v2224 c0_i32_994
  let v2226 : BitVec 1 := Scalar.andi v2223 v2225
  let v2212 : BitVec 32 := Scalar.divsi v2211 c3_i32_989
  let c1_i32_995 : BitVec 32 := 1#32
  let v2227 : BitVec 32 := Scalar.subi v2212 c1_i32_995
  let v2228 : BitVec 32 := Scalar.select v2226 v2227 v2212
  let v2245 : BitVec 32 := Scalar.muli c3_i32_1009 v2228
  let c4_i32_972 : BitVec 32 := 4#32
  let v2175 : BitVec 32 := Scalar.addi v1350 c4_i32_972
  let c0_i32_974 : BitVec 32 := 0#32
  let v2177 : BitVec 1 := Scalar.cmpi .sgt v2175 c0_i32_974
  let v2178 : BitVec 32 := Scalar.extui v2177
  let c0_i32_975 : BitVec 32 := 0#32
  let v2179 : BitVec 1 := Scalar.cmpi .slt v2175 c0_i32_975
  let v2180 : BitVec 32 := Scalar.extui v2179
  let v2181 : BitVec 32 := Scalar.subi v2178 v2180
  let c4_i32_973 : BitVec 32 := 4#32
  let c0_i32_976 : BitVec 32 := 0#32
  let v2182 : BitVec 1 := Scalar.cmpi .sgt c4_i32_973 c0_i32_976
  let v2183 : BitVec 32 := Scalar.extui v2182
  let c0_i32_977 : BitVec 32 := 0#32
  let v2184 : BitVec 1 := Scalar.cmpi .slt c4_i32_973 c0_i32_977
  let v2185 : BitVec 32 := Scalar.extui v2184
  let v2186 : BitVec 32 := Scalar.subi v2183 v2185
  let v2187 : BitVec 1 := Scalar.cmpi .ne v2181 v2186
  let v2188 : BitVec 32 := Scalar.remsi v2175 c4_i32_973
  let c0_i32_978 : BitVec 32 := 0#32
  let v2189 : BitVec 1 := Scalar.cmpi .ne v2188 c0_i32_978
  let v2190 : BitVec 1 := Scalar.andi v2187 v2189
  let v2176 : BitVec 32 := Scalar.divsi v2175 c4_i32_973
  let c1_i32_979 : BitVec 32 := 1#32
  let v2191 : BitVec 32 := Scalar.subi v2176 c1_i32_979
  let v2192 : BitVec 32 := Scalar.select v2190 v2191 v2176
  let v2246 : BitVec 32 := Scalar.subi v2192 v2245
  let c1_i32_1010 : BitVec 32 := 1#32
  let v2248 : BitVec 32 := Scalar.divsi v2246 c1_i32_1010
  let v2249 : BitVec 32 := Scalar.muli v2248 c1_i32_1010
  let v2250 : BitVec 32 := Scalar.addi v2245 v2249
  let c1_i32_1012 : BitVec 32 := 1#32
  let arg15 : BitVec 32 := Scf.iv v2250 c1_i32_1012 k0_t16
  let c512_i32_1062 : BitVec 32 := 512#32
  let v2352 : BitVec 32 := Scalar.muli arg15 c512_i32_1062
  v2352
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x5x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2.lean ====
abbrev S1x8192x4096 : Shape := ⟨3, ![1, 8192, 4096]⟩
abbrev S128x8x4096 : Shape := ⟨3, ![128, 8, 4096]⟩
abbrev S1x128x2x2048 : Shape := ⟨4, ![1, 128, 2, 2048]⟩
abbrev S1x4096x19504 : Shape := ⟨3, ![1, 4096, 19504]⟩
abbrev S1x3x2048 : Shape := ⟨3, ![1, 3, 2048]⟩
abbrev S1x2048 : Shape := ⟨2, ![1, 2048]⟩
abbrev S8192x4096 : Shape := ⟨2, ![8192, 4096]⟩
abbrev S1024x4096 : Shape := ⟨2, ![1024, 4096]⟩
abbrev S9216x4096 : Shape := ⟨2, ![9216, 4096]⟩
abbrev S4096x19504 : Shape := ⟨2, ![4096, 19504]⟩
abbrev S128x2x2048 : Shape := ⟨3, ![128, 2, 2048]⟩
abbrev S_ : Shape := ⟨0, ![]⟩
abbrev S128x6x2048 : Shape := ⟨3, ![128, 6, 2048]⟩
abbrev S128x1x2048 : Shape := ⟨3, ![128, 1, 2048]⟩
abbrev S128x8x2048 : Shape := ⟨3, ![128, 8, 2048]⟩
abbrev S1024x2048 : Shape := ⟨2, ![1024, 2048]⟩
abbrev S3x2048 : Shape := ⟨2, ![3, 2048]⟩
abbrev S9216x2048 : Shape := ⟨2, ![9216, 2048]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S8x8x256 : Shape := ⟨3, ![8, 8, 256]⟩
abbrev S1x8x256 : Shape := ⟨3, ![1, 8, 256]⟩
abbrev S8x256 : Shape := ⟨2, ![8, 256]⟩
abbrev S512x256 : Shape := ⟨2, ![512, 256]⟩
abbrev S512x4096 : Shape := ⟨2, ![512, 4096]⟩

abbrev nBuf : Space → Nat
  | .hbm => 26
  | .vmem => 21
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S1x128x2x2048, .f32⟩
  | .hbm, ⟨3, _⟩ => ⟨S1x4096x19504, .f32⟩
  | .hbm, ⟨4, _⟩ => ⟨S1x3x2048, .f32⟩
  | .hbm, ⟨5, _⟩ => ⟨S1x2048, .f32⟩
  | .hbm, ⟨6, _⟩ => ⟨S8192x4096, .f32⟩
  | .hbm, ⟨7, _⟩ => ⟨S8192x4096, .bf16⟩
  | .hbm, ⟨8, _⟩ => ⟨S1024x4096, .f32⟩
  | .hbm, ⟨9, _⟩ => ⟨S1024x4096, .bf16⟩
  | .hbm, ⟨10, _⟩ => ⟨S9216x4096, .bf16⟩
  | .hbm, ⟨11, _⟩ => ⟨S4096x19504, .f32⟩
  | .hbm, ⟨12, _⟩ => ⟨S4096x19504, .bf16⟩
  | .hbm, ⟨13, _⟩ => ⟨S128x2x2048, .f32⟩
  | .hbm, ⟨14, _⟩ => ⟨S_, .f32⟩
  | .hbm, ⟨15, _⟩ => ⟨S128x6x2048, .f32⟩
  | .hbm, ⟨16, _⟩ => ⟨S128x1x2048, .f32⟩
  | .hbm, ⟨17, _⟩ => ⟨S_, .f32⟩
  | .hbm, ⟨18, _⟩ => ⟨S128x1x2048, .f32⟩
  | .hbm, ⟨19, _⟩ => ⟨S128x8x2048, .f32⟩
  | .hbm, ⟨20, _⟩ => ⟨S128x8x2048, .f32⟩
  | .hbm, ⟨21, _⟩ => ⟨S1024x2048, .f32⟩
  | .hbm, ⟨22, _⟩ => ⟨S1024x2048, .f32⟩
  | .hbm, ⟨23, _⟩ => ⟨S3x2048, .f32⟩
  | .hbm, ⟨24, _⟩ => ⟨S9216x2048, .bf16⟩
  | .hbm, ⟨25, _⟩ => ⟨S9216x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .f32⟩
  | .local _ .vmem, ⟨19, _⟩ => ⟨S1024x256, .f32⟩
  | .local _ .vmem, ⟨20, _⟩ => ⟨S8x8x256, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 8], ![false, false]⟩

def k0_off1 (i : grid0.Coords) : Fin 3 → Nat :=
  let arg1 : BitVec 32 := BitVec.ofNat 32 (i 1).val
  let v4 : Index := Scalar.indexCast arg1
  let c0_3 : Index := 0#32
  let c0_4 : Index := 0#32
  ![v4.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S1x8192x4096 : Shape := ⟨3, ![1, 8192, 4096]⟩
abbrev S128x8x4096 : Shape := ⟨3, ![128, 8, 4096]⟩
abbrev S1x128x2x2048 : Shape := ⟨4, ![1, 128, 2, 2048]⟩
abbrev S1x4096x19504 : Shape := ⟨3, ![1, 4096, 19504]⟩
abbrev S1x3x2048 : Shape := ⟨3, ![1, 3, 2048]⟩
abbrev S1x2048 : Shape := ⟨2, ![1, 2048]⟩
abbrev S_ : Shape := ⟨0, ![]⟩
abbrev S1x2x2048 : Shape := ⟨3, ![1, 2, 2048]⟩
abbrev S4096x19504 : Shape := ⟨2, ![4096, 19504]⟩
abbrev S1x8192x19504 : Shape := ⟨3, ![1, 8192, 19504]⟩
abbrev S1x8192x2048 : Shape := ⟨3, ![1, 8192, 2048]⟩
abbrev S1x8192x13360 : Shape := ⟨3, ![1, 8192, 13360]⟩
abbrev S3x2048 : Shape := ⟨2, ![3, 2048]⟩
abbrev S2048 : Shape := ⟨1, ![2048]⟩
abbrev S1x8194x2048 : Shape := ⟨3, ![1, 8194, 2048]⟩
abbrev S1x1x2048 : Shape := ⟨3, ![1, 1, 2048]⟩
abbrev S128x2x2048 : Shape := ⟨3, ![128, 2, 2048]⟩
abbrev S128x8x19504 : Shape := ⟨3, ![128, 8, 19504]⟩
abbrev S128x8x2048 : Shape := ⟨3, ![128, 8, 2048]⟩
abbrev S128x8x13360 : Shape := ⟨3, ![128, 8, 13360]⟩
abbrev S128x10x2048 : Shape := ⟨3, ![128, 10, 2048]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 84
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S1x128x2x2048, .f32⟩
  | .hbm, ⟨3, _⟩ => ⟨S1x4096x19504, .f32⟩
  | .hbm, ⟨4, _⟩ => ⟨S1x3x2048, .f32⟩
  | .hbm, ⟨5, _⟩ => ⟨S1x2048, .f32⟩
  | .hbm, ⟨6, _⟩ => ⟨S_, .f32⟩
  | .hbm, ⟨7, _⟩ => ⟨S1x2x2048, .f32⟩
  | .hbm, ⟨8, _⟩ => ⟨S4096x19504, .f32⟩
  | .hbm, ⟨9, _⟩ => ⟨S1x8192x19504, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x13360, .f32⟩
  | .hbm, ⟨14, _⟩ => ⟨S1x8192x2048, .f32⟩
  | .hbm, ⟨15, _⟩ => ⟨S3x2048, .f32⟩
  | .hbm, ⟨16, _⟩ => ⟨S2048, .f32⟩
  | .hbm, ⟨17, _⟩ => ⟨S1x8194x2048, .f32⟩
  | .hbm, ⟨18, _⟩ => ⟨S1x8192x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S1x8192x2048, .f32⟩
  | .hbm, ⟨23, _⟩ => ⟨S1x8192x2048, .f32⟩
  | .hbm, ⟨24, _⟩ => ⟨S1x1x2048, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S1x8192x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S1x8192x2048, .f32⟩
  | .hbm, ⟨39, _⟩ => ⟨S1x8192x2048, .f32⟩
  | .hbm, ⟨40, _⟩ => ⟨S1x8192x2048, .f32⟩
  | .hbm, ⟨41, _⟩ => ⟨S1x8192x2048, .f32⟩
  | .hbm, ⟨42, _⟩ => ⟨S128x2x2048, .f32⟩
  | .hbm, ⟨43, _⟩ => ⟨S4096x19504, .f32⟩
  | .hbm, ⟨44, _⟩ => ⟨S128x8x19504, .f32⟩
  | .hbm, ⟨45, _⟩ => ⟨S128x8x2048, .f32⟩
  | .hbm, ⟨46, _⟩ => ⟨S128x8x2048, .f32⟩
  | .hbm, ⟨47, _⟩ => ⟨S128x8x2048, .f32⟩
  | .hbm, ⟨48, _⟩ => ⟨S128x8x13360, .f32⟩
  | .hbm, ⟨49, _⟩ => ⟨S128x8x2048, .f32⟩
  | .hbm, ⟨50, _⟩ => ⟨S3x2048, .f32⟩
  | .hbm, ⟨51, _⟩ => ⟨S2048, .f32⟩
  | .hbm, ⟨52, _⟩ => ⟨S128x10x2048, .f32⟩
  | .hbm, ⟨53, _⟩ => ⟨S128x8x2048, .f32⟩
  | .hbm, ⟨54, _⟩ => ⟨S1x2048, .f32⟩
  | .hbm, ⟨55, _⟩ => ⟨S2048, .f32⟩
  | .hbm, ⟨56, _⟩ => ⟨S1x1x2048, .f32⟩
  | .hbm, ⟨57, _⟩ => ⟨S128x8x2048, .f32⟩
  | .hbm, ⟨58, _⟩ => ⟨S128x8x2048, .f32⟩
  | .hbm, ⟨59, _⟩ => ⟨S1x1x2048, .f32⟩
  | .hbm, ⟨60, _⟩ => ⟨S128x8x2048, .f32⟩
  | .hbm, ⟨61, _⟩ => ⟨S128x8x2048, .f32⟩
  | .hbm, ⟨62, _⟩ => ⟨S128x8x2048, .f32⟩
  | .hbm, ⟨63, _⟩ => ⟨S1x2048, .f32⟩
  | .hbm, ⟨64, _⟩ => ⟨S2048, .f32⟩
  | .hbm, ⟨65, _⟩ => ⟨S1x1x2048, .f32⟩
  | .hbm, ⟨66, _⟩ => ⟨S128x8x2048, .f32⟩
  | .hbm, ⟨67, _⟩ => ⟨S128x8x2048, .f32⟩
  | .hbm, ⟨68, _⟩ => ⟨S128x8x2048, .f32⟩
  | .hbm, ⟨69, _⟩ => ⟨S128x8x2048, .f32⟩
  | .hbm, ⟨70, _⟩ => ⟨S1x2048, .f32⟩
  | .hbm, ⟨71, _⟩ => ⟨S2048, .f32⟩
  | .hbm, ⟨72, _⟩ => ⟨S1x1x2048, .f32⟩
  | .hbm, ⟨73, _⟩ => ⟨S128x8x2048, .f32⟩
  | .hbm, ⟨74, _⟩ => ⟨S128x8x2048, .f32⟩
  | .hbm, ⟨75, _⟩ => ⟨S128x8x2048, .f32⟩
  | .hbm, ⟨76, _⟩ => ⟨S128x8x2048, .f32⟩
  | .hbm, ⟨77, _⟩ => ⟨S8192x2048, .f32⟩
  | .hbm, ⟨78, _⟩ => ⟨S1024x2048, .f32⟩
  | .hbm, ⟨79, _⟩ => ⟨S9216x2048, .f32⟩
  | .hbm, ⟨80, _⟩ => ⟨S8192x2048, .f32⟩
  | .hbm, ⟨81, _⟩ => ⟨S1024x2048, .f32⟩
  | .hbm, ⟨82, _⟩ => ⟨S9216x2048, .f32⟩
  | .hbm, ⟨83, _⟩ => ⟨S9216x2048, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩

abbrev nD : Nat := 1
abbrev τ : Topo := Topo.v7x

variable {F : FTy → Type} [FloatOps F]
-- ==== Kernel3.lean ====
abbrev S1x8192x4096 : Shape := ⟨3, ![1, 8192, 4096]⟩
abbrev S128x8x4096 : Shape := ⟨3, ![128, 8, 4096]⟩
abbrev S1x4096x19504 : Shape := ⟨3, ![1, 4096, 19504]⟩
abbrev S8192x4096 : Shape := ⟨2, ![8192, 4096]⟩
abbrev S1024x4096 : Shape := ⟨2, ![1024, 4096]⟩
abbrev S9216x4096 : Shape := ⟨2, ![9216, 4096]⟩
abbrev S4096x19504 : Shape := ⟨2, ![4096, 19504]⟩
abbrev S9216x5120 : Shape := ⟨2, ![9216, 5120]⟩
abbrev S4096x512 : Shape := ⟨2, ![4096, 512]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S1x4096x19504, .f32⟩
  | .hbm, ⟨3, _⟩ => ⟨S8192x4096, .f32⟩
  | .hbm, ⟨4, _⟩ => ⟨S8192x4096, .bf16⟩
  | .hbm, ⟨5, _⟩ => ⟨S1024x4096, .f32⟩
  | .hbm, ⟨6, _⟩ => ⟨S1024x4096, .bf16⟩
  | .hbm, ⟨7, _⟩ => ⟨S9216x4096, .bf16⟩
  | .hbm, ⟨8, _⟩ => ⟨S4096x19504, .f32⟩
  | .hbm, ⟨9, _⟩ => ⟨S4096x19504, .bf16⟩
  | .hbm, ⟨10, _⟩ => ⟨S9216x5120, .f32⟩
  | .hbm, ⟨11, _⟩ => ⟨S9216x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S1x8192x4096 : Shape := ⟨3, ![1, 8192, 4096]⟩
abbrev S128x8x4096 : Shape := ⟨3, ![128, 8, 4096]⟩
abbrev S1x4096x19504 : Shape := ⟨3, ![1, 4096, 19504]⟩
abbrev S8192x4096 : Shape := ⟨2, ![8192, 4096]⟩
abbrev S1024x4096 : Shape := ⟨2, ![1024, 4096]⟩
abbrev S9216x4096 : Shape := ⟨2, ![9216, 4096]⟩
abbrev S4096x19504 : Shape := ⟨2, ![4096, 19504]⟩
abbrev S4096x5120 : Shape := ⟨2, ![4096, 5120]⟩
abbrev S9216x5120 : Shape := ⟨2, ![9216, 5120]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S1x4096x19504, .f32⟩
  | .hbm, ⟨3, _⟩ => ⟨S8192x4096, .f32⟩
  | .hbm, ⟨4, _⟩ => ⟨S1024x4096, .f32⟩
  | .hbm, ⟨5, _⟩ => ⟨S9216x4096, .f32⟩
  | .hbm, ⟨6, _⟩ => ⟨S4096x19504, .f32⟩
  | .hbm, ⟨7, _⟩ => ⟨S4096x5120, .f32⟩
  | .hbm, ⟨8, _⟩ => ⟨S9216x5120, .f32⟩
  | .hbm, ⟨9, _⟩ => ⟨S9216x5120, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S9216x4096 : Shape := ⟨2, ![9216, 4096]⟩
abbrev S1x4096x22016 : Shape := ⟨3, ![1, 4096, 22016]⟩
abbrev S1x3x11008 : Shape := ⟨3, ![1, 3, 11008]⟩
abbrev S1x11008 : Shape := ⟨2, ![1, 11008]⟩
abbrev S1x128x2x11008 : Shape := ⟨4, ![1, 128, 2, 11008]⟩
abbrev S128x2x11008 : Shape := ⟨3, ![128, 2, 11008]⟩
abbrev S_ : Shape := ⟨0, ![]⟩
abbrev S128x6x11008 : Shape := ⟨3, ![128, 6, 11008]⟩
abbrev S128x1x11008 : Shape := ⟨3, ![128, 1, 11008]⟩
abbrev S128x8x11008 : Shape := ⟨3, ![128, 8, 11008]⟩
abbrev S1024x11008 : Shape := ⟨2, ![1024, 11008]⟩
abbrev S4096x22016 : Shape := ⟨2, ![4096, 22016]⟩
abbrev S3x11008 : Shape := ⟨2, ![3, 11008]⟩
abbrev S9216x11008 : Shape := ⟨2, ![9216, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S43x8x256 : Shape := ⟨3, ![43, 8, 256]⟩
abbrev S1x8x256 : Shape := ⟨3, ![1, 8, 256]⟩
abbrev S8x256 : Shape := ⟨2, ![8, 256]⟩
abbrev S512x256 : Shape := ⟨2, ![512, 256]⟩
abbrev S512x4096 : Shape := ⟨2, ![512, 4096]⟩

abbrev nBuf : Space → Nat
  | .hbm => 19
  | .vmem => 19
  | .smem => 0
  | _ => 0

abbrev bufTy : (tb : Table) → Fin (tcTables nBuf tb) → BufTy
  | .hbm, ⟨0, _⟩ => ⟨S9216x4096, .bf16⟩
  | .hbm, ⟨1, _⟩ => ⟨S1x4096x22016, .f32⟩
  | .hbm, ⟨2, _⟩ => ⟨S1x3x11008, .f32⟩
  | .hbm, ⟨3, _⟩ => ⟨S1x11008, .f32⟩
  | .hbm, ⟨4, _⟩ => ⟨S1x128x2x11008, .f32⟩
  | .hbm, ⟨5, _⟩ => ⟨S128x2x11008, .f32⟩
  | .hbm, ⟨6, _⟩ => ⟨S_, .f32⟩
  | .hbm, ⟨7, _⟩ => ⟨S128x6x11008, .f32⟩
  | .hbm, ⟨8, _⟩ => ⟨S128x1x11008, .f32⟩
  | .hbm, ⟨9, _⟩ => ⟨S_, .f32⟩
  | .hbm, ⟨10, _⟩ => ⟨S128x1x11008, .f32⟩
  | .hbm, ⟨11, _⟩ => ⟨S128x8x11008, .f32⟩
  | .hbm, ⟨12, _⟩ => ⟨S128x8x11008, .f32⟩
  | .hbm, ⟨13, _⟩ => ⟨S1024x11008, .f32⟩
  | .hbm, ⟨14, _⟩ => ⟨S1024x11008, .f32⟩
  | .hbm, ⟨15, _⟩ => ⟨S4096x22016, .f32⟩
  | .hbm, ⟨16, _⟩ => ⟨S3x11008, .f32⟩
  | .hbm, ⟨17, _⟩ => ⟨S9216x11008, .bf16⟩
  | .hbm, ⟨18, _⟩ => ⟨S9216x11008, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .f32⟩
  | .local _ .vmem, ⟨17, _⟩ => ⟨S1024x256, .f32⟩
  | .local _ .vmem, ⟨18, _⟩ => ⟨S43x8x256, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 43], ![false, false]⟩

def k0_off1 (i : grid0.Coords) : Fin 3 → Nat :=
  let arg1 : BitVec 32 := BitVec.ofNat 32 (i 1).val
  let v4 : Index := Scalar.indexCast arg1
  let c0_3 : Index := 0#32
  let c0_4 : Index := 0#32
  ![v4.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S9216x4096 : Shape := ⟨2, ![9216, 4096]⟩
abbrev S1x4096x22016 : Shape := ⟨3, ![1, 4096, 22016]⟩
abbrev S1x3x11008 : Shape := ⟨3, ![1, 3, 11008]⟩
abbrev S1x11008 : Shape := ⟨2, ![1, 11008]⟩
abbrev S1x128x2x11008 : Shape := ⟨4, ![1, 128, 2, 11008]⟩
abbrev S8192x4096 : Shape := ⟨2, ![8192, 4096]⟩
abbrev S1x8192x4096 : Shape := ⟨3, ![1, 8192, 4096]⟩
abbrev S_ : Shape := ⟨0, ![]⟩
abbrev S1x2x11008 : Shape := ⟨3, ![1, 2, 11008]⟩
abbrev S4096x22016 : Shape := ⟨2, ![4096, 22016]⟩
abbrev S1x8192x22016 : Shape := ⟨3, ![1, 8192, 22016]⟩
abbrev S1x8192x11008 : Shape := ⟨3, ![1, 8192, 11008]⟩
abbrev S3x11008 : Shape := ⟨2, ![3, 11008]⟩
abbrev S11008 : Shape := ⟨1, ![11008]⟩
abbrev S1x8194x11008 : Shape := ⟨3, ![1, 8194, 11008]⟩
abbrev S1x1x11008 : Shape := ⟨3, ![1, 1, 11008]⟩
abbrev S1024x4096 : Shape := ⟨2, ![1024, 4096]⟩
abbrev S128x8x4096 : Shape := ⟨3, ![128, 8, 4096]⟩
abbrev S128x2x11008 : Shape := ⟨3, ![128, 2, 11008]⟩
abbrev S128x8x22016 : Shape := ⟨3, ![128, 8, 22016]⟩
abbrev S128x8x11008 : Shape := ⟨3, ![128, 8, 11008]⟩
abbrev S128x10x11008 : Shape := ⟨3, ![128, 10, 11008]⟩
abbrev S8192x11008 : Shape := ⟨2, ![8192, 11008]⟩
abbrev S1024x11008 : Shape := ⟨2, ![1024, 11008]⟩
abbrev S9216x11008 : Shape := ⟨2, ![9216, 11008]⟩

abbrev nBuf : Space → Nat
  | .hbm => 100
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22016, .f32⟩
  | .hbm, ⟨2, _⟩ => ⟨S1x3x11008, .f32⟩
  | .hbm, ⟨3, _⟩ => ⟨S1x11008, .f32⟩
  | .hbm, ⟨4, _⟩ => ⟨S1x128x2x11008, .f32⟩
  | .hbm, ⟨5, _⟩ => ⟨S9216x4096, .f32⟩
  | .hbm, ⟨6, _⟩ => ⟨S8192x4096, .f32⟩
  | .hbm, ⟨7, _⟩ => ⟨S1x8192x4096, .f32⟩
  | .hbm, ⟨8, _⟩ => ⟨S_, .f32⟩
  | .hbm, ⟨9, _⟩ => ⟨S1x2x11008, .f32⟩
  | .hbm, ⟨10, _⟩ => ⟨S4096x22016, .f32⟩
  | .hbm, ⟨11, _⟩ => ⟨S1x8192x22016, .f32⟩
  | .hbm, ⟨12, _⟩ => ⟨S1x8192x11008, .f32⟩
  | .hbm, ⟨13, _⟩ => ⟨S1x8192x11008, .f32⟩
  | .hbm, ⟨14, _⟩ => ⟨S3x11008, .f32⟩
  | .hbm, ⟨15, _⟩ => ⟨S11008, .f32⟩
  | .hbm, ⟨16, _⟩ => ⟨S1x8194x11008, .f32⟩
  | .hbm, ⟨17, _⟩ => ⟨S1x8192x11008, .f32⟩
  | .hbm, ⟨18, _⟩ => ⟨S1x11008, .f32⟩
  | .hbm, ⟨19, _⟩ => ⟨S11008, .f32⟩
  | .hbm, ⟨20, _⟩ => ⟨S1x1x11008, .f32⟩
  | .hbm, ⟨21, _⟩ => ⟨S1x8192x11008, .f32⟩
  | .hbm, ⟨22, _⟩ => ⟨S1x8192x11008, .f32⟩
  | .hbm, ⟨23, _⟩ => ⟨S1x1x11008, .f32⟩
  | .hbm, ⟨24, _⟩ => ⟨S1x8192x11008, .f32⟩
  | .hbm, ⟨25, _⟩ => ⟨S1x8192x11008, .f32⟩
  | .hbm, ⟨26, _⟩ => ⟨S1x8192x11008, .f32⟩
  | .hbm, ⟨27, _⟩ => ⟨S1x11008, .f32⟩
  | .hbm, ⟨28, _⟩ => ⟨S11008, .f32⟩
  | .hbm, ⟨29, _⟩ => ⟨S1x1x11008, .f32⟩
  | .hbm, ⟨30, _⟩ => ⟨S1x8192x11008, .f32⟩
  | .hbm, ⟨31, _⟩ => ⟨S1x8192x11008, .f32⟩
  | .hbm, ⟨32, _⟩ => ⟨S1x8192x11008, .f32⟩
  | .hbm, ⟨33, _⟩ => ⟨S1x8192x11008, .f32⟩
  | .hbm, ⟨34, _⟩ => ⟨S1x11008, .f32⟩
  | .hbm, ⟨35, _⟩ => ⟨S11008, .f32⟩
  | .hbm, ⟨36, _⟩ => ⟨S1x1x11008, .f32⟩
  | .hbm, ⟨37, _⟩ => ⟨S1x8192x11008, .f32⟩
  | .hbm, ⟨38, _⟩ => ⟨S1x8192x11008, .f32⟩
  | .hbm, ⟨39, _⟩ => ⟨S1x8192x11008, .f32⟩
  | .hbm, ⟨40, _⟩ => ⟨S1x8192x11008, .f32⟩
  | .hbm, ⟨41, _⟩ => ⟨S1x8192x11008, .f32⟩
  | .hbm, ⟨42, _⟩ => ⟨S_, .f32⟩
  | .hbm, ⟨43, _⟩ => ⟨S1x8192x11008, .f32⟩
  | .hbm, ⟨44, _⟩ => ⟨S1x8192x11008, .f32⟩
  | .hbm, ⟨45, _⟩ => ⟨S_, .f32⟩
  | .hbm, ⟨46, _⟩ => ⟨S1x8192x11008, .f32⟩
  | .hbm, ⟨47, _⟩ => ⟨S1x8192x11008, .f32⟩
  | .hbm, ⟨48, _⟩ => ⟨S1x8192x11008, .f32⟩
  | .hbm, ⟨49, _⟩ => ⟨S1x8192x11008, .f32⟩
  | .hbm, ⟨50, _⟩ => ⟨S1024x4096, .f32⟩
  | .hbm, ⟨51, _⟩ => ⟨S128x8x4096, .f32⟩
  | .hbm, ⟨52, _⟩ => ⟨S128x2x11008, .f32⟩
  | .hbm, ⟨53, _⟩ => ⟨S4096x22016, .f32⟩
  | .hbm, ⟨54, _⟩ => ⟨S128x8x22016, .f32⟩
  | .hbm, ⟨55, _⟩ => ⟨S128x8x11008, .f32⟩
  | .hbm, ⟨56, _⟩ => ⟨S128x8x11008, .f32⟩
  | .hbm, ⟨57, _⟩ => ⟨S3x11008, .f32⟩
  | .hbm, ⟨58, _⟩ => ⟨S11008, .f32⟩
  | .hbm, ⟨59, _⟩ => ⟨S128x10x11008, .f32⟩
  | .hbm, ⟨60, _⟩ => ⟨S128x8x11008, .f32⟩
  | .hbm, ⟨61, _⟩ => ⟨S1x11008, .f32⟩
  | .hbm, ⟨62, _⟩ => ⟨S11008, .f32⟩
  | .hbm, ⟨63, _⟩ => ⟨S1x1x11008, .f32⟩
  | .hbm, ⟨64, _⟩ => ⟨S128x8x11008, .f32⟩
  | .hbm, ⟨65, _⟩ => ⟨S128x8x11008, .f32⟩
  | .hbm, ⟨66, _⟩ => ⟨S1x1x11008, .f32⟩
  | .hbm, ⟨67, _⟩ => ⟨S128x8x11008, .f32⟩
  | .hbm, ⟨68, _⟩ => ⟨S128x8x11008, .f32⟩
  | .hbm, ⟨69, _⟩ => ⟨S128x8x11008, .f32⟩
  | .hbm, ⟨70, _⟩ => ⟨S1x11008, .f32⟩
  | .hbm, ⟨71, _⟩ => ⟨S11008, .f32⟩
  | .hbm, ⟨72, _⟩ => ⟨S1x1x11008, .f32⟩
  | .hbm, ⟨73, _⟩ => ⟨S128x8x11008, .f32⟩
  | .hbm, ⟨74, _⟩ => ⟨S128x8x11008, .f32⟩
  | .hbm, ⟨75, _⟩ => ⟨S128x8x11008, .f32⟩
  | .hbm, ⟨76, _⟩ => ⟨S128x8x11008, .f32⟩
  | .hbm, ⟨77, _⟩ => ⟨S1x11008, .f32⟩
  | .hbm, ⟨78, _⟩ => ⟨S11008, .f32⟩
  | .hbm, ⟨79, _⟩ => ⟨S1x1x11008, .f32⟩
  | .hbm, ⟨80, _⟩ => ⟨S128x8x11008, .f32⟩
  | .hbm, ⟨81, _⟩ => ⟨S128x8x11008, .f32⟩
  | .hbm, ⟨82, _⟩ => ⟨S128x8x11008, .f32⟩
  | .hbm, ⟨83, _⟩ => ⟨S128x8x11008, .f32⟩
  | .hbm, ⟨84, _⟩ => ⟨S128x8x11008, .f32⟩
  | .hbm, ⟨85, _⟩ => ⟨S_, .f32⟩
  | .hbm, ⟨86, _⟩ => ⟨S128x8x11008, .f32⟩
  | .hbm, ⟨87, _⟩ => ⟨S128x8x11008, .f32⟩
  | .hbm, ⟨88, _⟩ => ⟨S_, .f32⟩
  | .hbm, ⟨89, _⟩ => ⟨S128x8x11008, .f32⟩
  | .hbm, ⟨90, _⟩ => ⟨S128x8x11008, .f32⟩
  | .hbm, ⟨91, _⟩ => ⟨S128x8x11008, .f32⟩
  | .hbm, ⟨92, _⟩ => ⟨S128x8x11008, .f32⟩
  | .hbm, ⟨93, _⟩ => ⟨S8192x11008, .f32⟩
  | .hbm, ⟨94, _⟩ => ⟨S1024x11008, .f32⟩
  | .hbm, ⟨95, _⟩ => ⟨S9216x11008, .f32⟩
  | .hbm, ⟨96, _⟩ => ⟨S8192x11008, .f32⟩
  | .hbm, ⟨97, _⟩ => ⟨S1024x11008, .f32⟩
  | .hbm, ⟨98, _⟩ => ⟨S9216x11008, .f32⟩
  | .hbm, ⟨99, _⟩ => ⟨S9216x11008, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_2 : Ref sig .tc := ⟨.hbm, 85, rfl⟩
abbrev main_v77 : Ref sig .tc := ⟨.hbm, 86, rfl⟩
abbrev main_v78 : Ref sig .tc := ⟨.hbm, 87, rfl⟩
abbrev main_cst_3 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩

abbrev nD : Nat := 1
abbrev τ : Topo := Topo.v7x

variable {F : FTy → Type} [FloatOps F]
-- ==== Kernel5.lean ====
abbrev S9216x4096 : Shape := ⟨2, ![9216, 4096]⟩
abbrev S9216x2048 : Shape := ⟨2, ![9216, 2048]⟩
abbrev S8192x2048 : Shape := ⟨2, ![8192, 2048]⟩
abbrev S1024x2048 : Shape := ⟨2, ![1024, 2048]⟩
abbrev S1x2048x4096 : Shape := ⟨3, ![1, 2048, 4096]⟩
abbrev S4096x8192 : Shape := ⟨2, ![4096, 8192]⟩
abbrev S2048x4096 : Shape := ⟨2, ![2048, 4096]⟩
abbrev S512x4096 : Shape := ⟨2, ![512, 4096]⟩
abbrev S512x2048 : Shape := ⟨2, ![512, 2048]⟩
abbrev S2048x256 : Shape := ⟨2, ![2048, 256]⟩
abbrev S4096x256 : Shape := ⟨2, ![4096, 256]⟩
abbrev S512x256 : Shape := ⟨2, ![512, 256]⟩

abbrev nBuf : Space → Nat
  | .hbm => 10
  | .vmem => 18
  | .smem => 0
  | _ => 0

abbrev bufTy : (tb : Table) → Fin (tcTables nBuf tb) → BufTy
  | .hbm, ⟨0, _⟩ => ⟨S9216x4096, .bf16⟩
  | .hbm, ⟨1, _⟩ => ⟨S9216x2048, .bf16⟩
  | .hbm, ⟨2, _⟩ => ⟨S8192x2048, .bf16⟩
  | .hbm, ⟨3, _⟩ => ⟨S1024x2048, .f32⟩
  | .hbm, ⟨4, _⟩ => ⟨S1x2048x4096, .f32⟩
  | .hbm, ⟨5, _⟩ => ⟨S1x2048x4096, .f32⟩
  | .hbm, ⟨6, _⟩ => ⟨S4096x8192, .bf16⟩
  | .hbm, ⟨7, _⟩ => ⟨S2048x4096, .f32⟩
  | .hbm, ⟨8, _⟩ => ⟨S2048x4096, .f32⟩
  | .hbm, ⟨9, _⟩ => ⟨S9216x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S512x256, .bf16⟩
  | .local _ .vmem, ⟨17, _⟩ => ⟨S512x256, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![18, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S9216x4096 : Shape := ⟨2, ![9216, 4096]⟩
abbrev S9216x2048 : Shape := ⟨2, ![9216, 2048]⟩
abbrev S8192x2048 : Shape := ⟨2, ![8192, 2048]⟩
abbrev S1024x2048 : Shape := ⟨2, ![1024, 2048]⟩
abbrev S1x2048x4096 : Shape := ⟨3, ![1, 2048, 4096]⟩
abbrev S4096x8192 : Shape := ⟨2, ![4096, 8192]⟩
abbrev S2048x4096 : Shape := ⟨2, ![2048, 4096]⟩
abbrev S9216x8192 : Shape := ⟨2, ![9216, 8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x2048, .bf16⟩
  | .hbm, ⟨2, _⟩ => ⟨S8192x2048, .bf16⟩
  | .hbm, ⟨3, _⟩ => ⟨S1024x2048, .f32⟩
  | .hbm, ⟨4, _⟩ => ⟨S1x2048x4096, .f32⟩
  | .hbm, ⟨5, _⟩ => ⟨S1x2048x4096, .f32⟩
  | .hbm, ⟨6, _⟩ => ⟨S4096x8192, .bf16⟩
  | .hbm, ⟨7, _⟩ => ⟨S8192x2048, .f32⟩
  | .hbm, ⟨8, _⟩ => ⟨S9216x2048, .f32⟩
  | .hbm, ⟨9, _⟩ => ⟨S9216x2048, .f32⟩
  | .hbm, ⟨10, _⟩ => ⟨S2048x4096, .f32⟩
  | .hbm, ⟨11, _⟩ => ⟨S9216x4096, .f32⟩
  | .hbm, ⟨12, _⟩ => ⟨S2048x4096, .f32⟩
  | .hbm, ⟨13, _⟩ => ⟨S9216x4096, .f32⟩
  | .hbm, ⟨14, _⟩ => ⟨S9216x4096, .f32⟩
  | .hbm, ⟨15, _⟩ => ⟨S4096x8192, .f32⟩
  | .hbm, ⟨16, _⟩ => ⟨S9216x8192, .f32⟩
  | .hbm, ⟨17, _⟩ => ⟨S9216x4096, .f32⟩
  | .hbm, ⟨18, _⟩ => ⟨S9216x4096, .f32⟩
  | .hbm, ⟨19, _⟩ => ⟨S9216x4096, .f32⟩
  | .hbm, ⟨20, _⟩ => ⟨S9216x4096, .f32⟩
  | .hbm, ⟨21, _⟩ => ⟨S_, .f32⟩
  | .hbm, ⟨22, _⟩ => ⟨S9216x4096, .f32⟩
  | .hbm, ⟨23, _⟩ => ⟨S9216x4096, .f32⟩
  | .hbm, ⟨24, _⟩ => ⟨S_, .f32⟩
  | .hbm, ⟨25, _⟩ => ⟨S9216x4096, .f32⟩
  | .hbm, ⟨26, _⟩ => ⟨S9216x4096, .f32⟩
  | .hbm, ⟨27, _⟩ => ⟨S9216x4096, .f32⟩
  | .hbm, ⟨28, _⟩ => ⟨S9216x4096, .f32⟩
  | .hbm, ⟨29, _⟩ => ⟨S9216x4096, .f32⟩
  | .hbm, ⟨30, _⟩ => ⟨S_, .f32⟩
  | .hbm, ⟨31, _⟩ => ⟨S9216x4096, .f32⟩
  | .hbm, ⟨32, _⟩ => ⟨S9216x4096, .f32⟩
  | .hbm, ⟨33, _⟩ => ⟨S_, .f32⟩
  | .hbm, ⟨34, _⟩ => ⟨S9216x4096, .f32⟩
  | .hbm, ⟨35, _⟩ => ⟨S9216x4096, .f32⟩
  | .hbm, ⟨36, _⟩ => ⟨S9216x4096, .f32⟩
  | .hbm, ⟨37, _⟩ => ⟨S9216x4096, .f32⟩
  | .hbm, ⟨38, _⟩ => ⟨S9216x4096, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S9216x11008 : Shape := ⟨2, ![9216, 11008]⟩
abbrev S1x11008x4096 : Shape := ⟨3, ![1, 11008, 4096]⟩
abbrev S9216x4096 : Shape := ⟨2, ![9216, 4096]⟩
abbrev S11008x4096 : Shape := ⟨2, ![11008, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S9216x11008, .bf16⟩
  | .hbm, ⟨1, _⟩ => ⟨S1x11008x4096, .f32⟩
  | .hbm, ⟨2, _⟩ => ⟨S9216x4096, .f32⟩
  | .hbm, ⟨3, _⟩ => ⟨S11008x4096, .f32⟩
  | .hbm, ⟨4, _⟩ => ⟨S11008x4096, .bf16⟩
  | .hbm, ⟨5, _⟩ => ⟨S9216x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S9216x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S9216x11008 : Shape := ⟨2, ![9216, 11008]⟩
abbrev S1x11008x4096 : Shape := ⟨3, ![1, 11008, 4096]⟩
abbrev S9216x4096 : Shape := ⟨2, ![9216, 4096]⟩
abbrev S_ : Shape := ⟨0, ![]⟩
abbrev S11008x4096 : Shape := ⟨2, ![11008, 4096]⟩

abbrev nBuf : Space → Nat
  | .hbm => 10
  | .vmem => 0
  | .smem => 0
  | _ => 0

abbrev bufTy : (tb : Table) → Fin (tcTables nBuf tb) → BufTy
  | .hbm, ⟨0, _⟩ => ⟨S9216x11008, .bf16⟩
  | .hbm, ⟨1, _⟩ => ⟨S1x11008x4096, .f32⟩
  | .hbm, ⟨2, _⟩ => ⟨S9216x4096, .f32⟩
  | .hbm, ⟨3, _⟩ => ⟨S_, .f32⟩
  | .hbm, ⟨4, _⟩ => ⟨S9216x4096, .f32⟩
  | .hbm, ⟨5, _⟩ => ⟨S9216x4096, .f32⟩
  | .hbm, ⟨6, _⟩ => ⟨S9216x11008, .f32⟩
  | .hbm, ⟨7, _⟩ => ⟨S11008x4096, .f32⟩
  | .hbm, ⟨8, _⟩ => ⟨S9216x4096, .f32⟩
  | .hbm, ⟨9, _⟩ => ⟨S9216x4096, .f32⟩
  | _, _ => ⟨S9216x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S9216x4096 : Shape := ⟨2, ![9216, 4096]⟩
abbrev S1x4096x4096 : Shape := ⟨3, ![1, 4096, 4096]⟩
abbrev S1x8192x4096 : Shape := ⟨3, ![1, 8192, 4096]⟩
abbrev S128x8x4096 : Shape := ⟨3, ![128, 8, 4096]⟩
abbrev S4096x4096 : Shape := ⟨2, ![4096, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S1x4096x4096, .f32⟩
  | .hbm, ⟨2, _⟩ => ⟨S1x8192x4096, .f32⟩
  | .hbm, ⟨3, _⟩ => ⟨S128x8x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .hbm, ⟨7, _⟩ => ⟨S1024x4096, .f32⟩
  | .hbm, ⟨8, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S9216x4096 : Shape := ⟨2, ![9216, 4096]⟩
abbrev S1x4096x4096 : Shape := ⟨3, ![1, 4096, 4096]⟩
abbrev S1x8192x4096 : Shape := ⟨3, ![1, 8192, 4096]⟩
abbrev S128x8x4096 : Shape := ⟨3, ![128, 8, 4096]⟩
abbrev S8192x4096 : Shape := ⟨2, ![8192, 4096]⟩
abbrev S1024x4096 : Shape := ⟨2, ![1024, 4096]⟩
abbrev S_ : Shape := ⟨0, ![]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x4096, .f32⟩
  | .hbm, ⟨2, _⟩ => ⟨S1x8192x4096, .f32⟩
  | .hbm, ⟨3, _⟩ => ⟨S128x8x4096, .f32⟩
  | .hbm, ⟨4, _⟩ => ⟨S8192x4096, .f32⟩
  | .hbm, ⟨5, _⟩ => ⟨S1024x4096, .f32⟩
  | .hbm, ⟨6, _⟩ => ⟨S9216x4096, .f32⟩
  | .hbm, ⟨7, _⟩ => ⟨S_, .f32⟩
  | .hbm, ⟨8, _⟩ => ⟨S9216x4096, .f32⟩
  | .hbm, ⟨9, _⟩ => ⟨S9216x4096, .f32⟩
  | .hbm, ⟨10, _⟩ => ⟨S9216x4096, .f32⟩
  | .hbm, ⟨11, _⟩ => ⟨S4096x4096, .f32⟩
  | .hbm, ⟨12, _⟩ => ⟨S9216x4096, .f32⟩
  | .hbm, ⟨13, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel8.lean ====
abbrev S9216x4096 : Shape := ⟨2, ![9216, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S9216x4096, .f32⟩
  | .hbm, ⟨1, _⟩ => ⟨S1x4096, .f32⟩
  | .hbm, ⟨2, _⟩ => ⟨S1x4096, .f32⟩
  | .hbm, ⟨3, _⟩ => ⟨S9216x4096, .f32⟩
  | .hbm, ⟨4, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S9216x4096 : Shape := ⟨2, ![9216, 4096]⟩
abbrev S1x4096 : Shape := ⟨2, ![1, 4096]⟩
abbrev S4096 : Shape := ⟨1, ![4096]⟩
abbrev S_ : Shape := ⟨0, ![]⟩
abbrev S9216 : Shape := ⟨1, ![9216]⟩
abbrev S9216x1 : Shape := ⟨2, ![9216, 1]⟩

abbrev nBuf : Space → Nat
  | .hbm => 35
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S9216x4096, .f32⟩
  | .hbm, ⟨12, _⟩ => ⟨S9216x4096, .f32⟩
  | .hbm, ⟨13, _⟩ => ⟨S9216x4096, .f32⟩
  | .hbm, ⟨14, _⟩ => ⟨S_, .f32⟩
  | .hbm, ⟨15, _⟩ => ⟨S9216, .f32⟩
  | .hbm, ⟨16, _⟩ => ⟨S9216x1, .f32⟩
  | .hbm, ⟨17, _⟩ => ⟨S_, .f32⟩
  | .hbm, ⟨18, _⟩ => ⟨S9216x1, .f32⟩
  | .hbm, ⟨19, _⟩ => ⟨S9216x1, .f32⟩
  | .hbm, ⟨20, _⟩ => ⟨S9216x4096, .f32⟩
  | .hbm, ⟨21, _⟩ => ⟨S9216x4096, .f32⟩
  | .hbm, ⟨22, _⟩ => ⟨S_, .f32⟩
  | .hbm, ⟨23, _⟩ => ⟨S9216x1, .f32⟩
  | .hbm, ⟨24, _⟩ => ⟨S9216x1, .f32⟩
  | .hbm, ⟨25, _⟩ => ⟨S9216x1, .f32⟩
  | .hbm, ⟨26, _⟩ => ⟨S9216x4096, .f32⟩
  | .hbm, ⟨27, _⟩ => ⟨S9216x4096, .f32⟩
  | .hbm, ⟨28, _⟩ => ⟨S1x4096, .f32⟩
  | .hbm, ⟨29, _⟩ => ⟨S9216x4096, .f32⟩
  | .hbm, ⟨30, _⟩ => ⟨S9216x4096, .f32⟩
  | .hbm, ⟨31, _⟩ => ⟨S1x4096, .f32⟩
  | .hbm, ⟨32, _⟩ => ⟨S9216x4096, .f32⟩
  | .hbm, ⟨33, _⟩ => ⟨S9216x4096, .f32⟩
  | .hbm, ⟨34, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel9.lean ====
abbrev S9216x4096 : Shape := ⟨2, ![9216, 4096]⟩
abbrev S1x4096 : Shape := ⟨2, ![1, 4096]⟩
abbrev S8192x4096 : Shape := ⟨2, ![8192, 4096]⟩
abbrev S1024x4096 : Shape := ⟨2, ![1024, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S9216x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S1024x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c32_i32 : BitVec 32 := 32#32
  let v23 : BitVec 1 := Scalar.cmpi .slt arg0 c32_i32
  let v24 : BitVec 32 := Scalar.extui v23
  let c0_i32 : BitVec 32 := 0#32
  let v25 : BitVec 1 := Scalar.cmpi .ne v24 c0_i32
  v25

def k0_cond2 (i : grid0.Coords) : BitVec 1 :=
  let arg0 : BitVec 32 := BitVec.ofNat 32 (i 0).val
  let c32_i32_9 : BitVec 32 := 32#32
  let v26 : BitVec 1 := Scalar.cmpi .sge arg0 c32_i32_9
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S9216x4096 : Shape := ⟨2, ![9216, 4096]⟩
abbrev S1x4096 : Shape := ⟨2, ![1, 4096]⟩
abbrev S4096 : Shape := ⟨1, ![4096]⟩
abbrev S_ : Shape := ⟨0, ![]⟩
abbrev S9216 : Shape := ⟨1, ![9216]⟩
abbrev S9216x1 : Shape := ⟨2, ![9216, 1]⟩
abbrev S8192x4096 : Shape := ⟨2, ![8192, 4096]⟩
abbrev S1024x4096 : Shape := ⟨2, ![1024, 4096]⟩

abbrev nBuf : Space → Nat
  | .hbm => 36
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S9216x4096, .f32⟩
  | .hbm, ⟨12, _⟩ => ⟨S9216x4096, .f32⟩
  | .hbm, ⟨13, _⟩ => ⟨S9216x4096, .f32⟩
  | .hbm, ⟨14, _⟩ => ⟨S_, .f32⟩
  | .hbm, ⟨15, _⟩ => ⟨S9216, .f32⟩
  | .hbm, ⟨16, _⟩ => ⟨S9216x1, .f32⟩
  | .hbm, ⟨17, _⟩ => ⟨S_, .f32⟩
  | .hbm, ⟨18, _⟩ => ⟨S9216x1, .f32⟩
  | .hbm, ⟨19, _⟩ => ⟨S9216x1, .f32⟩
  | .hbm, ⟨20, _⟩ => ⟨S9216x4096, .f32⟩
  | .hbm, ⟨21, _⟩ => ⟨S9216x4096, .f32⟩
  | .hbm, ⟨22, _⟩ => ⟨S_, .f32⟩
  | .hbm, ⟨23, _⟩ => ⟨S9216x1, .f32⟩
  | .hbm, ⟨24, _⟩ => ⟨S9216x1, .f32⟩
  | .hbm, ⟨25, _⟩ => ⟨S9216x1, .f32⟩
  | .hbm, ⟨26, _⟩ => ⟨S9216x4096, .f32⟩
  | .hbm, ⟨27, _⟩ => ⟨S9216x4096, .f32⟩
  | .hbm, ⟨28, _⟩ => ⟨S1x4096, .f32⟩
  | .hbm, ⟨29, _⟩ => ⟨S9216x4096, .f32⟩
  | .hbm, ⟨30, _⟩ => ⟨S9216x4096, .f32⟩
  | .hbm, ⟨31, _⟩ => ⟨S1x4096, .f32⟩
  | .hbm, ⟨32, _⟩ => ⟨S9216x4096, .f32⟩
  | .hbm, ⟨33, _⟩ => ⟨S9216x4096, .f32⟩
  | .hbm, ⟨34, _⟩ => ⟨S8192x4096, .f32⟩
  | .hbm, ⟨35, _⟩ => ⟨S1024x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel10.lean ====
abbrev S1x8192x4096 : Shape := ⟨3, ![1, 8192, 4096]⟩
abbrev S128x8x4096 : Shape := ⟨3, ![128, 8, 4096]⟩
abbrev S1x4096x19504 : Shape := ⟨3, ![1, 4096, 19504]⟩
abbrev S8192x4096 : Shape := ⟨2, ![8192, 4096]⟩
abbrev S1024x4096 : Shape := ⟨2, ![1024, 4096]⟩
abbrev S9216x4096 : Shape := ⟨2, ![9216, 4096]⟩
abbrev S4096x19504 : Shape := ⟨2, ![4096, 19504]⟩
abbrev S4096x48 : Shape := ⟨2, ![4096, 48]⟩
abbrev S_ : Shape := ⟨0, ![]⟩
abbrev S4096x128 : Shape := ⟨2, ![4096, 128]⟩
abbrev S9216x128 : Shape := ⟨2, ![9216, 128]⟩
abbrev S1024x128 : Shape := ⟨2, ![1024, 128]⟩
abbrev S9216x48 : Shape := ⟨2, ![9216, 48]⟩

abbrev nBuf : Space → Nat
  | .hbm => 16
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S1x4096x19504, .f32⟩
  | .hbm, ⟨3, _⟩ => ⟨S8192x4096, .f32⟩
  | .hbm, ⟨4, _⟩ => ⟨S8192x4096, .bf16⟩
  | .hbm, ⟨5, _⟩ => ⟨S1024x4096, .f32⟩
  | .hbm, ⟨6, _⟩ => ⟨S1024x4096, .bf16⟩
  | .hbm, ⟨7, _⟩ => ⟨S9216x4096, .bf16⟩
  | .hbm, ⟨8, _⟩ => ⟨S4096x19504, .f32⟩
  | .hbm, ⟨9, _⟩ => ⟨S4096x19504, .bf16⟩
  | .hbm, ⟨10, _⟩ => ⟨S4096x48, .bf16⟩
  | .hbm, ⟨11, _⟩ => ⟨S_, .i32⟩
  | .hbm, ⟨12, _⟩ => ⟨S_, .bf16⟩
  | .hbm, ⟨13, _⟩ => ⟨S4096x128, .bf16⟩
  | .hbm, ⟨14, _⟩ => ⟨S9216x128, .f32⟩
  | .hbm, ⟨15, _⟩ => ⟨S9216x48, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S1x8192x4096 : Shape := ⟨3, ![1, 8192, 4096]⟩
abbrev S128x8x4096 : Shape := ⟨3, ![128, 8, 4096]⟩
abbrev S1x4096x19504 : Shape := ⟨3, ![1, 4096, 19504]⟩
abbrev S8192x4096 : Shape := ⟨2, ![8192, 4096]⟩
abbrev S1024x4096 : Shape := ⟨2, ![1024, 4096]⟩
abbrev S9216x4096 : Shape := ⟨2, ![9216, 4096]⟩
abbrev S4096x19504 : Shape := ⟨2, ![4096, 19504]⟩
abbrev S4096x48 : Shape := ⟨2, ![4096, 48]⟩
abbrev S9216x48 : Shape := ⟨2, ![9216, 48]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S1x4096x19504, .f32⟩
  | .hbm, ⟨3, _⟩ => ⟨S8192x4096, .f32⟩
  | .hbm, ⟨4, _⟩ => ⟨S1024x4096, .f32⟩
  | .hbm, ⟨5, _⟩ => ⟨S9216x4096, .f32⟩
  | .hbm, ⟨6, _⟩ => ⟨S4096x19504, .f32⟩
  | .hbm, ⟨7, _⟩ => ⟨S4096x48, .f32⟩
  | .hbm, ⟨8, _⟩ => ⟨S9216x48, .f32⟩
  | .hbm, ⟨9, _⟩ => ⟨S9216x48, .f32⟩
  | .hbm, ⟨10, _⟩ => ⟨S9216x48, .f32⟩
  | .hbm, ⟨11, _⟩ => ⟨S_, .f32⟩
  | .hbm, ⟨12, _⟩ => ⟨S9216x48, .f32⟩
  | .hbm, ⟨13, _⟩ => ⟨S9216x48, .f32⟩
  | .hbm, ⟨14, _⟩ => ⟨S_, .f32⟩
  | .hbm, ⟨15, _⟩ => ⟨S9216x48, .f32⟩
  | .hbm, ⟨16, _⟩ => ⟨S9216x48, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel11.lean ====
abbrev S8192x512 : Shape := ⟨2, ![8192, 512]⟩
abbrev S1x32x128 : Shape := ⟨3, ![1, 32, 128]⟩
abbrev S1x4096x256 : Shape := ⟨3, ![1, 4096, 256]⟩
abbrev S1x256x128 : Shape := ⟨3, ![1, 256, 128]⟩
abbrev S32x128 : Shape := ⟨2, ![32, 128]⟩
abbrev S4096x256 : Shape := ⟨2, ![4096, 256]⟩
abbrev S256x128 : Shape := ⟨2, ![256, 128]⟩
abbrev S2048x256 : Shape := ⟨2, ![2048, 256]⟩
abbrev S2048x512 : Shape := ⟨2, ![2048, 512]⟩
abbrev S2x2048 : Shape := ⟨2, ![2, 2048]⟩
abbrev S512x8192 : Shape := ⟨2, ![512, 8192]⟩
abbrev S512x512 : Shape := ⟨2, ![512, 512]⟩
abbrev S512x128 : Shape := ⟨2, ![512, 128]⟩
abbrev S512x2048 : Shape := ⟨2, ![512, 2048]⟩
abbrev S1x2048 : Shape := ⟨2, ![1, 2048]⟩
abbrev S8x2048 : Shape := ⟨2, ![8, 2048]⟩
abbrev S8x256 : Shape := ⟨2, ![8, 256]⟩
abbrev S1x256 : Shape := ⟨2, ![1, 256]⟩
abbrev S512x256 : Shape := ⟨2, ![512, 256]⟩
abbrev S511x512 : Shape := ⟨2, ![511, 512]⟩

abbrev nBuf : Space → Nat
  | .hbm => 16
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1x32x128, .f32⟩
  | .hbm, ⟨2, _⟩ => ⟨S1x4096x256, .f32⟩
  | .hbm, ⟨3, _⟩ => ⟨S1x256x128, .f32⟩
  | .hbm, ⟨4, _⟩ => ⟨S32x128, .f32⟩
  | .hbm, ⟨5, _⟩ => ⟨S4096x256, .f32⟩
  | .hbm, ⟨6, _⟩ => ⟨S256x128, .f32⟩
  | .hbm, ⟨7, _⟩ => ⟨S2048x256, .f32⟩
  | .hbm, ⟨8, _⟩ => ⟨S2048x256, .f32⟩
  | .hbm, ⟨9, _⟩ => ⟨S2048x512, .f32⟩
  | .hbm, ⟨10, _⟩ => ⟨S2048x512, .bf16⟩
  | .hbm, ⟨11, _⟩ => ⟨S2x2048, .f32⟩
  | .hbm, ⟨12, _⟩ => ⟨S256x128, .bf16⟩
  | .hbm, ⟨13, _⟩ => ⟨S512x8192, .bf16⟩
  | .hbm, ⟨14, _⟩ => ⟨S512x512, .bf16⟩
  | .hbm, ⟨15, _⟩ => ⟨S511x512, .bf16⟩
  | .local _ .vmem, ⟨0, _⟩ => ⟨S512x8192, .bf16⟩
  | .local _ .vmem, ⟨1, _⟩ => ⟨S2x2048, .f32⟩
  | .local _ .vmem, ⟨2, _⟩ => ⟨S2048x512, .bf16⟩
  | .local _ .vmem, ⟨3, _⟩ => ⟨S256x128, .bf16⟩
  | .local _ .vmem, ⟨4, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S8192x512 : Shape := ⟨2, ![8192, 512]⟩
abbrev S1x32x128 : Shape := ⟨3, ![1, 32, 128]⟩
abbrev S1x4096x256 : Shape := ⟨3, ![1, 4096, 256]⟩
abbrev S1x256x128 : Shape := ⟨3, ![1, 256, 128]⟩
abbrev S512x16x4x128 : Shape := ⟨4, ![512, 16, 4, 128]⟩
abbrev S512x4x16x128 : Shape := ⟨4, ![512, 4, 16, 128]⟩
abbrev S512x4x2048 : Shape := ⟨3, ![512, 4, 2048]⟩
abbrev S4096x256 : Shape := ⟨2, ![4096, 256]⟩
abbrev S2048x256 : Shape := ⟨2, ![2048, 256]⟩
abbrev S32x128 : Shape := ⟨2, ![32, 128]⟩
abbrev S2x2048 : Shape := ⟨2, ![2, 2048]⟩
abbrev S512x4x256 : Shape := ⟨3, ![512, 4, 256]⟩
abbrev S1x2048 : Shape := ⟨2, ![1, 2048]⟩
abbrev S2048 : Shape := ⟨1, ![2048]⟩
abbrev S256 : Shape := ⟨1, ![256]⟩
abbrev S1x1x256 : Shape := ⟨3, ![1, 1, 256]⟩
abbrev S511x4x256 : Shape := ⟨3, ![511, 4, 256]⟩
abbrev S_ : Shape := ⟨0, ![]⟩
abbrev S256x128 : Shape := ⟨2, ![256, 128]⟩
abbrev S511x4x128 : Shape := ⟨3, ![511, 4, 128]⟩
abbrev S511x512 : Shape := ⟨2, ![511, 512]⟩

abbrev nBuf : Space → Nat
  | .hbm => 52
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x32x128, .f32⟩
  | .hbm, ⟨2, _⟩ => ⟨S1x4096x256, .f32⟩
  | .hbm, ⟨3, _⟩ => ⟨S1x256x128, .f32⟩
  | .hbm, ⟨4, _⟩ => ⟨S8192x512, .f32⟩
  | .hbm, ⟨5, _⟩ => ⟨S512x16x4x128, .f32⟩
  | .hbm, ⟨6, _⟩ => ⟨S512x4x16x128, .f32⟩
  | .hbm, ⟨7, _⟩ => ⟨S512x4x2048, .f32⟩
  | .hbm, ⟨8, _⟩ => ⟨S4096x256, .f32⟩
  | .hbm, ⟨9, _⟩ => ⟨S2048x256, .f32⟩
  | .hbm, ⟨10, _⟩ => ⟨S4096x256, .f32⟩
  | .hbm, ⟨11, _⟩ => ⟨S2048x256, .f32⟩
  | .hbm, ⟨12, _⟩ => ⟨S32x128, .f32⟩
  | .hbm, ⟨13, _⟩ => ⟨S2x2048, .f32⟩
  | .hbm, ⟨14, _⟩ => ⟨S512x4x256, .f32⟩
  | .hbm, ⟨15, _⟩ => ⟨S1x2048, .f32⟩
  | .hbm, ⟨16, _⟩ => ⟨S2048, .f32⟩
  | .hbm, ⟨17, _⟩ => ⟨S256, .f32⟩
  | .hbm, ⟨18, _⟩ => ⟨S1x1x256, .f32⟩
  | .hbm, ⟨19, _⟩ => ⟨S512x4x256, .f32⟩
  | .hbm, ⟨20, _⟩ => ⟨S512x4x256, .f32⟩
  | .hbm, ⟨21, _⟩ => ⟨S512x4x256, .f32⟩
  | .hbm, ⟨22, _⟩ => ⟨S1x2048, .f32⟩
  | .hbm, ⟨23, _⟩ => ⟨S2048, .f32⟩
  | .hbm, ⟨24, _⟩ => ⟨S256, .f32⟩
  | .hbm, ⟨25, _⟩ => ⟨S1x1x256, .f32⟩
  | .hbm, ⟨26, _⟩ => ⟨S512x4x256, .f32⟩
  | .hbm, ⟨27, _⟩ => ⟨S512x4x256, .f32⟩
  | .hbm, ⟨28, _⟩ => ⟨S511x4x256, .f32⟩
  | .hbm, ⟨29, _⟩ => ⟨S511x4x256, .f32⟩
  | .hbm, ⟨30, _⟩ => ⟨S511x4x256, .f32⟩
  | .hbm, ⟨31, _⟩ => ⟨S_, .f32⟩
  | .hbm, ⟨32, _⟩ => ⟨S511x4x256, .f32⟩
  | .hbm, ⟨33, _⟩ => ⟨S511x4x256, .f32⟩
  | .hbm, ⟨34, _⟩ => ⟨S511x4x256, .f32⟩
  | .hbm, ⟨35, _⟩ => ⟨S511x4x256, .f32⟩
  | .hbm, ⟨36, _⟩ => ⟨S_, .f32⟩
  | .hbm, ⟨37, _⟩ => ⟨S511x4x256, .f32⟩
  | .hbm, ⟨38, _⟩ => ⟨S511x4x256, .f32⟩
  | .hbm, ⟨39, _⟩ => ⟨S511x4x256, .f32⟩
  | .hbm, ⟨40, _⟩ => ⟨S_, .f32⟩
  | .hbm, ⟨41, _⟩ => ⟨S511x4x256, .f32⟩
  | .hbm, ⟨42, _⟩ => ⟨S511x4x256, .f32⟩
  | .hbm, ⟨43, _⟩ => ⟨S511x4x256, .f32⟩
  | .hbm, ⟨44, _⟩ => ⟨S_, .f32⟩
  | .hbm, ⟨45, _⟩ => ⟨S511x4x256, .f32⟩
  | .hbm, ⟨46, _⟩ => ⟨S511x4x256, .f32⟩
  | .hbm, ⟨47, _⟩ => ⟨S511x4x256, .f32⟩
  | .hbm, ⟨48, _⟩ => ⟨S256x128, .f32⟩
  | .hbm, ⟨49, _⟩ => ⟨S511x4x128, .f32⟩
  | .hbm, ⟨50, _⟩ => ⟨S511x4x128, .bf16⟩
  | .hbm, ⟨51, _⟩ => ⟨S511x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel12.lean ====
abbrev S1x8192x4096 : Shape := ⟨3, ![1, 8192, 4096]⟩
abbrev S128x8x4096 : Shape := ⟨3, ![128, 8, 4096]⟩
abbrev S9216x2048 : Shape := ⟨2, ![9216, 2048]⟩
abbrev S8192x2048 : Shape := ⟨2, ![8192, 2048]⟩
abbrev S1024x2048 : Shape := ⟨2, ![1024, 2048]⟩
abbrev S1x4096x19504 : Shape := ⟨3, ![1, 4096, 19504]⟩
abbrev S1x2048x4096 : Shape := ⟨3, ![1, 2048, 4096]⟩
abbrev S1x4096x4096 : Shape := ⟨3, ![1, 4096, 4096]⟩
abbrev S1x4096 : Shape := ⟨2, ![1, 4096]⟩
abbrev S1024x4096 : Shape := ⟨2, ![1024, 4096]⟩
abbrev S8192x4096 : Shape := ⟨2, ![8192, 4096]⟩
abbrev S9216x4096 : Shape := ⟨2, ![9216, 4096]⟩
abbrev S4096x19504 : Shape := ⟨2, ![4096, 19504]⟩
abbrev S4096x8192 : Shape := ⟨2, ![4096, 8192]⟩
abbrev S2048x4096 : Shape := ⟨2, ![2048, 4096]⟩
abbrev S512x4096 : Shape := ⟨2, ![512, 4096]⟩
abbrev S512x2048 : Shape := ⟨2, ![512, 2048]⟩
abbrev S2048x256 : Shape := ⟨2, ![2048, 256]⟩
abbrev S4096x256 : Shape := ⟨2, ![4096, 256]⟩
abbrev S512x256 : Shape := ⟨2, ![512, 256]⟩
abbrev S4096x4096 : Shape := ⟨2, ![4096, 4096]⟩
abbrev S4096x512 : Shape := ⟨2, ![4096, 512]⟩
abbrev S1024x512 : Shape := ⟨2, ![1024, 512]⟩
abbrev S256x4096 : Shape := ⟨2, ![256, 4096]⟩
abbrev S256 : Shape := ⟨1, ![256]⟩
abbrev S256x1 : Shape := ⟨2, ![256, 1]⟩

abbrev nBuf : Space → Nat
  | .hbm => 28
  | .vmem => 36
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S9216x2048, .bf16⟩
  | .hbm, ⟨3, _⟩ => ⟨S8192x2048, .bf16⟩
  | .hbm, ⟨4, _⟩ => ⟨S1024x2048, .f32⟩
  | .hbm, ⟨5, _⟩ => ⟨S1x4096x19504, .f32⟩
  | .hbm, ⟨6, _⟩ => ⟨S1x2048x4096, .f32⟩
  | .hbm, ⟨7, _⟩ => ⟨S1x2048x4096, .f32⟩
  | .hbm, ⟨8, _⟩ => ⟨S1x4096x4096, .f32⟩
  | .hbm, ⟨9, _⟩ => ⟨S1x4096, .f32⟩
  | .hbm, ⟨10, _⟩ => ⟨S1x4096, .f32⟩
  | .hbm, ⟨11, _⟩ => ⟨S1024x4096, .f32⟩
  | .hbm, ⟨12, _⟩ => ⟨S8192x4096, .f32⟩
  | .hbm, ⟨13, _⟩ => ⟨S8192x4096, .bf16⟩
  | .hbm, ⟨14, _⟩ => ⟨S1024x4096, .bf16⟩
  | .hbm, ⟨15, _⟩ => ⟨S9216x4096, .bf16⟩
  | .hbm, ⟨16, _⟩ => ⟨S4096x19504, .f32⟩
  | .hbm, ⟨17, _⟩ => ⟨S4096x19504, .bf16⟩
  | .hbm, ⟨18, _⟩ => ⟨S4096x8192, .bf16⟩
  | .hbm, ⟨19, _⟩ => ⟨S2048x4096, .f32⟩
  | .hbm, ⟨20, _⟩ => ⟨S2048x4096, .f32⟩
  | .hbm, ⟨21, _⟩ => ⟨S9216x4096, .bf16⟩
  | .hbm, ⟨22, _⟩ => ⟨S4096x4096, .f32⟩
  | .hbm, ⟨23, _⟩ => ⟨S4096x4096, .bf16⟩
  | .hbm, ⟨24, _⟩ => ⟨S8192x4096, .f32⟩
  | .hbm, ⟨25, _⟩ => ⟨S9216x4096, .f32⟩
  | .hbm, ⟨26, _⟩ => ⟨S9216x4096, .f32⟩
  | .hbm, ⟨27, _⟩ => ⟨S9216x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S512x256, .bf16⟩
  | .local _ .vmem, ⟨17, _⟩ => ⟨S512x256, .bf16⟩
  | .local _ .vmem, ⟨18, _⟩ => ⟨S1024x4096, .bf16⟩
  | .local _ .vmem, ⟨19, _⟩ => ⟨S1024x4096, .bf16⟩
  | .local _ .vmem, ⟨20, _⟩ => ⟨S4096x512, .bf16⟩
  | .local _ .vmem, ⟨21, _⟩ => ⟨S4096x512, .bf16⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S256x4096, .f32⟩
  | .local _ .vmem, ⟨29, _⟩ => ⟨S256x4096, .f32⟩
  | .local _ .vmem, ⟨30, _⟩ => ⟨S1x4096, .f32⟩
  | .local _ .vmem, ⟨31, _⟩ => ⟨S1x4096, .f32⟩
  | .local _ .vmem, ⟨32, _⟩ => ⟨S256x4096, .f32⟩
  | .local _ .vmem, ⟨33, _⟩ => ⟨S256x4096, .f32⟩
  | .local _ .vmem, ⟨34, _⟩ => ⟨S256x4096, .bf16⟩
  | .local _ .vmem, ⟨35, _⟩ => ⟨S256x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨2, ![18, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![9, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![36], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== Reference12Ideal.lean ====
abbrev S1x8192x4096 : Shape := ⟨3, ![1, 8192, 4096]⟩
abbrev S128x8x4096 : Shape := ⟨3, ![128, 8, 4096]⟩
abbrev S9216x2048 : Shape := ⟨2, ![9216, 2048]⟩
abbrev S8192x2048 : Shape := ⟨2, ![8192, 2048]⟩
abbrev S1024x2048 : Shape := ⟨2, ![1024, 2048]⟩
abbrev S1x4096x19504 : Shape := ⟨3, ![1, 4096, 19504]⟩
abbrev S1x2048x4096 : Shape := ⟨3, ![1, 2048, 4096]⟩
abbrev S1x4096x4096 : Shape := ⟨3, ![1, 4096, 4096]⟩
abbrev S1x4096 : Shape := ⟨2, ![1, 4096]⟩
abbrev S8192x4096 : Shape := ⟨2, ![8192, 4096]⟩
abbrev S1024x4096 : Shape := ⟨2, ![1024, 4096]⟩
abbrev S9216x4096 : Shape := ⟨2, ![9216, 4096]⟩
abbrev S4096x19504 : Shape := ⟨2, ![4096, 19504]⟩
abbrev S4096x8192 : Shape := ⟨2, ![4096, 8192]⟩
abbrev S9216x8192 : Shape := ⟨2, ![9216, 8192]⟩
abbrev S_ : Shape := ⟨0, ![]⟩
abbrev S2048x4096 : Shape := ⟨2, ![2048, 4096]⟩
abbrev S4096x4096 : Shape := ⟨2, ![4096, 4096]⟩
abbrev S4096 : Shape := ⟨1, ![4096]⟩
abbrev S9216 : Shape := ⟨1, ![9216]⟩
abbrev S9216x1 : Shape := ⟨2, ![9216, 1]⟩

abbrev nBuf : Space → Nat
  | .hbm => 83
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S128x8x4096, .f32⟩
  | .hbm, ⟨2, _⟩ => ⟨S9216x2048, .bf16⟩
  | .hbm, ⟨3, _⟩ => ⟨S8192x2048, .bf16⟩
  | .hbm, ⟨4, _⟩ => ⟨S1024x2048, .f32⟩
  | .hbm, ⟨5, _⟩ => ⟨S1x4096x19504, .f32⟩
  | .hbm, ⟨6, _⟩ => ⟨S1x2048x4096, .f32⟩
  | .hbm, ⟨7, _⟩ => ⟨S1x2048x4096, .f32⟩
  | .hbm, ⟨8, _⟩ => ⟨S1x4096x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S1024x4096, .f32⟩
  | .hbm, ⟨13, _⟩ => ⟨S9216x4096, .f32⟩
  | .hbm, ⟨14, _⟩ => ⟨S8192x2048, .f32⟩
  | .hbm, ⟨15, _⟩ => ⟨S9216x2048, .f32⟩
  | .hbm, ⟨16, _⟩ => ⟨S4096x19504, .f32⟩
  | .hbm, ⟨17, _⟩ => ⟨S4096x8192, .f32⟩
  | .hbm, ⟨18, _⟩ => ⟨S9216x8192, .f32⟩
  | .hbm, ⟨19, _⟩ => ⟨S9216x4096, .f32⟩
  | .hbm, ⟨20, _⟩ => ⟨S9216x4096, .f32⟩
  | .hbm, ⟨21, _⟩ => ⟨S9216x4096, .f32⟩
  | .hbm, ⟨22, _⟩ => ⟨S9216x4096, .f32⟩
  | .hbm, ⟨23, _⟩ => ⟨S_, .f32⟩
  | .hbm, ⟨24, _⟩ => ⟨S9216x4096, .f32⟩
  | .hbm, ⟨25, _⟩ => ⟨S9216x4096, .f32⟩
  | .hbm, ⟨26, _⟩ => ⟨S_, .f32⟩
  | .hbm, ⟨27, _⟩ => ⟨S9216x4096, .f32⟩
  | .hbm, ⟨28, _⟩ => ⟨S9216x4096, .f32⟩
  | .hbm, ⟨29, _⟩ => ⟨S9216x2048, .f32⟩
  | .hbm, ⟨30, _⟩ => ⟨S2048x4096, .f32⟩
  | .hbm, ⟨31, _⟩ => ⟨S9216x4096, .f32⟩
  | .hbm, ⟨32, _⟩ => ⟨S9216x4096, .f32⟩
  | .hbm, ⟨33, _⟩ => ⟨S9216x4096, .f32⟩
  | .hbm, ⟨34, _⟩ => ⟨S9216x4096, .f32⟩
  | .hbm, ⟨35, _⟩ => ⟨S_, .f32⟩
  | .hbm, ⟨36, _⟩ => ⟨S9216x4096, .f32⟩
  | .hbm, ⟨37, _⟩ => ⟨S9216x4096, .f32⟩
  | .hbm, ⟨38, _⟩ => ⟨S_, .f32⟩
  | .hbm, ⟨39, _⟩ => ⟨S9216x4096, .f32⟩
  | .hbm, ⟨40, _⟩ => ⟨S9216x4096, .f32⟩
  | .hbm, ⟨41, _⟩ => ⟨S2048x4096, .f32⟩
  | .hbm, ⟨42, _⟩ => ⟨S9216x4096, .f32⟩
  | .hbm, ⟨43, _⟩ => ⟨S9216x4096, .f32⟩
  | .hbm, ⟨44, _⟩ => ⟨S9216x4096, .f32⟩
  | .hbm, ⟨45, _⟩ => ⟨S_, .f32⟩
  | .hbm, ⟨46, _⟩ => ⟨S9216x4096, .f32⟩
  | .hbm, ⟨47, _⟩ => ⟨S9216x4096, .f32⟩
  | .hbm, ⟨48, _⟩ => ⟨S4096x4096, .f32⟩
  | .hbm, ⟨49, _⟩ => ⟨S9216x4096, .f32⟩
  | .hbm, ⟨50, _⟩ => ⟨S9216x4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S9216, .f32⟩
  | .hbm, ⟨55, _⟩ => ⟨S9216x1, .f32⟩
  | .hbm, ⟨56, _⟩ => ⟨S_, .f32⟩
  | .hbm, ⟨57, _⟩ => ⟨S9216x1, .f32⟩
  | .hbm, ⟨58, _⟩ => ⟨S9216x1, .f32⟩
  | .hbm, ⟨59, _⟩ => ⟨S9216x4096, .f32⟩
  | .hbm, ⟨60, _⟩ => ⟨S9216x4096, .f32⟩
  | .hbm, ⟨61, _⟩ => ⟨S9216x4096, .f32⟩
  | .hbm, ⟨62, _⟩ => ⟨S_, .f32⟩
  | .hbm, ⟨63, _⟩ => ⟨S9216, .f32⟩
  | .hbm, ⟨64, _⟩ => ⟨S9216x1, .f32⟩
  | .hbm, ⟨65, _⟩ => ⟨S_, .f32⟩
  | .hbm, ⟨66, _⟩ => ⟨S9216x1, .f32⟩
  | .hbm, ⟨67, _⟩ => ⟨S9216x1, .f32⟩
  | .hbm, ⟨68, _⟩ => ⟨S9216x4096, .f32⟩
  | .hbm, ⟨69, _⟩ => ⟨S9216x4096, .f32⟩
  | .hbm, ⟨70, _⟩ => ⟨S_, .f32⟩
  | .hbm, ⟨71, _⟩ => ⟨S9216x1, .f32⟩
  | .hbm, ⟨72, _⟩ => ⟨S9216x1, .f32⟩
  | .hbm, ⟨73, _⟩ => ⟨S9216x1, .f32⟩
  | .hbm, ⟨74, _⟩ => ⟨S9216x4096, .f32⟩
  | .hbm, ⟨75, _⟩ => ⟨S9216x4096, .f32⟩
  | .hbm, ⟨76, _⟩ => ⟨S1x4096, .f32⟩
  | .hbm, ⟨77, _⟩ => ⟨S9216x4096, .f32⟩
  | .hbm, ⟨78, _⟩ => ⟨S9216x4096, .f32⟩
  | .hbm, ⟨79, _⟩ => ⟨S1x4096, .f32⟩
  | .hbm, ⟨80, _⟩ => ⟨S9216x4096, .f32⟩
  | .hbm, ⟨81, _⟩ => ⟨S9216x4096, .f32⟩
  | .hbm, ⟨82, _⟩ => ⟨S9216x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proof.ConvKeep.lean ====
module

public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import Idealize.ShloMosaic.Lib.Claim

@[expose] public section

set_option maxRecDepth 16384

/-! The launch leaves the call's arguments as they were, whatever the numbers are. -/

noncomputable section

namespace Cert.Kernel2.Keep

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body reads the blocks of the inputs and leaves them; what it writes is not named. -/
theorem run (c : Dev nD) (i : grid0.Coords) (a0 : Memref sig .tc .vmem S1024x4096 .bf16) (h0 : a0.IsWhole) (a1 : Memref sig .tc .vmem S4096x256 .bf16) (h1 : a1.IsWhole) (a2 : Memref sig .tc .vmem S4096x256 .bf16) (h2 : a2.IsWhole) (a3 : Memref sig .tc .vmem S4096x256 .bf16) (h3 : a3.IsWhole) (a4 : Memref sig .tc .vmem S3x256 .f32) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (a8 : Memref sig .tc .vmem S1024x256 .bf16) (h8 : a8.IsWhole) (a9 : Memref sig .tc .vmem S1024x256 .f32) (h9 : a9.IsWhole) (a10 : Memref sig .tc .vmem S8x8x256 .f32) (h10 : a10.IsWhole)
    (x0 : FVec F S1024x4096 .bf16) (x1 : FVec F S4096x256 .bf16) (x2 : FVec F S4096x256 .bf16) (x3 : FVec F S4096x256 .bf16) (x4 : FVec F S3x256 .f32) (x5 : FVec F S1x256 .f32) (x6 : FVec F S1024x256 .f32) (x7 : FVec F S1024x256 .f32) (E : Set ℕ) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ (∃ d, owns (c : Thread nD τ) a8 fullShare d)
        ∗ (∃ d, owns (c : Thread nD τ) a9 fullShare d)
        ∗ (∃ d, owns (c : Thread nD τ) a10 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ (∃ d, owns (c : Thread nD τ) a8 fullShare d)
            ∗ (∃ d, owns (c : Thread nD τ) a9 fullShare d)
            ∗ (∃ d, owns (c : Thread nD τ) a10 fullShare d)) -∗ K ⟨⟩))
      ⊢ wp frame (wpE (defs₀ (F := F)) Variants.none c none) E (cc0_proj_conv (F := F) i a0 h0 a1 h1 a2 h2 a3 h3 a4 h4 a5 h5 a6 h6 a7 h7 a8 h8 a9 h9 a10 h10) K := by
  simp only [cc0_proj_conv_eq_skeleton]; unfold cc0_proj_conv_skel
  simp only [k0_part1_eq_skeleton, k0_part2_eq_skeleton, k0_part3_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

variable (m : (ℓ : Loc nD τ sig) → Buf (Elt F) ℓ) (ρ : Dev nD → PrngReg)

/-- The windows of the outputs. -/
def free : Fin 10 → Bool := fun w => w.val == 8 || w.val == 9

/-- The proof data: inputs keep their blocks, the outputs' are left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, h⟩ => Dat.unnamed (cfg := cfg0) ⟨8, h⟩ t
    | ⟨9, h⟩ => Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = X0_1 m c t := by dsimp only [dats]
theorem before_1 (c : Dev nD) (t : Fin cfg0.N) (d) : (dats m 0 c).before 1 t d = X0_1 m c t := before0_1_of m (dats m 0 c) (A_eq m c 1) (after_1 m c) t d
theorem after_2 (c : Dev nD) (t : Fin cfg0.N) : (dats m 0 c).after 2 t = X0_2 m c t := by dsimp only [dats]
theorem before_2 (c : Dev nD) (t : Fin cfg0.N) (d) : (dats m 0 c).before 2 t d = X0_2 m c t := before0_2_of m (dats m 0 c) (A_eq m c 2) (after_2 m c) t d
theorem after_3 (c : Dev nD) (t : Fin cfg0.N) : (dats m 0 c).after 3 t = X0_3 m c t := by dsimp only [dats]
theorem before_3 (c : Dev nD) (t : Fin cfg0.N) (d) : (dats m 0 c).before 3 t d = X0_3 m c t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d

theorem scratch_eq (c : Dev nD) : (Pipeline.ΦA spec0 c : sProp 𝕄) = iprop(iprop((∃ d, owns (c : Thread nD τ) (Memref.whole cc0_scratch0) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare d)
    ∗ (∃ d, owns (c : Thread nD τ) (win0_9.stage (cfg0.slots t 9)) fullShare d))

def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare d)
    ∗ (∃ d, owns (c : Thread nD τ) (win0_9.stage (cfg0.slots t 9)) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl, after_0, after_1, after_2, after_3, after_4, after_5, after_6, after_7,
    show (dats m 0 c).Φ t.castSucc = Pipeline.ΦA spec0 c from rfl, scratch_eq]
  iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ (iblk m c 0 t) (X0_1 m c t) (X0_2 m c t) (X0_3 m c t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  iintro ⟨H0, H1, H2, H3, H4, H5, H6, H7, H8, H9, S0⟩
  isplitl [S0 Hg]
  · isplitl [S0]
    · iexact S0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ free := fun t => by
  rw [bigSep_W0, bigSep_W0, row]
  exact triple_restated (sound_body m c t) rfl .rfl fun _ => .rfl

set_option backward.isDefEq.respectTransparency.types false in
/-- The launch, with nothing said of the outputs. -/
theorem run_all : θ_run defs (onTc (τ := τ) (main (F := F))) (s₀ m ρ)
    (fun r => (Pipeline.RDat.FramePost (cfgs 0) (fun c => (dats m 0 c).toRForget free) (V m)) r ∧ r.2.sem = fun _ => 0) :=
  Pipeline.θ_run_frame_forget_shared (Q' := _) cfgs (dats m) (0 : Fin 1) launch₀0 defs₀ Variants.none free m ρ main
    (hbody := fun c => (obligation m c).loose) (hq := fun _ _ _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ hr c => have h := hr.1; ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), (Pipeline.RDat.FramePost.arr_in h c 5 rfl).trans ((A_eq m c 5).trans (V_main_arg5 m c))⟩) (run_all m ρ)) ((θ_run defs _ _).mono (fun _ h => h.2) (run_all m ρ))

end Cert.Kernel2.Keep

end
-- ==== Proof.Shift.lean ====
module

public import Idealize.ShloMosaic.Lib.Pipeline.ValueKit
public import Idealize.ShloMosaic.Lib.Pointwise

@[expose] public section

set_option maxRecDepth 16384

/-! The word comparisons that tell which rows of a block begin a sequence, as comparisons of numbers. -/

noncomputable section

namespace Cert.Shift

open Idealize.ShloMosaic

/-- Whether a row block belongs to the sample sequences (blocks 8 and on): the compared words are the numbers. -/
theorem sample_word (a : Fin 9) : Scalar.cmpi .sge (BitVec.ofNat 32 a.val) 8#32 = if 8 ≤ a.val then 1#1 else 0#1 := by
  revert a; decide

/-- Whether a row block is the first. -/
theorem first_word (a : Fin 9) : Scalar.cmpi .eq (BitVec.ofNat 32 a.val) 0#32 = if a.val = 0 then 1#1 else 0#1 := by
  revert a; decide

theorem row0 : ∀ r : Fin 512, IntOp.cmpi .eq (BitVec.ofNat 32 r.val) 0#32 = if r.val = 0 then 1#1 else 0#1 := by decide +kernel
theorem sample0 : ∀ r : Fin 512, IntOp.cmpi .eq (IntOp.andi (BitVec.ofNat 32 r.val) 7#32) 0#32 = if r.val % 8 = 0 then 1#1 else 0#1 := by decide +kernel
theorem prompt0 : ∀ r : Fin 512, IntOp.cmpi .eq (IntOp.andi (BitVec.ofNat 32 r.val) 511#32) 0#32 = if r.val = 0 then 1#1 else 0#1 := by decide +kernel
theorem sample2 : ∀ r : Fin 512, IntOp.cmpi .slt (IntOp.andi (BitVec.ofNat 32 r.val) 7#32) 2#32 = if r.val % 8 < 2 then 1#1 else 0#1 := by decide +kernel
theorem prompt2 : ∀ r : Fin 512, IntOp.cmpi .slt (IntOp.andi (BitVec.ofNat 32 r.val) 511#32) 2#32 = if r.val < 2 then 1#1 else 0#1 := by decide +kernel

/-- A selection on a condition given as a word of one bit is the choice on the condition. -/
theorem select_ite {α : Type} (p : Prop) [Decidable p] (x y : α) : Scalar.select (if p then 1#1 else 0#1) x y = if p then x else y := by
  split <;> rfl

/-- The row one above, chosen by the words. -/
theorem pick1 {α : Type} (a : Fin 9) (r : Fin 512) (x y z : α) :
    Scalar.select (IntOp.cmpi .eq (IntOp.andi (BitVec.ofNat 32 r.val) (Scalar.select (Scalar.cmpi .sge (BitVec.ofNat 32 a.val) 8#32) 7#32 511#32)) 0#32)
        (Scalar.select (Scalar.cmpi .sge (BitVec.ofNat 32 a.val) 8#32) x y) z
      = if 8 ≤ a.val then (if r.val % 8 = 0 then x else z) else if r.val = 0 then y else z := by
  rw [sample_word, select_ite, select_ite]
  split
  · rw [sample0, select_ite]
  · rw [prompt0, select_ite]

/-- The row two above, chosen by the words. -/
theorem pick2 {α : Type} (a : Fin 9) (r : Fin 512) (x y y' z : α) :
    Scalar.select (IntOp.cmpi .slt (IntOp.andi (BitVec.ofNat 32 r.val) (Scalar.select (Scalar.cmpi .sge (BitVec.ofNat 32 a.val) 8#32) 7#32 511#32)) 2#32)
        (Scalar.select (Scalar.cmpi .sge (BitVec.ofNat 32 a.val) 8#32) x (Scalar.select (IntOp.cmpi .eq (BitVec.ofNat 32 r.val) 0#32) y y')) z
      = if 8 ≤ a.val then (if r.val % 8 < 2 then x else z) else if r.val = 0 then y else if r.val = 1 then y' else z := by
  rw [sample_word, select_ite, select_ite, row0, select_ite]
  split
  · rw [sample2, select_ite]
  · rw [prompt2, select_ite]
    by_cases h0 : r.val = 0
    · rw [if_pos (by omega), if_pos h0, if_pos h0]
    · by_cases h1 : r.val = 1
      · rw [if_pos (by omega), if_neg h0, if_neg h0, if_pos h1]
      · rw [if_neg (by omega), if_neg h0, if_neg h1]

end Cert.Shift

end
-- ==== Proof.ConvPure.lean ====
module

public import proofs.«01_k».proof.Proof.Gen.Kernel2Ideal.Skeleton
public import proofs.«01_k».proof.Proof.Shift

@[expose] public section

set_option maxRecDepth 16384

/-! What one grid point of the short gated convolution computes, in plain sums and choices. -/

noncomputable section

namespace Cert.Kernel2Ideal.Conv

open Cert.Kernel2Ideal Cert.Kernel2Ideal.Gen
open Idealize.ShloMosaic Idealize.ShloMosaic.TcCoe

/-- The convolution's input of a block of rows: the two projections' product. -/
def uBlk (x : FVec Ideal S1024x4096 .bf16) (w1 w2 : FVec Ideal S4096x256 .bf16) : FVec Ideal S1024x256 .f32 :=
  fun y => (∑ k : Fin 4096, x (ix2 (y 0) k) * w1 (ix2 k (y 1))) * (∑ k : Fin 4096, x (ix2 (y 0) k) * w2 (ix2 k (y 1)))

/-- The gate's projection of a block of rows. -/
def gBlk (x : FVec Ideal S1024x4096 .bf16) (w0 : FVec Ideal S4096x256 .bf16) : FVec Ideal S1024x256 .f32 :=
  fun y => ∑ k : Fin 4096, x (ix2 (y 0) k) * w0 (ix2 k (y 1))

/-- Row `k` of the eight rows carried in from the block above (zeros above the first block). -/
def carried (i : grid0.Coords) (s : FVec Ideal S8x8x256 .f32) (k : Fin 8) (j : Fin 256) : EReal :=
  if (i 0).val = 0 then 0 else s (ix3 (i 1) k j)

/-- The row one above, the row before a sequence's first taken from its history. -/
def back1 (i : grid0.Coords) (u h1 : FVec Ideal S1024x256 .f32) (s : FVec Ideal S8x8x256 .f32) (r : Fin 1024) (j : Fin 256) : EReal :=
  if 8 ≤ (i 0).val ∧ r.val % 8 = 0 then h1 (ix2 r j)
  else if r.val = 0 then carried i s 7 j else u (ix2 ⟨r.val - 1, by omega⟩ j)

/-- The row two above, likewise. -/
def back2 (i : grid0.Coords) (u h2 : FVec Ideal S1024x256 .f32) (s : FVec Ideal S8x8x256 .f32) (r : Fin 1024) (j : Fin 256) : EReal :=
  if 8 ≤ (i 0).val ∧ r.val % 8 < 2 then h2 (ix2 r j)
  else if r.val = 0 then carried i s 6 j else if r.val = 1 then carried i s 7 j else u (ix2 ⟨r.val - 2, by omega⟩ j)

/-- One entry of the gated convolution: the gate times the three taps and the bias. -/
abbrev taps (g b p2 c0 p1 c1 u c2 : EReal) : EReal := g * (b + p2 * c0 + p1 * c1 + u * c2)

/-- The gated convolution of a block of rows. -/
def zBlk (i : grid0.Coords) (x : FVec Ideal S1024x4096 .bf16) (w0 w1 w2 : FVec Ideal S4096x256 .bf16) (cw : FVec Ideal S3x256 .f32)
    (cb : FVec Ideal S1x256 .f32) (h1 h2 : FVec Ideal S1024x256 .f32) (s : FVec Ideal S8x8x256 .f32) : FVec Ideal S1024x256 .bf16 :=
  fun y => taps (gBlk x w0 y) (cb (ix2 0 (y 1))) (back2 i (uBlk x w1 w2) h2 s (y 0) (y 1)) (cw (ix2 0 (y 1)))
    (back1 i (uBlk x w1 w2) h1 s (y 0) (y 1)) (cw (ix2 1 (y 1))) (uBlk x w1 w2 y) (cw (ix2 2 (y 1)))

/-- The carried rows after a block: its column strip's are the block's last eight. -/
def sNext (i : grid0.Coords) (u : FVec Ideal S1024x256 .f32) (s : FVec Ideal S8x8x256 .f32) : FVec Ideal S8x8x256 .f32 :=
  fun y => if (y 0).val = (i 1).val then u (ix2 ⟨1016 + (y 1).val, by have : (y 1).val < 8 := (y 1).isLt; omega⟩ (y 2)) else s y

/-! ### The stored values, entry by entry -/

theorem u_top (w1 w2 : FVec Ideal S4096x256 .bf16) (xs : FVec Ideal S512x4096 .bf16) (r : Fin 512) (j : Fin 256) :
    k0_pay11 (F := Ideal) w1 w2 xs (ix2 r j) = (∑ k : Fin 4096, xs (ix2 r k) * w1 (ix2 k j)) * (∑ k : Fin 4096, xs (ix2 r k) * w2 (ix2 k j)) := by
  pointwise [k0_pay11, k0_pay10, k0_pay8, k0_pay9]

theorem u_bot (w1 w2 : FVec Ideal S4096x256 .bf16) (xs : FVec Ideal S512x4096 .bf16) (r : Fin 512) (j : Fin 256) :
    k0_pay16 (F := Ideal) (k0_pay14 w1 xs) (k0_pay15 w2 xs) (ix2 r j) = (∑ k : Fin 4096, xs (ix2 r k) * w1 (ix2 k j)) * (∑ k : Fin 4096, xs (ix2 r k) * w2 (ix2 k j)) := by
  pointwise [k0_pay16, k0_pay14, k0_pay15, k0_pay13, k0_pay8, k0_pay9]

theorem g_top (w0 : FVec Ideal S4096x256 .bf16) (xs : FVec Ideal S512x4096 .bf16) (r : Fin 512) (j : Fin 256) :
    k0_pay12 (F := Ideal) w0 xs (ix2 r j) = ∑ k : Fin 4096, xs (ix2 r k) * w0 (ix2 k j) := by
  pointwise [k0_pay12, k0_pay10, k0_pay7]

theorem g_bot (w0 : FVec Ideal S4096x256 .bf16) (xs : FVec Ideal S512x4096 .bf16) (r : Fin 512) (j : Fin 256) :
    k0_pay17 (F := Ideal) (k0_pay7 w0) (k0_pay13 xs) (ix2 r j) = ∑ k : Fin 4096, xs (ix2 r k) * w0 (ix2 k j) := by
  pointwise [k0_pay17, k0_pay13, k0_pay7]

theorem carry6 (i : grid0.Coords) (v : FVec Ideal S1x8x256 .f32) (j : Fin 256) :
    k0_pay4 (F := Ideal) i v (ix2 0 j) = if (i 0).val = 0 then 0 else v (ix3 0 6 j) := by
  pointwise [k0_pay4, k0_pay3]
  rw [Shift.first_word ⟨(i 0).val, (i 0).isLt⟩, Shift.select_ite]
  try rfl

theorem carry7 (i : grid0.Coords) (v : FVec Ideal S1x8x256 .f32) (j : Fin 256) :
    k0_pay5 (F := Ideal) i v (ix2 0 j) = if (i 0).val = 0 then 0 else v (ix3 0 7 j) := by
  pointwise [k0_pay5, k0_pay3]
  rw [Shift.first_word ⟨(i 0).val, (i 0).isLt⟩, Shift.select_ite]
  try rfl

theorem last6 (u : FVec Ideal S512x256 .f32) (j : Fin 256) : k0_pay19 (F := Ideal) u (ix2 0 j) = u (ix2 510 j) := by
  pointwise [k0_pay19]
  try rfl

theorem last7 (u : FVec Ideal S512x256 .f32) (j : Fin 256) : k0_pay20 (F := Ideal) u (ix2 0 j) = u (ix2 511 j) := by
  pointwise [k0_pay20]
  try rfl

theorem tail8 (u : FVec Ideal S512x256 .f32) (k : Fin 8) (j : Fin 256) :
    k0_pay1 (F := Ideal) (k0_pay22 u) (ix3 0 k j) = u (ix2 ⟨504 + k.val, by omega⟩ j) := by
  pointwise [k0_pay1, k0_pay22]
  try rfl

/-- The upper half's stored value. -/
theorem z_top (i : grid0.Coords) (cw : FVec Ideal S3x256 .f32) (cb p6 p7 : FVec Ideal S1x256 .f32) (u g h1 h2 : FVec Ideal S512x256 .f32)
    (r : Fin 512) (j : Fin 256) :
    k0_pay18 (F := Ideal) (Scalar.cmpi .sge (BitVec.ofNat 32 (i 0).val) 8#32) (k0_pay2 cw) cb p6 p7 (iota .tc S512x256 32 [0] iota_S512x256_d0_w32) (k0_pay6 i) u g h1 h2 (ix2 r j)
      = taps (g (ix2 r j)) (cb (ix2 0 j))
        (if 8 ≤ (i 0).val then (if r.val % 8 < 2 then h2 (ix2 r j) else u (ix2 ⟨(r.val + 512 - 2) % 512, Nat.mod_lt _ (by decide)⟩ j))
          else if r.val = 0 then p6 (ix2 0 j) else if r.val = 1 then p7 (ix2 0 j) else u (ix2 ⟨(r.val + 512 - 2) % 512, Nat.mod_lt _ (by decide)⟩ j))
        (cw (ix2 0 j))
        (if 8 ≤ (i 0).val then (if r.val % 8 = 0 then h1 (ix2 r j) else u (ix2 ⟨(r.val + 512 - 1) % 512, Nat.mod_lt _ (by decide)⟩ j))
          else if r.val = 0 then p7 (ix2 0 j) else u (ix2 ⟨(r.val + 512 - 1) % 512, Nat.mod_lt _ (by decide)⟩ j))
        (cw (ix2 1 j)) (u (ix2 r j)) (cw (ix2 2 j)) := by
  pointwise [k0_pay18, k0_pay2, k0_pay6]
  rw [Shift.pick1 ⟨(i 0).val, (i 0).isLt⟩ r, Shift.pick2 ⟨(i 0).val, (i 0).isLt⟩ r]

/-- The lower half's stored value. -/
theorem z_bot (i : grid0.Coords) (cw : FVec Ideal S3x256 .f32) (cb p6 p7 : FVec Ideal S1x256 .f32) (u g h1 h2 : FVec Ideal S512x256 .f32)
    (r : Fin 512) (j : Fin 256) :
    k0_pay21 (F := Ideal) (Scalar.cmpi .sge (BitVec.ofNat 32 (i 0).val) 8#32) (k0_pay2 cw) cb (iota .tc S512x256 32 [0] iota_S512x256_d0_w32) (k0_pay6 i) u g p6 p7 h1 h2 (ix2 r j)
      = k0_pay18 (F := Ideal) (Scalar.cmpi .sge (BitVec.ofNat 32 (i 0).val) 8#32) (k0_pay2 cw) cb p6 p7 (iota .tc S512x256 32 [0] iota_S512x256_d0_w32) (k0_pay6 i) u g h1 h2 (ix2 r j) := rfl

/-! ### Two half blocks as one block -/

/-- A row of the upper half of a block. -/
abbrev up (r : Fin 512) : Fin 1024 := ⟨r.val, by omega⟩
/-- A row of the lower half. -/
abbrev dn (r : Fin 512) : Fin 1024 := ⟨512 + r.val, by omega⟩

/-- A block stored by halves reads as the function that both halves take their values from. -/
theorem halves {e : EltTy} {κ : Kind} {sp : Space} (v : View sig κ sp S1024x256 e) (f : v.ty.Contents (Elt Ideal)) (wb wt : S512x256.Idx → Elt Ideal e)
    (G : S1024x256.Idx → Elt Ideal e) (ht : ∀ r j, wt (ix2 r j) = G (ix2 (up r) j)) (hb : ∀ r j, wb (ix2 r j) = G (ix2 (dn r) j)) :
    v.read (Elt Ideal) (v.writes (Elt Ideal) f [⟨Rect.unit ![512, 0] S512x256.size inb_S1024x256_S512x256_512_0, wb⟩,
      ⟨Rect.unit ![0, 0] S512x256.size inb_S1024x256_S512x256_0_0, wt⟩]) = G := by
  funext y
  obtain ⟨r, j, rfl⟩ : ∃ (r : Fin 1024) (j : Fin 256), y = ix2 r j := ⟨y 0, y 1, by funext a; fin_cases a <;> rfl⟩
  by_cases h : r.val < 512
  · rw [View.read_writes_cons_miss_of_axis v f _ _ _ 0 512 512 rfl rfl rfl (Or.inl h)]
    rw [View.read_writes_cons_hit_of_coords v f _ _ _ (ix2 ⟨r.val, h⟩ j) (ix2 r j) (by
      intro a; fin_cases a
      · show r.val = 0 + 1 * r.val; omega
      · show j.val = 0 + 1 * j.val; omega)]
    exact ht ⟨r.val, h⟩ j
  · rw [View.read_writes_cons_hit_of_coords v f _ _ _ (ix2 ⟨r.val - 512, by omega⟩ j) (ix2 r j) (by
      intro a; fin_cases a
      · show r.val = 512 + 1 * (r.val - 512); omega
      · show j.val = 0 + 1 * j.val; omega)]
    refine (hb ⟨r.val - 512, by omega⟩ j).trans (congrArg G (congrArg (fun r => ix2 r j) (Fin.ext ?_)))
    show 512 + (r.val - 512) = r.val; omega

/-- The lower half's gated convolution, whose rows above the first are the upper half's last. -/
theorem z_low (i : grid0.Coords) (x : FVec Ideal S1024x4096 .bf16) (w0 w1 w2 : FVec Ideal S4096x256 .bf16) (cw : FVec Ideal S3x256 .f32)
    (cb : FVec Ideal S1x256 .f32) (h1 h2 : FVec Ideal S1024x256 .f32) (s : FVec Ideal S8x8x256 .f32)
    (ut ub g k1 k2 : FVec Ideal S512x256 .f32) (hut : ∀ r j, ut (ix2 r j) = uBlk x w1 w2 (ix2 (up r) j)) (hub : ∀ r j, ub (ix2 r j) = uBlk x w1 w2 (ix2 (dn r) j))
    (hg : ∀ r j, g (ix2 r j) = gBlk x w0 (ix2 (dn r) j)) (h1' : ∀ r j, k1 (ix2 r j) = h1 (ix2 (dn r) j)) (h2' : ∀ r j, k2 (ix2 r j) = h2 (ix2 (dn r) j))
    (r : Fin 512) (j : Fin 256) :
    k0_pay21 (F := Ideal) (Scalar.cmpi .sge (BitVec.ofNat 32 (i 0).val) 8#32) (k0_pay2 cw) cb (iota .tc S512x256 32 [0] iota_S512x256_d0_w32) (k0_pay6 i) ub g (k0_pay19 ut) (k0_pay20 ut) k1 k2 (ix2 r j)
      = zBlk i x w0 w1 w2 cw cb h1 h2 s (ix2 (dn r) j) := by
  rw [z_bot, z_top]
  have e1 : (512 + r.val) % 8 = r.val % 8 := by omega
  have b2 : back2 i (uBlk x w1 w2) h2 s (dn r) j = if 8 ≤ (i 0).val then (if r.val % 8 < 2 then k2 (ix2 r j) else ub (ix2 ⟨(r.val + 512 - 2) % 512, Nat.mod_lt _ (by decide)⟩ j))
          else if r.val = 0 then k0_pay19 (F := Ideal) ut (ix2 0 j) else if r.val = 1 then k0_pay20 (F := Ideal) ut (ix2 0 j) else ub (ix2 ⟨(r.val + 512 - 2) % 512, Nat.mod_lt _ (by decide)⟩ j) := by
    rw [last6, last7, hut, hut, hub, h2']
    unfold back2
    show (if 8 ≤ (i 0).val ∧ (512 + r.val) % 8 < 2 then _ else if 512 + r.val = 0 then _ else if 512 + r.val = 1 then _ else _) = _
    rw [if_neg (show ¬ 512 + r.val = 0 by omega), if_neg (show ¬ 512 + r.val = 1 by omega), e1]
    by_cases hs : 8 ≤ (i 0).val
    · by_cases hr : r.val % 8 < 2
      · rw [if_pos ⟨hs, hr⟩, if_pos hs, if_pos hr]
      · rw [if_neg (fun h => hr h.2), if_pos hs, if_neg hr]
        exact congrArg (uBlk x w1 w2) (congrArg (fun r => ix2 r j) (Fin.ext (show 512 + r.val - 2 = 512 + (r.val + 512 - 2) % 512 by omega)))
    · rw [if_neg (fun h => hs h.1), if_neg hs]
      by_cases h0 : r.val = 0
      · rw [if_pos h0]
        exact congrArg (uBlk x w1 w2) (congrArg (fun r => ix2 r j) (Fin.ext (show 512 + r.val - 2 = 510 by omega)))
      · by_cases h1 : r.val = 1
        · rw [if_neg h0, if_pos h1]
          exact congrArg (uBlk x w1 w2) (congrArg (fun r => ix2 r j) (Fin.ext (show 512 + r.val - 2 = 511 by omega)))
        · rw [if_neg h0, if_neg h1]
          exact congrArg (uBlk x w1 w2) (congrArg (fun r => ix2 r j) (Fin.ext (show 512 + r.val - 2 = 512 + (r.val + 512 - 2) % 512 by omega)))
  have b1 : back1 i (uBlk x w1 w2) h1 s (dn r) j = if 8 ≤ (i 0).val then (if r.val % 8 = 0 then k1 (ix2 r j) else ub (ix2 ⟨(r.val + 512 - 1) % 512, Nat.mod_lt _ (by decide)⟩ j))
          else if r.val = 0 then k0_pay20 (F := Ideal) ut (ix2 0 j) else ub (ix2 ⟨(r.val + 512 - 1) % 512, Nat.mod_lt _ (by decide)⟩ j) := by
    rw [last7, hut, hub, h1']
    unfold back1
    show (if 8 ≤ (i 0).val ∧ (512 + r.val) % 8 = 0 then _ else if 512 + r.val = 0 then _ else _) = _
    rw [if_neg (show ¬ 512 + r.val = 0 by omega), e1]
    by_cases hs : 8 ≤ (i 0).val
    · by_cases hr : r.val % 8 = 0
      · rw [if_pos ⟨hs, hr⟩, if_pos hs, if_pos hr]
      · rw [if_neg (fun h => hr h.2), if_pos hs, if_neg hr]
        exact congrArg (uBlk x w1 w2) (congrArg (fun r => ix2 r j) (Fin.ext (show 512 + r.val - 1 = 512 + (r.val + 512 - 1) % 512 by omega)))
    · rw [if_neg (fun h => hs h.1), if_neg hs]
      by_cases h0 : r.val = 0
      · rw [if_pos h0]
        exact congrArg (uBlk x w1 w2) (congrArg (fun r => ix2 r j) (Fin.ext (show 512 + r.val - 1 = 511 by omega)))
      · rw [if_neg h0]
        exact congrArg (uBlk x w1 w2) (congrArg (fun r => ix2 r j) (Fin.ext (show 512 + r.val - 1 = 512 + (r.val + 512 - 1) % 512 by omega)))
  rw [← b1, ← b2, hg, hub]
  rfl

/-- The upper half's gated convolution, whose rows above the first are those carried in. -/
theorem z_upp (i : grid0.Coords) (x : FVec Ideal S1024x4096 .bf16) (w0 w1 w2 : FVec Ideal S4096x256 .bf16) (cw : FVec Ideal S3x256 .f32)
    (cb : FVec Ideal S1x256 .f32) (h1 h2 : FVec Ideal S1024x256 .f32) (s : FVec Ideal S8x8x256 .f32) (sv : FVec Ideal S1x8x256 .f32)
    (ut g k1 k2 : FVec Ideal S512x256 .f32) (hut : ∀ r j, ut (ix2 r j) = uBlk x w1 w2 (ix2 (up r) j)) (hs : ∀ k j, sv (ix3 0 k j) = s (ix3 (i 1) k j))
    (hg : ∀ r j, g (ix2 r j) = gBlk x w0 (ix2 (up r) j)) (h1' : ∀ r j, k1 (ix2 r j) = h1 (ix2 (up r) j)) (h2' : ∀ r j, k2 (ix2 r j) = h2 (ix2 (up r) j))
    (r : Fin 512) (j : Fin 256) :
    k0_pay18 (F := Ideal) (Scalar.cmpi .sge (BitVec.ofNat 32 (i 0).val) 8#32) (k0_pay2 cw) cb (k0_pay4 i sv) (k0_pay5 i sv) (iota .tc S512x256 32 [0] iota_S512x256_d0_w32) (k0_pay6 i) ut g k1 k2 (ix2 r j)
      = zBlk i x w0 w1 w2 cw cb h1 h2 s (ix2 (up r) j) := by
  rw [z_top, carry6, carry7, hs, hs]
  have b2 : back2 i (uBlk x w1 w2) h2 s (up r) j = if 8 ≤ (i 0).val then (if r.val % 8 < 2 then k2 (ix2 r j) else ut (ix2 ⟨(r.val + 512 - 2) % 512, Nat.mod_lt _ (by decide)⟩ j))
          else if r.val = 0 then carried i s 6 j else if r.val = 1 then carried i s 7 j else ut (ix2 ⟨(r.val + 512 - 2) % 512, Nat.mod_lt _ (by decide)⟩ j) := by
    rw [hut, h2']
    unfold back2
    show (if 8 ≤ (i 0).val ∧ r.val % 8 < 2 then _ else if r.val = 0 then _ else if r.val = 1 then _ else _) = _
    by_cases hs : 8 ≤ (i 0).val
    · by_cases hr : r.val % 8 < 2
      · rw [if_pos ⟨hs, hr⟩, if_pos hs, if_pos hr]
      · rw [if_neg (fun h => hr h.2), if_pos hs, if_neg hr, if_neg (by omega), if_neg (by omega)]
        exact congrArg (uBlk x w1 w2) (congrArg (fun r => ix2 r j) (Fin.ext (show r.val - 2 = (r.val + 512 - 2) % 512 by omega)))
    · rw [if_neg (fun h => hs h.1), if_neg hs]
      by_cases h0 : r.val = 0
      · rw [if_pos h0, if_pos h0]
      · by_cases h1 : r.val = 1
        · rw [if_neg h0, if_pos h1, if_neg h0, if_pos h1]
        · rw [if_neg h0, if_neg h1, if_neg h0, if_neg h1]
          exact congrArg (uBlk x w1 w2) (congrArg (fun r => ix2 r j) (Fin.ext (show r.val - 2 = (r.val + 512 - 2) % 512 by omega)))
  have b1 : back1 i (uBlk x w1 w2) h1 s (up r) j = if 8 ≤ (i 0).val then (if r.val % 8 = 0 then k1 (ix2 r j) else ut (ix2 ⟨(r.val + 512 - 1) % 512, Nat.mod_lt _ (by decide)⟩ j))
          else if r.val = 0 then carried i s 7 j else ut (ix2 ⟨(r.val + 512 - 1) % 512, Nat.mod_lt _ (by decide)⟩ j) := by
    rw [hut, h1']
    unfold back1
    show (if 8 ≤ (i 0).val ∧ r.val % 8 = 0 then _ else if r.val = 0 then _ else _) = _
    by_cases hs : 8 ≤ (i 0).val
    · by_cases hr : r.val % 8 = 0
      · rw [if_pos ⟨hs, hr⟩, if_pos hs, if_pos hr]
      · rw [if_neg (fun h => hr h.2), if_pos hs, if_neg hr, if_neg (by omega)]
        exact congrArg (uBlk x w1 w2) (congrArg (fun r => ix2 r j) (Fin.ext (show r.val - 1 = (r.val + 512 - 1) % 512 by omega)))
    · rw [if_neg (fun h => hs h.1), if_neg hs]
      by_cases h0 : r.val = 0
      · rw [if_pos h0, if_pos h0]
      · rw [if_neg h0, if_neg h0]
        exact congrArg (uBlk x w1 w2) (congrArg (fun r => ix2 r j) (Fin.ext (show r.val - 1 = (r.val + 512 - 1) % 512 by omega)))
  unfold carried at b1 b2
  rw [← b1, ← b2, hg, hut]
  rfl

/-! ### What the point loads and stores -/

/-- The offset of a column strip's plane in the carried rows. -/
theorem plane (i : grid0.Coords) : k0_off1 i = ![(i 1).val, 0, 0] := by
  have h : ∀ n : Fin 8, (Scalar.indexCast (BitVec.ofNat 32 n.val) : BitVec 32).toNat = n.val := by decide
  exact congrArg (fun n => ![n, 0, 0]) (h ⟨(i 1).val, (i 1).isLt⟩)

theorem whole_w (x : FVec Ideal S4096x256 .bf16) :
    View.ld (Val := Elt Ideal) (S := S4096x256) (e' := .bf16) x (Rect.unit ![0, 0] S4096x256.size inb_S4096x256_S4096x256_0_0) = x := by
  have h : (![0, 0] : Fin 2 → Nat) = fun _ => 0 := by funext a; fin_cases a <;> rfl
  exact View.ld_unit_zero (Val := Elt Ideal) (e := .bf16) (S := S4096x256) h _ x

theorem whole_cw (x : FVec Ideal S3x256 .f32) :
    View.ld (Val := Elt Ideal) (S := S3x256) (e' := .f32) x (Rect.unit ![0, 0] S3x256.size inb_S3x256_S3x256_0_0) = x := by
  have h : (![0, 0] : Fin 2 → Nat) = fun _ => 0 := by funext a; fin_cases a <;> rfl
  exact View.ld_unit_zero (Val := Elt Ideal) (e := .f32) (S := S3x256) h _ x

theorem whole_cb (x : FVec Ideal S1x256 .f32) :
    View.ld (Val := Elt Ideal) (S := S1x256) (e' := .f32) x (Rect.unit ![0, 0] S1x256.size inb_S1x256_S1x256_0_0) = x := by
  have h : (![0, 0] : Fin 2 → Nat) = fun _ => 0 := by funext a; fin_cases a <;> rfl
  exact View.ld_unit_zero (Val := Elt Ideal) (e := .f32) (S := S1x256) h _ x

theorem rows_up (x : FVec Ideal S1024x4096 .bf16) (r : Fin 512) (k : Fin 4096) :
    View.ld (Val := Elt Ideal) (S := S1024x4096) (e' := .bf16) x (Rect.unit ![0, 0] S512x4096.size inb_S1024x4096_S512x4096_0_0) (ix2 r k) = x (ix2 (up r) k) := by
  refine View.ld_unit_apply_of (Val := Elt Ideal) (e := .bf16) (S := S1024x4096) x _ _ _ _ _ ?_
  intro a
  fin_cases a <;> exact (Nat.zero_add _).symm

theorem rows_dn (x : FVec Ideal S1024x4096 .bf16) (r : Fin 512) (k : Fin 4096) :
    View.ld (Val := Elt Ideal) (S := S1024x4096) (e' := .bf16) x (Rect.unit ![512, 0] S512x4096.size inb_S1024x4096_S512x4096_512_0) (ix2 r k) = x (ix2 (dn r) k) := by
  refine View.ld_unit_apply_of (Val := Elt Ideal) (e := .bf16) (S := S1024x4096) x _ _ _ _ _ ?_
  intro a
  fin_cases a
  · rfl
  · exact (Nat.zero_add _).symm

theorem hist_up (x : FVec Ideal S1024x256 .f32) (r : Fin 512) (k : Fin 256) :
    View.ld (Val := Elt Ideal) (S := S1024x256) (e' := .f32) x (Rect.unit ![0, 0] S512x256.size inb_S1024x256_S512x256_0_0) (ix2 r k) = x (ix2 (up r) k) := by
  refine View.ld_unit_apply_of (Val := Elt Ideal) (e := .f32) (S := S1024x256) x _ _ _ _ _ ?_
  intro a
  fin_cases a <;> exact (Nat.zero_add _).symm

theorem hist_dn (x : FVec Ideal S1024x256 .f32) (r : Fin 512) (k : Fin 256) :
    View.ld (Val := Elt Ideal) (S := S1024x256) (e' := .f32) x (Rect.unit ![512, 0] S512x256.size inb_S1024x256_S512x256_512_0) (ix2 r k) = x (ix2 (dn r) k) := by
  refine View.ld_unit_apply_of (Val := Elt Ideal) (e := .f32) (S := S1024x256) x _ _ _ _ _ ?_
  intro a
  fin_cases a
  · rfl
  · exact (Nat.zero_add _).symm

theorem strip (i : grid0.Coords) (s : FVec Ideal S8x8x256 .f32) (k : Fin 8) (j : Fin 256) :
    View.ld (Val := Elt Ideal) (S := S8x8x256) (e' := .f32) s (Rect.unit (k0_off1 i) S1x8x256.size (k0_off1_inb i)) (ix3 0 k j) = s (ix3 (i 1) k j) := by
  refine View.ld_unit_apply_of (Val := Elt Ideal) (e := .f32) (S := S8x8x256) s _ _ _ _ _ ?_
  intro a
  refine Eq.trans ?_ (congrArg (· + ((ix3 (0 : Fin 1) k j : S1x8x256.Idx) a).val) (congrFun (plane i) a)).symm
  fin_cases a
  · rfl
  · exact (Nat.zero_add _).symm
  · exact (Nat.zero_add _).symm

theorem utop_eq (x : FVec Ideal S1024x4096 .bf16) (w1 w2 : FVec Ideal S4096x256 .bf16) (r : Fin 512) (j : Fin 256) :
    k0_pay11 (F := Ideal) w1 w2 (View.ld (Val := Elt Ideal) (S := S1024x4096) (e' := .bf16) x (Rect.unit ![0, 0] S512x4096.size inb_S1024x4096_S512x4096_0_0)) (ix2 r j) = uBlk x w1 w2 (ix2 (up r) j) := by
  rw [u_top]
  exact congrArg₂ (· * ·) (Finset.sum_congr rfl fun k _ => congrArg (· * w1 (ix2 k j)) (rows_up x r k)) (Finset.sum_congr rfl fun k _ => congrArg (· * w2 (ix2 k j)) (rows_up x r k))

theorem ubot_eq (x : FVec Ideal S1024x4096 .bf16) (w1 w2 : FVec Ideal S4096x256 .bf16) (r : Fin 512) (j : Fin 256) :
    k0_pay16 (F := Ideal) (k0_pay14 w1 (View.ld (Val := Elt Ideal) (S := S1024x4096) (e' := .bf16) x (Rect.unit ![512, 0] S512x4096.size inb_S1024x4096_S512x4096_512_0)))
      (k0_pay15 w2 (View.ld (Val := Elt Ideal) (S := S1024x4096) (e' := .bf16) x (Rect.unit ![512, 0] S512x4096.size inb_S1024x4096_S512x4096_512_0))) (ix2 r j) = uBlk x w1 w2 (ix2 (dn r) j) := by
  rw [u_bot]
  exact congrArg₂ (· * ·) (Finset.sum_congr rfl fun k _ => congrArg (· * w1 (ix2 k j)) (rows_dn x r k)) (Finset.sum_congr rfl fun k _ => congrArg (· * w2 (ix2 k j)) (rows_dn x r k))

theorem gtop_eq (x : FVec Ideal S1024x4096 .bf16) (w0 : FVec Ideal S4096x256 .bf16) (r : Fin 512) (j : Fin 256) :
    k0_pay12 (F := Ideal) w0 (View.ld (Val := Elt Ideal) (S := S1024x4096) (e' := .bf16) x (Rect.unit ![0, 0] S512x4096.size inb_S1024x4096_S512x4096_0_0)) (ix2 r j) = gBlk x w0 (ix2 (up r) j) := by
  rw [g_top]
  exact Finset.sum_congr rfl fun k _ => congrArg (· * w0 (ix2 k j)) (rows_up x r k)

theorem gbot_eq (x : FVec Ideal S1024x4096 .bf16) (w0 : FVec Ideal S4096x256 .bf16) (r : Fin 512) (j : Fin 256) :
    k0_pay17 (F := Ideal) (k0_pay7 w0) (k0_pay13 (View.ld (Val := Elt Ideal) (S := S1024x4096) (e' := .bf16) x (Rect.unit ![512, 0] S512x4096.size inb_S1024x4096_S512x4096_512_0))) (ix2 r j) = gBlk x w0 (ix2 (dn r) j) := by
  rw [g_bot]
  exact Finset.sum_congr rfl fun k _ => congrArg (· * w0 (ix2 k j)) (rows_dn x r k)

section Loads
variable {κ : Kind} {sp : Space}

/-- A load through a buffer that holds `x` is the load from `x`. -/
theorem load_of {S : Shape} {e : EltTy} (m : Memref sig κ sp S e) (h : m.IsWhole) (x : S.Idx → Elt Ideal e) (R : Rect S) :
    View.readAt (Elt Ideal) m.view R.toLoadRect (h.unread x) = View.ld x R :=
  congrArg (fun X => View.ld X R) (h.read_unread x)

theorem load_w (m : Memref sig κ sp S4096x256 .bf16) (h : m.IsWhole) (x : FVec Ideal S4096x256 .bf16) :
    View.readAt (Elt Ideal) m.view (Rect.unit ![0, 0] S4096x256.size inb_S4096x256_S4096x256_0_0).toLoadRect (h.unread x) = x :=
  (load_of m h x _).trans (whole_w x)

theorem load_cw (m : Memref sig κ sp S3x256 .f32) (h : m.IsWhole) (x : FVec Ideal S3x256 .f32) :
    View.readAt (Elt Ideal) m.view (Rect.unit ![0, 0] S3x256.size inb_S3x256_S3x256_0_0).toLoadRect (h.unread x) = x :=
  (load_of m h x _).trans (whole_cw x)

theorem load_cb (m : Memref sig κ sp S1x256 .f32) (h : m.IsWhole) (x : FVec Ideal S1x256 .f32) :
    View.readAt (Elt Ideal) m.view (Rect.unit ![0, 0] S1x256.size inb_S1x256_S1x256_0_0).toLoadRect (h.unread x) = x :=
  (load_of m h x _).trans (whole_cb x)

end Loads

/-- The carried rows after the point's store of its strip. -/
theorem carry_read {κ : Kind} {sp : Space} (v : View sig κ sp S8x8x256 .f32) (f : v.ty.Contents (Elt Ideal)) (i : grid0.Coords)
    (x : FVec Ideal S1024x4096 .bf16) (w1 w2 : FVec Ideal S4096x256 .bf16) (ub : FVec Ideal S512x256 .f32) (hub : ∀ r j, ub (ix2 r j) = uBlk x w1 w2 (ix2 (dn r) j)) :
    v.read (Elt Ideal) (v.writes (Elt Ideal) f [⟨Rect.unit (k0_off1 i) S1x8x256.size (k0_off1_inb i), k0_pay1 (F := Ideal) (k0_pay22 ub)⟩])
      = sNext i (uBlk x w1 w2) (v.read (Elt Ideal) f) := by
  funext y
  obtain ⟨n, k, j, rfl⟩ : ∃ (n : Fin 8) (k : Fin 8) (j : Fin 256), y = ix3 n k j := ⟨y 0, y 1, y 2, by funext a; fin_cases a <;> rfl⟩
  unfold sNext
  show _ = if n.val = (i 1).val then _ else _
  by_cases h : n.val = (i 1).val
  · rw [if_pos h, View.read_writes_cons_hit_of_coords v f _ _ _ (ix3 0 k j) (ix3 n k j) (by
      intro a
      refine Eq.trans ?_ (congrArg (· + 1 * ((ix3 (0 : Fin 1) k j : S1x8x256.Idx) a).val) (congrFun (plane i) a)).symm
      fin_cases a
      · show n.val = (i 1).val + 1 * 0; omega
      · show k.val = 0 + 1 * k.val; omega
      · show j.val = 0 + 1 * j.val; omega)]
    rw [tail8, hub]
    exact congrArg (uBlk x w1 w2) (congrArg (fun r => ix2 r j) (Fin.ext (show 512 + (504 + k.val) = 1016 + k.val by omega)))
  · rw [if_neg h, View.read_writes_cons_miss_of_axis v f _ _ _ 0 (i 1).val 1 (congrFun (plane i) 0) rfl rfl (by show n.val < _ ∨ _ ≤ n.val; omega)]
    rfl

end Cert.Kernel2Ideal.Conv

end
-- ==== Proof.ConvBody.lean ====
module

public import proofs.«01_k».proof.Proof.ConvPure
public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Conv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

set_option maxHeartbeats 2000000 in
theorem run (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S8x8x256 .f32) (harg12 : arg12.IsWhole)
    (x0 : FVec Ideal S1024x4096 .bf16) (x1 x2 x3 : FVec Ideal S4096x256 .bf16) (x4 : FVec Ideal S3x256 .f32) (x5 : FVec Ideal S1x256 .f32) (x6 x7 : FVec Ideal S1024x256 .f32)
    (s : FVec Ideal S8x8x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (zBlk i x0 x1 x2 x3 x4 x5 x6 x7 s) ∗ owns (c : Thread nD τ) arg11 fullShare (uBlk x0 x2 x3)
            ∗ owns (c : Thread nD τ) arg12 fullShare (sNext i (uBlk x0 x2 x3) s)) -∗ K ⟨⟩))
      ⊢ wp frame (wpE (defs₀ (F := Ideal)) Variants.none c none) E (cc0_proj_conv i arg2 harg2 arg3 harg3 arg4 harg4 arg5 harg5 arg6 harg6 arg7 harg7 arg8 harg8 arg9 harg9 arg10 harg10 arg11 harg11 arg12 harg12) K := by
  simp only [cc0_proj_conv_eq_skeleton]; unfold cc0_proj_conv_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg12.eq_unread hfs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [load_w arg3 harg3 x1, load_w arg4 harg4 x2, load_w arg5 harg5 x3, load_cw arg6 harg6 x4, load_cb arg7 harg7 x5]
    simp -zeta -beta -proj only [load_of arg2 harg2 x0, load_of arg8 harg8 x6, load_of arg9 harg9 x7, load_of arg12 harg12 s]
    exact halves arg10.view f8 _ _ _
      (z_upp i x0 x1 x2 x3 x4 x5 x6 x7 s _ _ _ _ _ (utop_eq x0 x2 x3) (strip i s) (gtop_eq x0 x1) (hist_up x6) (hist_up x7))
      (z_low i x0 x1 x2 x3 x4 x5 x6 x7 s _ _ _ _ _ (utop_eq x0 x2 x3) (ubot_eq x0 x2 x3) (gbot_eq x0 x1) (hist_dn x6) (hist_dn x7))
  isplitl [H9]
  · iexists _; isplitr; swap; · iexact H9
    ipureintro
    sl_unfold_words
    rw [load_w arg4 harg4 x2, load_w arg5 harg5 x3]
    simp -zeta -beta -proj only [load_of arg2 harg2 x0]
    exact halves arg11.view f9 _ _ _ (utop_eq x0 x2 x3) (ubot_eq x0 x2 x3)
  iexists _; isplitr; swap; · iexact HS
  ipureintro
  sl_unfold_words
  rw [load_w arg4 harg4 x2, load_w arg5 harg5 x3]
  simp -zeta -beta -proj only [load_of arg2 harg2 x0]
  refine (carry_read arg12.view (harg12.unread s) i x0 x2 x3 _ (ubot_eq x0 x2 x3)).trans ?_
  rw [harg12.read_unread]

end Cert.Kernel2Ideal.Conv

end
-- ==== Proof.ConvRun.lean ====
module

public import proofs.«01_k».proof.Proof.ConvBody
public import Idealize.ShloMosaic.Lib.Claim

@[expose] public section

set_option maxRecDepth 16384

/-! The launch: every grid point leaves its blocks of the two outputs, the rows carried from block to block tracked point by point. -/

noncomputable section

namespace Cert.Kernel2Ideal.Conv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ### The carried rows -/

/-- A point's row block and column strip. -/
theorem coords : ∀ t : Fin cfg0.N, ((cfg0.grid.coords t) 0).val = t.val / 8 ∧ ((cfg0.grid.coords t) 1).val = t.val % 8 :=
  (by decide +kernel : ∀ t : Fin grid0.N, ((grid0.coords t) 0).val = t.val / 8 ∧ ((grid0.coords t) 1).val = t.val % 8)

/-- The convolution's input at point `t`. -/
def uPt (c : Dev nD) (t : Fin cfg0.N) : FVec Ideal S1024x256 .f32 := uBlk (iblk m c 0 t) (X0_2 m c t) (X0_3 m c t)

/-- The rows that point `t` finds carried in its strip: the last eight of the block above. -/
def sPt (c : Dev nD) (t : Fin cfg0.N) : FVec Ideal S8x8x256 .f32 :=
  fun y => if h : 8 ≤ t.val then uPt m c ⟨t.val - 8, by omega⟩ (ix2 ⟨1016 + (y 1).val, by have : (y 1).val < 8 := (y 1).isLt; omega⟩ (y 2)) else 0

/-- The gated convolution at point `t`. -/
def zPt (c : Dev nD) (t : Fin cfg0.N) : FVec Ideal S1024x256 .bf16 :=
  zBlk (grid0.coords t) (iblk m c 0 t) (X0_1 m c t) (X0_2 m c t) (X0_3 m c t) (iblk m c 4 t) (iblk m c 5 t) (iblk m c 6 t) (iblk m c 7 t) (sPt m c t)

/-- Before point `n` the scratch holds, for each of the eight points before it, the last eight rows of that point's block. -/
def Inv (c : Dev nD) (n : Nat) (s : FVec Ideal S8x8x256 .f32) : Prop :=
  ∀ t' : Fin cfg0.N, t'.val < n → n ≤ t'.val + 8 → ∀ (k : Fin 8) (j : Fin 256),
    s (ix3 ⟨t'.val % 8, Nat.mod_lt _ (by decide)⟩ k j) = uPt m c t' (ix2 ⟨1016 + k.val, by omega⟩ j)

/-- The carried rows enter only through the point's own strip, and only below the first block. -/
theorem zBlk_congr (i : grid0.Coords) (x : FVec Ideal S1024x4096 .bf16) (w0 w1 w2 : FVec Ideal S4096x256 .bf16) (cw : FVec Ideal S3x256 .f32)
    (cb : FVec Ideal S1x256 .f32) (h1 h2 : FVec Ideal S1024x256 .f32) (s s' : FVec Ideal S8x8x256 .f32)
    (h : (i 0).val ≠ 0 → ∀ (k : Fin 8) (j : Fin 256), s (ix3 (i 1) k j) = s' (ix3 (i 1) k j)) :
    zBlk i x w0 w1 w2 cw cb h1 h2 s = zBlk i x w0 w1 w2 cw cb h1 h2 s' := by
  have hc : ∀ k j, carried i s k j = carried i s' k j := fun k j => by
    unfold carried
    split
    · rfl
    · next h0 => exact h h0 k j
  have e2 : ∀ u r j, back2 i u h2 s r j = back2 i u h2 s' r j := fun u r j => by unfold back2; rw [hc, hc]
  have e1 : ∀ u r j, back1 i u h1 s r j = back1 i u h1 s' r j := fun u r j => by unfold back1; rw [hc]
  funext y
  exact congrArg₂ (fun p q => taps (gBlk x w0 y) (cb (ix2 0 (y 1))) p (cw (ix2 0 (y 1))) q (cw (ix2 1 (y 1))) (uBlk x w1 w2 y) (cw (ix2 2 (y 1))))
    (e2 (uBlk x w1 w2) (y 0) (y 1)) (e1 (uBlk x w1 w2) (y 0) (y 1))

theorem zPt_of (c : Dev nD) (t : Fin cfg0.N) (s : FVec Ideal S8x8x256 .f32) (hs : Inv m c t.val s) :
    zBlk (grid0.coords t) (iblk m c 0 t) (X0_1 m c t) (X0_2 m c t) (X0_3 m c t) (iblk m c 4 t) (iblk m c 5 t) (iblk m c 6 t) (iblk m c 7 t) s = zPt m c t := by
  refine zBlk_congr _ _ _ _ _ _ _ _ _ s (sPt m c t) fun h0 k j => ?_
  obtain ⟨hc0, hc1⟩ := coords t
  have h8 : 8 ≤ t.val := by
    have : (grid0.coords t 0).val = t.val / 8 := hc0
    omega
  have e : ((grid0.coords t) 1) = (⟨(t.val - 8) % 8, Nat.mod_lt _ (by decide)⟩ : Fin 8) := Fin.ext (by
    have : (grid0.coords t 1).val = t.val % 8 := hc1
    show _ = (t.val - 8) % 8
    omega)
  unfold sPt
  rw [dif_pos h8]
  refine Eq.trans ?_ (hs ⟨t.val - 8, by omega⟩ (by show t.val - 8 < t.val; omega) (by show t.val ≤ t.val - 8 + 8; omega) k j)
  exact congrArg (fun n => s (ix3 n k j)) e

theorem inv_zero (c : Dev nD) (s : FVec Ideal S8x8x256 .f32) : Inv m c 0 s := fun _ h => absurd h (Nat.not_lt_zero _)

theorem inv_step (c : Dev nD) (t : Fin cfg0.N) (s : FVec Ideal S8x8x256 .f32) (hs : Inv m c t.val s) :
    Inv m c (t.val + 1) (sNext (grid0.coords t) (uPt m c t) s) := by
  intro t' h1 h2 k j
  have hc1 : (grid0.coords t 1).val = t.val % 8 := (coords t).2
  unfold sNext
  show (if t'.val % 8 = (grid0.coords t 1).val then _ else _) = _
  rw [hc1]
  by_cases he : t' = t
  · subst he; rw [if_pos rfl]; rfl
  · have hne : t'.val ≠ t.val := fun h => he (Fin.ext h)
    rw [if_neg (by omega)]
    exact hs t' (by omega) (by omega) k j

/-! ### The proof data -/

/-- The proof data: inputs keep their blocks, the two outputs leave the point's, the scratch holds the carried rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => zPt m c t
    | ⟨9, _⟩ => uPt m c t
  Φ t := iprop((∃ s, ⌜Inv m c t.val s⌝ ∗ owns (c : Thread nD τ) (Memref.whole cc0_scratch0) fullShare s) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem Φ_eq (c : Dev nD) (t) : (dats m 0 c).Φ t
    = iprop((∃ s, ⌜Inv m c t.val s⌝ ∗ owns (c : Thread nD τ) (Memref.whole cc0_scratch0) fullShare s) ∗ (∃ r, prngReg c r)) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = zPt m c t := by dsimp only [dats]
theorem after_9 (c : Dev nD) (t : Fin cfg0.N) : (dats m 0 c).after 9 t = uPt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ### The body's obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7, after_8, after_9]
  rw [show (dats m 0 c).Φ t.castSucc = iprop((∃ s, ⌜Inv m c t.val s⌝ ∗ owns (c : Thread nD τ) (Memref.whole cc0_scratch0) fullShare s) ∗ (∃ r, prngReg c r)) from rfl,
    show (dats m 0 c).Φ t.succ = iprop((∃ s, ⌜Inv m c (t.val + 1) s⌝ ∗ owns (c : Thread nD τ) (Memref.whole cc0_scratch0) fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← zPt_of m c t s hs]
  unfold uPt
  iapply (run c (grid0.coords t) _ _ _ _ _ _ _ _ _ _ _ _ _ _ _ _ _ _ _ _ _ _ (iblk m c 0 t) (X0_1 m c t) (X0_2 m c t) (X0_3 m c t) (iblk m c 4 t) (iblk m c 5 t) (iblk m c 6 t) (iblk m c 7 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]
    · iexists _
      isplitr; swap; · iexact HS
      ipureintro
      exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body at the point. -/
theorem row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row]
  exact triple_restated (sound_body m c t) rfl .rfl fun _ => .rfl

/-! ### The run -/

theorem scratch_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

theorem enter (c : Dev nD) : (Pipeline.ΦA spec0 c : sProp 𝕄) ⊢ (dats m 0 c).Φ 0 := by
  rw [scratch_eq, Φ_eq]
  iintro ⟨⟨%d, H⟩, Hg⟩
  isplitl [H]
  · iexists d
    isplitr; swap; · iexact H
    ipureintro
    exact inv_zero m c d
  iexact Hg

theorem leave (c : Dev nD) : (dats m 0 c).Φ (Fin.last cfg0.N) ⊢ (Pipeline.ΦA spec0 c : sProp 𝕄) := by
  rw [scratch_eq, Φ_eq]
  iintro ⟨⟨%d, -, H⟩, Hg⟩
  isplitl [H]
  · iexists d; iexact H
  iexact Hg

set_option backward.isDefEq.respectTransparency.types false in
/-- The launch: every window's array ends as the proof data says, and every counter at zero. -/
theorem run_all : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

end Cert.Kernel2Ideal.Conv

end
-- ==== Proof.ConvSpec.lean ====
module

public import Idealize.ShloMosaic.Lib.Pipeline.ValueKit

@[expose] public section

/-! The short gated convolution over prompt and sample rows, in plain sums and choices. -/

noncomputable section

namespace Cert.ConvSpec

open Idealize.ShloMosaic

/-- The arguments: prompt rows, sample rows, the samples' two rows of history, the projection, the taps and the bias. -/
structure Args where
  xp : Fin 8192 → Fin 4096 → EReal
  xs : Fin 128 → Fin 8 → Fin 4096 → EReal
  hist : Fin 128 → Fin 2 → Fin 2048 → EReal
  w : Fin 4096 → Fin 19504 → EReal
  tap : Fin 3 → Fin 2048 → EReal
  bias : Fin 2048 → EReal

variable (a : Args)

/-- The rows: the prompt's, then the samples' one after the other. -/
def row (R : Fin 9216) (k : Fin 4096) : EReal :=
  if h : R.val < 8192 then a.xp ⟨R.val, h⟩ k else a.xs ⟨(R.val - 8192) / 8, by omega⟩ ⟨(R.val - 8192) % 8, by omega⟩ k

/-- A row's projection on a column. -/
def proj (R : Fin 9216) (j : Fin 19504) : EReal := ∑ k : Fin 4096, row a R k * a.w k j

/-- The gate. -/
def gate (R : Fin 9216) (J : Fin 2048) : EReal := proj a R ⟨J.val, by omega⟩

/-- The convolution's input: the product of two projections. -/
def u (R : Fin 9216) (J : Fin 2048) : EReal := proj a R ⟨2048 + J.val, by omega⟩ * proj a R ⟨4096 + J.val, by omega⟩

/-- The input one row before in the same sequence: zero before the prompt, the history before a sample. -/
def prev1 (R : Fin 9216) (J : Fin 2048) : EReal :=
  if h : 8192 ≤ R.val then
    if R.val % 8 = 0 then a.hist ⟨(R.val - 8192) / 8, by omega⟩ 1 J else u a ⟨R.val - 1, by omega⟩ J
  else if R.val = 0 then 0 else u a ⟨R.val - 1, by omega⟩ J

/-- The input two rows before in the same sequence. -/
def prev2 (R : Fin 9216) (J : Fin 2048) : EReal :=
  if h : 8192 ≤ R.val then
    if R.val % 8 = 0 then a.hist ⟨(R.val - 8192) / 8, by omega⟩ 0 J
    else if R.val % 8 = 1 then a.hist ⟨(R.val - 8192) / 8, by omega⟩ 1 J else u a ⟨R.val - 2, by omega⟩ J
  else if R.val < 2 then 0 else u a ⟨R.val - 2, by omega⟩ J

/-- The gated convolution. -/
def z (R : Fin 9216) (J : Fin 2048) : EReal :=
  gate a R J * (a.bias J + prev2 a R J * a.tap 0 J + prev1 a R J * a.tap 1 J + u a R J * a.tap 2 J)

end Cert.ConvSpec

end
-- ==== Proof.Rows.lean ====
module

public import Idealize.ShloMosaic.Lib.Pipeline.ValueKit
public import Idealize.ShloMosaic.Lib.Pointwise

@[expose] public section

/-! Rows joined one after the other, and rows of sequences laid out flat, read at an index. -/

noncomputable section

namespace Cert.Rows

open Idealize.ShloMosaic

variable {α : Type}

/-- Of two blocks of rows joined, a row of the first; -/
theorem join_fst {n1 n2 n d : Nat} (x1 : (⟨2, ![n1, d]⟩ : Shape).Idx → α) (x2 : (⟨2, ![n2, d]⟩ : Shape).Idx → α) (h) (R : Fin n) (k : Fin d) (hR : R.val < n1) :
    concatenate (⟨2, ![n, d]⟩ : Shape) 0 [⟨⟨2, ![n1, d]⟩, x1⟩, ⟨⟨2, ![n2, d]⟩, x2⟩] h (ix2 R k) = x1 (ix2 ⟨R.val, hR⟩ k) :=
  concatenate_pair_apply_left (t := ⟨2, ![n, d]⟩) 0 x1 x2 h _ rfl _ fun b => by fin_cases b <;> rfl

/-- and one of the second. -/
theorem join_snd {n1 n2 n d : Nat} (x1 : (⟨2, ![n1, d]⟩ : Shape).Idx → α) (x2 : (⟨2, ![n2, d]⟩ : Shape).Idx → α) (h) (R : Fin n) (k : Fin d) (r : Fin n2)
    (hR : R.val = n1 + r.val) :
    concatenate (⟨2, ![n, d]⟩ : Shape) 0 [⟨⟨2, ![n1, d]⟩, x1⟩, ⟨⟨2, ![n2, d]⟩, x2⟩] h (ix2 R k) = x2 (ix2 r k) :=
  concatenate_pair_apply_right (t := ⟨2, ![n, d]⟩) 0 x1 x2 h _ rfl rfl _
    (fun b hb => by fin_cases b; · exact absurd rfl hb
                    · rfl)
    (by show r.val + n1 = R.val; omega)

/-- The same along the second of three axes: each sequence's rows after its own history. -/
theorem after_fst {b n1 n2 n d : Nat} (x1 : (⟨3, ![b, n1, d]⟩ : Shape).Idx → α) (x2 : (⟨3, ![b, n2, d]⟩ : Shape).Idx → α) (h) (s : Fin b) (R : Fin n) (k : Fin d) (hR : R.val < n1) :
    concatenate (⟨3, ![b, n, d]⟩ : Shape) 1 [⟨⟨3, ![b, n1, d]⟩, x1⟩, ⟨⟨3, ![b, n2, d]⟩, x2⟩] h (ix3 s R k) = x1 (ix3 s ⟨R.val, hR⟩ k) :=
  concatenate_pair_apply_left (t := ⟨3, ![b, n, d]⟩) 1 x1 x2 h _ rfl _ fun b => by fin_cases b <;> rfl

theorem after_snd {b n1 n2 n d : Nat} (x1 : (⟨3, ![b, n1, d]⟩ : Shape).Idx → α) (x2 : (⟨3, ![b, n2, d]⟩ : Shape).Idx → α) (h) (s : Fin b) (R : Fin n) (k : Fin d) (r : Fin n2)
    (hR : R.val = n1 + r.val) :
    concatenate (⟨3, ![b, n, d]⟩ : Shape) 1 [⟨⟨3, ![b, n1, d]⟩, x1⟩, ⟨⟨3, ![b, n2, d]⟩, x2⟩] h (ix3 s R k) = x2 (ix3 s r k) :=
  concatenate_pair_apply_right (t := ⟨3, ![b, n, d]⟩) 1 x1 x2 h _ rfl rfl _
    (fun b hb => by fin_cases b
                    · rfl
                    · exact absurd rfl hb
                    · rfl)
    (by show r.val + n1 = R.val; omega)

/-- A single sequence's rows laid out flat. -/
theorem flat_one {n d : Nat} (x : (⟨3, ![1, n, d]⟩ : Shape).Idx → α) (h) (R : Fin n) (k : Fin d) :
    shapeCast (⟨2, ![n, d]⟩ : Shape) x h (ix2 R k) = x (ix3 0 R k) := by
  refine shapeCast_apply x h _ _ ?_
  rw [rowMajor_val3 _ (n * d) d rfl rfl, rowMajor_val2 _ d rfl]
  show 0 * (n * d) + R.val * d + k.val = R.val * d + k.val
  rw [Nat.zero_mul, Nat.zero_add]

/-- Many sequences' rows laid out flat. -/
theorem flat {b n N d : Nat} (x : (⟨3, ![b, n, d]⟩ : Shape).Idx → α) (h) (R : Fin N) (k : Fin d) (s : Fin b) (r : Fin n) (hR : R.val = s.val * n + r.val) :
    shapeCast (⟨2, ![N, d]⟩ : Shape) x h (ix2 R k) = x (ix3 s r k) := by
  refine shapeCast_apply x h _ _ ?_
  rw [rowMajor_val3 _ (n * d) d rfl rfl, rowMajor_val2 _ d rfl]
  show s.val * (n * d) + r.val * d + k.val = R.val * d + k.val
  rw [hR, Nat.add_mul, Nat.mul_assoc]

/-- The one leading axis dropped. -/
theorem drop {b n d : Nat} (x : (⟨4, ![1, b, n, d]⟩ : Shape).Idx → α) (h) (s : Fin b) (r : Fin n) (k : Fin d) :
    shapeCast (⟨3, ![b, n, d]⟩ : Shape) x h (ix3 s r k) = x (ix4 0 s r k) := by
  refine shapeCast_apply x h _ _ ?_
  rw [rowMajor_val4 _ (b * (n * d)) (n * d) d rfl rfl rfl, rowMajor_val3 _ (n * d) d rfl rfl]
  show 0 * (b * (n * d)) + s.val * (n * d) + r.val * d + k.val = s.val * (n * d) + r.val * d + k.val
  rw [Nat.zero_mul, Nat.zero_add]

/-- A first row before anything else. -/
theorem first_of_three {b d : Nat} {n1 n2 n : Nat} (x : (⟨3, ![b, 1, d]⟩ : Shape).Idx → α) (y : (⟨3, ![b, n1, d]⟩ : Shape).Idx → α) (z : (⟨3, ![b, n2, d]⟩ : Shape).Idx → α) (h) (s : Fin b) (R : Fin n) (k : Fin d) (hR : R.val = 0) :
    concatenate (⟨3, ![b, n, d]⟩ : Shape) 1 [⟨⟨3, ![b, 1, d]⟩, x⟩, ⟨⟨3, ![b, n1, d]⟩, y⟩, ⟨⟨3, ![b, n2, d]⟩, z⟩] h (ix3 s R k) = x (ix3 s 0 k) := by
  refine concatenate_apply_piece (t := ⟨3, ![b, n, d]⟩) 1 _ h _ 0 (by simp) ⟨3, ![b, 1, d]⟩ x rfl rfl 0 rfl (ix3 s 0 k) (fun b hb => ?_) ?_
  · fin_cases b
    · rfl
    · exact absurd rfl hb
    · rfl
  · exact hR.symm

end Cert.Rows

end
-- ==== Proof.ConvEntry.lean ====
module

public import proofs.«01_k».proof.Proof.ConvRun
public import proofs.«01_k».proof.Proof.ConvSpec
public import proofs.«01_k».proof.Proof.Rows

@[expose] public section

set_option maxRecDepth 16384

/-! The arrays the region finds, entry by entry over the arguments. -/

noncomputable section

namespace Cert.Kernel2Ideal.Conv

open Cert.Kernel2Ideal Cert.Kernel2Ideal.Gen
open Idealize.ShloMosaic Idealize.ShloMosaic.TcCoe Idealize.ShloMosaic.Tactic

variable (m : (ℓ : Loc nD τ sig) → Buf (Elt Ideal) ℓ)

/-- The arguments read off the memory. -/
def args (c : Dev nD) : ConvSpec.Args where
  xp R k := m ((c : Thread nD τ).loc main_arg0) (ix3 0 R k)
  xs n r k := m ((c : Thread nD τ).loc main_arg1) (ix3 n r k)
  hist n r J := m ((c : Thread nD τ).loc main_arg2) (ix4 0 n r J)
  w k j := m ((c : Thread nD τ).loc main_arg3) (ix3 0 k j)
  tap q J := m ((c : Thread nD τ).loc main_arg4) (ix3 0 q J)
  bias J := m ((c : Thread nD τ).loc main_arg5) (ix2 0 J)

/-- The projection as the region finds it. -/
theorem e6 (c : Dev nD) (k : Fin 4096) (j : Fin 19504) : V m c main_v6 (ix2 k j) = (args m c).w k j := by
  entry_read
  pointwise!
/-- The taps. -/
theorem e15 (c : Dev nD) (k : Fin 3) (j : Fin 2048) : V m c main_v15 (ix2 k j) = (args m c).tap k j := by
  entry_read
  pointwise!
/-- The rows. -/
theorem e4 (c : Dev nD) (R : Fin 9216) (k : Fin 4096) : V m c main_v4 (ix2 R k) = ConvSpec.row (args m c) R k := by
  entry_read
  unfold ConvSpec.row
  by_cases h : R.val < 8192
  · rw [dif_pos h]
    refine (Rows.join_fst _ _ _ R k h).trans ?_
    exact Rows.flat_one (m (c, Proc.tc.devRef main_arg0)) shapeCasts_S1x8192x4096_S8192x4096 _ _
  · rw [dif_neg h]
    refine (Rows.join_snd _ _ _ R k ⟨R.val - 8192, by omega⟩ (by show R.val = 8192 + (R.val - 8192); omega)).trans ?_
    exact Rows.flat (m (c, Proc.tc.devRef main_arg1)) shapeCasts_S128x8x4096_S1024x4096 _ _ _ _ (by show R.val - 8192 = (R.val - 8192) / 8 * 8 + (R.val - 8192) % 8; omega)

set_option maxHeartbeats 1000000 in
/-- The history one row back, at a sample's first row. -/
theorem e13 (c : Dev nD) (r : Fin 1024) (j : Fin 2048) (h : r.val % 8 = 0) : V m c main_v13 (ix2 r j) = (args m c).hist ⟨r.val / 8, by omega⟩ 1 j := by
  unfold V hostOps0
  simp only [StableHlo.after_cons, StableHlo.after_nil, StableHlo.readResult]
  rw [StableHlo.nary_result]
  refine (Rows.flat _ _ r j ⟨r.val / 8, by omega⟩ ⟨r.val % 8, by omega⟩ (by show r.val = r.val / 8 * 8 + r.val % 8; omega)).trans ?_
  refine (Rows.first_of_three _ _ _ _ _ _ _ h).trans ?_
  show (StableHlo.unary main_cst_0 main_v10 _ _ _).result _ (Proc.tc.devRef main_v9) _ = _
  simp only [StableHlo.readResult]
  refine Eq.trans ?_ (Rows.drop (m (c, Proc.tc.devRef main_arg2)) shapeCasts_S1x128x2x2048_S128x2x2048 ⟨r.val / 8, by omega⟩ 1 j)
  pointwise!
set_option maxHeartbeats 1000000 in
/-- The history two rows back, at a sample's first two rows. -/
theorem e14 (c : Dev nD) (r : Fin 1024) (j : Fin 2048) (h : r.val % 8 < 2) : V m c main_v14 (ix2 r j) = (args m c).hist ⟨r.val / 8, by omega⟩ ⟨r.val % 8, h⟩ j := by
  entry_read
  refine (Rows.flat _ _ r j ⟨r.val / 8, by omega⟩ ⟨r.val % 8, by omega⟩ (by show r.val = r.val / 8 * 8 + r.val % 8; omega)).trans ?_
  refine (Rows.after_fst _ _ _ _ _ _ h).trans ?_
  exact Rows.drop (m (c, Proc.tc.devRef main_arg2)) shapeCasts_S1x128x2x2048_S128x2x2048 _ _ _
end Cert.Kernel2Ideal.Conv
end
-- ==== Proof.ConvValue.lean ====
module

public import proofs.«01_k».proof.Proof.ConvEntry
public import Idealize.ShloMosaic.Lib.Pipeline.ValueKit

@[expose] public section

set_option maxRecDepth 16384

/-! The two arrays the launch leaves, entry by entry. -/

noncomputable section

namespace Cert.Kernel2Ideal.Conv

open Cert.Kernel2Ideal Cert.Kernel2Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- Each window's block index at a point. -/
theorem idx : ∀ t : Fin cfg0.N, (win0_0.index t = ![t.val / 8, 0] ∧ win0_1.index t = ![0, t.val % 8] ∧ win0_2.index t = ![0, 8 + t.val % 8] ∧ win0_3.index t = ![0, 16 + t.val % 8])
    ∧ (win0_4.index t = ![0, t.val % 8] ∧ win0_5.index t = ![0, t.val % 8] ∧ win0_8.index t = ![t.val / 8, t.val % 8] ∧ win0_9.index t = ![t.val / 8, t.val % 8])
    ∧ (8 ≤ t.val / 8 → win0_6.index t = ![0, t.val % 8] ∧ win0_7.index t = ![0, t.val % 8]) :=
  (by decide +kernel : ∀ t : Fin grid0.N, _)

theorem lt (t : Fin cfg0.N) : t.val < 72 := t.isLt

/-- The array row of a block's row. -/
abbrev rowOf (t : Fin cfg0.N) (r : Fin 1024) : Fin 9216 := ⟨1024 * (t.val / 8) + r.val, by have := lt t; omega⟩
/-- The array column of a block's column. -/
abbrev colOf (t : Fin cfg0.N) (j : Fin 256) : Fin 2048 := ⟨256 * (t.val % 8) + j.val, by omega⟩

/-! ### The staged blocks, entry by entry -/

theorem x_blk (c : Dev nD) (t : Fin cfg0.N) (r : Fin 1024) (k : Fin 4096) : iblk m c 0 t (ix2 r k) = ConvSpec.row (args m c) (rowOf t r) k := by
  rw [← e4]
  unfold iblk
  blk_ext [idx t]

theorem w1_blk (c : Dev nD) (t : Fin cfg0.N) (k : Fin 4096) (j : Fin 256) :
    X0_1 m c t (ix2 k j) = (args m c).w k ⟨(colOf t j).val, by have := (colOf t j).isLt; omega⟩ := by
  rw [← e6]
  unfold X0_1 Pipeline.Window.fill
  rw [dif_pos (moved0_1 t _)]
  unfold iblk
  blk_ext [idx t]

theorem w2_blk (c : Dev nD) (t : Fin cfg0.N) (k : Fin 4096) (j : Fin 256) :
    X0_2 m c t (ix2 k j) = (args m c).w k ⟨2048 + (colOf t j).val, by have := (colOf t j).isLt; omega⟩ := by
  have e : (⟨2048 + (colOf t j).val, by have := (colOf t j).isLt; omega⟩ : Fin 19504) = ⟨256 * (8 + t.val % 8) + j.val, by omega⟩ :=
    Fin.ext (by show 2048 + (256 * (t.val % 8) + j.val) = 256 * (8 + t.val % 8) + j.val; omega)
  rw [e, ← e6]
  unfold X0_2 Pipeline.Window.fill
  rw [dif_pos (moved0_2 t _)]
  unfold iblk
  blk_ext [idx t]

theorem w3_blk (c : Dev nD) (t : Fin cfg0.N) (k : Fin 4096) (j : Fin 256) :
    X0_3 m c t (ix2 k j) = (args m c).w k ⟨4096 + (colOf t j).val, by have := (colOf t j).isLt; omega⟩ := by
  have e : (⟨4096 + (colOf t j).val, by have := (colOf t j).isLt; omega⟩ : Fin 19504) = ⟨256 * (16 + t.val % 8) + j.val, by omega⟩ :=
    Fin.ext (by show 4096 + (256 * (t.val % 8) + j.val) = 256 * (16 + t.val % 8) + j.val; omega)
  rw [e, ← e6]
  unfold X0_3 Pipeline.Window.fill
  rw [dif_pos (moved0_3 t _)]
  unfold iblk
  blk_ext [idx t]

theorem tap_blk (c : Dev nD) (t : Fin cfg0.N) (q : Fin 3) (j : Fin 256) : iblk m c 4 t (ix2 q j) = (args m c).tap q (colOf t j) := by
  rw [← e15]
  unfold iblk
  blk_ext [idx t]

theorem bias_blk (c : Dev nD) (t : Fin cfg0.N) (j : Fin 256) : iblk m c 5 t (ix2 0 j) = (args m c).bias (colOf t j) := by
  have e : (args m c).bias (colOf t j) = V m c main_arg5 (ix2 0 (colOf t j)) := by rw [V_main_arg5]; rfl
  rw [e]
  unfold iblk
  blk_ext [idx t]

theorem hist1_blk (c : Dev nD) (t : Fin cfg0.N) (h : 8 ≤ t.val / 8) (r : Fin 1024) (j : Fin 256) (hr : r.val % 8 = 0) :
    iblk m c 6 t (ix2 r j) = (args m c).hist ⟨r.val / 8, by omega⟩ 1 (colOf t j) := by
  rw [← e13 m c r (colOf t j) hr]
  unfold iblk
  blk_ext [(idx t).2.2 h]

theorem hist2_blk (c : Dev nD) (t : Fin cfg0.N) (h : 8 ≤ t.val / 8) (r : Fin 1024) (j : Fin 256) (hr : r.val % 8 < 2) :
    iblk m c 7 t (ix2 r j) = (args m c).hist ⟨r.val / 8, by omega⟩ ⟨r.val % 8, hr⟩ (colOf t j) := by
  rw [← e14 m c r (colOf t j) hr]
  unfold iblk
  blk_ext [(idx t).2.2 h]

/-! ### A point's blocks, entry by entry -/

/-- A block's product of projections, its row and columns read off elsewhere. -/
theorem uBlk_of (x : FVec Ideal S1024x4096 .bf16) (w1 w2 : FVec Ideal S4096x256 .bf16) (r : Fin 1024) (j : Fin 256) (row p q : Fin 4096 → EReal)
    (hx : ∀ k, x (ix2 r k) = row k) (h1 : ∀ k, w1 (ix2 k j) = p k) (h2 : ∀ k, w2 (ix2 k j) = q k) :
    uBlk x w1 w2 (ix2 r j) = (∑ k, row k * p k) * (∑ k, row k * q k) := by
  show (∑ k : Fin 4096, x (ix2 r k) * w1 (ix2 k j)) * (∑ k : Fin 4096, x (ix2 r k) * w2 (ix2 k j)) = _
  simp only [hx, h1, h2]

theorem gBlk_of (x : FVec Ideal S1024x4096 .bf16) (w0 : FVec Ideal S4096x256 .bf16) (r : Fin 1024) (j : Fin 256) (row p : Fin 4096 → EReal)
    (hx : ∀ k, x (ix2 r k) = row k) (h0 : ∀ k, w0 (ix2 k j) = p k) : gBlk x w0 (ix2 r j) = ∑ k, row k * p k := by
  show (∑ k : Fin 4096, x (ix2 r k) * w0 (ix2 k j)) = _
  simp only [hx, h0]

/-- The convolution's input at a point is the array's at the rows and columns the point covers. -/
theorem u_pt (c : Dev nD) (t : Fin cfg0.N) (r : Fin 1024) (j : Fin 256) : uPt m c t (ix2 r j) = ConvSpec.u (args m c) (rowOf t r) (colOf t j) :=
  uBlk_of _ _ _ r j _ _ _ (fun k => x_blk m c t r k) (fun k => w2_blk m c t k j) (fun k => w3_blk m c t k j)

theorem g_pt (c : Dev nD) (t : Fin cfg0.N) (r : Fin 1024) (j : Fin 256) :
    gBlk (iblk m c 0 t) (X0_1 m c t) (ix2 r j) = ConvSpec.gate (args m c) (rowOf t r) (colOf t j) :=
  gBlk_of _ _ r j _ _ (fun k => x_blk m c t r k) (fun k => w1_blk m c t k j)

/-- The carried rows are the array's just above the block. -/
theorem carried_pt (c : Dev nD) (t : Fin cfg0.N) (k : Fin 8) (j : Fin 256) :
    carried (grid0.coords t) (sPt m c t) k j
      = if h : t.val / 8 = 0 then 0 else ConvSpec.u (args m c) ⟨1024 * (t.val / 8) - 8 + k.val, by have := lt t; omega⟩ (colOf t j) := by
  have hc0 : (grid0.coords t 0).val = t.val / 8 := (coords t).1
  unfold carried
  rw [hc0]
  by_cases h : t.val / 8 = 0
  · rw [if_pos h, dif_pos h]
  · rw [if_neg h, dif_neg h]
    unfold sPt
    rw [dif_pos (by omega)]
    refine (u_pt m c _ _ _).trans ?_
    refine congrArg₂ (ConvSpec.u (args m c)) (Fin.ext ?_) (Fin.ext ?_)
    · show 1024 * ((t.val - 8) / 8) + (1016 + k.val) = 1024 * (t.val / 8) - 8 + k.val
      omega
    · show 256 * ((t.val - 8) % 8) + j.val = 256 * (t.val % 8) + j.val
      omega

theorem back1_pt (c : Dev nD) (t : Fin cfg0.N) (r : Fin 1024) (j : Fin 256) :
    back1 (grid0.coords t) (uPt m c t) (iblk m c 6 t) (sPt m c t) r j = ConvSpec.prev1 (args m c) (rowOf t r) (colOf t j) := by
  have hc0 : (grid0.coords t 0).val = t.val / 8 := (coords t).1
  have ht := lt t
  unfold back1 ConvSpec.prev1
  rw [hc0]
  by_cases h8 : 8 ≤ t.val / 8
  · rw [dif_pos (show 8192 ≤ (rowOf t r).val by show 8192 ≤ 1024 * (t.val / 8) + r.val; omega)]
    by_cases hr : r.val % 8 = 0
    · rw [if_pos ⟨h8, hr⟩, if_pos (show (1024 * (t.val / 8) + r.val) % 8 = 0 by omega), hist1_blk m c t h8 r j hr]
      exact congrArg (fun s => (args m c).hist s 1 (colOf t j)) (Fin.ext (by show r.val / 8 = (1024 * (t.val / 8) + r.val - 8192) / 8; omega))
    · rw [if_neg (fun h => hr h.2), if_neg (show ¬ (1024 * (t.val / 8) + r.val) % 8 = 0 by omega), if_neg (by omega), u_pt]
      exact congrArg (fun s => ConvSpec.u (args m c) s (colOf t j)) (Fin.ext (by show 1024 * (t.val / 8) + (r.val - 1) = 1024 * (t.val / 8) + r.val - 1; omega))
  · rw [dif_neg (show ¬ 8192 ≤ (rowOf t r).val by show ¬ 8192 ≤ 1024 * (t.val / 8) + r.val; omega), if_neg (fun h => h8 h.1)]
    by_cases hr : r.val = 0
    · rw [if_pos hr, carried_pt]
      by_cases h0 : t.val / 8 = 0
      · rw [dif_pos h0, if_pos (show 1024 * (t.val / 8) + r.val = 0 by omega)]
      · rw [dif_neg h0, if_neg (show ¬ 1024 * (t.val / 8) + r.val = 0 by omega)]
        exact congrArg (fun s => ConvSpec.u (args m c) s (colOf t j)) (Fin.ext (by show 1024 * (t.val / 8) - 8 + 7 = 1024 * (t.val / 8) + r.val - 1; omega))
    · rw [if_neg hr, if_neg (show ¬ 1024 * (t.val / 8) + r.val = 0 by omega), u_pt]
      exact congrArg (fun s => ConvSpec.u (args m c) s (colOf t j)) (Fin.ext (by show 1024 * (t.val / 8) + (r.val - 1) = 1024 * (t.val / 8) + r.val - 1; omega))

theorem back2_pt (c : Dev nD) (t : Fin cfg0.N) (r : Fin 1024) (j : Fin 256) :
    back2 (grid0.coords t) (uPt m c t) (iblk m c 7 t) (sPt m c t) r j = ConvSpec.prev2 (args m c) (rowOf t r) (colOf t j) := by
  have hc0 : (grid0.coords t 0).val = t.val / 8 := (coords t).1
  have ht := lt t
  have hu : ∀ (s : Fin 9216) (q : Fin 1024), 1024 * (t.val / 8) + q.val = s.val → uPt m c t (ix2 q j) = ConvSpec.u (args m c) s (colOf t j) := fun s q h =>
    (u_pt m c t q j).trans (congrArg (fun s => ConvSpec.u (args m c) s (colOf t j)) (Fin.ext h))
  unfold back2 ConvSpec.prev2
  rw [hc0]
  by_cases h8 : 8 ≤ t.val / 8
  · rw [dif_pos (show 8192 ≤ (rowOf t r).val by show 8192 ≤ 1024 * (t.val / 8) + r.val; omega)]
    have hq : (⟨r.val / 8, by omega⟩ : Fin 128) = ⟨((rowOf t r).val - 8192) / 8, by show (1024 * (t.val / 8) + r.val - 8192) / 8 < 128; omega⟩ :=
      Fin.ext (by show r.val / 8 = (1024 * (t.val / 8) + r.val - 8192) / 8; omega)
    by_cases hr : r.val % 8 < 2
    · rw [if_pos ⟨h8, hr⟩, hist2_blk m c t h8 r j hr, hq]
      by_cases hr0 : r.val % 8 = 0
      · rw [if_pos (show (1024 * (t.val / 8) + r.val) % 8 = 0 by omega)]
        exact congrArg (fun s => (args m c).hist _ s (colOf t j)) (Fin.ext hr0)
      · rw [if_neg (show ¬ (1024 * (t.val / 8) + r.val) % 8 = 0 by omega), if_pos (show (1024 * (t.val / 8) + r.val) % 8 = 1 by omega)]
        exact congrArg (fun s => (args m c).hist _ s (colOf t j)) (Fin.ext (show r.val % 8 = 1 by omega))
    · rw [if_neg (fun h => hr h.2), if_neg (show ¬ (1024 * (t.val / 8) + r.val) % 8 = 0 by omega), if_neg (show ¬ (1024 * (t.val / 8) + r.val) % 8 = 1 by omega),
        if_neg (by omega), if_neg (by omega)]
      exact hu _ _ (by show 1024 * (t.val / 8) + (r.val - 2) = 1024 * (t.val / 8) + r.val - 2; omega)
  · rw [dif_neg (show ¬ 8192 ≤ (rowOf t r).val by show ¬ 8192 ≤ 1024 * (t.val / 8) + r.val; omega), if_neg (fun h => h8 h.1)]
    by_cases hr : r.val < 2
    · have hcar : (if r.val = 0 then carried (grid0.coords t) (sPt m c t) 6 j else if r.val = 1 then carried (grid0.coords t) (sPt m c t) 7 j else uPt m c t (ix2 ⟨r.val - 2, by omega⟩ j))
          = carried (grid0.coords t) (sPt m c t) ⟨6 + r.val, by omega⟩ j := by
        by_cases hr0 : r.val = 0
        · rw [if_pos hr0]; exact congrArg (fun k => carried (grid0.coords t) (sPt m c t) k j) (Fin.ext (by show 6 = 6 + r.val; omega))
        · rw [if_neg hr0, if_pos (by omega)]; exact congrArg (fun k => carried (grid0.coords t) (sPt m c t) k j) (Fin.ext (by show 7 = 6 + r.val; omega))
      rw [hcar, carried_pt]
      by_cases h0 : t.val / 8 = 0
      · rw [dif_pos h0, if_pos (show 1024 * (t.val / 8) + r.val < 2 by omega)]
      · rw [dif_neg h0, if_neg (show ¬ 1024 * (t.val / 8) + r.val < 2 by omega)]
        exact congrArg (fun s => ConvSpec.u (args m c) s (colOf t j)) (Fin.ext (by show 1024 * (t.val / 8) - 8 + (6 + r.val) = 1024 * (t.val / 8) + r.val - 2; omega))
    · rw [if_neg (by omega), if_neg (by omega), if_neg (show ¬ 1024 * (t.val / 8) + r.val < 2 by omega)]
      exact hu _ _ (by show 1024 * (t.val / 8) + (r.val - 2) = 1024 * (t.val / 8) + r.val - 2; omega)

/-- The gated convolution at a point, likewise. -/
theorem z_pt (c : Dev nD) (t : Fin cfg0.N) (r : Fin 1024) (j : Fin 256) : zPt m c t (ix2 r j) = ConvSpec.z (args m c) (rowOf t r) (colOf t j) := by
  show taps (gBlk (iblk m c 0 t) (X0_1 m c t) (ix2 r j)) (iblk m c 5 t (ix2 0 j)) (back2 (grid0.coords t) (uPt m c t) (iblk m c 7 t) (sPt m c t) r j) (iblk m c 4 t (ix2 0 j))
    (back1 (grid0.coords t) (uPt m c t) (iblk m c 6 t) (sPt m c t) r j) (iblk m c 4 t (ix2 1 j)) (uPt m c t (ix2 r j)) (iblk m c 4 t (ix2 2 j)) = _
  rw [g_pt, bias_blk, back2_pt, back1_pt, u_pt, tap_blk, tap_blk, tap_blk]
  rfl

/-! ### The arrays after the launch -/

/-- The gated convolution's array. -/
def zArr (c : Dev nD) : FVec Ideal S9216x2048 .bf16 := fun i => ConvSpec.z (args m c) (i 0) (i 1)
/-- The convolution's input's array. -/
def uArr (c : Dev nD) : FVec Ideal S9216x2048 .f32 := fun i => ConvSpec.u (args m c) (i 0) (i 1)

theorem final_z (c : Dev nD) : (dats m 0 c).arrAt 8 (cfgs 0).N = zArr m c := by
  refine (dats m 0 c).arrAt_eq_of_covers 8 _ (by decide +kernel) fun t _ y => ?_
  blk_simp
  rw [after_8]
  idx_vars y
  refine (z_pt m c t _ _).trans ?_
  unfold zArr
  refine congrArg₂ (ConvSpec.z (args m c)) (Fin.ext ?_) (Fin.ext ?_)
  · blk_simp [idx t]; show 1024 * (t.val / 8) + y0.val = _; omega
  · blk_simp [idx t]; show 256 * (t.val % 8) + y1.val = _; omega

theorem final_u (c : Dev nD) : (dats m 0 c).arrAt 9 (cfgs 0).N = uArr m c := by
  refine (dats m 0 c).arrAt_eq_of_covers 9 _ (by decide +kernel) fun t _ y => ?_
  blk_simp
  rw [after_9]
  idx_vars y
  refine (u_pt m c t _ _).trans ?_
  unfold uArr
  refine congrArg₂ (ConvSpec.u (args m c)) (Fin.ext ?_) (Fin.ext ?_)
  · blk_simp [idx t]; show 1024 * (t.val / 8) + y0.val = _; omega
  · blk_simp [idx t]; show 256 * (t.val % 8) + y1.val = _; omega

open Idealize.SL.Sem

/-- The launch's post, -/
theorem run_post (ρ : Dev nD → PrngReg) : θ_run defs (onTc (τ := τ) (main (F := Ideal))) (s₀ m ρ) (Pipeline.FramePost cfgs (dats m) 0 (V m)) :=
  (θ_run defs _ _).mono (fun _ h => h.1) (run_all m ρ)

/-- and its counters at zero. -/
theorem run_sem (ρ : Dev nD → PrngReg) : θ_run defs (onTc (τ := τ) (main (F := Ideal))) (s₀ m ρ) (fun r => r.2.sem = fun _ => 0) :=
  (θ_run defs _ _).mono (fun _ h => h.2) (run_all m ρ)

/-- The arguments end as they began, every counter at zero. -/
theorem frame (ρ : Dev nD → PrngReg) : θ_run defs (onTc (τ := τ) (main (F := Ideal))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  frame_of m ρ (dats m) (A_eq m) (run_post m ρ)

end Cert.Kernel2Ideal.Conv
end
-- ==== Proof.ConvReference.lean ====
module

public import proofs.«01_k».proof.Proof.Gen.Reference2Ideal.Read
public import proofs.«01_k».proof.Proof.ConvSpec
public import proofs.«01_k».proof.Proof.Rows
public import Idealize.ShloMosaic.Lib.Pipeline.ValueKit

@[expose] public section

set_option maxRecDepth 16384

/-! The reference's two results, entry by entry. -/

noncomputable section

namespace Cert.Reference2Ideal.Conv

open Cert.Reference2Ideal Cert.Reference2Ideal.Gen Cert.Reference2Ideal.Read
open Idealize.ShloMosaic Idealize.ShloMosaic.TcCoe Idealize.ShloMosaic.Tactic

theorem ix2_eta {a b : Nat} (i : (⟨2, ![a, b]⟩ : Shape).Idx) : i = ix2 (i 0) (i 1) := by
  funext d
  fin_cases d <;> rfl

/-- The arguments as the plain mathematics takes them. -/
def argsOf (x0 : (⟨S1x8192x4096, .f32⟩ : BufTy).Contents (Elt Ideal)) (x1 : (⟨S128x8x4096, .f32⟩ : BufTy).Contents (Elt Ideal))
    (x2 : (⟨S1x128x2x2048, .f32⟩ : BufTy).Contents (Elt Ideal)) (x3 : (⟨S1x4096x19504, .f32⟩ : BufTy).Contents (Elt Ideal))
    (x4 : (⟨S1x3x2048, .f32⟩ : BufTy).Contents (Elt Ideal)) (x5 : (⟨S1x2048, .f32⟩ : BufTy).Contents (Elt Ideal)) : ConvSpec.Args where
  xp R k := x0 (ix3 0 R k)
  xs n r k := x1 (ix3 n r k)
  hist n r J := x2 (ix4 0 n r J)
  w k j := x3 (ix3 0 k j)
  tap q J := x4 (ix3 0 q J)
  bias J := x5 (ix2 0 J)

variable (x0 : (⟨S1x8192x4096, .f32⟩ : BufTy).Contents (Elt Ideal)) (x1 : (⟨S128x8x4096, .f32⟩ : BufTy).Contents (Elt Ideal))
    (x2 : (⟨S1x128x2x2048, .f32⟩ : BufTy).Contents (Elt Ideal)) (x3 : (⟨S1x4096x19504, .f32⟩ : BufTy).Contents (Elt Ideal))
    (x4 : (⟨S1x3x2048, .f32⟩ : BufTy).Contents (Elt Ideal)) (x5 : (⟨S1x2048, .f32⟩ : BufTy).Contents (Elt Ideal))

/-- A prompt row's and a sample row's place among all rows. -/
abbrev pr (R : Fin 8192) : Fin 9216 := ⟨R.val, by omega⟩
abbrev sr (n : Fin 128) (r : Fin 8) : Fin 9216 := ⟨8192 + (n.val * 8 + r.val), by omega⟩

theorem row_p (R : Fin 8192) (k : Fin 4096) : ConvSpec.row (argsOf x0 x1 x2 x3 x4 x5) (pr R) k = x0 (ix3 0 R k) := by
  unfold ConvSpec.row
  rw [dif_pos (show (pr R).val < 8192 from R.isLt)]
  rfl

theorem row_s (n : Fin 128) (r : Fin 8) (k : Fin 4096) : ConvSpec.row (argsOf x0 x1 x2 x3 x4 x5) (sr n r) k = x1 (ix3 n r k) := by
  unfold ConvSpec.row
  rw [dif_neg (show ¬ (sr n r).val < 8192 by show ¬ 8192 + (n.val * 8 + r.val) < 8192; omega)]
  refine congrArg₂ (fun a b => x1 (ix3 a b k)) (Fin.ext ?_) (Fin.ext ?_)
  · show (8192 + (n.val * 8 + r.val) - 8192) / 8 = n.val; omega
  · show (8192 + (n.val * 8 + r.val) - 8192) % 8 = r.val; omega

theorem proj_p (R : Fin 8192) (j : Fin 19504) : val_main_v2 (F := Ideal) x0 x3 (ix3 0 R j) = ConvSpec.proj (argsOf x0 x1 x2 x3 x4 x5) (pr R) j := by
  unfold ConvSpec.proj
  simp only [row_p]
  pointwise [val_main_v2, val_main_v1]
  try rfl

theorem proj_s (n : Fin 128) (r : Fin 8) (j : Fin 19504) : val_main_v37 (F := Ideal) x1 x3 (ix3 n r j) = ConvSpec.proj (argsOf x0 x1 x2 x3 x4 x5) (sr n r) j := by
  unfold ConvSpec.proj
  simp only [row_s]
  pointwise [val_main_v37, val_main_v36]
  try rfl

theorem u_p (R : Fin 8192) (J : Fin 2048) : val_main_v7 (F := Ideal) x0 x3 (ix3 0 R J) = ConvSpec.u (argsOf x0 x1 x2 x3 x4 x5) (pr R) J := by
  unfold ConvSpec.u
  rw [← proj_p, ← proj_p]
  pointwise [val_main_v7, val_main_v4, val_main_v5]
  try rfl

theorem u_s (n : Fin 128) (r : Fin 8) (J : Fin 2048) : val_main_v42 (F := Ideal) x1 x3 (ix3 n r J) = ConvSpec.u (argsOf x0 x1 x2 x3 x4 x5) (sr n r) J := by
  unfold ConvSpec.u
  rw [← proj_s, ← proj_s]
  pointwise [val_main_v42, val_main_v39, val_main_v40]
  try rfl

/-- The padded input, prompt: row `q` of it is the input two rows above `q`. -/
theorem pad_p (q : Fin 8194) (J : Fin 2048) : val_main_v10 (F := Ideal) x0 x3 (ix3 0 q J) = if h : q.val < 2 then 0 else ConvSpec.u (argsOf x0 x1 x2 x3 x4 x5) ⟨q.val - 2, by omega⟩ J := by
  unfold val_main_v10
  by_cases h : q.val < 2
  · rw [dif_pos h]
    refine (Rows.after_fst _ _ _ _ _ _ h).trans ?_
    pointwise [val_main_v0, val_main_cst]
  · rw [dif_neg h]
    refine (Rows.after_snd _ _ _ _ _ _ ⟨q.val - 2, by omega⟩ (by show q.val = 2 + (q.val - 2); omega)).trans ?_
    exact u_p x0 x1 x2 x3 x4 x5 _ J

theorem pad_s (n : Fin 128) (q : Fin 10) (J : Fin 2048) : val_main_v45 (F := Ideal) x1 x2 x3 (ix3 n q J)
    = if h : q.val < 2 then x2 (ix4 0 n ⟨q.val, h⟩ J) else ConvSpec.u (argsOf x0 x1 x2 x3 x4 x5) (sr n ⟨q.val - 2, by omega⟩) J := by
  unfold val_main_v45
  by_cases h : q.val < 2
  · rw [dif_pos h]
    refine (Rows.after_fst _ _ _ _ _ _ h).trans ?_
    unfold val_main_v35
    exact Rows.drop x2 _ _ _ _
  · rw [dif_neg h]
    refine (Rows.after_snd _ _ _ _ _ _ ⟨q.val - 2, by omega⟩ (by show q.val = 2 + (q.val - 2); omega)).trans ?_
    exact u_s x0 x1 x2 x3 x4 x5 n _ J

theorem z_p (R : Fin 8192) (J : Fin 2048) : val_main_v34 (F := Ideal) x0 x3 x4 x5 (ix3 0 R J) = ConvSpec.z (argsOf x0 x1 x2 x3 x4 x5) (pr R) J := by
  have e2 : val_main_v10 (F := Ideal) x0 x3 (ix3 0 ⟨R.val, by omega⟩ J) = ConvSpec.prev2 (argsOf x0 x1 x2 x3 x4 x5) (pr R) J := by
    rw [pad_p x0 x1 x2 x3 x4 x5]
    unfold ConvSpec.prev2
    rw [dif_neg (show ¬ 8192 ≤ (pr R).val by show ¬ 8192 ≤ R.val; omega)]
    rfl
  have e1 : val_main_v10 (F := Ideal) x0 x3 (ix3 0 ⟨1 + R.val, by omega⟩ J) = ConvSpec.prev1 (argsOf x0 x1 x2 x3 x4 x5) (pr R) J := by
    rw [pad_p x0 x1 x2 x3 x4 x5]
    unfold ConvSpec.prev1
    rw [dif_neg (show ¬ 8192 ≤ (pr R).val by show ¬ 8192 ≤ R.val; omega)]
    by_cases h : R.val = 0
    · rw [dif_pos (by show 1 + R.val < 2; omega), if_pos h]
    · rw [dif_neg (by show ¬ 1 + R.val < 2; omega), if_neg h]
      exact congrArg (fun s => ConvSpec.u (argsOf x0 x1 x2 x3 x4 x5) s J) (Fin.ext (by show 1 + R.val - 2 = R.val - 1; omega))
  have e0 : val_main_v10 (F := Ideal) x0 x3 (ix3 0 ⟨2 + R.val, by omega⟩ J) = ConvSpec.u (argsOf x0 x1 x2 x3 x4 x5) (pr R) J := by
    rw [pad_p x0 x1 x2 x3 x4 x5, dif_neg (by show ¬ 2 + R.val < 2; omega)]
    exact congrArg (fun s => ConvSpec.u (argsOf x0 x1 x2 x3 x4 x5) s J) (Fin.ext (by show 2 + R.val - 2 = R.val; omega))
  have eg : val_main_v2 (F := Ideal) x0 x3 (ix3 0 R ⟨J.val, by omega⟩) = ConvSpec.gate (argsOf x0 x1 x2 x3 x4 x5) (pr R) J := proj_p x0 x1 x2 x3 x4 x5 R _
  unfold ConvSpec.z
  rw [← e2, ← e1, ← e0, ← eg]
  pointwise [val_main_v34, val_main_v3, val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14, val_main_v13, val_main_v12, val_main_v11,
    val_main_v8, val_main_v9]
  try rfl

theorem z_s (n : Fin 128) (r : Fin 8) (J : Fin 2048) : val_main_v69 (F := Ideal) x1 x2 x3 x4 x5 (ix3 n r J) = ConvSpec.z (argsOf x0 x1 x2 x3 x4 x5) (sr n r) J := by
  have hs : 8192 ≤ (sr n r).val := by show 8192 ≤ 8192 + (n.val * 8 + r.val); omega
  have hn : (⟨((sr n r).val - 8192) / 8, by show (8192 + (n.val * 8 + r.val) - 8192) / 8 < 128; omega⟩ : Fin 128) = n :=
    Fin.ext (by show (8192 + (n.val * 8 + r.val) - 8192) / 8 = n.val; omega)
  have e2 : val_main_v45 (F := Ideal) x1 x2 x3 (ix3 n ⟨r.val, by omega⟩ J) = ConvSpec.prev2 (argsOf x0 x1 x2 x3 x4 x5) (sr n r) J := by
    rw [pad_s x0 x1 x2 x3 x4 x5]
    unfold ConvSpec.prev2
    rw [dif_pos hs, hn]
    by_cases h0 : r.val = 0
    · rw [dif_pos (by show r.val < 2; omega), if_pos (by show (8192 + (n.val * 8 + r.val)) % 8 = 0; omega)]
      exact congrArg (fun q => x2 (ix4 0 n q J)) (Fin.ext h0)
    · rw [if_neg (by show ¬ (8192 + (n.val * 8 + r.val)) % 8 = 0; omega)]
      by_cases h1 : r.val = 1
      · rw [dif_pos (by show r.val < 2; omega), if_pos (by show (8192 + (n.val * 8 + r.val)) % 8 = 1; omega)]
        exact congrArg (fun q => x2 (ix4 0 n q J)) (Fin.ext h1)
      · rw [dif_neg (by show ¬ r.val < 2; omega), if_neg (by show ¬ (8192 + (n.val * 8 + r.val)) % 8 = 1; omega)]
        exact congrArg (fun s => ConvSpec.u (argsOf x0 x1 x2 x3 x4 x5) s J) (Fin.ext (by show 8192 + (n.val * 8 + (r.val - 2)) = 8192 + (n.val * 8 + r.val) - 2; omega))
  have e1 : val_main_v45 (F := Ideal) x1 x2 x3 (ix3 n ⟨1 + r.val, by omega⟩ J) = ConvSpec.prev1 (argsOf x0 x1 x2 x3 x4 x5) (sr n r) J := by
    rw [pad_s x0 x1 x2 x3 x4 x5]
    unfold ConvSpec.prev1
    rw [dif_pos hs, hn]
    by_cases h : r.val = 0
    · rw [dif_pos (by show 1 + r.val < 2; omega), if_pos (by show (8192 + (n.val * 8 + r.val)) % 8 = 0; omega)]
      exact congrArg (fun q => x2 (ix4 0 n q J)) (Fin.ext (by show 1 + r.val = 1; omega))
    · rw [dif_neg (by show ¬ 1 + r.val < 2; omega), if_neg (by show ¬ (8192 + (n.val * 8 + r.val)) % 8 = 0; omega)]
      exact congrArg (fun s => ConvSpec.u (argsOf x0 x1 x2 x3 x4 x5) s J) (Fin.ext (by show 8192 + (n.val * 8 + (1 + r.val - 2)) = 8192 + (n.val * 8 + r.val) - 1; omega))
  have e0 : val_main_v45 (F := Ideal) x1 x2 x3 (ix3 n ⟨2 + r.val, by omega⟩ J) = ConvSpec.u (argsOf x0 x1 x2 x3 x4 x5) (sr n r) J := by
    rw [pad_s x0 x1 x2 x3 x4 x5, dif_neg (by show ¬ 2 + r.val < 2; omega)]
    exact congrArg (fun s => ConvSpec.u (argsOf x0 x1 x2 x3 x4 x5) s J) (Fin.ext (by show 8192 + (n.val * 8 + (2 + r.val - 2)) = 8192 + (n.val * 8 + r.val); omega))
  have eg : val_main_v37 (F := Ideal) x1 x3 (ix3 n r ⟨J.val, by omega⟩) = ConvSpec.gate (argsOf x0 x1 x2 x3 x4 x5) (sr n r) J := proj_s x0 x1 x2 x3 x4 x5 n r _
  unfold ConvSpec.z
  rw [← e2, ← e1, ← e0, ← eg]
  pointwise [val_main_v69, val_main_v38, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v43, val_main_v44]
  try rfl

/-- A row is a prompt's or a sample's. -/
theorem split (R : Fin 9216) : (∃ q, R = pr q) ∨ ∃ n r, R = sr n r := by
  by_cases h : R.val < 8192
  · exact Or.inl ⟨⟨R.val, h⟩, rfl⟩
  · exact Or.inr ⟨⟨(R.val - 8192) / 8, by omega⟩, ⟨(R.val - 8192) % 8, by omega⟩, Fin.ext (by show R.val = 8192 + ((R.val - 8192) / 8 * 8 + (R.val - 8192) % 8); omega)⟩

theorem join_p {α : Type} (p : (⟨3, ![1, 8192, 2048]⟩ : Shape).Idx → α) (s : (⟨3, ![128, 8, 2048]⟩ : Shape).Idx → α) (h : Shape.Concatenates [S8192x2048, S1024x2048] S9216x2048 0) (h1 h2) (q : Fin 8192) (J : Fin 2048) :
    concatenate S9216x2048 0 [⟨S8192x2048, shapeCast S8192x2048 p h1⟩, ⟨S1024x2048, shapeCast S1024x2048 s h2⟩] h (ix2 (pr q) J) = p (ix3 0 q J) :=
  (Rows.join_fst _ _ _ (pr q) J q.isLt).trans (Rows.flat_one p _ _ _)

theorem join_s {α : Type} (p : (⟨3, ![1, 8192, 2048]⟩ : Shape).Idx → α) (s : (⟨3, ![128, 8, 2048]⟩ : Shape).Idx → α) (h : Shape.Concatenates [S8192x2048, S1024x2048] S9216x2048 0) (h1 h2) (n : Fin 128) (r : Fin 8) (J : Fin 2048) :
    concatenate S9216x2048 0 [⟨S8192x2048, shapeCast S8192x2048 p h1⟩, ⟨S1024x2048, shapeCast S1024x2048 s h2⟩] h (ix2 (sr n r) J) = s (ix3 n r J) :=
  (Rows.join_snd _ _ _ (sr n r) J ⟨n.val * 8 + r.val, by omega⟩ rfl).trans (Rows.flat s _ _ _ n r rfl)

/-- The convolution's input, all rows. -/
theorem u_all (R : Fin 9216) (J : Fin 2048) : val_main_v75 (F := Ideal) x0 x1 x3 (ix2 R J) = ConvSpec.u (argsOf x0 x1 x2 x3 x4 x5) R J := by
  unfold val_main_v75 val_main_v73 val_main_v74
  obtain ⟨q, rfl⟩ | ⟨n, r, rfl⟩ := split R
  · exact (join_p _ _ _ _ _ q J).trans (u_p x0 x1 x2 x3 x4 x5 q J)
  · exact (join_s _ _ _ _ _ n r J).trans (u_s x0 x1 x2 x3 x4 x5 n r J)

/-- The gated convolution, all rows. -/
theorem z_all (R : Fin 9216) (J : Fin 2048) : val_main_v76 (F := Ideal) x0 x1 x2 x3 x4 x5 (ix2 R J) = ConvSpec.z (argsOf x0 x1 x2 x3 x4 x5) R J := by
  show val_main_v72 (F := Ideal) x0 x1 x2 x3 x4 x5 (ix2 R J) = _
  unfold val_main_v72 val_main_v70 val_main_v71
  obtain ⟨q, rfl⟩ | ⟨n, r, rfl⟩ := split R
  · exact (join_p _ _ _ _ _ q J).trans (z_p x0 x1 x2 x3 x4 x5 q J)
  · exact (join_s _ _ _ _ _ n r J).trans (z_s x0 x1 x2 x3 x4 x5 n r J)

variable (m : (ℓ : Loc nD τ sig) → Buf (Elt Ideal) ℓ)

/-- The arguments read off the memory. -/
abbrev args (c : Dev nD) : ConvSpec.Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

open Idealize.SL.Sem

/-- The reference's run: both results in plain sums and choices, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v76) = (fun i => ConvSpec.z (args m c) (i 0) (i 1))
      ∧ r.2.mem ((c : Thread nD τ).loc main_v75) = (fun i => ConvSpec.u (args m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c).1.trans ((val_main_v76_eq m c).trans (funext fun i => (congrArg _ (ix2_eta i)).trans (z_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1)))),
      (h c).2.1.trans ((val_main_v75_eq _ _ _).trans (funext fun i => (congrArg _ (ix2_eta i)).trans (u_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1)))), (h c).2.2⟩)
    (Cert.Reference2Ideal.Value.run m ρ)

/-- The reference names no counter, so every one is at zero. -/
theorem sems (s : MemSt nD τ sig (Elt Ideal)) : s.sem = fun _ => 0 := sem_eq_zero_of_no_sems rfl s

end Cert.Reference2Ideal.Conv
end
-- ==== Proof.Claim2.lean ====
/- The claims about the proj_conv call (programs Kernel2, Kernel2Ideal and Reference2Ideal). -/
module

public import proofs.«01_k».proof.Defs
public import proofs.«01_k».proof.Proof.Gen.Kernel2
public import proofs.«01_k».proof.Proof.Gen.Reference2Ideal.Read
public import proofs.«01_k».proof.Proof.Gen.Reference2Ideal.Run
public import proofs.«01_k».proof.Proof.ConvKeep
public import proofs.«01_k».proof.Proof.ConvValue
public import proofs.«01_k».proof.Proof.ConvReference
public import Idealize.ShloMosaic.Adequacy
public import Idealize.ShloMosaic.Init

@[expose] public section

noncomputable section

namespace Cert.Proof

open Idealize.ShloMosaic Idealize.SL.Sem

theorem quiescent2 : Cert.quiescent_Kernel2 := fun m ρ _ => Cert.Kernel2.Keep.frame m ρ

set_option maxHeartbeats 2000000 in
theorem quiescent_ideal2 : Cert.quiescent_Kernel2Ideal := by
  intro m g _
  run_from Cert.Kernel2Ideal.Conv.frame m g & Cert.Kernel2Ideal.Conv.run_sem m g

theorem quiescent_ref2 : Cert.quiescent_Reference2Ideal := by
  intro m g _
  exact (θ_run Cert.Reference2Ideal.defs _ _).mono (fun r h => ⟨fun c => (h c).2.2, Cert.Reference2Ideal.Conv.sems _⟩) (Cert.Reference2Ideal.Conv.run m g)

set_option maxHeartbeats 2000000 in
theorem algebraic2 : Cert.algebraic_Kernel2Ideal_Reference2Ideal := by
  pair_intro
  · run_from Cert.Kernel2Ideal.Conv.run_post m g & Cert.Kernel2Ideal.Conv.frame m g
  · refine (θ_run Cert.Reference2Ideal.defs _ _).mono (fun r h c => ?_) (Cert.Reference2Ideal.Conv.run m' g')
    obtain ⟨hz, hu, ha⟩ := h c
    have e : Cert.Reference2Ideal.Conv.args m' c = Cert.Kernel2Ideal.Conv.args m c := by
      obtain ⟨a0, a1, a2, a3, a4, a5⟩ := hagree c
      unfold Cert.Reference2Ideal.Conv.args
      rw [a0, a1, a2, a3, a4, a5]
      rfl
    refine ⟨hz.trans ?_, hu.trans ?_, ha⟩
    · rw [e]; exact (Cert.Kernel2Ideal.Conv.final_z m c).symm
    · rw [e]; exact (Cert.Kernel2Ideal.Conv.final_u m c).symm

end Cert.Proof

end
-- ==== Proof.Spec.lean ====
module

public import Idealize.ShloMosaic.Lib.Pipeline.ValueKit
public import Idealize.ShloMosaic.Lib.Pointwise
public import proofs.«01_k».proof.Proof.Rows

@[expose] public section

/-! What the layer's projections, its merge and its norms compute, in plain sums and choices over the arguments. -/

noncomputable section

namespace Cert.Spec

open Idealize.ShloMosaic

/-- An array of extended reals with two axes, and with three. -/
abbrev M2 (a b : Nat) := (⟨2, ![a, b]⟩ : Shape).Idx → EReal
abbrev M3 (a b c : Nat) := (⟨3, ![a, b, c]⟩ : Shape).Idx → EReal

/-- The rows: the prompt's, then the samples' one after the other. -/
def row (xp : M3 1 8192 4096) (xs : M3 128 8 4096) (R : Fin 9216) (k : Fin 4096) : EReal :=
  if h : R.val < 8192 then xp (ix3 0 ⟨R.val, h⟩ k) else xs (ix3 ⟨(R.val - 8192) / 8, by omega⟩ ⟨(R.val - 8192) % 8, by omega⟩ k)

theorem row_join (xp : M3 1 8192 4096) (xs : M3 128 8 4096) (h : Shape.Concatenates [(⟨2, ![8192, 4096]⟩ : Shape), ⟨2, ![1024, 4096]⟩] ⟨2, ![9216, 4096]⟩ 0) (h1 h2) (R : Fin 9216) (k : Fin 4096) :
    concatenate (⟨2, ![9216, 4096]⟩ : Shape) 0 [⟨⟨2, ![8192, 4096]⟩, shapeCast _ xp h1⟩, ⟨⟨2, ![1024, 4096]⟩, shapeCast _ xs h2⟩] h (ix2 R k) = row xp xs R k := by
  unfold row
  by_cases hR : R.val < 8192
  · rw [dif_pos hR]
    exact (Rows.join_fst _ _ _ R k hR).trans (Rows.flat_one xp _ _ _)
  · rw [dif_neg hR]
    exact (Rows.join_snd _ _ _ R k ⟨R.val - 8192, by omega⟩ (by show R.val = 8192 + (R.val - 8192); omega)).trans
      (Rows.flat xs _ _ _ _ _ (by show R.val - 8192 = (R.val - 8192) / 8 * 8 + (R.val - 8192) % 8; omega))

/-- The projection onto queries, keys and values. -/
def qkv (xp : M3 1 8192 4096) (xs : M3 128 8 4096) (w : M3 1 4096 19504) (R : Fin 9216) (J : Fin 5120) : EReal :=
  ∑ k : Fin 4096, row xp xs R k * w (ix3 0 k ⟨6144 + J.val, by omega⟩)

/-- The attention's rows: the prompt's, then the samples'. -/
def att (op : M2 8192 2048) (os : M2 1024 2048) (R : Fin 9216) (k : Fin 2048) : EReal :=
  if h : R.val < 8192 then op (ix2 ⟨R.val, h⟩ k) else os (ix2 ⟨R.val - 8192, by omega⟩ k)

theorem att_join (op : M2 8192 2048) (os : M2 1024 2048) (h : Shape.Concatenates [(⟨2, ![8192, 2048]⟩ : Shape), ⟨2, ![1024, 2048]⟩] ⟨2, ![9216, 2048]⟩ 0) (R : Fin 9216) (k : Fin 2048) :
    concatenate (⟨2, ![9216, 2048]⟩ : Shape) 0 [⟨⟨2, ![8192, 2048]⟩, op⟩, ⟨⟨2, ![1024, 2048]⟩, os⟩] h (ix2 R k) = att op os R k := by
  unfold att
  by_cases hR : R.val < 8192
  · rw [dif_pos hR]
    exact Rows.join_fst _ _ _ R k hR
  · rw [dif_neg hR]
    exact Rows.join_snd _ _ _ R k ⟨R.val - 8192, by omega⟩ (by show R.val = 8192 + (R.val - 8192); omega)

/-- A column of the mixing gate. -/
def gate (x : M2 9216 4096) (wg : M2 4096 8192) (R : Fin 9216) (J : Fin 8192) : EReal :=
  Ideal.logistic (∑ k : Fin 4096, x (ix2 R k) * wg (ix2 k J))

/-- The two branches' projections, gated and added. -/
def merge (x : M2 9216 4096) (z : M2 9216 2048) (op : M2 8192 2048) (os : M2 1024 2048) (wc wn : M3 1 2048 4096) (wg : M2 4096 8192) (R : Fin 9216) (J : Fin 4096) : EReal :=
  gate x wg R ⟨J.val, by omega⟩ * (∑ k : Fin 2048, z (ix2 R k) * wc (ix3 0 k J))
    + gate x wg R ⟨4096 + J.val, by omega⟩ * (∑ k : Fin 2048, att op os R k * wn (ix3 0 k J))

/-- The fourth root of two, as rounded. -/
def root : EReal := Ideal.ofBits .f32 0x3F9837F0#32

/-- A projection added to the scaled residual. -/
def ffnOut (act : M2 9216 11008) (w : M3 1 11008 4096) (h : M2 9216 4096) (R : Fin 9216) (J : Fin 4096) : EReal :=
  root * h (ix2 R J) + ∑ k : Fin 11008, act (ix2 R k) * w (ix3 0 k J)

/-- The same, the residual being the layer's input. -/
def outProj (mix : M2 9216 4096) (w : M3 1 4096 4096) (xp : M3 1 8192 4096) (xs : M3 128 8 4096) (R : Fin 9216) (J : Fin 4096) : EReal :=
  root * row xp xs R J + ∑ k : Fin 4096, mix (ix2 R k) * w (ix3 0 k J)

/-- The width of a row, and the variance's offset, as rounded. -/
def width : EReal := Ideal.ofBits .f32 0x45800000#32
def eps : EReal := Ideal.ofBits .f32 0x3727C5AC#32

/-- A row's mean, -/
def mean (x : Fin 4096 → EReal) : EReal := Ideal.div (∑ k : Fin 4096, x k) width
/-- its variance, -/
def var (x : Fin 4096 → EReal) : EReal := Ideal.div (∑ k : Fin 4096, (x k - mean x) * (x k - mean x)) width
/-- and the row normed, scaled and shifted. -/
def norm (x : Fin 4096 → EReal) (g b : M2 1 4096) (J : Fin 4096) : EReal :=
  (x J - mean x) * Ideal.rsqrt (var x + eps) * g (ix2 0 J) + b (ix2 0 J)

end Cert.Spec

end
-- ==== Proof.Value3.lean ====
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Spec
public import proofs.«01_k».proof.Proof.Rows

@[expose] public section

set_option maxRecDepth 16384

/-! The projection onto queries, keys and values: the two arrays the launch leaves, entry by entry. -/

noncomputable section

namespace Cert.Kernel3Ideal.Val

open Cert.Kernel3Ideal Cert.Kernel3Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, win0_0.index t = ![t.val / 10, 0] ∧ win0_1.index t = ![0, 12 + t.val % 10]
    ∧ win0_2.index t = ![t.val / 10, t.val % 10] ∧ win0_3.index t = ![t.val / 10, t.val % 10] :=
  (by decide +kernel : ∀ t : Fin grid0.N, _)

theorem lt (t : Fin cfg0.N) : t.val < 90 := t.isLt

/-- The array row and column of a block's. -/
abbrev rowOf (t : Fin cfg0.N) (r : Fin 1024) : Fin 9216 := ⟨1024 * (t.val / 10) + r.val, by have := lt t; omega⟩
abbrev colOf (t : Fin cfg0.N) (j : Fin 512) : Fin 5120 := ⟨512 * (t.val % 10) + j.val, by omega⟩

/-- The result over the arguments the memory holds. -/
def val (c : Dev nD) (R : Fin 9216) (J : Fin 5120) : EReal :=
  Spec.qkv (m ((c : Thread nD τ).loc main_arg0)) (m ((c : Thread nD τ).loc main_arg1)) (m ((c : Thread nD τ).loc main_arg2)) R J

theorem w_entry (c : Dev nD) (k : Fin 4096) (j : Fin 19504) : V m c main_v6 (ix2 k j) = m ((c : Thread nD τ).loc main_arg2) (ix3 0 k j) := by
  entry_read
  pointwise!

theorem x_entry (c : Dev nD) (R : Fin 9216) (k : Fin 4096) :
    V m c main_v4 (ix2 R k) = Spec.row (m ((c : Thread nD τ).loc main_arg0)) (m ((c : Thread nD τ).loc main_arg1)) R k := by
  entry_read
  unfold Spec.row
  by_cases h : R.val < 8192
  · rw [dif_pos h]
    refine (Rows.join_fst _ _ _ R k h).trans ?_
    exact Rows.flat_one (m (c, Proc.tc.devRef main_arg0)) shapeCasts_S1x8192x4096_S8192x4096 _ _
  · rw [dif_neg h]
    refine (Rows.join_snd _ _ _ R k ⟨R.val - 8192, by omega⟩ (by show R.val = 8192 + (R.val - 8192); omega)).trans ?_
    exact Rows.flat (m (c, Proc.tc.devRef main_arg1)) shapeCasts_S128x8x4096_S1024x4096 _ _ _ _ (by show R.val - 8192 = (R.val - 8192) / 8 * 8 + (R.val - 8192) % 8; omega)

theorem x_blk (c : Dev nD) (t : Fin cfg0.N) (r : Fin 1024) (k : Fin 4096) :
    iblk m c 0 t (ix2 r k) = Spec.row (m ((c : Thread nD τ).loc main_arg0)) (m ((c : Thread nD τ).loc main_arg1)) (rowOf t r) k := by
  rw [← x_entry m c]
  unfold iblk
  blk_ext [idx t]

theorem w_blk (c : Dev nD) (t : Fin cfg0.N) (k : Fin 4096) (j : Fin 512) :
    X0_1 m c t (ix2 k j) = m ((c : Thread nD τ).loc main_arg2) (ix3 0 k ⟨6144 + (colOf t j).val, by have := (colOf t j).isLt; omega⟩) := by
  have e : (⟨6144 + (colOf t j).val, by have := (colOf t j).isLt; omega⟩ : Fin 19504) = ⟨512 * (12 + t.val % 10) + j.val, by omega⟩ :=
    Fin.ext (by show 6144 + (512 * (t.val % 10) + j.val) = 512 * (12 + t.val % 10) + j.val; omega)
  rw [e, ← w_entry m c]
  unfold X0_1 Pipeline.Window.fill
  rw [dif_pos (moved0_1 t _)]
  unfold iblk
  blk_ext [idx t]

theorem body_val (x : FVec Ideal S1024x4096 .bf16) (w : FVec Ideal S4096x512 .bf16) (r : Fin 1024) (j : Fin 512) (p q : Fin 4096 → EReal)
    (hx : ∀ k, x (ix2 r k) = p k) (hw : ∀ k, w (ix2 k j) = q k) : (k0_pay1 (F := Ideal) x w (ix2 r j) : EReal) = ∑ k, p k * q k := by
  simp only [← hx, ← hw]
  pointwise [k0_pay1]

theorem pt (c : Dev nD) (t : Fin cfg0.N) (r : Fin 1024) (j : Fin 512) : (k0_pay1 (F := Ideal) (iblk m c 0 t) (X0_1 m c t) (ix2 r j) : EReal) = val m c (rowOf t r) (colOf t j) :=
  body_val _ _ r j _ _ (fun k => x_blk m c t r k) (fun k => w_blk m c t k j)

theorem final_f (c : Dev nD) : (dats m 0 c).arrAt 2 (cfgs 0).N = fun i => val m c (i 0) (i 1) := by
  refine (dats m 0 c).arrAt_eq_of_covers 2 _ (by decide +kernel) fun t _ y => ?_
  blk_simp
  rw [after0_2]
  unfold outsAt0 out0_A_2
  frame_out
  idx_vars y
  refine (pt m c t _ _).trans ?_
  refine congrArg₂ (val m c) (Fin.ext ?_) (Fin.ext ?_)
  · blk_simp [idx t]; show 1024 * (t.val / 10) + y0.val = _; omega
  · blk_simp [idx t]; show 512 * (t.val % 10) + y1.val = _; omega

theorem final_b (c : Dev nD) : (dats m 0 c).arrAt 3 (cfgs 0).N = fun i => val m c (i 0) (i 1) := by
  refine (dats m 0 c).arrAt_eq_of_covers 3 _ (by decide +kernel) fun t _ y => ?_
  blk_simp
  rw [after0_3]
  unfold outsAt0 out0_A_3
  frame_out
  idx_vars y
  refine (pt m c t _ _).trans ?_
  refine congrArg₂ (val m c) (Fin.ext ?_) (Fin.ext ?_)
  · blk_simp [idx t]; show 1024 * (t.val / 10) + y0.val = _; omega
  · blk_simp [idx t]; show 512 * (t.val % 10) + y1.val = _; omega

end Cert.Kernel3Ideal.Val

end
-- ==== Proof.Plain3.lean ====
module

public import proofs.«01_k».proof.Proof.Gen.Reference3Ideal.Read
public import proofs.«01_k».proof.Proof.Gen.Reference3Ideal.Run
public import proofs.«01_k».proof.Proof.Spec
public import proofs.«01_k».proof.Proof.Rows
public import Idealize.ShloMosaic.Lib.Pipeline.ValueKit

@[expose] public section

set_option maxRecDepth 16384

/-! The reference of the projection, entry by entry. -/

noncomputable section

namespace Cert.Reference3Ideal.Val

open Cert.Reference3Ideal Cert.Reference3Ideal.Gen Cert.Reference3Ideal.Read
open Idealize.ShloMosaic Idealize.ShloMosaic.TcCoe Idealize.ShloMosaic.Tactic

variable (x0 : (⟨S1x8192x4096, .f32⟩ : BufTy).Contents (Elt Ideal)) (x1 : (⟨S128x8x4096, .f32⟩ : BufTy).Contents (Elt Ideal)) (x2 : (⟨S1x4096x19504, .f32⟩ : BufTy).Contents (Elt Ideal))

theorem row_val (R : Fin 9216) (k : Fin 4096) : val_main_v2 (F := Ideal) x0 x1 (ix2 R k) = Spec.row x0 x1 R k := by
  unfold val_main_v2 val_main_v0 val_main_v1
  exact Spec.row_join x0 x1 _ _ _ R k

theorem main_v5_val (R : Fin 9216) (J : Fin 5120) : val_main_v5 (F := Ideal) x0 x1 x2 (ix2 R J) = Spec.qkv x0 x1 x2 R J := by
  unfold Spec.qkv
  simp only [← row_val]
  pointwise [val_main_v5, val_main_v4, val_main_v3]

theorem main_v6_val (R : Fin 9216) (J : Fin 5120) : val_main_v6 (F := Ideal) x0 x1 x2 (ix2 R J) = Spec.qkv x0 x1 x2 R J :=
  main_v5_val x0 x1 x2 R J

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v5) = (fun i => Spec.qkv (m ((c : Thread nD τ).loc main_arg0)) (m ((c : Thread nD τ).loc main_arg1)) (m ((c : Thread nD τ).loc main_arg2)) (i 0) (i 1))
      ∧ r.2.mem ((c : Thread nD τ).loc main_v6) = (fun i => Spec.qkv (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans ((val_main_v5_eq _ _ _ ).trans (funext fun i => (congrArg _ (ix2_eta i)).trans (main_v5_val (m ((c : Thread nD τ).loc main_arg0)) (m ((c : Thread nD τ).loc main_arg1)) (m ((c : Thread nD τ).loc main_arg2)) (i 0) (i 1)))),
      (h c).2.1.trans ((val_main_v6_eq _ _ _ ).trans (funext fun i => (congrArg _ (ix2_eta i)).trans (main_v6_val (m ((c : Thread nD τ).loc main_arg0)) (m ((c : Thread nD τ).loc main_arg1)) (m ((c : Thread nD τ).loc main_arg2)) (i 0) (i 1)))),
      (h c).2.2⟩)
    (Cert.Reference3Ideal.Value.run m ρ)

/-- The reference names no counter, so every one is at zero. -/
theorem sems (s : MemSt nD τ sig (Elt Ideal)) : s.sem = fun _ => 0 := sem_eq_zero_of_no_sems rfl s

end Cert.Reference3Ideal.Val

end
-- ==== Proof.Claim3.lean ====
/- The claims about the proj_qkv call (programs Kernel3, Kernel3Ideal and Reference3Ideal). -/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Value3
public import proofs.«01_k».proof.Proof.Plain3
public import Idealize.ShloMosaic.Lib.Claim
public import Idealize.ShloMosaic.Adequacy
public import Idealize.ShloMosaic.Init

@[expose] public section

noncomputable section

namespace Cert.Proof

open Idealize.ShloMosaic Idealize.SL.Sem

theorem quiescent3 : Cert.quiescent_Kernel3 := fun m ρ _ => Cert.Kernel3.Gen.frame m ρ

theorem quiescent_ideal3 : Cert.quiescent_Kernel3Ideal := fun m ρ _ => Cert.Kernel3Ideal.Gen.frame m ρ

theorem quiescent_ref3 : Cert.quiescent_Reference3Ideal := fun m ρ _ =>
  (θ_run Cert.Reference3Ideal.defs _ _).mono (fun r h => ⟨fun c => (h c).2.2, Cert.Reference3Ideal.Val.sems _⟩) (Cert.Reference3Ideal.Val.run m ρ)

theorem algebraic3 : Cert.algebraic_Kernel3Ideal_Reference3Ideal := by
  pair_intro
  · run_from Cert.Kernel3Ideal.Gen.run_main m g & Cert.Kernel3Ideal.Gen.unchanged m g
  · refine (θ_run Cert.Reference3Ideal.defs _ _).mono (fun r h c => ?_) (Cert.Reference3Ideal.Val.run m' g')
    obtain ⟨h0, h1, ha⟩ := h c
    obtain ⟨a0, a1, a2⟩ := hagree c
    refine ⟨h0.trans ?_, h1.trans ?_, ha⟩
    · rw [a0, a1, a2]; exact (Cert.Kernel3Ideal.Val.final_f m c).symm
    · rw [a0, a1, a2]; exact (Cert.Kernel3Ideal.Val.final_b m c).symm

end Cert.Proof

end
-- ==== Proof.FfnKeep.lean ====
module

public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import Idealize.ShloMosaic.Lib.Claim

@[expose] public section

set_option maxRecDepth 16384

/-! The launch leaves the feed-forward call's arguments as they were, whatever the numbers are. -/

noncomputable section

namespace Cert.Kernel4.Keep

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body reads the blocks of the inputs and leaves them; what it writes is not named. -/
theorem run (c : Dev nD) (i : grid0.Coords) (a0 : Memref sig .tc .vmem S1024x4096 .bf16) (h0 : a0.IsWhole) (a1 : Memref sig .tc .vmem S4096x256 .f32) (h1 : a1.IsWhole) (a2 : Memref sig .tc .vmem S4096x256 .f32) (h2 : a2.IsWhole) (a3 : Memref sig .tc .vmem S3x256 .f32) (h3 : a3.IsWhole) (a4 : Memref sig .tc .vmem S1x256 .f32) (h4 : a4.IsWhole) (a5 : Memref sig .tc .vmem S1024x256 .f32) (h5 : a5.IsWhole) (a6 : Memref sig .tc .vmem S1024x256 .f32) (h6 : a6.IsWhole) (a7 : Memref sig .tc .vmem S1024x256 .bf16) (h7 : a7.IsWhole) (a8 : Memref sig .tc .vmem S1024x256 .f32) (h8 : a8.IsWhole) (a9 : Memref sig .tc .vmem S43x8x256 .f32) (h9 : a9.IsWhole)
    (x0 : FVec F S1024x4096 .bf16) (x1 : FVec F S4096x256 .f32) (x2 : FVec F S4096x256 .f32) (x3 : FVec F S3x256 .f32) (x4 : FVec F S1x256 .f32) (x5 : FVec F S1024x256 .f32) (x6 : FVec F S1024x256 .f32) (E : Set ℕ) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ (∃ d, owns (c : Thread nD τ) a7 fullShare d)
        ∗ (∃ d, owns (c : Thread nD τ) a8 fullShare d)
        ∗ (∃ d, owns (c : Thread nD τ) a9 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ (∃ d, owns (c : Thread nD τ) a7 fullShare d)
            ∗ (∃ d, owns (c : Thread nD τ) a8 fullShare d)
            ∗ (∃ d, owns (c : Thread nD τ) a9 fullShare d)) -∗ K ⟨⟩))
      ⊢ wp frame (wpE (defs₀ (F := F)) Variants.none c none) E (cc0_ffn_in (F := F) i a0 h0 a1 h1 a2 h2 a3 h3 a4 h4 a5 h5 a6 h6 a7 h7 a8 h8 a9 h9) K := by
  simp only [cc0_ffn_in_eq_skeleton]; unfold cc0_ffn_in_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-- The windows of the outputs. -/
def free : Fin 9 → Bool := fun w => w.val == 7 || w.val == 8

/-- The proof data: inputs keep their blocks, the outputs' are left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
    | ⟨8, h⟩ => Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d

theorem scratch_eq (c : Dev nD) : (Pipeline.ΦA spec0 c : sProp 𝕄) = iprop(iprop((∃ d, owns (c : Thread nD τ) (Memref.whole cc0_scratch0) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d)
    ∗ (∃ d, owns (c : Thread nD τ) (win0_8.stage (cfg0.slots t 8)) fullShare d))

def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ d, owns (c : Thread nD τ) (win0_7.stage (cfg0.slots t 7)) fullShare d)
    ∗ (∃ d, owns (c : Thread nD τ) (win0_8.stage (cfg0.slots t 8)) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl, show (dats m 0 c).owesAt () t.succ = (dats m 0 c).owesAt () t.castSucc from rfl, after_0, after_1, after_2, after_3, after_4, after_5, after_6,
    show (dats m 0 c).Φ t.castSucc = Pipeline.ΦA spec0 c from rfl, scratch_eq]
  iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S0]; · iexact S0
  iintro ⟨H0, H1, H2, H3, H4, H5, H6, H7, H8, S0⟩
  isplitl [S0 Hg]
  · isplitl [S0]
    · iexact S0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ free := fun t => by
  rw [bigSep_W0, bigSep_W0, row]
  exact triple_restated (sound_body m c t) rfl .rfl fun _ => .rfl

set_option backward.isDefEq.respectTransparency.types false in
/-- The launch, with nothing said of the outputs. -/
theorem run_all : θ_run defs (onTc (τ := τ) (main (F := F))) (s₀ m ρ)
    (fun r => (Pipeline.RDat.FramePost (cfgs 0) (fun c => (dats m 0 c).toRForget free) (V m)) r ∧ r.2.sem = fun _ => 0) :=
  Pipeline.θ_run_frame_forget_shared (Q' := _) cfgs (dats m) (0 : Fin 1) launch₀0 defs₀ Variants.none free m ρ main
    (hbody := fun c => (obligation m c).loose) (hq := fun _ _ _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun r hr c => have h := hr.1; have e : r.2.mem ((c.tc : Thread nD τ).loc main_arg3) = _ := Pipeline.RDat.FramePost.arr_in h c (4 : Fin 9) rfl
     ⟨(Pipeline.RDat.FramePost.arr_in h c 0 rfl).trans ((A_eq m c 0).trans (V_main_arg0 m c)), ((h c).2 main_arg1 (Pipeline.mem_restRefs_of main_arg1 (by decide) (by decide))).trans (V_main_arg1 m c), ((h c).2 main_arg2 (Pipeline.mem_restRefs_of main_arg2 (by decide) (by decide))).trans (V_main_arg2 m c), e.trans ((A_eq m c 4).trans (V_main_arg3 m c)), ((h c).2 main_arg4 (Pipeline.mem_restRefs_of main_arg4 (by decide) (by decide))).trans (V_main_arg4 m c)⟩) (run_all m ρ)) ((θ_run defs _ _).mono (fun _ h => h.2) (run_all m ρ))

end Cert.Kernel4.Keep

end
-- ==== Proof.FfnPure.lean ====
module

public import proofs.«01_k».proof.Proof.Gen.Kernel4Ideal.Skeleton
public import proofs.«01_k».proof.Proof.Shift

@[expose] public section

set_option maxRecDepth 16384

/-! What one grid point of the gated feed-forward projection computes, in plain sums and choices. -/

noncomputable section

namespace Cert.Kernel4Ideal.Ffn

open Cert.Kernel4Ideal Cert.Kernel4Ideal.Gen
open Idealize.ShloMosaic Idealize.ShloMosaic.TcCoe

/-- The convolution's input of a block of rows: one projection. -/
def uBlk (x : FVec Ideal S1024x4096 .bf16) (w1 : FVec Ideal S4096x256 .f32) : FVec Ideal S1024x256 .f32 :=
  fun y => ∑ k : Fin 4096, x (ix2 (y 0) k) * w1 (ix2 k (y 1))

/-- The other projection of a block of rows. -/
def gBlk (x : FVec Ideal S1024x4096 .bf16) (w0 : FVec Ideal S4096x256 .f32) : FVec Ideal S1024x256 .f32 :=
  fun y => ∑ k : Fin 4096, x (ix2 (y 0) k) * w0 (ix2 k (y 1))

/-- Row `k` of the eight rows carried in from the block above (zeros above the first block). -/
def carried (i : grid0.Coords) (s : FVec Ideal S43x8x256 .f32) (k : Fin 8) (j : Fin 256) : EReal :=
  if (i 0).val = 0 then 0 else s (ix3 (i 1) k j)

/-- The row one above, the row before a sequence's first taken from its history. -/
def back1 (i : grid0.Coords) (u h1 : FVec Ideal S1024x256 .f32) (s : FVec Ideal S43x8x256 .f32) (r : Fin 1024) (j : Fin 256) : EReal :=
  if 8 ≤ (i 0).val ∧ r.val % 8 = 0 then h1 (ix2 r j)
  else if r.val = 0 then carried i s 7 j else u (ix2 ⟨r.val - 1, by omega⟩ j)

/-- The row two above, likewise. -/
def back2 (i : grid0.Coords) (u h2 : FVec Ideal S1024x256 .f32) (s : FVec Ideal S43x8x256 .f32) (r : Fin 1024) (j : Fin 256) : EReal :=
  if 8 ≤ (i 0).val ∧ r.val % 8 < 2 then h2 (ix2 r j)
  else if r.val = 0 then carried i s 6 j else if r.val = 1 then carried i s 7 j else u (ix2 ⟨r.val - 2, by omega⟩ j)

/-- One entry of the result: the taps and the bias, each weighed by its own logistic, times the other projection. -/
abbrev taps (g b p2 c0 p1 c1 u c2 : EReal) : EReal :=
  (b + p2 * c0 + p1 * c1 + u * c2) * Ideal.logistic (b + p2 * c0 + p1 * c1 + u * c2) * g

/-- The result of a block of rows. -/
def zBlk (i : grid0.Coords) (x : FVec Ideal S1024x4096 .bf16) (w0 w1 : FVec Ideal S4096x256 .f32) (cw : FVec Ideal S3x256 .f32)
    (cb : FVec Ideal S1x256 .f32) (h1 h2 : FVec Ideal S1024x256 .f32) (s : FVec Ideal S43x8x256 .f32) : FVec Ideal S1024x256 .bf16 :=
  fun y => taps (gBlk x w0 y) (cb (ix2 0 (y 1))) (back2 i (uBlk x w1) h2 s (y 0) (y 1)) (cw (ix2 0 (y 1)))
    (back1 i (uBlk x w1) h1 s (y 0) (y 1)) (cw (ix2 1 (y 1))) (uBlk x w1 y) (cw (ix2 2 (y 1)))

/-- The carried rows after a block: its column strip's are the block's last eight. -/
def sNext (i : grid0.Coords) (u : FVec Ideal S1024x256 .f32) (s : FVec Ideal S43x8x256 .f32) : FVec Ideal S43x8x256 .f32 :=
  fun y => if (y 0).val = (i 1).val then u (ix2 ⟨1016 + (y 1).val, by have : (y 1).val < 8 := (y 1).isLt; omega⟩ (y 2)) else s y

/-! ### The stored values, entry by entry -/

theorem u_top (w1 : FVec Ideal S4096x256 .f32) (xs : FVec Ideal S512x4096 .bf16) (r : Fin 512) (j : Fin 256) :
    k0_pay10 (F := Ideal) w1 xs (ix2 r j) = ∑ k : Fin 4096, xs (ix2 r k) * w1 (ix2 k j) := by
  pointwise [k0_pay10, k0_pay9]

theorem u_bot (w1 : FVec Ideal S4096x256 .f32) (xs : FVec Ideal S512x4096 .bf16) (r : Fin 512) (j : Fin 256) :
    k0_pay12 (F := Ideal) w1 xs (ix2 r j) = ∑ k : Fin 4096, xs (ix2 r k) * w1 (ix2 k j) := by
  pointwise [k0_pay12, k0_pay9]

theorem g_top (w0 : FVec Ideal S4096x256 .f32) (xs : FVec Ideal S512x4096 .bf16) (r : Fin 512) (j : Fin 256) :
    k0_pay11 (F := Ideal) w0 xs (ix2 r j) = ∑ k : Fin 4096, xs (ix2 r k) * w0 (ix2 k j) := by
  pointwise [k0_pay11, k0_pay8]

theorem g_bot (w0 : FVec Ideal S4096x256 .f32) (xs : FVec Ideal S512x4096 .bf16) (r : Fin 512) (j : Fin 256) :
    k0_pay13 (F := Ideal) w0 xs (ix2 r j) = ∑ k : Fin 4096, xs (ix2 r k) * w0 (ix2 k j) := by
  pointwise [k0_pay13, k0_pay8]

theorem carry6 (i : grid0.Coords) (v : FVec Ideal S1x8x256 .f32) (j : Fin 256) :
    k0_pay5 (F := Ideal) i v (ix2 0 j) = if (i 0).val = 0 then 0 else v (ix3 0 6 j) := by
  pointwise [k0_pay5, k0_pay4]
  rw [Shift.first_word ⟨(i 0).val, (i 0).isLt⟩, Shift.select_ite]
  try rfl

theorem carry7 (i : grid0.Coords) (v : FVec Ideal S1x8x256 .f32) (j : Fin 256) :
    k0_pay6 (F := Ideal) i v (ix2 0 j) = if (i 0).val = 0 then 0 else v (ix3 0 7 j) := by
  pointwise [k0_pay6, k0_pay4]
  rw [Shift.first_word ⟨(i 0).val, (i 0).isLt⟩, Shift.select_ite]
  try rfl

theorem last6 (u : FVec Ideal S512x256 .f32) (j : Fin 256) : k0_pay15 (F := Ideal) u (ix2 0 j) = u (ix2 510 j) := by
  pointwise [k0_pay15]
  try rfl

theorem last7 (u : FVec Ideal S512x256 .f32) (j : Fin 256) : k0_pay16 (F := Ideal) u (ix2 0 j) = u (ix2 511 j) := by
  pointwise [k0_pay16]
  try rfl

theorem tail8 (u : FVec Ideal S512x256 .f32) (k : Fin 8) (j : Fin 256) :
    k0_pay2 (F := Ideal) u (ix3 0 k j) = u (ix2 ⟨504 + k.val, by omega⟩ j) := by
  pointwise [k0_pay2]
  try rfl

/-- The upper half's stored value. -/
theorem z_top (i : grid0.Coords) (cw : FVec Ideal S3x256 .f32) (cb p6 p7 : FVec Ideal S1x256 .f32) (u g h1 h2 : FVec Ideal S512x256 .f32)
    (r : Fin 512) (j : Fin 256) :
    k0_pay14 (F := Ideal) (Scalar.cmpi .sge (BitVec.ofNat 32 (i 0).val) 8#32) (k0_pay3 cw) cb p6 p7 (iota .tc S512x256 32 [0] iota_S512x256_d0_w32) (k0_pay7 i) u g h1 h2 (ix2 r j)
      = taps (g (ix2 r j)) (cb (ix2 0 j))
        (if 8 ≤ (i 0).val then (if r.val % 8 < 2 then h2 (ix2 r j) else u (ix2 ⟨(r.val + 512 - 2) % 512, Nat.mod_lt _ (by decide)⟩ j))
          else if r.val = 0 then p6 (ix2 0 j) else if r.val = 1 then p7 (ix2 0 j) else u (ix2 ⟨(r.val + 512 - 2) % 512, Nat.mod_lt _ (by decide)⟩ j))
        (cw (ix2 0 j))
        (if 8 ≤ (i 0).val then (if r.val % 8 = 0 then h1 (ix2 r j) else u (ix2 ⟨(r.val + 512 - 1) % 512, Nat.mod_lt _ (by decide)⟩ j))
          else if r.val = 0 then p7 (ix2 0 j) else u (ix2 ⟨(r.val + 512 - 1) % 512, Nat.mod_lt _ (by decide)⟩ j))
        (cw (ix2 1 j)) (u (ix2 r j)) (cw (ix2 2 j)) := by
  pointwise [k0_pay14, k0_pay3, k0_pay7]
  rw [Shift.pick1 ⟨(i 0).val, (i 0).isLt⟩ r, Shift.pick2 ⟨(i 0).val, (i 0).isLt⟩ r]

/-- The lower half's stored value. -/
theorem z_bot (i : grid0.Coords) (cw : FVec Ideal S3x256 .f32) (cb p6 p7 : FVec Ideal S1x256 .f32) (u g h1 h2 : FVec Ideal S512x256 .f32)
    (r : Fin 512) (j : Fin 256) :
    k0_pay1 (F := Ideal) (Scalar.cmpi .sge (BitVec.ofNat 32 (i 0).val) 8#32) (k0_pay3 cw) cb (iota .tc S512x256 32 [0] iota_S512x256_d0_w32) (k0_pay7 i) u g p6 p7 (k0_pay17 h1) h2 (ix2 r j)
      = k0_pay14 (F := Ideal) (Scalar.cmpi .sge (BitVec.ofNat 32 (i 0).val) 8#32) (k0_pay3 cw) cb p6 p7 (iota .tc S512x256 32 [0] iota_S512x256_d0_w32) (k0_pay7 i) u g h1 h2 (ix2 r j) := rfl

/-! ### Two half blocks as one block -/

/-- A row of the upper half of a block. -/
abbrev up (r : Fin 512) : Fin 1024 := ⟨r.val, by omega⟩
/-- A row of the lower half. -/
abbrev dn (r : Fin 512) : Fin 1024 := ⟨512 + r.val, by omega⟩

/-- A block stored by halves reads as the function that both halves take their values from. -/
theorem halves {e : EltTy} {κ : Kind} {sp : Space} (v : View sig κ sp S1024x256 e) (f : v.ty.Contents (Elt Ideal)) (wb wt : S512x256.Idx → Elt Ideal e)
    (G : S1024x256.Idx → Elt Ideal e) (ht : ∀ r j, wt (ix2 r j) = G (ix2 (up r) j)) (hb : ∀ r j, wb (ix2 r j) = G (ix2 (dn r) j)) :
    v.read (Elt Ideal) (v.writes (Elt Ideal) f [⟨Rect.unit ![512, 0] S512x256.size inb_S1024x256_S512x256_512_0, wb⟩,
      ⟨Rect.unit ![0, 0] S512x256.size inb_S1024x256_S512x256_0_0, wt⟩]) = G := by
  funext y
  obtain ⟨r, j, rfl⟩ : ∃ (r : Fin 1024) (j : Fin 256), y = ix2 r j := ⟨y 0, y 1, by funext a; fin_cases a <;> rfl⟩
  by_cases h : r.val < 512
  · rw [View.read_writes_cons_miss_of_axis v f _ _ _ 0 512 512 rfl rfl rfl (Or.inl h)]
    rw [View.read_writes_cons_hit_of_coords v f _ _ _ (ix2 ⟨r.val, h⟩ j) (ix2 r j) (by
      intro a; fin_cases a
      · show r.val = 0 + 1 * r.val; omega
      · show j.val = 0 + 1 * j.val; omega)]
    exact ht ⟨r.val, h⟩ j
  · rw [View.read_writes_cons_hit_of_coords v f _ _ _ (ix2 ⟨r.val - 512, by omega⟩ j) (ix2 r j) (by
      intro a; fin_cases a
      · show r.val = 512 + 1 * (r.val - 512); omega
      · show j.val = 0 + 1 * j.val; omega)]
    refine (hb ⟨r.val - 512, by omega⟩ j).trans (congrArg G (congrArg (fun r => ix2 r j) (Fin.ext ?_)))
    show 512 + (r.val - 512) = r.val; omega

/-- The lower half's result, whose rows above the first are the upper half's last. -/
theorem z_low (i : grid0.Coords) (x : FVec Ideal S1024x4096 .bf16) (w0 w1 : FVec Ideal S4096x256 .f32) (cw : FVec Ideal S3x256 .f32)
    (cb : FVec Ideal S1x256 .f32) (h1 h2 : FVec Ideal S1024x256 .f32) (s : FVec Ideal S43x8x256 .f32)
    (ut ub g k1 k2 : FVec Ideal S512x256 .f32) (hut : ∀ r j, ut (ix2 r j) = uBlk x w1 (ix2 (up r) j)) (hub : ∀ r j, ub (ix2 r j) = uBlk x w1 (ix2 (dn r) j))
    (hg : ∀ r j, g (ix2 r j) = gBlk x w0 (ix2 (dn r) j)) (h1' : ∀ r j, k1 (ix2 r j) = h1 (ix2 (dn r) j)) (h2' : ∀ r j, k2 (ix2 r j) = h2 (ix2 (dn r) j))
    (r : Fin 512) (j : Fin 256) :
    k0_pay1 (F := Ideal) (Scalar.cmpi .sge (BitVec.ofNat 32 (i 0).val) 8#32) (k0_pay3 cw) cb (iota .tc S512x256 32 [0] iota_S512x256_d0_w32) (k0_pay7 i) ub g (k0_pay15 ut) (k0_pay16 ut) (k0_pay17 k1) k2 (ix2 r j)
      = zBlk i x w0 w1 cw cb h1 h2 s (ix2 (dn r) j) := by
  rw [z_bot, z_top]
  have e1 : (512 + r.val) % 8 = r.val % 8 := by omega
  have b2 : back2 i (uBlk x w1) h2 s (dn r) j = if 8 ≤ (i 0).val then (if r.val % 8 < 2 then k2 (ix2 r j) else ub (ix2 ⟨(r.val + 512 - 2) % 512, Nat.mod_lt _ (by decide)⟩ j))
          else if r.val = 0 then k0_pay15 (F := Ideal) ut (ix2 0 j) else if r.val = 1 then k0_pay16 (F := Ideal) ut (ix2 0 j) else ub (ix2 ⟨(r.val + 512 - 2) % 512, Nat.mod_lt _ (by decide)⟩ j) := by
    rw [last6, last7, hut, hut, hub, h2']
    unfold back2
    show (if 8 ≤ (i 0).val ∧ (512 + r.val) % 8 < 2 then _ else if 512 + r.val = 0 then _ else if 512 + r.val = 1 then _ else _) = _
    rw [if_neg (show ¬ 512 + r.val = 0 by omega), if_neg (show ¬ 512 + r.val = 1 by omega), e1]
    by_cases hs : 8 ≤ (i 0).val
    · by_cases hr : r.val % 8 < 2
      · rw [if_pos ⟨hs, hr⟩, if_pos hs, if_pos hr]
      · rw [if_neg (fun h => hr h.2), if_pos hs, if_neg hr]
        exact congrArg (uBlk x w1) (congrArg (fun r => ix2 r j) (Fin.ext (show 512 + r.val - 2 = 512 + (r.val + 512 - 2) % 512 by omega)))
    · rw [if_neg (fun h => hs h.1), if_neg hs]
      by_cases h0 : r.val = 0
      · rw [if_pos h0]
        exact congrArg (uBlk x w1) (congrArg (fun r => ix2 r j) (Fin.ext (show 512 + r.val - 2 = 510 by omega)))
      · by_cases h1 : r.val = 1
        · rw [if_neg h0, if_pos h1]
          exact congrArg (uBlk x w1) (congrArg (fun r => ix2 r j) (Fin.ext (show 512 + r.val - 2 = 511 by omega)))
        · rw [if_neg h0, if_neg h1]
          exact congrArg (uBlk x w1) (congrArg (fun r => ix2 r j) (Fin.ext (show 512 + r.val - 2 = 512 + (r.val + 512 - 2) % 512 by omega)))
  have b1 : back1 i (uBlk x w1) h1 s (dn r) j = if 8 ≤ (i 0).val then (if r.val % 8 = 0 then k1 (ix2 r j) else ub (ix2 ⟨(r.val + 512 - 1) % 512, Nat.mod_lt _ (by decide)⟩ j))
          else if r.val = 0 then k0_pay16 (F := Ideal) ut (ix2 0 j) else ub (ix2 ⟨(r.val + 512 - 1) % 512, Nat.mod_lt _ (by decide)⟩ j) := by
    rw [last7, hut, hub, h1']
    unfold back1
    show (if 8 ≤ (i 0).val ∧ (512 + r.val) % 8 = 0 then _ else if 512 + r.val = 0 then _ else _) = _
    rw [if_neg (show ¬ 512 + r.val = 0 by omega), e1]
    by_cases hs : 8 ≤ (i 0).val
    · by_cases hr : r.val % 8 = 0
      · rw [if_pos ⟨hs, hr⟩, if_pos hs, if_pos hr]
      · rw [if_neg (fun h => hr h.2), if_pos hs, if_neg hr]
        exact congrArg (uBlk x w1) (congrArg (fun r => ix2 r j) (Fin.ext (show 512 + r.val - 1 = 512 + (r.val + 512 - 1) % 512 by omega)))
    · rw [if_neg (fun h => hs h.1), if_neg hs]
      by_cases h0 : r.val = 0
      · rw [if_pos h0]
        exact congrArg (uBlk x w1) (congrArg (fun r => ix2 r j) (Fin.ext (show 512 + r.val - 1 = 511 by omega)))
      · rw [if_neg h0]
        exact congrArg (uBlk x w1) (congrArg (fun r => ix2 r j) (Fin.ext (show 512 + r.val - 1 = 512 + (r.val + 512 - 1) % 512 by omega)))
  rw [← b1, ← b2, hg, hub]
  rfl

/-- The upper half's result, whose rows above the first are those carried in. -/
theorem z_upp (i : grid0.Coords) (x : FVec Ideal S1024x4096 .bf16) (w0 w1 : FVec Ideal S4096x256 .f32) (cw : FVec Ideal S3x256 .f32)
    (cb : FVec Ideal S1x256 .f32) (h1 h2 : FVec Ideal S1024x256 .f32) (s : FVec Ideal S43x8x256 .f32) (sv : FVec Ideal S1x8x256 .f32)
    (ut g k1 k2 : FVec Ideal S512x256 .f32) (hut : ∀ r j, ut (ix2 r j) = uBlk x w1 (ix2 (up r) j)) (hs : ∀ k j, sv (ix3 0 k j) = s (ix3 (i 1) k j))
    (hg : ∀ r j, g (ix2 r j) = gBlk x w0 (ix2 (up r) j)) (h1' : ∀ r j, k1 (ix2 r j) = h1 (ix2 (up r) j)) (h2' : ∀ r j, k2 (ix2 r j) = h2 (ix2 (up r) j))
    (r : Fin 512) (j : Fin 256) :
    k0_pay14 (F := Ideal) (Scalar.cmpi .sge (BitVec.ofNat 32 (i 0).val) 8#32) (k0_pay3 cw) cb (k0_pay5 i sv) (k0_pay6 i sv) (iota .tc S512x256 32 [0] iota_S512x256_d0_w32) (k0_pay7 i) ut g k1 k2 (ix2 r j)
      = zBlk i x w0 w1 cw cb h1 h2 s (ix2 (up r) j) := by
  rw [z_top, carry6, carry7, hs, hs]
  have b2 : back2 i (uBlk x w1) h2 s (up r) j = if 8 ≤ (i 0).val then (if r.val % 8 < 2 then k2 (ix2 r j) else ut (ix2 ⟨(r.val + 512 - 2) % 512, Nat.mod_lt _ (by decide)⟩ j))
          else if r.val = 0 then carried i s 6 j else if r.val = 1 then carried i s 7 j else ut (ix2 ⟨(r.val + 512 - 2) % 512, Nat.mod_lt _ (by decide)⟩ j) := by
    rw [hut, h2']
    unfold back2
    show (if 8 ≤ (i 0).val ∧ r.val % 8 < 2 then _ else if r.val = 0 then _ else if r.val = 1 then _ else _) = _
    by_cases hs : 8 ≤ (i 0).val
    · by_cases hr : r.val % 8 < 2
      · rw [if_pos ⟨hs, hr⟩, if_pos hs, if_pos hr]
      · rw [if_neg (fun h => hr h.2), if_pos hs, if_neg hr, if_neg (by omega), if_neg (by omega)]
        exact congrArg (uBlk x w1) (congrArg (fun r => ix2 r j) (Fin.ext (show r.val - 2 = (r.val + 512 - 2) % 512 by omega)))
    · rw [if_neg (fun h => hs h.1), if_neg hs]
      by_cases h0 : r.val = 0
      · rw [if_pos h0, if_pos h0]
      · by_cases h1 : r.val = 1
        · rw [if_neg h0, if_pos h1, if_neg h0, if_pos h1]
        · rw [if_neg h0, if_neg h1, if_neg h0, if_neg h1]
          exact congrArg (uBlk x w1) (congrArg (fun r => ix2 r j) (Fin.ext (show r.val - 2 = (r.val + 512 - 2) % 512 by omega)))
  have b1 : back1 i (uBlk x w1) h1 s (up r) j = if 8 ≤ (i 0).val then (if r.val % 8 = 0 then k1 (ix2 r j) else ut (ix2 ⟨(r.val + 512 - 1) % 512, Nat.mod_lt _ (by decide)⟩ j))
          else if r.val = 0 then carried i s 7 j else ut (ix2 ⟨(r.val + 512 - 1) % 512, Nat.mod_lt _ (by decide)⟩ j) := by
    rw [hut, h1']
    unfold back1
    show (if 8 ≤ (i 0).val ∧ r.val % 8 = 0 then _ else if r.val = 0 then _ else _) = _
    by_cases hs : 8 ≤ (i 0).val
    · by_cases hr : r.val % 8 = 0
      · rw [if_pos ⟨hs, hr⟩, if_pos hs, if_pos hr]
      · rw [if_neg (fun h => hr h.2), if_pos hs, if_neg hr, if_neg (by omega)]
        exact congrArg (uBlk x w1) (congrArg (fun r => ix2 r j) (Fin.ext (show r.val - 1 = (r.val + 512 - 1) % 512 by omega)))
    · rw [if_neg (fun h => hs h.1), if_neg hs]
      by_cases h0 : r.val = 0
      · rw [if_pos h0, if_pos h0]
      · rw [if_neg h0, if_neg h0]
        exact congrArg (uBlk x w1) (congrArg (fun r => ix2 r j) (Fin.ext (show r.val - 1 = (r.val + 512 - 1) % 512 by omega)))
  unfold carried at b1 b2
  rw [← b1, ← b2, hg, hut]
  rfl

/-! ### What the point loads and stores -/

/-- The offset of a column strip's plane in the carried rows. -/
theorem plane (i : grid0.Coords) : k0_off1 i = ![(i 1).val, 0, 0] := by
  have h : ∀ n : Fin 43, (Scalar.indexCast (BitVec.ofNat 32 n.val) : BitVec 32).toNat = n.val := by decide
  exact congrArg (fun n => ![n, 0, 0]) (h ⟨(i 1).val, (i 1).isLt⟩)

theorem whole_w (x : FVec Ideal S4096x256 .f32) :
    View.ld (Val := Elt Ideal) (S := S4096x256) (e' := .f32) x (Rect.unit ![0, 0] S4096x256.size inb_S4096x256_S4096x256_0_0) = x := by
  have h : (![0, 0] : Fin 2 → Nat) = fun _ => 0 := by funext a; fin_cases a <;> rfl
  exact View.ld_unit_zero (Val := Elt Ideal) (e := .f32) (S := S4096x256) h _ x

theorem whole_cw (x : FVec Ideal S3x256 .f32) :
    View.ld (Val := Elt Ideal) (S := S3x256) (e' := .f32) x (Rect.unit ![0, 0] S3x256.size inb_S3x256_S3x256_0_0) = x := by
  have h : (![0, 0] : Fin 2 → Nat) = fun _ => 0 := by funext a; fin_cases a <;> rfl
  exact View.ld_unit_zero (Val := Elt Ideal) (e := .f32) (S := S3x256) h _ x

theorem whole_cb (x : FVec Ideal S1x256 .f32) :
    View.ld (Val := Elt Ideal) (S := S1x256) (e' := .f32) x (Rect.unit ![0, 0] S1x256.size inb_S1x256_S1x256_0_0) = x := by
  have h : (![0, 0] : Fin 2 → Nat) = fun _ => 0 := by funext a; fin_cases a <;> rfl
  exact View.ld_unit_zero (Val := Elt Ideal) (e := .f32) (S := S1x256) h _ x

theorem rows_up (x : FVec Ideal S1024x4096 .bf16) (r : Fin 512) (k : Fin 4096) :
    View.ld (Val := Elt Ideal) (S := S1024x4096) (e' := .bf16) x (Rect.unit ![0, 0] S512x4096.size inb_S1024x4096_S512x4096_0_0) (ix2 r k) = x (ix2 (up r) k) := by
  refine View.ld_unit_apply_of (Val := Elt Ideal) (e := .bf16) (S := S1024x4096) x _ _ _ _ _ ?_
  intro a
  fin_cases a <;> exact (Nat.zero_add _).symm

theorem rows_dn (x : FVec Ideal S1024x4096 .bf16) (r : Fin 512) (k : Fin 4096) :
    View.ld (Val := Elt Ideal) (S := S1024x4096) (e' := .bf16) x (Rect.unit ![512, 0] S512x4096.size inb_S1024x4096_S512x4096_512_0) (ix2 r k) = x (ix2 (dn r) k) := by
  refine View.ld_unit_apply_of (Val := Elt Ideal) (e := .bf16) (S := S1024x4096) x _ _ _ _ _ ?_
  intro a
  fin_cases a
  · rfl
  · exact (Nat.zero_add _).symm

theorem hist_up (x : FVec Ideal S1024x256 .f32) (r : Fin 512) (k : Fin 256) :
    View.ld (Val := Elt Ideal) (S := S1024x256) (e' := .f32) x (Rect.unit ![0, 0] S512x256.size inb_S1024x256_S512x256_0_0) (ix2 r k) = x (ix2 (up r) k) := by
  refine View.ld_unit_apply_of (Val := Elt Ideal) (e := .f32) (S := S1024x256) x _ _ _ _ _ ?_
  intro a
  fin_cases a <;> exact (Nat.zero_add _).symm

theorem hist_dn (x : FVec Ideal S1024x256 .f32) (r : Fin 512) (k : Fin 256) :
    View.ld (Val := Elt Ideal) (S := S1024x256) (e' := .f32) x (Rect.unit ![512, 0] S512x256.size inb_S1024x256_S512x256_512_0) (ix2 r k) = x (ix2 (dn r) k) := by
  refine View.ld_unit_apply_of (Val := Elt Ideal) (e := .f32) (S := S1024x256) x _ _ _ _ _ ?_
  intro a
  fin_cases a
  · rfl
  · exact (Nat.zero_add _).symm

theorem strip (i : grid0.Coords) (s : FVec Ideal S43x8x256 .f32) (k : Fin 8) (j : Fin 256) :
    View.ld (Val := Elt Ideal) (S := S43x8x256) (e' := .f32) s (Rect.unit (k0_off1 i) S1x8x256.size (k0_off1_inb i)) (ix3 0 k j) = s (ix3 (i 1) k j) := by
  refine View.ld_unit_apply_of (Val := Elt Ideal) (e := .f32) (S := S43x8x256) s _ _ _ _ _ ?_
  intro a
  refine Eq.trans ?_ (congrArg (· + ((ix3 (0 : Fin 1) k j : S1x8x256.Idx) a).val) (congrFun (plane i) a)).symm
  fin_cases a
  · rfl
  · exact (Nat.zero_add _).symm
  · exact (Nat.zero_add _).symm

theorem utop_eq (x : FVec Ideal S1024x4096 .bf16) (w1 : FVec Ideal S4096x256 .f32) (r : Fin 512) (j : Fin 256) :
    k0_pay10 (F := Ideal) w1 (View.ld (Val := Elt Ideal) (S := S1024x4096) (e' := .bf16) x (Rect.unit ![0, 0] S512x4096.size inb_S1024x4096_S512x4096_0_0)) (ix2 r j) = uBlk x w1 (ix2 (up r) j) := by
  rw [u_top]
  exact Finset.sum_congr rfl fun k _ => congrArg (· * w1 (ix2 k j)) (rows_up x r k)

theorem ubot_eq (x : FVec Ideal S1024x4096 .bf16) (w1 : FVec Ideal S4096x256 .f32) (r : Fin 512) (j : Fin 256) :
    k0_pay12 (F := Ideal) w1 (View.ld (Val := Elt Ideal) (S := S1024x4096) (e' := .bf16) x (Rect.unit ![512, 0] S512x4096.size inb_S1024x4096_S512x4096_512_0)) (ix2 r j) = uBlk x w1 (ix2 (dn r) j) := by
  rw [u_bot]
  exact Finset.sum_congr rfl fun k _ => congrArg (· * w1 (ix2 k j)) (rows_dn x r k)

theorem gtop_eq (x : FVec Ideal S1024x4096 .bf16) (w0 : FVec Ideal S4096x256 .f32) (r : Fin 512) (j : Fin 256) :
    k0_pay11 (F := Ideal) w0 (View.ld (Val := Elt Ideal) (S := S1024x4096) (e' := .bf16) x (Rect.unit ![0, 0] S512x4096.size inb_S1024x4096_S512x4096_0_0)) (ix2 r j) = gBlk x w0 (ix2 (up r) j) := by
  rw [g_top]
  exact Finset.sum_congr rfl fun k _ => congrArg (· * w0 (ix2 k j)) (rows_up x r k)

theorem gbot_eq (x : FVec Ideal S1024x4096 .bf16) (w0 : FVec Ideal S4096x256 .f32) (r : Fin 512) (j : Fin 256) :
    k0_pay13 (F := Ideal) w0 (View.ld (Val := Elt Ideal) (S := S1024x4096) (e' := .bf16) x (Rect.unit ![512, 0] S512x4096.size inb_S1024x4096_S512x4096_512_0)) (ix2 r j) = gBlk x w0 (ix2 (dn r) j) := by
  rw [g_bot]
  exact Finset.sum_congr rfl fun k _ => congrArg (· * w0 (ix2 k j)) (rows_dn x r k)

section Loads
variable {κ : Kind} {sp : Space}

/-- A load through a buffer that holds `x` is the load from `x`. -/
theorem load_of {S : Shape} {e : EltTy} (m : Memref sig κ sp S e) (h : m.IsWhole) (x : S.Idx → Elt Ideal e) (R : Rect S) :
    View.readAt (Elt Ideal) m.view R.toLoadRect (h.unread x) = View.ld x R :=
  congrArg (fun X => View.ld X R) (h.read_unread x)

theorem load_w (m : Memref sig κ sp S4096x256 .f32) (h : m.IsWhole) (x : FVec Ideal S4096x256 .f32) :
    View.readAt (Elt Ideal) m.view (Rect.unit ![0, 0] S4096x256.size inb_S4096x256_S4096x256_0_0).toLoadRect (h.unread x) = x :=
  (load_of m h x _).trans (whole_w x)

theorem load_cw (m : Memref sig κ sp S3x256 .f32) (h : m.IsWhole) (x : FVec Ideal S3x256 .f32) :
    View.readAt (Elt Ideal) m.view (Rect.unit ![0, 0] S3x256.size inb_S3x256_S3x256_0_0).toLoadRect (h.unread x) = x :=
  (load_of m h x _).trans (whole_cw x)

theorem load_cb (m : Memref sig κ sp S1x256 .f32) (h : m.IsWhole) (x : FVec Ideal S1x256 .f32) :
    View.readAt (Elt Ideal) m.view (Rect.unit ![0, 0] S1x256.size inb_S1x256_S1x256_0_0).toLoadRect (h.unread x) = x :=
  (load_of m h x _).trans (whole_cb x)

end Loads

/-- The carried rows after the point's store of its strip. -/
theorem carry_read {κ : Kind} {sp : Space} (v : View sig κ sp S43x8x256 .f32) (f : v.ty.Contents (Elt Ideal)) (i : grid0.Coords)
    (x : FVec Ideal S1024x4096 .bf16) (w1 : FVec Ideal S4096x256 .f32) (ub : FVec Ideal S512x256 .f32) (hub : ∀ r j, ub (ix2 r j) = uBlk x w1 (ix2 (dn r) j)) :
    v.read (Elt Ideal) (v.writes (Elt Ideal) f [⟨Rect.unit (k0_off1 i) S1x8x256.size (k0_off1_inb i), k0_pay2 (F := Ideal) ub⟩])
      = sNext i (uBlk x w1) (v.read (Elt Ideal) f) := by
  funext y
  obtain ⟨n, k, j, rfl⟩ : ∃ (n : Fin 43) (k : Fin 8) (j : Fin 256), y = ix3 n k j := ⟨y 0, y 1, y 2, by funext a; fin_cases a <;> rfl⟩
  unfold sNext
  show _ = if n.val = (i 1).val then _ else _
  by_cases h : n.val = (i 1).val
  · rw [if_pos h, View.read_writes_cons_hit_of_coords v f _ _ _ (ix3 0 k j) (ix3 n k j) (by
      intro a
      refine Eq.trans ?_ (congrArg (· + 1 * ((ix3 (0 : Fin 1) k j : S1x8x256.Idx) a).val) (congrFun (plane i) a)).symm
      fin_cases a
      · show n.val = (i 1).val + 1 * 0; omega
      · show k.val = 0 + 1 * k.val; omega
      · show j.val = 0 + 1 * j.val; omega)]
    rw [tail8, hub]
    exact congrArg (uBlk x w1) (congrArg (fun r => ix2 r j) (Fin.ext (show 512 + (504 + k.val) = 1016 + k.val by omega)))
  · rw [if_neg h, View.read_writes_cons_miss_of_axis v f _ _ _ 0 (i 1).val 1 (congrFun (plane i) 0) rfl rfl (by show n.val < _ ∨ _ ≤ n.val; omega)]
    rfl

end Cert.Kernel4Ideal.Ffn

end
-- ==== Proof.FfnBody.lean ====
module

public import proofs.«01_k».proof.Proof.FfnPure
public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

set_option maxHeartbeats 2000000 in
theorem run (c : Dev nD) (i : grid0.Coords) (arg2 : Memref sig .tc .vmem S1024x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S43x8x256 .f32) (harg11 : arg11.IsWhole)
    (x0 : FVec Ideal S1024x4096 .bf16) (x1 x2 : FVec Ideal S4096x256 .f32) (x3 : FVec Ideal S3x256 .f32) (x4 : FVec Ideal S1x256 .f32) (x5 x6 : FVec Ideal S1024x256 .f32)
    (s : FVec Ideal S43x8x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (zBlk i x0 x1 x2 x3 x4 x5 x6 s) ∗ owns (c : Thread nD τ) arg10 fullShare (uBlk x0 x2)
            ∗ owns (c : Thread nD τ) arg11 fullShare (sNext i (uBlk x0 x2) s)) -∗ K ⟨⟩))
      ⊢ wp frame (wpE (defs₀ (F := Ideal)) Variants.none c none) E (cc0_ffn_in i arg2 harg2 arg3 harg3 arg4 harg4 arg5 harg5 arg6 harg6 arg7 harg7 arg8 harg8 arg9 harg9 arg10 harg10 arg11 harg11) K := by
  simp only [cc0_ffn_in_eq_skeleton]; unfold cc0_ffn_in_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg11.eq_unread hfs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [load_w arg3 harg3 x1, load_w arg4 harg4 x2, load_cw arg5 harg5 x3, load_cb arg6 harg6 x4]
    simp -zeta -beta -proj only [load_of arg2 harg2 x0, load_of arg7 harg7 x5, load_of arg8 harg8 x6, load_of arg11 harg11 s]
    exact halves arg9.view f7 _ _ _
      (z_upp i x0 x1 x2 x3 x4 x5 x6 s _ _ _ _ _ (utop_eq x0 x2) (strip i s) (gtop_eq x0 x1) (hist_up x5) (hist_up x6))
      (z_low i x0 x1 x2 x3 x4 x5 x6 s _ _ _ _ _ (utop_eq x0 x2) (ubot_eq x0 x2) (gbot_eq x0 x1) (hist_dn x5) (hist_dn x6))
  isplitl [H8]
  · iexists _; isplitr; swap; · iexact H8
    ipureintro
    sl_unfold_words
    rw [load_w arg4 harg4 x2]
    simp -zeta -beta -proj only [load_of arg2 harg2 x0]
    exact halves arg10.view f8 _ _ _ (utop_eq x0 x2) (ubot_eq x0 x2)
  iexists _; isplitr; swap; · iexact HS
  ipureintro
  sl_unfold_words
  rw [load_w arg4 harg4 x2]
  simp -zeta -beta -proj only [load_of arg2 harg2 x0]
  refine (carry_read arg11.view (harg11.unread s) i x0 x2 _ (ubot_eq x0 x2)).trans ?_
  rw [harg11.read_unread]

end Cert.Kernel4Ideal.Ffn

end
-- ==== Proof.FfnRun.lean ====
module

public import proofs.«01_k».proof.Proof.FfnBody
public import Idealize.ShloMosaic.Lib.Claim

@[expose] public section

set_option maxRecDepth 16384

/-! The launch: every grid point leaves its blocks of the two outputs, the rows carried from block to block tracked point by point. -/

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ### The carried rows -/

/-- A point's row block and column strip. -/
theorem coords : ∀ t : Fin cfg0.N, ((cfg0.grid.coords t) 0).val = t.val / 43 ∧ ((cfg0.grid.coords t) 1).val = t.val % 43 :=
  (by decide +kernel : ∀ t : Fin grid0.N, ((grid0.coords t) 0).val = t.val / 43 ∧ ((grid0.coords t) 1).val = t.val % 43)

/-- The convolution's input at point `t`. -/
def uPt (c : Dev nD) (t : Fin cfg0.N) : FVec Ideal S1024x256 .f32 := uBlk (iblk m c 0 t) (iblk m c 2 t)

/-- The rows that point `t` finds carried in its strip: the last eight of the block above. -/
def sPt (c : Dev nD) (t : Fin cfg0.N) : FVec Ideal S43x8x256 .f32 :=
  fun y => if h : 43 ≤ t.val then uPt m c ⟨t.val - 43, by omega⟩ (ix2 ⟨1016 + (y 1).val, by have : (y 1).val < 8 := (y 1).isLt; omega⟩ (y 2)) else 0

/-- The result at point `t`. -/
def zPt (c : Dev nD) (t : Fin cfg0.N) : FVec Ideal S1024x256 .bf16 :=
  zBlk (grid0.coords t) (iblk m c 0 t) (iblk m c 1 t) (iblk m c 2 t) (iblk m c 3 t) (iblk m c 4 t) (iblk m c 5 t) (iblk m c 6 t) (sPt m c t)

/-- Before point `n` the scratch holds, for each of the forty-three points before it, the last eight rows of that point's block. -/
def Inv (c : Dev nD) (n : Nat) (s : FVec Ideal S43x8x256 .f32) : Prop :=
  ∀ t' : Fin cfg0.N, t'.val < n → n ≤ t'.val + 43 → ∀ (k : Fin 8) (j : Fin 256),
    s (ix3 ⟨t'.val % 43, Nat.mod_lt _ (by decide)⟩ k j) = uPt m c t' (ix2 ⟨1016 + k.val, by omega⟩ j)

/-- The carried rows enter only through the point's own strip, and only below the first block. -/
theorem zBlk_congr (i : grid0.Coords) (x : FVec Ideal S1024x4096 .bf16) (w0 w1 : FVec Ideal S4096x256 .f32) (cw : FVec Ideal S3x256 .f32)
    (cb : FVec Ideal S1x256 .f32) (h1 h2 : FVec Ideal S1024x256 .f32) (s s' : FVec Ideal S43x8x256 .f32)
    (h : (i 0).val ≠ 0 → ∀ (k : Fin 8) (j : Fin 256), s (ix3 (i 1) k j) = s' (ix3 (i 1) k j)) :
    zBlk i x w0 w1 cw cb h1 h2 s = zBlk i x w0 w1 cw cb h1 h2 s' := by
  have hc : ∀ k j, carried i s k j = carried i s' k j := fun k j => by
    unfold carried
    split
    · rfl
    · next h0 => exact h h0 k j
  have e2 : ∀ u r j, back2 i u h2 s r j = back2 i u h2 s' r j := fun u r j => by unfold back2; rw [hc, hc]
  have e1 : ∀ u r j, back1 i u h1 s r j = back1 i u h1 s' r j := fun u r j => by unfold back1; rw [hc]
  funext y
  exact congrArg₂ (fun p q => taps (gBlk x w0 y) (cb (ix2 0 (y 1))) p (cw (ix2 0 (y 1))) q (cw (ix2 1 (y 1))) (uBlk x w1 y) (cw (ix2 2 (y 1))))
    (e2 (uBlk x w1) (y 0) (y 1)) (e1 (uBlk x w1) (y 0) (y 1))

theorem zPt_of (c : Dev nD) (t : Fin cfg0.N) (s : FVec Ideal S43x8x256 .f32) (hs : Inv m c t.val s) :
    zBlk (grid0.coords t) (iblk m c 0 t) (iblk m c 1 t) (iblk m c 2 t) (iblk m c 3 t) (iblk m c 4 t) (iblk m c 5 t) (iblk m c 6 t) s = zPt m c t := by
  refine zBlk_congr _ _ _ _ _ _ _ _ s (sPt m c t) fun h0 k j => ?_
  obtain ⟨hc0, hc1⟩ := coords t
  have h8 : 43 ≤ t.val := by
    have : (grid0.coords t 0).val = t.val / 43 := hc0
    omega
  have e : ((grid0.coords t) 1) = (⟨(t.val - 43) % 43, Nat.mod_lt _ (by decide)⟩ : Fin 43) := Fin.ext (by
    have : (grid0.coords t 1).val = t.val % 43 := hc1
    show _ = (t.val - 43) % 43
    omega)
  unfold sPt
  rw [dif_pos h8]
  refine Eq.trans ?_ (hs ⟨t.val - 43, by omega⟩ (by show t.val - 43 < t.val; omega) (by show t.val ≤ t.val - 43 + 43; omega) k j)
  exact congrArg (fun n => s (ix3 n k j)) e

theorem inv_zero (c : Dev nD) (s : FVec Ideal S43x8x256 .f32) : Inv m c 0 s := fun _ h => absurd h (Nat.not_lt_zero _)

theorem inv_step (c : Dev nD) (t : Fin cfg0.N) (s : FVec Ideal S43x8x256 .f32) (hs : Inv m c t.val s) :
    Inv m c (t.val + 1) (sNext (grid0.coords t) (uPt m c t) s) := by
  intro t' h1 h2 k j
  have hc1 : (grid0.coords t 1).val = t.val % 43 := (coords t).2
  unfold sNext
  show (if t'.val % 43 = (grid0.coords t 1).val then _ else _) = _
  rw [hc1]
  by_cases he : t' = t
  · subst he; rw [if_pos rfl]; rfl
  · have hne : t'.val ≠ t.val := fun h => he (Fin.ext h)
    rw [if_neg (by omega)]
    exact hs t' (by omega) (by omega) k j

/-! ### The proof data -/

/-- The proof data: inputs keep their blocks, the two outputs leave the point's, the scratch holds the carried rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => zPt m c t
    | ⟨8, _⟩ => uPt m c t
  Φ t := iprop((∃ s, ⌜Inv m c t.val s⌝ ∗ owns (c : Thread nD τ) (Memref.whole cc0_scratch0) fullShare s) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem Φ_eq (c : Dev nD) (t) : (dats m 0 c).Φ t
    = iprop((∃ s, ⌜Inv m c t.val s⌝ ∗ owns (c : Thread nD τ) (Memref.whole cc0_scratch0) fullShare s) ∗ (∃ r, prngReg c r)) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = zPt m c t := by dsimp only [dats]
theorem after_8 (c : Dev nD) (t : Fin cfg0.N) : (dats m 0 c).after 8 t = uPt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ### The body's obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, after_0, after_1, after_2, after_3, after_4, after_5, after_6, after_7, after_8]
  rw [show (dats m 0 c).Φ t.castSucc = iprop((∃ s, ⌜Inv m c t.val s⌝ ∗ owns (c : Thread nD τ) (Memref.whole cc0_scratch0) fullShare s) ∗ (∃ r, prngReg c r)) from rfl,
    show (dats m 0 c).Φ t.succ = iprop((∃ s, ⌜Inv m c (t.val + 1) s⌝ ∗ owns (c : Thread nD τ) (Memref.whole cc0_scratch0) fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← zPt_of m c t s hs]
  unfold uPt
  iapply (run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS Hg]
  · isplitl [HS]
    · iexists _
      isplitr; swap; · iexact HS
      ipureintro
      exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body at the point. -/
theorem row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row]
  exact triple_restated (sound_body m c t) rfl .rfl fun _ => .rfl

/-! ### The run -/

theorem scratch_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

theorem enter (c : Dev nD) : (Pipeline.ΦA spec0 c : sProp 𝕄) ⊢ (dats m 0 c).Φ 0 := by
  rw [scratch_eq, Φ_eq]
  iintro ⟨⟨%d, H⟩, Hg⟩
  isplitl [H]
  · iexists d
    isplitr; swap; · iexact H
    ipureintro
    exact inv_zero m c d
  iexact Hg

theorem leave (c : Dev nD) : (dats m 0 c).Φ (Fin.last cfg0.N) ⊢ (Pipeline.ΦA spec0 c : sProp 𝕄) := by
  rw [scratch_eq, Φ_eq]
  iintro ⟨⟨%d, -, H⟩, Hg⟩
  isplitl [H]
  · iexists d; iexact H
  iexact Hg

set_option backward.isDefEq.respectTransparency.types false in
/-- The launch: every window's array ends as the proof data says, and every counter at zero. -/
theorem run_all : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

end Cert.Kernel4Ideal.Ffn

end
-- ==== Proof.FfnSpec.lean ====
module

public import Idealize.ShloMosaic.Lib.Pipeline.ValueKit

@[expose] public section

/-! The gated feed-forward projection over prompt and sample rows, in plain sums and choices. -/

noncomputable section

namespace Cert.FfnSpec

open Idealize.ShloMosaic

/-- The arguments: all rows, the samples' two rows of history, the projection, the taps and the bias. -/
structure Args where
  x : Fin 9216 → Fin 4096 → EReal
  hist : Fin 128 → Fin 2 → Fin 11008 → EReal
  w : Fin 4096 → Fin 22016 → EReal
  tap : Fin 3 → Fin 11008 → EReal
  bias : Fin 11008 → EReal

variable (a : Args)

/-- A row's projection on a column. -/
def proj (R : Fin 9216) (j : Fin 22016) : EReal := ∑ k : Fin 4096, a.x R k * a.w k j

/-- The convolution's input: the first half of the columns. -/
def u (R : Fin 9216) (J : Fin 11008) : EReal := proj a R ⟨J.val, by omega⟩

/-- The other factor: the second half. -/
def gate (R : Fin 9216) (J : Fin 11008) : EReal := proj a R ⟨11008 + J.val, by omega⟩

/-- The input one row before in the same sequence: zero before the prompt, the history before a sample. -/
def prev1 (R : Fin 9216) (J : Fin 11008) : EReal :=
  if h : 8192 ≤ R.val then
    if R.val % 8 = 0 then a.hist ⟨(R.val - 8192) / 8, by omega⟩ 1 J else u a ⟨R.val - 1, by omega⟩ J
  else if R.val = 0 then 0 else u a ⟨R.val - 1, by omega⟩ J

/-- The input two rows before in the same sequence. -/
def prev2 (R : Fin 9216) (J : Fin 11008) : EReal :=
  if h : 8192 ≤ R.val then
    if R.val % 8 = 0 then a.hist ⟨(R.val - 8192) / 8, by omega⟩ 0 J
    else if R.val % 8 = 1 then a.hist ⟨(R.val - 8192) / 8, by omega⟩ 1 J else u a ⟨R.val - 2, by omega⟩ J
  else if R.val < 2 then 0 else u a ⟨R.val - 2, by omega⟩ J

/-- The convolution. -/
def conv (R : Fin 9216) (J : Fin 11008) : EReal := a.bias J + prev2 a R J * a.tap 0 J + prev1 a R J * a.tap 1 J + u a R J * a.tap 2 J

/-- The result: the convolution weighed by its own logistic, times the other factor. -/
def z (R : Fin 9216) (J : Fin 11008) : EReal := conv a R J * Ideal.logistic (conv a R J) * gate a R J

end Cert.FfnSpec

end
-- ==== Proof.FfnEntry.lean ====
module

public import proofs.«01_k».proof.Proof.FfnRun
public import proofs.«01_k».proof.Proof.FfnSpec
public import proofs.«01_k».proof.Proof.Rows

@[expose] public section

set_option maxRecDepth 16384

/-! The arrays the region finds, entry by entry over the arguments. -/

noncomputable section

namespace Cert.Kernel4Ideal.Ffn

open Cert.Kernel4Ideal Cert.Kernel4Ideal.Gen
open Idealize.ShloMosaic Idealize.ShloMosaic.TcCoe Idealize.ShloMosaic.Tactic

variable (m : (ℓ : Loc nD τ sig) → Buf (Elt Ideal) ℓ)

/-- The arguments read off the memory. -/
def args (c : Dev nD) : FfnSpec.Args where
  x R k := m ((c : Thread nD τ).loc main_arg0) (ix2 R k)
  hist n r J := m ((c : Thread nD τ).loc main_arg4) (ix4 0 n r J)
  w k j := m ((c : Thread nD τ).loc main_arg1) (ix3 0 k j)
  tap q J := m ((c : Thread nD τ).loc main_arg2) (ix3 0 q J)
  bias J := m ((c : Thread nD τ).loc main_arg3) (ix2 0 J)

/-- The projection as the region finds it. -/
theorem eW (c : Dev nD) (k : Fin 4096) (j : Fin 22016) : V m c main_v8 (ix2 k j) = (args m c).w k j := by
  entry_read
  pointwise!
/-- The taps. -/
theorem eTap (c : Dev nD) (k : Fin 3) (j : Fin 11008) : V m c main_v9 (ix2 k j) = (args m c).tap k j := by
  entry_read
  pointwise!
set_option maxHeartbeats 1000000 in
/-- The history one row back, at a sample's first row. -/
theorem eHist1 (c : Dev nD) (r : Fin 1024) (j : Fin 11008) (h : r.val % 8 = 0) : V m c main_v6 (ix2 r j) = (args m c).hist ⟨r.val / 8, by omega⟩ 1 j := by
  unfold V hostOps0
  simp only [StableHlo.after_cons, StableHlo.after_nil, StableHlo.readResult]
  rw [StableHlo.nary_result]
  refine (Rows.flat _ _ r j ⟨r.val / 8, by omega⟩ ⟨r.val % 8, by omega⟩ (by show r.val = r.val / 8 * 8 + r.val % 8; omega)).trans ?_
  refine (Rows.first_of_three _ _ _ _ _ _ _ h).trans ?_
  show (StableHlo.unary main_cst_0 main_v3 _ _ _).result _ (Proc.tc.devRef main_v2) _ = _
  simp only [StableHlo.readResult]
  refine Eq.trans ?_ (Rows.drop (m (c, Proc.tc.devRef main_arg4)) shapeCasts_S1x128x2x11008_S128x2x11008 ⟨r.val / 8, by omega⟩ 1 j)
  pointwise!
set_option maxHeartbeats 1000000 in
/-- The history two rows back, at a sample's first two rows. -/
theorem eHist2 (c : Dev nD) (r : Fin 1024) (j : Fin 11008) (h : r.val % 8 < 2) : V m c main_v7 (ix2 r j) = (args m c).hist ⟨r.val / 8, by omega⟩ ⟨r.val % 8, h⟩ j := by
  entry_read
  refine (Rows.flat _ _ r j ⟨r.val / 8, by omega⟩ ⟨r.val % 8, by omega⟩ (by show r.val = r.val / 8 * 8 + r.val % 8; omega)).trans ?_
  refine (Rows.after_fst _ _ _ _ _ _ h).trans ?_
  exact Rows.drop (m (c, Proc.tc.devRef main_arg4)) shapeCasts_S1x128x2x11008_S128x2x11008 _ _ _
end Cert.Kernel4Ideal.Ffn
end
-- ==== Proof.FfnValue.lean ====
module

public import proofs.«01_k».proof.Proof.FfnEntry
public import Idealize.ShloMosaic.Lib.Pipeline.ValueKit

@[expose] public section

set_option maxRecDepth 16384

/-! The two arrays the launch leaves, entry by entry. -/

noncomputable section

namespace Cert.Kernel4Ideal.Ffn

open Cert.Kernel4Ideal Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- Each window's block index at a point. -/
theorem idx : ∀ t : Fin cfg0.N, (win0_0.index t = ![t.val / 43, 0] ∧ win0_1.index t = ![0, 43 + t.val % 43] ∧ win0_2.index t = ![0, t.val % 43])
    ∧ (win0_3.index t = ![0, t.val % 43] ∧ win0_4.index t = ![0, t.val % 43] ∧ win0_7.index t = ![t.val / 43, t.val % 43] ∧ win0_8.index t = ![t.val / 43, t.val % 43])
    ∧ (8 ≤ t.val / 43 → win0_5.index t = ![0, t.val % 43] ∧ win0_6.index t = ![0, t.val % 43]) :=
  (by decide +kernel : ∀ t : Fin grid0.N, _)

theorem lt (t : Fin cfg0.N) : t.val < 387 := t.isLt

/-- The array row of a block's row. -/
abbrev rowOf (t : Fin cfg0.N) (r : Fin 1024) : Fin 9216 := ⟨1024 * (t.val / 43) + r.val, by have := lt t; omega⟩
/-- The array column of a block's column. -/
abbrev colOf (t : Fin cfg0.N) (j : Fin 256) : Fin 11008 := ⟨256 * (t.val % 43) + j.val, by omega⟩

/-! ### The staged blocks, entry by entry -/

theorem x_blk (c : Dev nD) (t : Fin cfg0.N) (r : Fin 1024) (k : Fin 4096) : iblk m c 0 t (ix2 r k) = (args m c).x (rowOf t r) k := by
  have e : (args m c).x (rowOf t r) k = V m c main_arg0 (ix2 (rowOf t r) k) := by rw [V_main_arg0]; rfl
  rw [e]
  unfold iblk
  blk_ext [idx t]

theorem w1_blk (c : Dev nD) (t : Fin cfg0.N) (k : Fin 4096) (j : Fin 256) :
    iblk m c 1 t (ix2 k j) = (args m c).w k ⟨11008 + (colOf t j).val, by have := (colOf t j).isLt; omega⟩ := by
  have e : (⟨11008 + (colOf t j).val, by have := (colOf t j).isLt; omega⟩ : Fin 22016) = ⟨256 * (43 + t.val % 43) + j.val, by omega⟩ :=
    Fin.ext (by show 11008 + (256 * (t.val % 43) + j.val) = 256 * (43 + t.val % 43) + j.val; omega)
  rw [e, ← eW]
  unfold iblk
  blk_ext [idx t]

theorem w2_blk (c : Dev nD) (t : Fin cfg0.N) (k : Fin 4096) (j : Fin 256) :
    iblk m c 2 t (ix2 k j) = (args m c).w k ⟨(colOf t j).val, by have := (colOf t j).isLt; omega⟩ := by
  rw [← eW]
  unfold iblk
  blk_ext [idx t]

theorem tap_blk (c : Dev nD) (t : Fin cfg0.N) (q : Fin 3) (j : Fin 256) : iblk m c 3 t (ix2 q j) = (args m c).tap q (colOf t j) := by
  rw [← eTap]
  unfold iblk
  blk_ext [idx t]

theorem bias_blk (c : Dev nD) (t : Fin cfg0.N) (j : Fin 256) : iblk m c 4 t (ix2 0 j) = (args m c).bias (colOf t j) := by
  have e : (args m c).bias (colOf t j) = V m c main_arg3 (ix2 0 (colOf t j)) := by rw [V_main_arg3]; rfl
  rw [e]
  unfold iblk
  blk_ext [idx t]

theorem hist1_blk (c : Dev nD) (t : Fin cfg0.N) (h : 8 ≤ t.val / 43) (r : Fin 1024) (j : Fin 256) (hr : r.val % 8 = 0) :
    iblk m c 5 t (ix2 r j) = (args m c).hist ⟨r.val / 8, by omega⟩ 1 (colOf t j) := by
  rw [← eHist1 m c r (colOf t j) hr]
  unfold iblk
  blk_ext [(idx t).2.2 h]

theorem hist2_blk (c : Dev nD) (t : Fin cfg0.N) (h : 8 ≤ t.val / 43) (r : Fin 1024) (j : Fin 256) (hr : r.val % 8 < 2) :
    iblk m c 6 t (ix2 r j) = (args m c).hist ⟨r.val / 8, by omega⟩ ⟨r.val % 8, hr⟩ (colOf t j) := by
  rw [← eHist2 m c r (colOf t j) hr]
  unfold iblk
  blk_ext [(idx t).2.2 h]

/-! ### A point's blocks, entry by entry -/

/-- A block's projection, its row and columns read off elsewhere. -/
theorem uBlk_of (x : FVec Ideal S1024x4096 .bf16) (w1 : FVec Ideal S4096x256 .f32) (r : Fin 1024) (j : Fin 256) (row p : Fin 4096 → EReal)
    (hx : ∀ k, x (ix2 r k) = row k) (h1 : ∀ k, w1 (ix2 k j) = p k) : uBlk x w1 (ix2 r j) = ∑ k, row k * p k := by
  show (∑ k : Fin 4096, x (ix2 r k) * w1 (ix2 k j)) = _
  simp only [hx, h1]

theorem gBlk_of (x : FVec Ideal S1024x4096 .bf16) (w0 : FVec Ideal S4096x256 .f32) (r : Fin 1024) (j : Fin 256) (row p : Fin 4096 → EReal)
    (hx : ∀ k, x (ix2 r k) = row k) (h0 : ∀ k, w0 (ix2 k j) = p k) : gBlk x w0 (ix2 r j) = ∑ k, row k * p k := by
  show (∑ k : Fin 4096, x (ix2 r k) * w0 (ix2 k j)) = _
  simp only [hx, h0]

/-- The convolution's input at a point is the array's at the rows and columns the point covers. -/
theorem u_pt (c : Dev nD) (t : Fin cfg0.N) (r : Fin 1024) (j : Fin 256) : uPt m c t (ix2 r j) = FfnSpec.u (args m c) (rowOf t r) (colOf t j) :=
  uBlk_of _ _ r j _ _ (fun k => x_blk m c t r k) (fun k => w2_blk m c t k j)

theorem g_pt (c : Dev nD) (t : Fin cfg0.N) (r : Fin 1024) (j : Fin 256) :
    gBlk (iblk m c 0 t) (iblk m c 1 t) (ix2 r j) = FfnSpec.gate (args m c) (rowOf t r) (colOf t j) :=
  gBlk_of _ _ r j _ _ (fun k => x_blk m c t r k) (fun k => w1_blk m c t k j)

/-- The carried rows are the array's just above the block. -/
theorem carried_pt (c : Dev nD) (t : Fin cfg0.N) (k : Fin 8) (j : Fin 256) :
    carried (grid0.coords t) (sPt m c t) k j
      = if h : t.val / 43 = 0 then 0 else FfnSpec.u (args m c) ⟨1024 * (t.val / 43) - 8 + k.val, by have := lt t; omega⟩ (colOf t j) := by
  have hc0 : (grid0.coords t 0).val = t.val / 43 := (coords t).1
  unfold carried
  rw [hc0]
  by_cases h : t.val / 43 = 0
  · rw [if_pos h, dif_pos h]
  · rw [if_neg h, dif_neg h]
    unfold sPt
    rw [dif_pos (by omega)]
    refine (u_pt m c _ _ _).trans ?_
    refine congrArg₂ (FfnSpec.u (args m c)) (Fin.ext ?_) (Fin.ext ?_)
    · show 1024 * ((t.val - 43) / 43) + (1016 + k.val) = 1024 * (t.val / 43) - 8 + k.val
      omega
    · show 256 * ((t.val - 43) % 43) + j.val = 256 * (t.val % 43) + j.val
      omega

theorem back1_pt (c : Dev nD) (t : Fin cfg0.N) (r : Fin 1024) (j : Fin 256) :
    back1 (grid0.coords t) (uPt m c t) (iblk m c 5 t) (sPt m c t) r j = FfnSpec.prev1 (args m c) (rowOf t r) (colOf t j) := by
  have hc0 : (grid0.coords t 0).val = t.val / 43 := (coords t).1
  have ht := lt t
  unfold back1 FfnSpec.prev1
  rw [hc0]
  by_cases h8 : 8 ≤ t.val / 43
  · rw [dif_pos (show 8192 ≤ (rowOf t r).val by show 8192 ≤ 1024 * (t.val / 43) + r.val; omega)]
    by_cases hr : r.val % 8 = 0
    · rw [if_pos ⟨h8, hr⟩, if_pos (show (1024 * (t.val / 43) + r.val) % 8 = 0 by omega), hist1_blk m c t h8 r j hr]
      exact congrArg (fun s => (args m c).hist s 1 (colOf t j)) (Fin.ext (by show r.val / 8 = (1024 * (t.val / 43) + r.val - 8192) / 8; omega))
    · rw [if_neg (fun h => hr h.2), if_neg (show ¬ (1024 * (t.val / 43) + r.val) % 8 = 0 by omega), if_neg (by omega), u_pt]
      exact congrArg (fun s => FfnSpec.u (args m c) s (colOf t j)) (Fin.ext (by show 1024 * (t.val / 43) + (r.val - 1) = 1024 * (t.val / 43) + r.val - 1; omega))
  · rw [dif_neg (show ¬ 8192 ≤ (rowOf t r).val by show ¬ 8192 ≤ 1024 * (t.val / 43) + r.val; omega), if_neg (fun h => h8 h.1)]
    by_cases hr : r.val = 0
    · rw [if_pos hr, carried_pt]
      by_cases h0 : t.val / 43 = 0
      · rw [dif_pos h0, if_pos (show 1024 * (t.val / 43) + r.val = 0 by omega)]
      · rw [dif_neg h0, if_neg (show ¬ 1024 * (t.val / 43) + r.val = 0 by omega)]
        exact congrArg (fun s => FfnSpec.u (args m c) s (colOf t j)) (Fin.ext (by show 1024 * (t.val / 43) - 8 + 7 = 1024 * (t.val / 43) + r.val - 1; omega))
    · rw [if_neg hr, if_neg (show ¬ 1024 * (t.val / 43) + r.val = 0 by omega), u_pt]
      exact congrArg (fun s => FfnSpec.u (args m c) s (colOf t j)) (Fin.ext (by show 1024 * (t.val / 43) + (r.val - 1) = 1024 * (t.val / 43) + r.val - 1; omega))

theorem back2_pt (c : Dev nD) (t : Fin cfg0.N) (r : Fin 1024) (j : Fin 256) :
    back2 (grid0.coords t) (uPt m c t) (iblk m c 6 t) (sPt m c t) r j = FfnSpec.prev2 (args m c) (rowOf t r) (colOf t j) := by
  have hc0 : (grid0.coords t 0).val = t.val / 43 := (coords t).1
  have ht := lt t
  have hu : ∀ (s : Fin 9216) (q : Fin 1024), 1024 * (t.val / 43) + q.val = s.val → uPt m c t (ix2 q j) = FfnSpec.u (args m c) s (colOf t j) := fun s q h =>
    (u_pt m c t q j).trans (congrArg (fun s => FfnSpec.u (args m c) s (colOf t j)) (Fin.ext h))
  unfold back2 FfnSpec.prev2
  rw [hc0]
  by_cases h8 : 8 ≤ t.val / 43
  · rw [dif_pos (show 8192 ≤ (rowOf t r).val by show 8192 ≤ 1024 * (t.val / 43) + r.val; omega)]
    have hq : (⟨r.val / 8, by omega⟩ : Fin 128) = ⟨((rowOf t r).val - 8192) / 8, by show (1024 * (t.val / 43) + r.val - 8192) / 8 < 128; omega⟩ :=
      Fin.ext (by show r.val / 8 = (1024 * (t.val / 43) + r.val - 8192) / 8; omega)
    by_cases hr : r.val % 8 < 2
    · rw [if_pos ⟨h8, hr⟩, hist2_blk m c t h8 r j hr, hq]
      by_cases hr0 : r.val % 8 = 0
      · rw [if_pos (show (1024 * (t.val / 43) + r.val) % 8 = 0 by omega)]
        exact congrArg (fun s => (args m c).hist _ s (colOf t j)) (Fin.ext hr0)
      · rw [if_neg (show ¬ (1024 * (t.val / 43) + r.val) % 8 = 0 by omega), if_pos (show (1024 * (t.val / 43) + r.val) % 8 = 1 by omega)]
        exact congrArg (fun s => (args m c).hist _ s (colOf t j)) (Fin.ext (show r.val % 8 = 1 by omega))
    · rw [if_neg (fun h => hr h.2), if_neg (show ¬ (1024 * (t.val / 43) + r.val) % 8 = 0 by omega), if_neg (show ¬ (1024 * (t.val / 43) + r.val) % 8 = 1 by omega),
        if_neg (by omega), if_neg (by omega)]
      exact hu _ _ (by show 1024 * (t.val / 43) + (r.val - 2) = 1024 * (t.val / 43) + r.val - 2; omega)
  · rw [dif_neg (show ¬ 8192 ≤ (rowOf t r).val by show ¬ 8192 ≤ 1024 * (t.val / 43) + r.val; omega), if_neg (fun h => h8 h.1)]
    by_cases hr : r.val < 2
    · have hcar : (if r.val = 0 then carried (grid0.coords t) (sPt m c t) 6 j else if r.val = 1 then carried (grid0.coords t) (sPt m c t) 7 j else uPt m c t (ix2 ⟨r.val - 2, by omega⟩ j))
          = carried (grid0.coords t) (sPt m c t) ⟨6 + r.val, by omega⟩ j := by
        by_cases hr0 : r.val = 0
        · rw [if_pos hr0]; exact congrArg (fun k => carried (grid0.coords t) (sPt m c t) k j) (Fin.ext (by show 6 = 6 + r.val; omega))
        · rw [if_neg hr0, if_pos (by omega)]; exact congrArg (fun k => carried (grid0.coords t) (sPt m c t) k j) (Fin.ext (by show 7 = 6 + r.val; omega))
      rw [hcar, carried_pt]
      by_cases h0 : t.val / 43 = 0
      · rw [dif_pos h0, if_pos (show 1024 * (t.val / 43) + r.val < 2 by omega)]
      · rw [dif_neg h0, if_neg (show ¬ 1024 * (t.val / 43) + r.val < 2 by omega)]
        exact congrArg (fun s => FfnSpec.u (args m c) s (colOf t j)) (Fin.ext (by show 1024 * (t.val / 43) - 8 + (6 + r.val) = 1024 * (t.val / 43) + r.val - 2; omega))
    · rw [if_neg (by omega), if_neg (by omega), if_neg (show ¬ 1024 * (t.val / 43) + r.val < 2 by omega)]
      exact hu _ _ (by show 1024 * (t.val / 43) + (r.val - 2) = 1024 * (t.val / 43) + r.val - 2; omega)

/-- The result at a point, likewise. -/
theorem z_pt (c : Dev nD) (t : Fin cfg0.N) (r : Fin 1024) (j : Fin 256) : zPt m c t (ix2 r j) = FfnSpec.z (args m c) (rowOf t r) (colOf t j) := by
  show taps (gBlk (iblk m c 0 t) (iblk m c 1 t) (ix2 r j)) (iblk m c 4 t (ix2 0 j)) (back2 (grid0.coords t) (uPt m c t) (iblk m c 6 t) (sPt m c t) r j) (iblk m c 3 t (ix2 0 j))
    (back1 (grid0.coords t) (uPt m c t) (iblk m c 5 t) (sPt m c t) r j) (iblk m c 3 t (ix2 1 j)) (uPt m c t (ix2 r j)) (iblk m c 3 t (ix2 2 j)) = _
  rw [g_pt, bias_blk, back2_pt, back1_pt, u_pt, tap_blk, tap_blk, tap_blk]
  rfl

/-! ### The arrays after the launch -/

/-- The result's array. -/
def zArr (c : Dev nD) : FVec Ideal S9216x11008 .bf16 := fun i => FfnSpec.z (args m c) (i 0) (i 1)
/-- The convolution's input's array. -/
def uArr (c : Dev nD) : FVec Ideal S9216x11008 .f32 := fun i => FfnSpec.u (args m c) (i 0) (i 1)

theorem final_z (c : Dev nD) : (dats m 0 c).arrAt 7 (cfgs 0).N = zArr m c := by
  refine (dats m 0 c).arrAt_eq_of_covers 7 _ (by decide +kernel) fun t _ y => ?_
  blk_simp
  rw [after_7]
  idx_vars y
  refine (z_pt m c t _ _).trans ?_
  unfold zArr
  refine congrArg₂ (FfnSpec.z (args m c)) (Fin.ext ?_) (Fin.ext ?_)
  · blk_simp [idx t]; show 1024 * (t.val / 43) + y0.val = _; omega
  · blk_simp [idx t]; show 256 * (t.val % 43) + y1.val = _; omega

theorem final_u (c : Dev nD) : (dats m 0 c).arrAt 8 (cfgs 0).N = uArr m c := by
  refine (dats m 0 c).arrAt_eq_of_covers 8 _ (by decide +kernel) fun t _ y => ?_
  blk_simp
  rw [after_8]
  idx_vars y
  refine (u_pt m c t _ _).trans ?_
  unfold uArr
  refine congrArg₂ (FfnSpec.u (args m c)) (Fin.ext ?_) (Fin.ext ?_)
  · blk_simp [idx t]; show 1024 * (t.val / 43) + y0.val = _; omega
  · blk_simp [idx t]; show 256 * (t.val % 43) + y1.val = _; omega

open Idealize.SL.Sem

/-- The launch's post, -/
theorem run_post (ρ : Dev nD → PrngReg) : θ_run defs (onTc (τ := τ) (main (F := Ideal))) (s₀ m ρ) (Pipeline.FramePost cfgs (dats m) 0 (V m)) :=
  (θ_run defs _ _).mono (fun _ h => h.1) (run_all m ρ)

/-- and its counters at zero. -/
theorem run_sem (ρ : Dev nD → PrngReg) : θ_run defs (onTc (τ := τ) (main (F := Ideal))) (s₀ m ρ) (fun r => r.2.sem = fun _ => 0) :=
  (θ_run defs _ _).mono (fun _ h => h.2) (run_all m ρ)

/-- The arguments end as they began, every counter at zero. -/
theorem frame (ρ : Dev nD → PrngReg) : θ_run defs (onTc (τ := τ) (main (F := Ideal))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  frame_of m ρ (dats m) (A_eq m) (run_post m ρ)

end Cert.Kernel4Ideal.Ffn
end
-- ==== Proof.FfnReference.lean ====
module

public import proofs.«01_k».proof.Proof.Gen.Reference4Ideal.Read
public import proofs.«01_k».proof.Proof.FfnSpec
public import proofs.«01_k».proof.Proof.Rows
public import Idealize.ShloMosaic.Lib.Pipeline.ValueKit

@[expose] public section

set_option maxRecDepth 16384

/-! The reference's two results, entry by entry. -/

noncomputable section

namespace Cert.Reference4Ideal.Ffn

open Cert.Reference4Ideal Cert.Reference4Ideal.Gen Cert.Reference4Ideal.Read
open Idealize.ShloMosaic Idealize.ShloMosaic.TcCoe Idealize.ShloMosaic.Tactic

theorem ix2_eta {a b : Nat} (i : (⟨2, ![a, b]⟩ : Shape).Idx) : i = ix2 (i 0) (i 1) := by
  funext d
  fin_cases d <;> rfl

/-- The arguments as the plain mathematics takes them. -/
def argsOf (x0 : (⟨S9216x4096, .bf16⟩ : BufTy).Contents (Elt Ideal)) (x1 : (⟨S1x4096x22016, .f32⟩ : BufTy).Contents (Elt Ideal)) (x2 : (⟨S1x3x11008, .f32⟩ : BufTy).Contents (Elt Ideal)) (x3 : (⟨S1x11008, .f32⟩ : BufTy).Contents (Elt Ideal)) (x4 : (⟨S1x128x2x11008, .f32⟩ : BufTy).Contents (Elt Ideal)) : FfnSpec.Args where
  x R k := x0 (ix2 R k)
  hist n r J := x4 (ix4 0 n r J)
  w k j := x1 (ix3 0 k j)
  tap q J := x2 (ix3 0 q J)
  bias J := x3 (ix2 0 J)

variable (x0 : (⟨S9216x4096, .bf16⟩ : BufTy).Contents (Elt Ideal)) (x1 : (⟨S1x4096x22016, .f32⟩ : BufTy).Contents (Elt Ideal)) (x2 : (⟨S1x3x11008, .f32⟩ : BufTy).Contents (Elt Ideal)) (x3 : (⟨S1x11008, .f32⟩ : BufTy).Contents (Elt Ideal)) (x4 : (⟨S1x128x2x11008, .f32⟩ : BufTy).Contents (Elt Ideal))

/-- A prompt row's and a sample row's place among all rows. -/
abbrev pr (R : Fin 8192) : Fin 9216 := ⟨R.val, by omega⟩
abbrev sr (n : Fin 128) (r : Fin 8) : Fin 9216 := ⟨8192 + (n.val * 8 + r.val), by omega⟩

/-- The prompt's rows and the samples' rows, cut out of all rows. -/
theorem row_p (R : Fin 8192) (k : Fin 4096) : val_main_v2 (F := Ideal) x0 (ix3 0 R k) = x0 (ix2 (pr R) k) := by
  pointwise [val_main_v2, val_main_v1, val_main_v0]

/-- Flat rows grouped into sequences. -/
theorem grouped {α : Type} {b n N d : Nat} (x : (⟨2, ![N, d]⟩ : Shape).Idx → α) (h) (s : Fin b) (r : Fin n) (k : Fin d) (R : Fin N) (hR : R.val = s.val * n + r.val) :
    shapeCast (⟨3, ![b, n, d]⟩ : Shape) x h (ix3 s r k) = x (ix2 R k) := by
  refine shapeCast_apply x h _ _ ?_
  rw [rowMajor_val3 _ (n * d) d rfl rfl, rowMajor_val2 _ d rfl]
  show R.val * d + k.val = s.val * (n * d) + r.val * d + k.val
  rw [hR, Nat.add_mul, Nat.mul_assoc]

theorem row_s (n : Fin 128) (r : Fin 8) (k : Fin 4096) : val_main_v43 (F := Ideal) x0 (ix3 n r k) = x0 (ix2 (sr n r) k) := by
  unfold val_main_v43
  refine (grouped (val_main_v42 (F := Ideal) x0) _ n r k ⟨n.val * 8 + r.val, by omega⟩ rfl).trans ?_
  pointwise [val_main_v42, val_main_v0]

theorem proj_p (R : Fin 8192) (j : Fin 22016) : val_main_v5 (F := Ideal) x0 x1 (ix3 0 R j) = FfnSpec.proj (argsOf x0 x1 x2 x3 x4) (pr R) j := by
  show _ = ∑ k : Fin 4096, x0 (ix2 (pr R) k) * x1 (ix3 0 k j)
  simp only [← row_p]
  pointwise [val_main_v5, val_main_v4]

theorem proj_s (n : Fin 128) (r : Fin 8) (j : Fin 22016) : val_main_v46 (F := Ideal) x0 x1 (ix3 n r j) = FfnSpec.proj (argsOf x0 x1 x2 x3 x4) (sr n r) j := by
  show _ = ∑ k : Fin 4096, x0 (ix2 (sr n r) k) * x1 (ix3 0 k j)
  simp only [← row_s]
  pointwise [val_main_v46, val_main_v45]

theorem u_p (R : Fin 8192) (J : Fin 11008) : val_main_v6 (F := Ideal) x0 x1 (ix3 0 R J) = FfnSpec.u (argsOf x0 x1 x2 x3 x4) (pr R) J := by
  unfold FfnSpec.u
  rw [← proj_p]
  pointwise [val_main_v6]

theorem u_s (n : Fin 128) (r : Fin 8) (J : Fin 11008) : val_main_v47 (F := Ideal) x0 x1 (ix3 n r J) = FfnSpec.u (argsOf x0 x1 x2 x3 x4) (sr n r) J := by
  unfold FfnSpec.u
  rw [← proj_s]
  pointwise [val_main_v47]

theorem gate_p (R : Fin 8192) (J : Fin 11008) : val_main_v7 (F := Ideal) x0 x1 (ix3 0 R J) = FfnSpec.gate (argsOf x0 x1 x2 x3 x4) (pr R) J := by
  unfold FfnSpec.gate
  rw [← proj_p]
  pointwise [val_main_v7]

theorem gate_s (n : Fin 128) (r : Fin 8) (J : Fin 11008) : val_main_v48 (F := Ideal) x0 x1 (ix3 n r J) = FfnSpec.gate (argsOf x0 x1 x2 x3 x4) (sr n r) J := by
  unfold FfnSpec.gate
  rw [← proj_s]
  pointwise [val_main_v48]

/-- The padded input, prompt: row `q` of it is the input two rows above `q`. -/
theorem pad_p (q : Fin 8194) (J : Fin 11008) : val_main_v10 (F := Ideal) x0 x1 (ix3 0 q J) = if h : q.val < 2 then 0 else FfnSpec.u (argsOf x0 x1 x2 x3 x4) ⟨q.val - 2, by omega⟩ J := by
  unfold val_main_v10
  by_cases h : q.val < 2
  · rw [dif_pos h]
    refine (Rows.after_fst _ _ _ _ _ _ h).trans ?_
    pointwise [val_main_v3, val_main_cst]
  · rw [dif_neg h]
    refine (Rows.after_snd _ _ _ _ _ _ ⟨q.val - 2, by omega⟩ (by show q.val = 2 + (q.val - 2); omega)).trans ?_
    exact u_p x0 x1 x2 x3 x4 _ J

theorem pad_s (n : Fin 128) (q : Fin 10) (J : Fin 11008) : val_main_v51 (F := Ideal) x0 x1 x4 (ix3 n q J)
    = if h : q.val < 2 then x4 (ix4 0 n ⟨q.val, h⟩ J) else FfnSpec.u (argsOf x0 x1 x2 x3 x4) (sr n ⟨q.val - 2, by omega⟩) J := by
  unfold val_main_v51
  by_cases h : q.val < 2
  · rw [dif_pos h]
    refine (Rows.after_fst _ _ _ _ _ _ h).trans ?_
    unfold val_main_v44
    exact Rows.drop x4 _ _ _ _
  · rw [dif_neg h]
    refine (Rows.after_snd _ _ _ _ _ _ ⟨q.val - 2, by omega⟩ (by show q.val = 2 + (q.val - 2); omega)).trans ?_
    exact u_s x0 x1 x2 x3 x4 n _ J

theorem conv_p (R : Fin 8192) (J : Fin 11008) : val_main_v33 (F := Ideal) x0 x1 x2 x3 (ix3 0 R J) = FfnSpec.conv (argsOf x0 x1 x2 x3 x4) (pr R) J := by
  have e2 : val_main_v10 (F := Ideal) x0 x1 (ix3 0 ⟨R.val, by omega⟩ J) = FfnSpec.prev2 (argsOf x0 x1 x2 x3 x4) (pr R) J := by
    rw [pad_p x0 x1 x2 x3 x4]
    unfold FfnSpec.prev2
    rw [dif_neg (show ¬ 8192 ≤ (pr R).val by show ¬ 8192 ≤ R.val; omega)]
    rfl
  have e1 : val_main_v10 (F := Ideal) x0 x1 (ix3 0 ⟨1 + R.val, by omega⟩ J) = FfnSpec.prev1 (argsOf x0 x1 x2 x3 x4) (pr R) J := by
    rw [pad_p x0 x1 x2 x3 x4]
    unfold FfnSpec.prev1
    rw [dif_neg (show ¬ 8192 ≤ (pr R).val by show ¬ 8192 ≤ R.val; omega)]
    by_cases h : R.val = 0
    · rw [dif_pos (by show 1 + R.val < 2; omega), if_pos h]
    · rw [dif_neg (by show ¬ 1 + R.val < 2; omega), if_neg h]
      exact congrArg (fun s => FfnSpec.u (argsOf x0 x1 x2 x3 x4) s J) (Fin.ext (by show 1 + R.val - 2 = R.val - 1; omega))
  have e0 : val_main_v10 (F := Ideal) x0 x1 (ix3 0 ⟨2 + R.val, by omega⟩ J) = FfnSpec.u (argsOf x0 x1 x2 x3 x4) (pr R) J := by
    rw [pad_p x0 x1 x2 x3 x4, dif_neg (by show ¬ 2 + R.val < 2; omega)]
    exact congrArg (fun s => FfnSpec.u (argsOf x0 x1 x2 x3 x4) s J) (Fin.ext (by show 2 + R.val - 2 = R.val; omega))
  unfold FfnSpec.conv
  rw [← e2, ← e1, ← e0]
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v8, val_main_v9]
  try rfl

theorem conv_s (n : Fin 128) (r : Fin 8) (J : Fin 11008) : val_main_v74 (F := Ideal) x0 x1 x2 x3 x4 (ix3 n r J) = FfnSpec.conv (argsOf x0 x1 x2 x3 x4) (sr n r) J := by
  have hs : 8192 ≤ (sr n r).val := by show 8192 ≤ 8192 + (n.val * 8 + r.val); omega
  have hn : (⟨((sr n r).val - 8192) / 8, by show (8192 + (n.val * 8 + r.val) - 8192) / 8 < 128; omega⟩ : Fin 128) = n :=
    Fin.ext (by show (8192 + (n.val * 8 + r.val) - 8192) / 8 = n.val; omega)
  have e2 : val_main_v51 (F := Ideal) x0 x1 x4 (ix3 n ⟨r.val, by omega⟩ J) = FfnSpec.prev2 (argsOf x0 x1 x2 x3 x4) (sr n r) J := by
    rw [pad_s x0 x1 x2 x3 x4]
    unfold FfnSpec.prev2
    rw [dif_pos hs, hn]
    by_cases h0 : r.val = 0
    · rw [dif_pos (by show r.val < 2; omega), if_pos (by show (8192 + (n.val * 8 + r.val)) % 8 = 0; omega)]
      exact congrArg (fun q => x4 (ix4 0 n q J)) (Fin.ext h0)
    · rw [if_neg (by show ¬ (8192 + (n.val * 8 + r.val)) % 8 = 0; omega)]
      by_cases h1 : r.val = 1
      · rw [dif_pos (by show r.val < 2; omega), if_pos (by show (8192 + (n.val * 8 + r.val)) % 8 = 1; omega)]
        exact congrArg (fun q => x4 (ix4 0 n q J)) (Fin.ext h1)
      · rw [dif_neg (by show ¬ r.val < 2; omega), if_neg (by show ¬ (8192 + (n.val * 8 + r.val)) % 8 = 1; omega)]
        exact congrArg (fun s => FfnSpec.u (argsOf x0 x1 x2 x3 x4) s J) (Fin.ext (by show 8192 + (n.val * 8 + (r.val - 2)) = 8192 + (n.val * 8 + r.val) - 2; omega))
  have e1 : val_main_v51 (F := Ideal) x0 x1 x4 (ix3 n ⟨1 + r.val, by omega⟩ J) = FfnSpec.prev1 (argsOf x0 x1 x2 x3 x4) (sr n r) J := by
    rw [pad_s x0 x1 x2 x3 x4]
    unfold FfnSpec.prev1
    rw [dif_pos hs, hn]
    by_cases h : r.val = 0
    · rw [dif_pos (by show 1 + r.val < 2; omega), if_pos (by show (8192 + (n.val * 8 + r.val)) % 8 = 0; omega)]
      exact congrArg (fun q => x4 (ix4 0 n q J)) (Fin.ext (by show 1 + r.val = 1; omega))
    · rw [dif_neg (by show ¬ 1 + r.val < 2; omega), if_neg (by show ¬ (8192 + (n.val * 8 + r.val)) % 8 = 0; omega)]
      exact congrArg (fun s => FfnSpec.u (argsOf x0 x1 x2 x3 x4) s J) (Fin.ext (by show 8192 + (n.val * 8 + (1 + r.val - 2)) = 8192 + (n.val * 8 + r.val) - 1; omega))
  have e0 : val_main_v51 (F := Ideal) x0 x1 x4 (ix3 n ⟨2 + r.val, by omega⟩ J) = FfnSpec.u (argsOf x0 x1 x2 x3 x4) (sr n r) J := by
    rw [pad_s x0 x1 x2 x3 x4, dif_neg (by show ¬ 2 + r.val < 2; omega)]
    exact congrArg (fun s => FfnSpec.u (argsOf x0 x1 x2 x3 x4) s J) (Fin.ext (by show 8192 + (n.val * 8 + (2 + r.val - 2)) = 8192 + (n.val * 8 + r.val); omega))
  unfold FfnSpec.conv
  rw [← e2, ← e1, ← e0]
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v49, val_main_v50]
  try rfl

theorem z_p (R : Fin 8192) (J : Fin 11008) : val_main_v41 (F := Ideal) x0 x1 x2 x3 (ix3 0 R J) = FfnSpec.z (argsOf x0 x1 x2 x3 x4) (pr R) J := by
  unfold FfnSpec.z
  rw [← conv_p, ← gate_p]
  pointwise [val_main_v41, val_main_v40, val_main_v39, val_main_v38, val_main_v37, val_main_v36, val_main_v35, val_main_v34, val_main_cst_0, val_main_cst_1]
  rfl

theorem z_s (n : Fin 128) (r : Fin 8) (J : Fin 11008) : val_main_v82 (F := Ideal) x0 x1 x2 x3 x4 (ix3 n r J) = FfnSpec.z (argsOf x0 x1 x2 x3 x4) (sr n r) J := by
  unfold FfnSpec.z
  rw [← conv_s, ← gate_s]
  pointwise [val_main_v82, val_main_v81, val_main_v80, val_main_v79, val_main_v78, val_main_v77, val_main_v76, val_main_v75, val_main_cst_2, val_main_cst_3]
  rfl

/-- A row is a prompt's or a sample's. -/
theorem split (R : Fin 9216) : (∃ q, R = pr q) ∨ ∃ n r, R = sr n r := by
  by_cases h : R.val < 8192
  · exact Or.inl ⟨⟨R.val, h⟩, rfl⟩
  · exact Or.inr ⟨⟨(R.val - 8192) / 8, by omega⟩, ⟨(R.val - 8192) % 8, by omega⟩, Fin.ext (by show R.val = 8192 + ((R.val - 8192) / 8 * 8 + (R.val - 8192) % 8); omega)⟩

theorem join_p {α : Type} (p : (⟨3, ![1, 8192, 11008]⟩ : Shape).Idx → α) (s : (⟨3, ![128, 8, 11008]⟩ : Shape).Idx → α) (h : Shape.Concatenates [S8192x11008, S1024x11008] S9216x11008 0) (h1 h2) (q : Fin 8192) (J : Fin 11008) :
    concatenate S9216x11008 0 [⟨S8192x11008, shapeCast S8192x11008 p h1⟩, ⟨S1024x11008, shapeCast S1024x11008 s h2⟩] h (ix2 (pr q) J) = p (ix3 0 q J) :=
  (Rows.join_fst _ _ _ (pr q) J q.isLt).trans (Rows.flat_one p _ _ _)

theorem join_s {α : Type} (p : (⟨3, ![1, 8192, 11008]⟩ : Shape).Idx → α) (s : (⟨3, ![128, 8, 11008]⟩ : Shape).Idx → α) (h : Shape.Concatenates [S8192x11008, S1024x11008] S9216x11008 0) (h1 h2) (n : Fin 128) (r : Fin 8) (J : Fin 11008) :
    concatenate S9216x11008 0 [⟨S8192x11008, shapeCast S8192x11008 p h1⟩, ⟨S1024x11008, shapeCast S1024x11008 s h2⟩] h (ix2 (sr n r) J) = s (ix3 n r J) :=
  (Rows.join_snd _ _ _ (sr n r) J ⟨n.val * 8 + r.val, by omega⟩ rfl).trans (Rows.flat s _ _ _ n r rfl)

/-- The convolution's input, all rows. -/
theorem u_all (R : Fin 9216) (J : Fin 11008) : val_main_v88 (F := Ideal) x0 x1 (ix2 R J) = FfnSpec.u (argsOf x0 x1 x2 x3 x4) R J := by
  unfold val_main_v88 val_main_v86 val_main_v87
  obtain ⟨q, rfl⟩ | ⟨n, r, rfl⟩ := split R
  · exact (join_p _ _ _ _ _ q J).trans (u_p x0 x1 x2 x3 x4 q J)
  · exact (join_s _ _ _ _ _ n r J).trans (u_s x0 x1 x2 x3 x4 n r J)

/-- The result, all rows. -/
theorem z_all (R : Fin 9216) (J : Fin 11008) : val_main_v89 (F := Ideal) x0 x1 x2 x3 x4 (ix2 R J) = FfnSpec.z (argsOf x0 x1 x2 x3 x4) R J := by
  show val_main_v85 (F := Ideal) x0 x1 x2 x3 x4 (ix2 R J) = _
  unfold val_main_v85 val_main_v83 val_main_v84
  obtain ⟨q, rfl⟩ | ⟨n, r, rfl⟩ := split R
  · exact (join_p _ _ _ _ _ q J).trans (z_p x0 x1 x2 x3 x4 q J)
  · exact (join_s _ _ _ _ _ n r J).trans (z_s x0 x1 x2 x3 x4 n r J)

variable (m : (ℓ : Loc nD τ sig) → Buf (Elt Ideal) ℓ)

/-- The arguments read off the memory. -/
abbrev args (c : Dev nD) : FfnSpec.Args := argsOf (m ((c : Thread nD τ).loc main_arg0)) (m ((c : Thread nD τ).loc main_arg1)) (m ((c : Thread nD τ).loc main_arg2)) (m ((c : Thread nD τ).loc main_arg3)) (m ((c : Thread nD τ).loc main_arg4))

open Idealize.SL.Sem

/-- The reference's run: both results in plain sums and choices, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v89) = (fun i => FfnSpec.z (args m c) (i 0) (i 1))
      ∧ r.2.mem ((c : Thread nD τ).loc main_v88) = (fun i => FfnSpec.u (args m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1.trans ((val_main_v89_eq m c).trans (funext fun i => (congrArg _ (ix2_eta i)).trans (z_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)))),
      (h c).2.1.trans ((val_main_v88_eq _ _).trans (funext fun i => (congrArg _ (ix2_eta i)).trans (u_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)))), (h c).2.2⟩)
    (Cert.Reference4Ideal.Value.run m ρ)

/-- The reference names no counter, so every one is at zero. -/
theorem sems (s : MemSt nD τ sig (Elt Ideal)) : s.sem = fun _ => 0 := sem_eq_zero_of_no_sems rfl s

end Cert.Reference4Ideal.Ffn
end
-- ==== Proof.Claim4.lean ====
/- The claims about the ffn_in call (programs Kernel4, Kernel4Ideal and Reference4Ideal). -/
module

public import proofs.«01_k».proof.Defs
public import proofs.«01_k».proof.Proof.Gen.Kernel4
public import proofs.«01_k».proof.Proof.Gen.Reference4Ideal.Read
public import proofs.«01_k».proof.Proof.Gen.Reference4Ideal.Run
public import proofs.«01_k».proof.Proof.FfnKeep
public import proofs.«01_k».proof.Proof.FfnValue
public import proofs.«01_k».proof.Proof.FfnReference
public import Idealize.ShloMosaic.Adequacy
public import Idealize.ShloMosaic.Init

@[expose] public section

noncomputable section

namespace Cert.Proof

open Idealize.ShloMosaic Idealize.SL.Sem

theorem quiescent4 : Cert.quiescent_Kernel4 := fun m ρ _ => Cert.Kernel4.Keep.frame m ρ

set_option maxHeartbeats 2000000 in
theorem quiescent_ideal4 : Cert.quiescent_Kernel4Ideal := by
  intro m g _
  run_from Cert.Kernel4Ideal.Ffn.frame m g & Cert.Kernel4Ideal.Ffn.run_sem m g

theorem quiescent_ref4 : Cert.quiescent_Reference4Ideal := by
  intro m g _
  exact (θ_run Cert.Reference4Ideal.defs _ _).mono (fun r h => ⟨fun c => (h c).2.2, Cert.Reference4Ideal.Ffn.sems _⟩) (Cert.Reference4Ideal.Ffn.run m g)

set_option maxHeartbeats 2000000 in
theorem algebraic4 : Cert.algebraic_Kernel4Ideal_Reference4Ideal := by
  pair_intro
  · run_from Cert.Kernel4Ideal.Ffn.run_post m g & Cert.Kernel4Ideal.Ffn.frame m g
  · refine (θ_run Cert.Reference4Ideal.defs _ _).mono (fun r h c => ?_) (Cert.Reference4Ideal.Ffn.run m' g')
    obtain ⟨hz, hu, ha⟩ := h c
    have e : Cert.Reference4Ideal.Ffn.args m' c = Cert.Kernel4Ideal.Ffn.args m c := by
      obtain ⟨a0, a1, a2, a3, a4⟩ := hagree c
      unfold Cert.Reference4Ideal.Ffn.args
      rw [a0, a1, a2, a3, a4]
      rfl
    refine ⟨hz.trans ?_, hu.trans ?_, ha⟩
    · rw [e]; exact (Cert.Kernel4Ideal.Ffn.final_z m c).symm
    · rw [e]; exact (Cert.Kernel4Ideal.Ffn.final_u m c).symm

end Cert.Proof

end
-- ==== Proof.Value5.lean ====
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Spec
public import proofs.«01_k».proof.Proof.Rows

@[expose] public section

set_option maxRecDepth 16384

/-! The two branches projected, gated and added: the array the launch leaves, entry by entry. -/

noncomputable section

namespace Cert.Kernel5Ideal.Val

open Cert.Kernel5Ideal Cert.Kernel5Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, (win0_0.index t = ![t.val / 16, 0] ∧ win0_1.index t = ![t.val / 16, 0]
    ∧ win0_2.index t = ![min (t.val / 16) 15, 0] ∧ win0_3.index t = ![t.val / 16 - 16, 0])
    ∧ (win0_4.index t = ![0, t.val % 16] ∧ win0_5.index t = ![0, t.val % 16] ∧ win0_6.index t = ![0, t.val % 16] ∧ win0_7.index t = ![0, 16 + t.val % 16]
    ∧ win0_8.index t = ![t.val / 16, t.val % 16]) :=
  (by decide +kernel : ∀ t : Fin grid0.N, _)

theorem lt (t : Fin cfg0.N) : t.val < 288 := t.isLt

theorem coords : ∀ t : Fin cfg0.N, (grid0.coords t 0).val = t.val / 16 :=
  (by decide +kernel : ∀ t : Fin grid0.N, _)

/-- The array row and column of a block's. -/
abbrev rowOf (t : Fin cfg0.N) (r : Fin 512) : Fin 9216 := ⟨512 * (t.val / 16) + r.val, by have := lt t; omega⟩
abbrev colOf (t : Fin cfg0.N) (j : Fin 256) : Fin 4096 := ⟨256 * (t.val % 16) + j.val, by omega⟩

/-- The result over the arguments the memory holds. -/
def val (c : Dev nD) (R : Fin 9216) (J : Fin 4096) : EReal :=
  Spec.merge (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) R J

theorem wc_entry (c : Dev nD) (k : Fin 2048) (j : Fin 4096) : V m c main_v0 (ix2 k j) = m ((c : Thread nD τ).loc main_arg4) (ix3 0 k j) := by
  entry_read
  exact Rows.flat_one (m (c, Proc.tc.devRef main_arg4)) shapeCasts_S1x2048x4096_S2048x4096 _ _

theorem wn_entry (c : Dev nD) (k : Fin 2048) (j : Fin 4096) : V m c main_v1 (ix2 k j) = m ((c : Thread nD τ).loc main_arg5) (ix3 0 k j) := by
  entry_read
  exact Rows.flat_one (m (c, Proc.tc.devRef main_arg5)) shapeCasts_S1x2048x4096_S2048x4096 _ _

theorem x_blk (c : Dev nD) (t : Fin cfg0.N) (r : Fin 512) (k : Fin 4096) : iblk m c 0 t (ix2 r k) = m ((c : Thread nD τ).loc main_arg0) (ix2 (rowOf t r) k) := by
  rw [← V_main_arg0 m c]
  unfold iblk
  blk_ext [idx t]

theorem z_blk (c : Dev nD) (t : Fin cfg0.N) (r : Fin 512) (k : Fin 2048) : iblk m c 1 t (ix2 r k) = m ((c : Thread nD τ).loc main_arg1) (ix2 (rowOf t r) k) := by
  rw [← V_main_arg1 m c]
  unfold iblk
  blk_ext [idx t]

/-- Where the rows are the prompt's, the first attention window holds them; -/
theorem p_blk (c : Dev nD) (t : Fin cfg0.N) (h : t.val / 16 < 16) (r : Fin 512) (k : Fin 2048) :
    iblk m c 2 t (ix2 r k) = Spec.att (m ((c : Thread nD τ).loc main_arg2)) (m ((c : Thread nD τ).loc main_arg3)) (rowOf t r) k := by
  unfold Spec.att
  rw [dif_pos (show (rowOf t r).val < 8192 by show 512 * (t.val / 16) + r.val < 8192; omega), ← V_main_arg2 m c]
  have e := (idx t).1.2.2.1
  rw [Nat.min_eq_left (by omega)] at e
  unfold iblk
  blk_ext [e]

/-- where they are the samples', the second. -/
theorem s_blk (c : Dev nD) (t : Fin cfg0.N) (h : ¬ t.val / 16 < 16) (r : Fin 512) (k : Fin 2048) :
    iblk m c 3 t (ix2 r k) = Spec.att (m ((c : Thread nD τ).loc main_arg2)) (m ((c : Thread nD τ).loc main_arg3)) (rowOf t r) k := by
  have ht := lt t
  unfold Spec.att
  rw [dif_neg (show ¬ (rowOf t r).val < 8192 by show ¬ 512 * (t.val / 16) + r.val < 8192; omega), ← V_main_arg3 m c]
  have e : (⟨(rowOf t r).val - 8192, by have := (rowOf t r).isLt; omega⟩ : Fin 1024) = ⟨512 * (t.val / 16 - 16) + r.val, by omega⟩ :=
    Fin.ext (by show 512 * (t.val / 16) + r.val - 8192 = 512 * (t.val / 16 - 16) + r.val; omega)
  rw [e]
  unfold iblk
  blk_ext [idx t]

theorem wc_blk (c : Dev nD) (t : Fin cfg0.N) (k : Fin 2048) (j : Fin 256) : iblk m c 4 t (ix2 k j) = m ((c : Thread nD τ).loc main_arg4) (ix3 0 k (colOf t j)) := by
  rw [← wc_entry m c]
  unfold iblk
  blk_ext [idx t]

theorem wn_blk (c : Dev nD) (t : Fin cfg0.N) (k : Fin 2048) (j : Fin 256) : iblk m c 5 t (ix2 k j) = m ((c : Thread nD τ).loc main_arg5) (ix3 0 k (colOf t j)) := by
  rw [← wn_entry m c]
  unfold iblk
  blk_ext [idx t]

theorem ga_blk (c : Dev nD) (t : Fin cfg0.N) (k : Fin 4096) (j : Fin 256) :
    iblk m c 6 t (ix2 k j) = m ((c : Thread nD τ).loc main_arg6) (ix2 k ⟨(colOf t j).val, by have := (colOf t j).isLt; omega⟩) := by
  rw [← V_main_arg6 m c]
  unfold iblk
  blk_ext [idx t]

theorem gb_blk (c : Dev nD) (t : Fin cfg0.N) (k : Fin 4096) (j : Fin 256) :
    iblk m c 7 t (ix2 k j) = m ((c : Thread nD τ).loc main_arg6) (ix2 k ⟨4096 + (colOf t j).val, by have := (colOf t j).isLt; omega⟩) := by
  have e : (⟨4096 + (colOf t j).val, by have := (colOf t j).isLt; omega⟩ : Fin 8192) = ⟨256 * (16 + t.val % 16) + j.val, by omega⟩ :=
    Fin.ext (by show 4096 + (256 * (t.val % 16) + j.val) = 256 * (16 + t.val % 16) + j.val; omega)
  rw [e, ← V_main_arg6 m c]
  unfold iblk
  blk_ext [idx t]

/-- The body's value over the blocks' entries. -/
theorem body_val (i : grid0.Coords) (x : FVec Ideal S512x4096 .bf16) (op : FVec Ideal S512x2048 .bf16) (os : FVec Ideal S512x2048 .f32) (z : FVec Ideal S512x2048 .bf16)
    (wc wn : FVec Ideal S2048x256 .f32) (wa wb : FVec Ideal S4096x256 .bf16) (r : Fin 512) (j : Fin 256) (xr ga gb : Fin 4096 → EReal) (zr o pc pn : Fin 2048 → EReal)
    (hx : ∀ k, x (ix2 r k) = xr k) (ho : ∀ k, (if (i 0).val < 16 then op (ix2 r k) else os (ix2 r k)) = o k) (hz : ∀ k, z (ix2 r k) = zr k)
    (hc : ∀ k, wc (ix2 k j) = pc k) (hn : ∀ k, wn (ix2 k j) = pn k) (ha : ∀ k, wa (ix2 k j) = ga k) (hb : ∀ k, wb (ix2 k j) = gb k) :
    (k0_pay1 (F := Ideal) i x op os z wc wn wa wb (ix2 r j) : EReal)
      = Ideal.logistic (∑ k, xr k * ga k) * (∑ k, zr k * pc k) + Ideal.logistic (∑ k, xr k * gb k) * (∑ k, o k * pn k) := by
  simp only [← hx, ← ho, ← hz, ← hc, ← hn, ← ha, ← hb]
  have hi : (i 0).val < 18 := (i 0).isLt
  have hs : Scalar.cmpi .slt (BitVec.ofNat 32 (i 0).val) 16#32 = if (i 0).val < 16 then 1#1 else 0#1 := by
    generalize (i 0).val = n at hi
    interval_cases n <;> rfl
  unfold k0_pay1
  rw [hs]
  by_cases h : (i 0).val < 16
  · simp only [if_pos h]
    pointwise
  · simp only [if_neg h]
    pointwise

theorem pt (c : Dev nD) (t : Fin cfg0.N) (r : Fin 512) (j : Fin 256) :
    (k0_pay1 (F := Ideal) (grid0.coords t) (iblk m c 0 t) (iblk m c 2 t) (iblk m c 3 t) (iblk m c 1 t) (iblk m c 4 t) (iblk m c 5 t) (iblk m c 6 t) (iblk m c 7 t) (ix2 r j) : EReal) = val m c (rowOf t r) (colOf t j) :=
  body_val _ _ _ _ _ _ _ _ _ r j _ _ _ _ _ _ _ (fun k => x_blk m c t r k) (fun k => by
    rw [coords]
    by_cases h : t.val / 16 < 16
    · rw [if_pos h]; exact p_blk m c t h r k
    · rw [if_neg h]; exact s_blk m c t h r k) (fun k => z_blk m c t r k) (fun k => wc_blk m c t k j) (fun k => wn_blk m c t k j) (fun k => ga_blk m c t k j) (fun k => gb_blk m c t k j)

theorem final (c : Dev nD) : (dats m 0 c).arrAt 8 (cfgs 0).N = fun i => val m c (i 0) (i 1) := by
  refine (dats m 0 c).arrAt_eq_of_covers 8 _ (by decide +kernel) fun t _ y => ?_
  blk_simp
  rw [after0_8]
  frame_out
  idx_vars y
  refine (pt m c t _ _).trans ?_
  refine congrArg₂ (val m c) (Fin.ext ?_) (Fin.ext ?_)
  · blk_simp [idx t]; show 512 * (t.val / 16) + y0.val = _; omega
  · blk_simp [idx t]; show 256 * (t.val % 16) + y1.val = _; omega

end Cert.Kernel5Ideal.Val

end
-- ==== Proof.Plain5.lean ====
module

public import proofs.«01_k».proof.Proof.Gen.Reference5Ideal.Read
public import proofs.«01_k».proof.Proof.Gen.Reference5Ideal.Run
public import proofs.«01_k».proof.Proof.Spec
public import proofs.«01_k».proof.Proof.Rows
public import Idealize.ShloMosaic.Lib.Pipeline.ValueKit

@[expose] public section

set_option maxRecDepth 16384

/-! The reference of the merge, entry by entry. -/

noncomputable section

namespace Cert.Reference5Ideal.Val

open Cert.Reference5Ideal Cert.Reference5Ideal.Gen Cert.Reference5Ideal.Read
open Idealize.ShloMosaic Idealize.ShloMosaic.TcCoe Idealize.ShloMosaic.Tactic

variable (x0 : (⟨S9216x4096, .bf16⟩ : BufTy).Contents (Elt Ideal)) (x1 : (⟨S9216x2048, .bf16⟩ : BufTy).Contents (Elt Ideal)) (x2 : (⟨S8192x2048, .bf16⟩ : BufTy).Contents (Elt Ideal)) (x3 : (⟨S1024x2048, .f32⟩ : BufTy).Contents (Elt Ideal)) (x4 : (⟨S1x2048x4096, .f32⟩ : BufTy).Contents (Elt Ideal)) (x5 : (⟨S1x2048x4096, .f32⟩ : BufTy).Contents (Elt Ideal)) (x6 : (⟨S4096x8192, .bf16⟩ : BufTy).Contents (Elt Ideal))

theorem att_val (R : Fin 9216) (k : Fin 2048) : val_main_v1 (F := Ideal) x2 x3 (ix2 R k) = Spec.att x2 x3 R k := by
  unfold val_main_v1
  exact Spec.att_join x2 x3 _ R k

theorem flat_c (k : Fin 2048) (J : Fin 4096) : val_main_v3 (F := Ideal) x4 (ix2 k J) = x4 (ix3 0 k J) := by
  unfold val_main_v3
  exact Rows.flat_one x4 _ _ _

theorem flat_n (k : Fin 2048) (J : Fin 4096) : val_main_v5 (F := Ideal) x5 (ix2 k J) = x5 (ix3 0 k J) := by
  unfold val_main_v5
  exact Rows.flat_one x5 _ _ _

theorem conv_val (R : Fin 9216) (J : Fin 4096) : val_main_v4 (F := Ideal) x1 x4 (ix2 R J) = ∑ k : Fin 2048, x1 (ix2 R k) * x4 (ix3 0 k J) := by
  simp only [← flat_c]
  pointwise [val_main_v4, val_main_v2]

theorem nsa_val (R : Fin 9216) (J : Fin 4096) : val_main_v6 (F := Ideal) x2 x3 x5 (ix2 R J) = ∑ k : Fin 2048, Spec.att x2 x3 R k * x5 (ix3 0 k J) := by
  simp only [← flat_n, ← att_val]
  pointwise [val_main_v6]

theorem gate_val (R : Fin 9216) (J : Fin 8192) : val_main_v9 (F := Ideal) x0 x6 (ix2 R J) = ∑ k : Fin 4096, x0 (ix2 R k) * x6 (ix2 k J) := by
  pointwise [val_main_v9, val_main_v8, val_main_v7]

theorem main_v27_val (R : Fin 9216) (J : Fin 4096) : val_main_v27 (F := Ideal) x0 x1 x2 x3 x4 x5 x6 (ix2 R J) = Spec.merge x0 x1 x2 x3 x4 x5 x6 R J := by
  unfold Spec.merge Spec.gate
  rw [← conv_val, ← nsa_val, ← gate_val, ← gate_val]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2]
  rfl

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v27) = (fun i => Spec.merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨(h c).1.trans ((val_main_v27_eq _ _ _ _ _ _ _ ).trans (funext fun i => (congrArg _ (ix2_eta i)).trans (main_v27_val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)))),
      (h c).2⟩)
    (Cert.Reference5Ideal.Value.run m ρ)

/-- The reference names no counter, so every one is at zero. -/
theorem sems (s : MemSt nD τ sig (Elt Ideal)) : s.sem = fun _ => 0 := sem_eq_zero_of_no_sems rfl s

end Cert.Reference5Ideal.Val

end
-- ==== Proof.Claim5.lean ====
/- The claims about the merge call (programs Kernel5, Kernel5Ideal and Reference5Ideal). -/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Value5
public import proofs.«01_k».proof.Proof.Plain5
public import Idealize.ShloMosaic.Lib.Claim
public import Idealize.ShloMosaic.Adequacy
public import Idealize.ShloMosaic.Init

@[expose] public section

noncomputable section

namespace Cert.Proof

open Idealize.ShloMosaic Idealize.SL.Sem

theorem quiescent5 : Cert.quiescent_Kernel5 := fun m ρ _ => Cert.Kernel5.Gen.frame m ρ

theorem quiescent_ideal5 : Cert.quiescent_Kernel5Ideal := fun m ρ _ => Cert.Kernel5Ideal.Gen.frame m ρ

theorem quiescent_ref5 : Cert.quiescent_Reference5Ideal := fun m ρ _ =>
  (θ_run Cert.Reference5Ideal.defs _ _).mono (fun r h => ⟨fun c => (h c).2, Cert.Reference5Ideal.Val.sems _⟩) (Cert.Reference5Ideal.Val.run m ρ)

theorem algebraic5 : Cert.algebraic_Kernel5Ideal_Reference5Ideal := by
  pair_intro
  · run_from Cert.Kernel5Ideal.Gen.run_main m g & Cert.Kernel5Ideal.Gen.unchanged m g
  · refine (θ_run Cert.Reference5Ideal.defs _ _).mono (fun r h c => ?_) (Cert.Reference5Ideal.Val.run m' g')
    obtain ⟨h0, ha⟩ := h c
    obtain ⟨a0, a1, a2, a3, a4, a5, a6⟩ := hagree c
    refine ⟨h0.trans ?_, ha⟩
    · rw [a0, a1, a2, a3, a4, a5, a6]; exact (Cert.Kernel5Ideal.Val.final m c).symm

end Cert.Proof

end
-- ==== Proof.Value6.lean ====
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Spec
public import proofs.«01_k».proof.Proof.Rows

@[expose] public section

set_option maxRecDepth 16384

/-! The second feed-forward projection added to the scaled residual: the array the launch leaves, entry by entry. -/

noncomputable section

namespace Cert.Kernel6Ideal.Val

open Cert.Kernel6Ideal Cert.Kernel6Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, win0_0.index t = ![t.val / 16, 0] ∧ win0_1.index t = ![0, t.val % 16]
    ∧ win0_2.index t = ![t.val / 16, t.val % 16] ∧ win0_3.index t = ![t.val / 16, t.val % 16] :=
  (by decide +kernel : ∀ t : Fin grid0.N, _)

theorem lt (t : Fin cfg0.N) : t.val < 288 := t.isLt

/-- The array row and column of a block's. -/
abbrev rowOf (t : Fin cfg0.N) (r : Fin 512) : Fin 9216 := ⟨512 * (t.val / 16) + r.val, by have := lt t; omega⟩
abbrev colOf (t : Fin cfg0.N) (j : Fin 256) : Fin 4096 := ⟨256 * (t.val % 16) + j.val, by omega⟩

/-- The result over the arguments the memory holds. -/
def val (c : Dev nD) (R : Fin 9216) (J : Fin 4096) : EReal :=
  Spec.ffnOut (m ((c : Thread nD τ).loc main_arg0)) (m ((c : Thread nD τ).loc main_arg1)) (m ((c : Thread nD τ).loc main_arg2)) R J

theorem w_entry (c : Dev nD) (k : Fin 11008) (j : Fin 4096) : V m c main_v1 (ix2 k j) = m ((c : Thread nD τ).loc main_arg1) (ix3 0 k j) := by
  entry_read
  pointwise!

theorem x_blk (c : Dev nD) (t : Fin cfg0.N) (r : Fin 512) (k : Fin 11008) : iblk m c 0 t (ix2 r k) = m ((c : Thread nD τ).loc main_arg0) (ix2 (rowOf t r) k) := by
  rw [← V_main_arg0 m c]
  unfold iblk
  blk_ext [idx t]

theorem w_blk (c : Dev nD) (t : Fin cfg0.N) (k : Fin 11008) (j : Fin 256) : iblk m c 1 t (ix2 k j) = m ((c : Thread nD τ).loc main_arg1) (ix3 0 k (colOf t j)) := by
  rw [← w_entry m c]
  unfold iblk
  blk_ext [idx t]

theorem h_blk (c : Dev nD) (t : Fin cfg0.N) (r : Fin 512) (j : Fin 256) : iblk m c 2 t (ix2 r j) = m ((c : Thread nD τ).loc main_arg2) (ix2 (rowOf t r) (colOf t j)) := by
  rw [← V_main_arg2 m c]
  unfold iblk
  blk_ext [idx t]

theorem body_val (h : FVec Ideal S512x256 .f32) (x : FVec Ideal S512x11008 .bf16) (w : FVec Ideal S11008x256 .bf16) (r : Fin 512) (j : Fin 256) (a : EReal) (p q : Fin 11008 → EReal)
    (hh : h (ix2 r j) = a) (hx : ∀ k, x (ix2 r k) = p k) (hw : ∀ k, w (ix2 k j) = q k) : (k0_pay1 (F := Ideal) h x w (ix2 r j) : EReal) = Spec.root * a + ∑ k, p k * q k := by
  simp only [← hh, ← hx, ← hw]
  pointwise [k0_pay1]
  rfl

theorem pt (c : Dev nD) (t : Fin cfg0.N) (r : Fin 512) (j : Fin 256) : (k0_pay1 (F := Ideal) (iblk m c 2 t) (iblk m c 0 t) (iblk m c 1 t) (ix2 r j) : EReal) = val m c (rowOf t r) (colOf t j) :=
  body_val _ _ _ r j _ _ _ (h_blk m c t r j) (fun k => x_blk m c t r k) (fun k => w_blk m c t k j)

theorem final (c : Dev nD) : (dats m 0 c).arrAt 3 (cfgs 0).N = fun i => val m c (i 0) (i 1) := by
  refine (dats m 0 c).arrAt_eq_of_covers 3 _ (by decide +kernel) fun t _ y => ?_
  blk_simp
  rw [after0_3]
  frame_out
  idx_vars y
  refine (pt m c t _ _).trans ?_
  refine congrArg₂ (val m c) (Fin.ext ?_) (Fin.ext ?_)
  · blk_simp [idx t]; show 512 * (t.val / 16) + y0.val = _; omega
  · blk_simp [idx t]; show 256 * (t.val % 16) + y1.val = _; omega

end Cert.Kernel6Ideal.Val

end
-- ==== Proof.Plain6.lean ====
module

public import proofs.«01_k».proof.Proof.Gen.Reference6Ideal.Read
public import proofs.«01_k».proof.Proof.Gen.Reference6Ideal.Run
public import proofs.«01_k».proof.Proof.Spec
public import proofs.«01_k».proof.Proof.Rows
public import Idealize.ShloMosaic.Lib.Pipeline.ValueKit

@[expose] public section

set_option maxRecDepth 16384

/-! The reference of the second feed-forward projection, entry by entry. -/

noncomputable section

namespace Cert.Reference6Ideal.Val

open Cert.Reference6Ideal Cert.Reference6Ideal.Gen Cert.Reference6Ideal.Read
open Idealize.ShloMosaic Idealize.ShloMosaic.TcCoe Idealize.ShloMosaic.Tactic

variable (x0 : (⟨S9216x11008, .bf16⟩ : BufTy).Contents (Elt Ideal)) (x1 : (⟨S1x11008x4096, .f32⟩ : BufTy).Contents (Elt Ideal)) (x2 : (⟨S9216x4096, .f32⟩ : BufTy).Contents (Elt Ideal))

theorem main_v5_val (R : Fin 9216) (J : Fin 4096) : val_main_v5 (F := Ideal) x0 x1 x2 (ix2 R J) = Spec.ffnOut x0 x1 x2 R J := by
  unfold Spec.ffnOut
  pointwise [val_main_v5, val_main_v4, val_main_v3, val_main_v2, val_main_v1, val_main_v0, val_main_cst]
  rfl

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v5) = (fun i => Spec.ffnOut (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans ((val_main_v5_eq _ _ _ ).trans (funext fun i => (congrArg _ (ix2_eta i)).trans (main_v5_val (m ((c : Thread nD τ).loc main_arg0)) (m ((c : Thread nD τ).loc main_arg1)) (m ((c : Thread nD τ).loc main_arg2)) (i 0) (i 1)))),
      (h c).2⟩)
    (Cert.Reference6Ideal.Value.run m ρ)

/-- The reference names no counter, so every one is at zero. -/
theorem sems (s : MemSt nD τ sig (Elt Ideal)) : s.sem = fun _ => 0 := sem_eq_zero_of_no_sems rfl s

end Cert.Reference6Ideal.Val

end
-- ==== Proof.Claim6.lean ====
/- The claims about the ffn_out call (programs Kernel6, Kernel6Ideal and Reference6Ideal). -/
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Value6
public import proofs.«01_k».proof.Proof.Plain6
public import Idealize.ShloMosaic.Lib.Claim
public import Idealize.ShloMosaic.Adequacy
public import Idealize.ShloMosaic.Init

@[expose] public section

noncomputable section

namespace Cert.Proof

open Idealize.ShloMosaic Idealize.SL.Sem

theorem quiescent6 : Cert.quiescent_Kernel6 := fun m ρ _ => Cert.Kernel6.Gen.frame m ρ

theorem quiescent_ideal6 : Cert.quiescent_Kernel6Ideal := fun m ρ _ => Cert.Kernel6Ideal.Gen.frame m ρ

theorem quiescent_ref6 : Cert.quiescent_Reference6Ideal := fun m ρ _ =>
  (θ_run Cert.Reference6Ideal.defs _ _).mono (fun r h => ⟨fun c => (h c).2, Cert.Reference6Ideal.Val.sems _⟩) (Cert.Reference6Ideal.Val.run m ρ)

theorem algebraic6 : Cert.algebraic_Kernel6Ideal_Reference6Ideal := by
  pair_intro
  · run_from Cert.Kernel6Ideal.Gen.run_main m g & Cert.Kernel6Ideal.Gen.unchanged m g
  · refine (θ_run Cert.Reference6Ideal.defs _ _).mono (fun r h c => ?_) (Cert.Reference6Ideal.Val.run m' g')
    obtain ⟨h0, ha⟩ := h c
    obtain ⟨a0, a1, a2⟩ := hagree c
    refine ⟨h0.trans ?_, ha⟩
    · rw [a0, a1, a2]; exact (Cert.Kernel6Ideal.Val.final m c).symm

end Cert.Proof

end
-- ==== Proof.Value7.lean ====
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Spec
public import proofs.«01_k».proof.Proof.Rows

@[expose] public section

set_option maxRecDepth 16384

/-! The output projection added to the scaled input: the array the launch leaves, entry by entry. -/

noncomputable section

namespace Cert.Kernel7Ideal.Val

open Cert.Kernel7Ideal Cert.Kernel7Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, win0_0.index t = ![t.val / 8, 0] ∧ win0_1.index t = ![0, t.val % 8]
    ∧ win0_2.index t = ![min (t.val / 8) 7, t.val % 8] ∧ win0_3.index t = ![0, t.val % 8] ∧ win0_4.index t = ![t.val / 8, t.val % 8] :=
  (by decide +kernel : ∀ t : Fin grid0.N, _)

theorem lt (t : Fin cfg0.N) : t.val < 72 := t.isLt

theorem coords : ∀ t : Fin cfg0.N, (grid0.coords t 0).val = t.val / 8 :=
  (by decide +kernel : ∀ t : Fin grid0.N, _)

/-- The array row and column of a block's. -/
abbrev rowOf (t : Fin cfg0.N) (r : Fin 1024) : Fin 9216 := ⟨1024 * (t.val / 8) + r.val, by have := lt t; omega⟩
abbrev colOf (t : Fin cfg0.N) (j : Fin 512) : Fin 4096 := ⟨512 * (t.val % 8) + j.val, by omega⟩

/-- The result over the arguments the memory holds. -/
def val (c : Dev nD) (R : Fin 9216) (J : Fin 4096) : EReal :=
  Spec.outProj (m ((c : Thread nD τ).loc main_arg0)) (m ((c : Thread nD τ).loc main_arg1)) (m ((c : Thread nD τ).loc main_arg2)) (m ((c : Thread nD τ).loc main_arg3)) R J

theorem w_entry (c : Dev nD) (k : Fin 4096) (j : Fin 4096) : V m c main_v1 (ix2 k j) = m ((c : Thread nD τ).loc main_arg1) (ix3 0 k j) := by
  entry_read
  pointwise!

theorem p_entry (c : Dev nD) (R : Fin 8192) (k : Fin 4096) : V m c main_v2 (ix2 R k) = m ((c : Thread nD τ).loc main_arg2) (ix3 0 R k) := by
  entry_read
  exact Rows.flat_one (m (c, Proc.tc.devRef main_arg2)) shapeCasts_S1x8192x4096_S8192x4096 _ _

theorem s_entry (c : Dev nD) (R : Fin 1024) (k : Fin 4096) :
    V m c main_v3 (ix2 R k) = m ((c : Thread nD τ).loc main_arg3) (ix3 ⟨R.val / 8, by omega⟩ ⟨R.val % 8, by omega⟩ k) := by
  entry_read
  exact Rows.flat (m (c, Proc.tc.devRef main_arg3)) shapeCasts_S128x8x4096_S1024x4096 _ _ _ _ (by show R.val = R.val / 8 * 8 + R.val % 8; omega)

theorem x_blk (c : Dev nD) (t : Fin cfg0.N) (r : Fin 1024) (k : Fin 4096) : iblk m c 0 t (ix2 r k) = m ((c : Thread nD τ).loc main_arg0) (ix2 (rowOf t r) k) := by
  rw [← V_main_arg0 m c]
  unfold iblk
  blk_ext [idx t]

theorem w_blk (c : Dev nD) (t : Fin cfg0.N) (k : Fin 4096) (j : Fin 512) : iblk m c 1 t (ix2 k j) = m ((c : Thread nD τ).loc main_arg1) (ix3 0 k (colOf t j)) := by
  rw [← w_entry m c]
  unfold iblk
  blk_ext [idx t]

/-- Where the rows are the prompt's, the first residual window holds them; -/
theorem p_blk (c : Dev nD) (t : Fin cfg0.N) (h : t.val / 8 < 8) (r : Fin 1024) (j : Fin 512) :
    iblk m c 2 t (ix2 r j) = Spec.row (m ((c : Thread nD τ).loc main_arg2)) (m ((c : Thread nD τ).loc main_arg3)) (rowOf t r) (colOf t j) := by
  unfold Spec.row
  rw [dif_pos (show (rowOf t r).val < 8192 by show 1024 * (t.val / 8) + r.val < 8192; omega), ← p_entry m c]
  have e := (idx t).2.2.1
  rw [Nat.min_eq_left (by omega)] at e
  unfold iblk
  blk_ext [e]

/-- where they are the samples', the second. -/
theorem s_blk (c : Dev nD) (t : Fin cfg0.N) (h : ¬ t.val / 8 < 8) (r : Fin 1024) (j : Fin 512) :
    iblk m c 3 t (ix2 r j) = Spec.row (m ((c : Thread nD τ).loc main_arg2)) (m ((c : Thread nD τ).loc main_arg3)) (rowOf t r) (colOf t j) := by
  have ht := lt t
  unfold Spec.row
  rw [dif_neg (show ¬ (rowOf t r).val < 8192 by show ¬ 1024 * (t.val / 8) + r.val < 8192; omega)]
  have e : iblk m c 3 t (ix2 r j) = V m c main_v3 (ix2 r (colOf t j)) := by
    unfold iblk
    blk_ext [idx t]
  rw [e, s_entry m c]
  refine congrArg₂ (fun a b => m ((c : Thread nD τ).loc main_arg3) (ix3 a b (colOf t j))) (Fin.ext ?_) (Fin.ext ?_)
  · show r.val / 8 = (1024 * (t.val / 8) + r.val - 8192) / 8; omega
  · show r.val % 8 = (1024 * (t.val / 8) + r.val - 8192) % 8; omega

theorem body_val (i : grid0.Coords) (hp hs : FVec Ideal S1024x512 .f32) (x : FVec Ideal S1024x4096 .bf16) (w : FVec Ideal S4096x512 .bf16) (r : Fin 1024) (j : Fin 512) (a : EReal) (p q : Fin 4096 → EReal)
    (ha : (if (i 0).val < 8 then hp (ix2 r j) else hs (ix2 r j)) = a) (hx : ∀ k, x (ix2 r k) = p k) (hw : ∀ k, w (ix2 k j) = q k) :
    (k0_pay1 (F := Ideal) i hp hs x w (ix2 r j) : EReal) = Spec.root * a + ∑ k, p k * q k := by
  simp only [← ha, ← hx, ← hw]
  have hi : (i 0).val < 9 := (i 0).isLt
  have hc : Scalar.cmpi .slt (BitVec.ofNat 32 (i 0).val) 8#32 = if (i 0).val < 8 then 1#1 else 0#1 := by
    generalize (i 0).val = n at hi
    interval_cases n <;> rfl
  unfold k0_pay1
  rw [hc]
  by_cases h : (i 0).val < 8
  · rw [if_pos h, if_pos h]
    pointwise
    rfl
  · rw [if_neg h, if_neg h]
    pointwise
    rfl

theorem pt (c : Dev nD) (t : Fin cfg0.N) (r : Fin 1024) (j : Fin 512) :
    (k0_pay1 (F := Ideal) (grid0.coords t) (iblk m c 2 t) (iblk m c 3 t) (iblk m c 0 t) (iblk m c 1 t) (ix2 r j) : EReal) = val m c (rowOf t r) (colOf t j) :=
  body_val _ _ _ _ _ r j _ _ _ (by
    rw [coords]
    by_cases h : t.val / 8 < 8
    · rw [if_pos h]; exact p_blk m c t h r j
    · rw [if_neg h]; exact s_blk m c t h r j) (fun k => x_blk m c t r k) (fun k => w_blk m c t k j)

theorem final (c : Dev nD) : (dats m 0 c).arrAt 4 (cfgs 0).N = fun i => val m c (i 0) (i 1) := by
  refine (dats m 0 c).arrAt_eq_of_covers 4 _ (by decide +kernel) fun t _ y => ?_
  blk_simp
  rw [after0_4]
  frame_out
  idx_vars y
  refine (pt m c t _ _).trans ?_
  refine congrArg₂ (val m c) (Fin.ext ?_) (Fin.ext ?_)
  · blk_simp [idx t]; show 1024 * (t.val / 8) + y0.val = _; omega
  · blk_simp [idx t]; show 512 * (t.val % 8) + y1.val = _; omega

end Cert.Kernel7Ideal.Val

end
-- ==== Proof.Plain7.lean ====
module

public import proofs.«01_k».proof.Proof.Gen.Reference7Ideal.Read
public import proofs.«01_k».proof.Proof.Gen.Reference7Ideal.Run
public import proofs.«01_k».proof.Proof.Spec
public import proofs.«01_k».proof.Proof.Rows
public import Idealize.ShloMosaic.Lib.Pipeline.ValueKit

@[expose] public section

set_option maxRecDepth 16384

/-! The reference of the output projection, entry by entry. -/

noncomputable section

namespace Cert.Reference7Ideal.Val

open Cert.Reference7Ideal Cert.Reference7Ideal.Gen Cert.Reference7Ideal.Read
open Idealize.ShloMosaic Idealize.ShloMosaic.TcCoe Idealize.ShloMosaic.Tactic

variable (x0 : (⟨S9216x4096, .bf16⟩ : BufTy).Contents (Elt Ideal)) (x1 : (⟨S1x4096x4096, .f32⟩ : BufTy).Contents (Elt Ideal)) (x2 : (⟨S1x8192x4096, .f32⟩ : BufTy).Contents (Elt Ideal)) (x3 : (⟨S128x8x4096, .f32⟩ : BufTy).Contents (Elt Ideal))

theorem row_val (R : Fin 9216) (k : Fin 4096) : val_main_v2 (F := Ideal) x2 x3 (ix2 R k) = Spec.row x2 x3 R k := by
  unfold val_main_v2 val_main_v0 val_main_v1
  exact Spec.row_join x2 x3 _ _ _ R k

theorem main_v8_val (R : Fin 9216) (J : Fin 4096) : val_main_v8 (F := Ideal) x0 x1 x2 x3 (ix2 R J) = Spec.outProj x0 x1 x2 x3 R J := by
  unfold Spec.outProj
  rw [← row_val]
  pointwise [val_main_v8, val_main_v7, val_main_v6, val_main_v5, val_main_v4, val_main_v3, val_main_cst]
  rfl

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v8) = (fun i => Spec.outProj (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h c).1.trans ((val_main_v8_eq _ _ _ _ ).trans (funext fun i => (congrArg _ (ix2_eta i)).trans (main_v8_val (m ((c : Thread nD τ).loc main_arg0)) (m ((c : Thread nD τ).loc main_arg1)) (m ((c : Thread nD τ).loc main_arg2)) (m ((c : Thread nD τ).loc main_arg3)) (i 0) (i 1)))),
      (h c).2⟩)
    (Cert.Reference7Ideal.Value.run m ρ)

/-- The reference names no counter, so every one is at zero. -/
theorem sems (s : MemSt nD τ sig (Elt Ideal)) : s.sem = fun _ => 0 := sem_eq_zero_of_no_sems rfl s

end Cert.Reference7Ideal.Val

end
-- ==== Proof.Claim7.lean ====
/- The claims about the out_proj call (programs Kernel7, Kernel7Ideal and Reference7Ideal). -/
module

public import proofs.«01_k».proof.Defs
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Value7
public import proofs.«01_k».proof.Proof.Plain7
public import Idealize.ShloMosaic.Lib.Claim
public import Idealize.ShloMosaic.Adequacy
public import Idealize.ShloMosaic.Init

@[expose] public section

noncomputable section

namespace Cert.Proof

open Idealize.ShloMosaic Idealize.SL.Sem

theorem quiescent7 : Cert.quiescent_Kernel7 := fun m ρ _ => Cert.Kernel7.Gen.frame m ρ

theorem quiescent_ideal7 : Cert.quiescent_Kernel7Ideal := fun m ρ _ => Cert.Kernel7Ideal.Gen.frame m ρ

theorem quiescent_ref7 : Cert.quiescent_Reference7Ideal := fun m ρ _ =>
  (θ_run Cert.Reference7Ideal.defs _ _).mono (fun r h => ⟨fun c => (h c).2, Cert.Reference7Ideal.Val.sems _⟩) (Cert.Reference7Ideal.Val.run m ρ)

theorem algebraic7 : Cert.algebraic_Kernel7Ideal_Reference7Ideal := by
  pair_intro
  · run_from Cert.Kernel7Ideal.Gen.run_main m g & Cert.Kernel7Ideal.Gen.unchanged m g
  · refine (θ_run Cert.Reference7Ideal.defs _ _).mono (fun r h c => ?_) (Cert.Reference7Ideal.Val.run m' g')
    obtain ⟨h0, ha⟩ := h c
    obtain ⟨a0, a1, a2, a3⟩ := hagree c
    refine ⟨h0.trans ?_, ha⟩
    · rw [a0, a1, a2, a3]; exact (Cert.Kernel7Ideal.Val.final m c).symm

end Cert.Proof

end
-- ==== Proof.Value8.lean ====
module

public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Spec
public import proofs.«01_k».proof.Proof.Rows

@[expose] public section

set_option maxRecDepth 16384

/-! The first norm: the two arrays the launch leaves, entry by entry. -/

noncomputable section

namespace Cert.Kernel8Ideal.Val

open Cert.Kernel8Ideal Cert.Kernel8Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt (t : Fin cfg0.N) : t.val < 36 := t.isLt

/-- The array row of a block's. -/
abbrev rowOf (t : Fin cfg0.N) (r : Fin 256) : Fin 9216 := ⟨256 * t.val + r.val, by have := lt t; omega⟩

/-- The result over the arguments the memory holds. -/
def val (c : Dev nD) (R : Fin 9216) (J : Fin 4096) : EReal :=
  Spec.norm (fun k => m ((c : Thread nD τ).loc main_arg0) (ix2 R k)) (m ((c : Thread nD τ).loc main_arg1)) (m ((c : Thread nD τ).loc main_arg2)) J

theorem x_blk (c : Dev nD) (t : Fin cfg0.N) (r : Fin 256) (k : Fin 4096) : iblk m c 0 t (ix2 r k) = m ((c : Thread nD τ).loc main_arg0) (ix2 (rowOf t r) k) := by
  rw [← V_main_arg0 m c]
  unfold iblk
  blk_ext [idx t]

theorem g_blk (c : Dev nD) (t : Fin cfg0.N) (k : Fin 4096) : iblk m c 1 t (ix2 0 k) = m ((c : Thread nD τ).loc main_arg1) (ix2 0 k) := by
  rw [← V_main_arg1 m c]
  unfold iblk
  blk_ext [idx t]

theorem b_blk (c : Dev nD) (t : Fin cfg0.N) (k : Fin 4096) : iblk m c 2 t (ix2 0 k) = m ((c : Thread nD τ).loc main_arg2) (ix2 0 k) := by
  rw [← V_main_arg2 m c]
  unfold iblk
  blk_ext [idx t]

/-- The body's value over the blocks' entries. -/
theorem body_val (x : FVec Ideal S256x4096 .f32) (g b : FVec Ideal S1x4096 .f32) (r : Fin 256) (j : Fin 4096) (row : Fin 4096 → EReal) (g' b' : Spec.M2 1 4096)
    (hx : ∀ k, x (ix2 r k) = row k) (hg : g (ix2 0 j) = g' (ix2 0 j)) (hb : b (ix2 0 j) = b' (ix2 0 j)) : (k0_pay1 (F := Ideal) x g b (ix2 r j) : EReal) = Spec.norm row g' b' j := by
  unfold Spec.norm Spec.var Spec.mean
  simp only [← hx, ← hg, ← hb]
  pointwise [k0_pay1]
  rfl

theorem pt (c : Dev nD) (t : Fin cfg0.N) (r : Fin 256) (j : Fin 4096) : (k0_pay1 (F := Ideal) (iblk m c 0 t) (iblk m c 1 t) (iblk m c 2 t) (ix2 r j) : EReal) = val m c (rowOf t r) j :=
  body_val _ _ _ r j _ _ _ (fun k => x_blk m c t r k) (g_blk m c t j) (b_blk m c t j)

theorem final_f (c : Dev nD) : (dats m 0 c).arrAt 3 (cfgs 0).N = fun i => val m c (i 0) (i 1) := by
  refine (dats m 0 c).arrAt_eq_of_covers 3 _ (by decide +kernel) fun t _ y => ?_
  blk_simp
  rw [after0_3]
  frame_out
  idx_vars y
  refine (pt m c t _ _).trans ?_
  refine congrArg₂ (val m c) (Fin.ext ?_) (Fin.ext ?_)
  · blk_simp [idx t]; show 256 * t.val + y0.val = _; omega
  · blk_simp [idx t]

theorem final_b (c : Dev nD) : (dats m 0 c).arrAt 4 (cfgs 0).N = fun i => val m c (i 0) (i 1) := by
  refine (dats m 0 c).arrAt_eq_of_covers 4 _ (by decide +kernel) fun t _ y => ?_
  blk_simp
  rw [after0_4]
  frame_out
  idx_vars y
  refine (pt m c t _ _).trans ?_
  refine congrArg₂ (val m c) (Fin.ext ?_) (Fin.ext ?_)
  · blk_simp [idx t]; show 256 * t.val + y0.val = _; omega
  · blk_simp [idx t]

end Cert.Kernel8Ideal.Val

end
-- ==== Proof.Plain8.lean ====
module

public import proofs.«01_k».proof.Proof.Gen.Reference8Ideal.Read
public import proofs.«01_k».proof.Proof.Gen.Reference8Ideal.Run
public import proofs.«01_k».proof.Proof.Spec
public import proofs.«01_k».proof.Proof.Rows
public import Idealize.ShloMosaic.Lib.Pipeline.ValueKit

@[expose] public section

set_option maxRecDepth 16384

/-! The reference of the first norm, entry by entry. -/

noncomputable section

namespace Cert.Reference8Ideal.Val

open Cert.Reference8Ideal Cert.Reference8Ideal.Gen Cert.Reference8Ideal.Read
open Idealize.ShloMosaic Idealize.ShloMosaic.TcCoe Idealize.ShloMosaic.Tactic

variable (x0 : (⟨S9216x4096, .f32⟩ : BufTy).Contents (Elt Ideal)) (x1 : (⟨S1x4096, .f32⟩ : BufTy).Contents (Elt Ideal)) (x2 : (⟨S1x4096, .f32⟩ : BufTy).Contents (Elt Ideal))

theorem mean_val (R : Fin 9216) : val_main_v5 (F := Ideal) x0 (ix2 R 0) = Spec.mean (fun k => x0 (ix2 R k)) := by
  unfold Spec.mean Spec.width
  pointwise [val_main_v5, val_main_v4, val_main_v3, val_main_v2, val_main_cst, val_main_cst_0]
  try rfl

theorem var_val (R : Fin 9216) : val_main_v12 (F := Ideal) x0 (ix2 R 0) = Spec.var (fun k => x0 (ix2 R k)) := by
  unfold Spec.var Spec.width
  rw [← mean_val]
  pointwise [val_main_v12, val_main_v11, val_main_v10, val_main_v9, val_main_v8, val_main_v7, val_main_v6, val_main_cst_1, val_main_cst_2]
  try rfl

theorem main_v25_val (R : Fin 9216) (J : Fin 4096) : val_main_v25 (F := Ideal) x0 x1 x2 (ix2 R J) = Spec.norm (fun k => x0 (ix2 R k)) x1 x2 J := by
  unfold Spec.norm
  rw [← var_val, ← mean_val]
  pointwise [val_main_v25, val_main_v24, val_main_v23, val_main_v22, val_main_v21, val_main_v20, val_main_v19, val_main_v18, val_main_v17, val_main_v16, val_main_v15, val_main_cst_3, val_main_v14, val_main_v13, val_main_v1, val_main_v0]
  try rfl

theorem main_v26_val (R : Fin 9216) (J : Fin 4096) : val_main_v26 (F := Ideal) x0 x1 x2 (ix2 R J) = Spec.norm (fun k => x0 (ix2 R k)) x1 x2 J :=
  main_v25_val x0 x1 x2 R J

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v25) = (fun i => Spec.norm (fun k => m ((c : Thread nD τ).loc main_arg0) (ix2 (i 0) k)) (m ((c : Thread nD τ).loc main_arg1)) (m ((c : Thread nD τ).loc main_arg2)) (i 1))
      ∧ r.2.mem ((c : Thread nD τ).loc main_v26) = (fun i => Spec.norm (fun k => m ((c : Thread nD τ).loc main_arg0) (ix2 (i 0) k)) (m ((c : Thread nD τ).loc main_arg1)) (m ((c : Thread nD τ).loc main_arg2)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans ((val_main_v25_eq _ _ _ ).trans (funext fun i => (congrArg _ (ix2_eta i)).trans (main_v25_val (m ((c : Thread nD τ).loc main_arg0)) (m ((c : Thread nD τ).loc main_arg1)) (m ((c : Thread nD τ).loc main_arg2)) (i 0) (i 1)))),
      (h c).2.1.trans ((val_main_v26_eq _ _ _ ).trans (funext fun i => (congrArg _ (ix2_eta i)).trans (main_v26_val (m ((c : Thread nD τ).loc main_arg0)) (m ((c : Thread nD τ).loc main_arg1)) (m ((c : Thread nD τ).loc main_arg2)) (i 0) (i 1)))),
      (h c).2.2⟩)
    (Cert.Reference8Ideal.Value.run m ρ)

/-- The reference names no counter, so every one is at zero. -/
theorem sems (s : MemSt nD τ sig (Elt Ideal)) : s.sem = fun _ => 0 := sem_eq_zero_of_no_sems rfl s

end Cert.Reference8Ideal.Val

end
-- ==== Proof.Claim8.lean ====
/- The claims about the ln1 call (programs Kernel8, Kernel8Ideal and Reference8Ideal). -/
module

public import proofs.«01_k».proof.Defs
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Value8
public import proofs.«01_k».proof.Proof.Plain8
public import Idealize.ShloMosaic.Lib.Claim
public import Idealize.ShloMosaic.Adequacy
public import Idealize.ShloMosaic.Init

@[expose] public section

noncomputable section

namespace Cert.Proof

open Idealize.ShloMosaic Idealize.SL.Sem

theorem quiescent8 : Cert.quiescent_Kernel8 := fun m ρ _ => Cert.Kernel8.Gen.frame m ρ

theorem quiescent_ideal8 : Cert.quiescent_Kernel8Ideal := fun m ρ _ => Cert.Kernel8Ideal.Gen.frame m ρ

theorem quiescent_ref8 : Cert.quiescent_Reference8Ideal := fun m ρ _ =>
  (θ_run Cert.Reference8Ideal.defs _ _).mono (fun r h => ⟨fun c => (h c).2.2, Cert.Reference8Ideal.Val.sems _⟩) (Cert.Reference8Ideal.Val.run m ρ)

theorem algebraic8 : Cert.algebraic_Kernel8Ideal_Reference8Ideal := by
  pair_intro
  · run_from Cert.Kernel8Ideal.Gen.run_main m g & Cert.Kernel8Ideal.Gen.unchanged m g
  · refine (θ_run Cert.Reference8Ideal.defs _ _).mono (fun r h c => ?_) (Cert.Reference8Ideal.Val.run m' g')
    obtain ⟨h0, h1, ha⟩ := h c
    obtain ⟨a0, a1, a2⟩ := hagree c
    refine ⟨h0.trans ?_, h1.trans ?_, ha⟩
    · rw [a0, a1, a2]; exact (Cert.Kernel8Ideal.Val.final_f m c).symm
    · rw [a0, a1, a2]; exact (Cert.Kernel8Ideal.Val.final_b m c).symm

end Cert.Proof

end
-- ==== Proof.LastKeep.lean ====
module

public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import Idealize.ShloMosaic.Lib.Pipeline.ValueKit
public import Idealize.ShloMosaic.Lib.Claim

@[expose] public section

set_option maxRecDepth 16384

/-! The last norm's launch over any numbers: it ends with the arguments as they began. The first 32 points write the prompt's array and leave the samples' block alone; the last four write the samples' array, while
the prompt's last block, already computed, waits for its write-back after the last point. -/

noncomputable section

namespace Cert.Kernel9.Keep

open Cert.Kernel9 Cert.Kernel9.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ### The body -/

/-- One store of a whole block is what a read of it finds. -/
theorem whole_store (v : View sig .tc .vmem S256x4096 .f32) (d) (p : FVec F S256x4096 .f32) (h) :
    v.read (Elt F) (v.writes (Elt F) d [⟨Rect.unit (s := S256x4096) ![0, 0] S256x4096.size h, p⟩]) = p := by
  refine (View.read_writes_eq_canon _ _ _ fun y => View.cover_of_tiled _ S256x4096.size (by rfl) y).trans ?_
  simp (disch := decide) only [View.canon_cons_unit_lit']

set_option maxHeartbeats 1000000 in
/-- At a prompt's point the body fills the prompt's block and leaves the samples'. -/
theorem run_prompt (c : Dev nD) (i : grid0.Coords) (a0 : Memref sig .tc .vmem S256x4096 .f32) (h0 : a0.IsWhole) (a1 : Memref sig .tc .vmem S1x4096 .f32) (h1 : a1.IsWhole)
    (a2 : Memref sig .tc .vmem S1x4096 .f32) (h2 : a2.IsWhole) (a3 : Memref sig .tc .vmem S256x4096 .f32) (h3 : a3.IsWhole) (a4 : Memref sig .tc .vmem S256x4096 .f32) (h4 : a4.IsWhole)
    (hp : k0_cond1 i = 1#1) (hs : ¬ k0_cond2 i = 1#1) (x0 : FVec F S256x4096 .f32) (x1 x2 : FVec F S1x4096 .f32) (y : FVec F S256x4096 .f32) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) a4 fullShare y
        ∗ (iprop(owns (c : Thread nD τ) a0 fullShare x0 ∗ owns (c : Thread nD τ) a1 fullShare x1 ∗ owns (c : Thread nD τ) a2 fullShare x2
            ∗ owns (c : Thread nD τ) a3 fullShare (k0_pay1 (F := F) x0 x1 x2) ∗ owns (c : Thread nD τ) a4 fullShare y) -∗ K ⟨⟩))
      ⊢ wp frame (wpE (defs₀ (F := F)) Variants.none c none) E (cc0_ln2 i a0 h0 a1 h1 a2 h2 a3 h3 a4 h4) K := by
  simp only [cc0_ln2_eq_skeleton]; unfold cc0_ln2_skel
  unfold owns
  iintro ⟨⟨%f0, %e0, H0⟩, ⟨%f1, %e1, H1⟩, ⟨%f2, %e2, H2⟩, ⟨%d3, %f3, -, H3⟩, ⟨%f4, %e4, H4⟩, Hk⟩
  obtain rfl := h0.eq_unread e0; obtain rfl := h1.eq_unread e1; obtain rfl := h2.eq_unread e2; obtain rfl := h4.eq_unread e4
  sl_exec (disch := first | sl_exact hp | sl_exact hs)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    refine (whole_store _ _ _ _).trans ?_
    simp (disch := decide) only [View.readAt_eq_ld, h0.read_unread, h1.read_unread, h2.read_unread, View.ld_unit_lit']
  iexists _; isplitr; · ipureintro; exact h4.read_unread _
  iexact H4

set_option maxHeartbeats 1000000 in
/-- At a samples' point it fills the samples' block and leaves the prompt's. -/
theorem run_sample (c : Dev nD) (i : grid0.Coords) (a0 : Memref sig .tc .vmem S256x4096 .f32) (h0 : a0.IsWhole) (a1 : Memref sig .tc .vmem S1x4096 .f32) (h1 : a1.IsWhole)
    (a2 : Memref sig .tc .vmem S1x4096 .f32) (h2 : a2.IsWhole) (a3 : Memref sig .tc .vmem S256x4096 .f32) (h3 : a3.IsWhole) (a4 : Memref sig .tc .vmem S256x4096 .f32) (h4 : a4.IsWhole)
    (hp : ¬ k0_cond1 i = 1#1) (hs : k0_cond2 i = 1#1) (x0 : FVec F S256x4096 .f32) (x1 x2 : FVec F S1x4096 .f32) (y : FVec F S256x4096 .f32) (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare y ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare y ∗ owns (c : Thread nD τ) a4 fullShare (k0_pay1 (F := F) x0 x1 x2)) -∗ K ⟨⟩))
      ⊢ wp frame (wpE (defs₀ (F := F)) Variants.none c none) E (cc0_ln2 i a0 h0 a1 h1 a2 h2 a3 h3 a4 h4) K := by
  simp only [cc0_ln2_eq_skeleton]; unfold cc0_ln2_skel
  unfold owns
  iintro ⟨⟨%f0, %e0, H0⟩, ⟨%f1, %e1, H1⟩, ⟨%f2, %e2, H2⟩, ⟨%f3, %e3, H3⟩, ⟨%d4, %f4, -, H4⟩, Hk⟩
  obtain rfl := h0.eq_unread e0; obtain rfl := h1.eq_unread e1; obtain rfl := h2.eq_unread e2; obtain rfl := h3.eq_unread e3
  sl_exec (disch := first | sl_exact hp | sl_exact hs)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr; swap; · iexact H4
  ipureintro
  sl_unfold_words
  refine (whole_store _ _ _ _).trans ?_
  simp (disch := decide) only [View.readAt_eq_ld, h0.read_unread, h1.read_unread, h2.read_unread, View.ld_unit_lit']

/-! ### The schedule -/

theorem prompt_iff : ∀ t : Fin cfg0.N, k0_cond1 (grid0.coords t) = 1#1 ↔ t.val < 32 :=
  (by decide +kernel : ∀ t : Fin grid0.N, k0_cond1 (grid0.coords t) = 1#1 ↔ t.val < 32)

theorem sample_iff : ∀ t : Fin cfg0.N, k0_cond2 (grid0.coords t) = 1#1 ↔ 32 ≤ t.val :=
  (by decide +kernel : ∀ t : Fin grid0.N, k0_cond2 (grid0.coords t) = 1#1 ↔ 32 ≤ t.val)

theorem idle_3 : ∀ t : Fin cfg0.N, cfg0.idle 3 (cfg0.grid.coords t) = decide (32 ≤ t.val) :=
  (by decide +kernel : ∀ t : Fin grid0.N, idle0 3 (grid0.coords t) = decide (32 ≤ t.val))

theorem idle_4 : ∀ t : Fin cfg0.N, cfg0.idle 4 (cfg0.grid.coords t) = decide (t.val < 32) :=
  (by decide +kernel : ∀ t : Fin grid0.N, idle0 4 (grid0.coords t) = decide (t.val < 32))

theorem flush_3 : ∀ t : Fin cfg0.N, (cfg0.win 3).flush t = (decide (t.val < 31) || decide (t.val = 35)) :=
  (by decide +kernel : ∀ t : Fin grid0.N, win0_3.flush t = (decide (t.val < 31) || decide (t.val = 35)))

theorem flush_4 : ∀ t : Fin cfg0.N, (cfg0.win 4).flush t = decide (32 ≤ t.val) :=
  (by decide +kernel : ∀ t : Fin grid0.N, win0_4.flush t = decide (32 ≤ t.val))

variable (m : (ℓ : Loc nD τ sig) → Buf (Elt F) ℓ) (ρ : Dev nD → PrngReg)

/-! ### The proof data -/

/-- The block the body computes at point `t`. -/
def norm (c : Dev nD) (t : Fin cfg0.N) : FVec F S256x4096 .f32 := k0_pay1 (iblk m c 0 t) (iblk m c 1 t) (iblk m c 2 t)

/-- The last prompt's point not after `t`. -/
def held (t : Fin cfg0.N) : Fin cfg0.N := ⟨min t.val 31, Nat.lt_of_le_of_lt (Nat.min_le_left _ _) t.isLt⟩

theorem held_of_lt (t : Fin cfg0.N) (h : t.val < 32) : held t = t := Fin.ext (Nat.min_eq_left (by omega))

/-- The proof data: inputs keep their blocks, the prompt's block is the last computed for it, the samples' the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => norm m c (held t)
    | ⟨4, _⟩ => norm m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = norm m c (held t) := by dsimp only [dats]
theorem after_4 (c : Dev nD) (t : Fin cfg0.N) : (dats m 0 c).after 4 t = norm m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- From the samples' first point on, the prompt's buffer holds the last block computed for it. -/
theorem before_3 (c : Dev nD) : ∀ (n : Nat) (h : 32 + n < cfg0.N) (d), (dats m 0 c).before 3 ⟨32 + n, h⟩ d = norm m c ⟨31, by show 31 < 36; omega⟩
  | 0, h, d => by
    rw [Dat.before_of_pos _ 3 _ (by show 32 + 0 ≠ 0; omega) ((cfg0.win 3).fetch_out rfl _), flush_3, if_neg (by
      show ¬ (decide (32 + 0 - 1 < 31) || decide (32 + 0 - 1 = 35)) = true
      simp)]
    unfold Dat.left
    rw [idle_3, show decide (32 ≤ 32 + 0 - 1) = false from rfl]
    show (dats m 0 c).kept 3 _ d = _
    unfold Dat.kept
    rw [after_3]
    dsimp
    rfl
  | n + 1, h, d => by
    have hN : 32 + (n + 1) < 36 := h
    rw [Dat.before_of_pos _ 3 _ (by show 32 + (n + 1) ≠ 0; omega) ((cfg0.win 3).fetch_out rfl _), flush_3, if_neg (by
      show ¬ (decide (32 + (n + 1) - 1 < 31) || decide (32 + (n + 1) - 1 = 35)) = true
      simp only [Bool.or_eq_true, decide_eq_true_eq]; omega)]
    unfold Dat.left
    rw [idle_3, show decide (32 ≤ 32 + (n + 1) - 1) = true from decide_eq_true (by omega)]
    exact before_3 c n (by show 32 + n < 36; omega) d

/-! ### The body's obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t
    ∗ (dats m 0 c).leavesExact 4 t)

/-- What the body leaves in the prompt's buffer. -/
theorem leaves_3 (c : Dev nD) (t : Fin cfg0.N) (h : t.val < 32) : (dats m 0 c).leavesExact 3 t = owns (c : Thread nD τ) (win0_3.stage (cfg0.slots t 3)) fullShare (norm m c t) := by
  unfold Dat.leavesExact
  rw [idle_3, decide_eq_false (by omega), after_3, held_of_lt t h]

theorem keeps_3 (c : Dev nD) (t : Fin cfg0.N) (h : 32 ≤ t.val) (d) :
    owns (c : Thread nD τ) (win0_3.stage (cfg0.slots t 3)) fullShare ((dats m 0 c).before 3 t d) ⊢ ((dats m 0 c).leavesExact 3 t : sProp 𝕄) := by
  unfold Dat.leavesExact
  rw [idle_3, decide_eq_true h, flush_3]
  by_cases h5 : t.val = 35
  · rw [decide_eq_true h5, Bool.or_true, after_3]
    have e : (dats m 0 c).before 3 t d = norm m c (held t) := by
      obtain ⟨v, hv⟩ := t
      obtain rfl : v = 32 + 3 := h5
      exact (before_3 m c 3 hv d).trans rfl
    rw [e]
  · rw [decide_eq_false (show ¬ t.val < 31 by omega), decide_eq_false h5]
    show _ ⊢ iprop(∃ d, owns (c : Thread nD τ) (win0_3.stage (cfg0.slots t 3)) fullShare ((dats m 0 c).before 3 t d))
    iintro H
    iexists d
    iexact H

/-- What it leaves in the samples'. -/
theorem leaves_4 (c : Dev nD) (t : Fin cfg0.N) (h : 32 ≤ t.val) : (dats m 0 c).leavesExact 4 t = owns (c : Thread nD τ) (win0_4.stage (cfg0.slots t 4)) fullShare (norm m c t) := by
  unfold Dat.leavesExact
  rw [idle_4, decide_eq_false (by omega), after_4]

theorem keeps_4 (c : Dev nD) (t : Fin cfg0.N) (h : t.val < 32) (d) :
    owns (c : Thread nD τ) (win0_4.stage (cfg0.slots t 4)) fullShare ((dats m 0 c).before 4 t d) ⊢ ((dats m 0 c).leavesExact 4 t : sProp 𝕄) := by
  unfold Dat.leavesExact
  rw [idle_4, decide_eq_true h, flush_4, decide_eq_false (by omega)]
  show _ ⊢ iprop(∃ d, owns (c : Thread nD τ) (win0_4.stage (cfg0.slots t 4)) fullShare ((dats m 0 c).before 4 t d))
  iintro H
  iexists d
  iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, show (dats m 0 c).Φ t.succ = (dats m 0 c).Φ t.castSucc from rfl, after_0, after_1, after_2]
  iintro ⟨HΦ, Ho, ⟨%d0, H0⟩, ⟨%d1, H1⟩, ⟨%d2, H2⟩, ⟨%d3, H3⟩, ⟨%d4, H4⟩⟩
  by_cases h : t.val < 32
  · rw [leaves_3 m c t h]
    iapply (run_prompt c (grid0.coords t) _ _ _ _ _ _ _ _ _ _ ((prompt_iff t).mpr h) (fun e => absurd ((sample_iff t).mp e) (by omega)) (iblk m c 0 t) (iblk m c 1 t) (iblk m c 2 t) ((dats m 0 c).before 4 t d4) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (keeps_4 m c t h d4)
    iexact H4
  · have h' : 32 ≤ t.val := by omega
    rw [leaves_4 m c t h']
    iapply (run_sample c (grid0.coords t) _ _ _ _ _ _ _ _ _ _ (fun e => absurd ((prompt_iff t).mp e) h) ((sample_iff t).mpr h') (iblk m c 0 t) (iblk m c 1 t) (iblk m c 2 t) ((dats m 0 c).before 3 t d3) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (keeps_3 m c t h' d3)
      iexact H3
    iexact H4

/-- The body table's row at point `t`'s slots is the body at the point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ := fun t => by
  rw [bigSep_W0, bigSep_W0, row]
  exact triple_restated (sound_body m c t) rfl .rfl fun _ => .rfl

set_option backward.isDefEq.respectTransparency.types false in
/-- The launch: every window's array ends as the proof data says, and every counter at zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_all m ρ)

theorem run_sem : θ_run defs (onTc (τ := τ) (main (F := F))) (s₀ m ρ) (fun r => r.2.sem = fun _ => 0) :=
  (θ_run defs _ _).mono (fun _ h => h.2) (run_all m ρ)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_post m ρ)) (run_sem m ρ)

end Cert.Kernel9.Keep

end
-- ==== Proof.LastRun.lean ====
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import Idealize.ShloMosaic.Lib.Pipeline.ValueKit
public import Idealize.ShloMosaic.Lib.Claim

@[expose] public section

set_option maxRecDepth 16384

/-! The last norm's launch. The first 32 points write the prompt's array and leave the samples' block alone; the last four write the samples' array, while
the prompt's last block, already computed, waits for its write-back after the last point. -/

noncomputable section

namespace Cert.Kernel9Ideal.Last

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-! ### The body -/

/-- One store of a whole block is what a read of it finds. -/
theorem whole_store (v : View sig .tc .vmem S256x4096 .f32) (d) (p : FVec Ideal S256x4096 .f32) (h) :
    v.read (Elt Ideal) (v.writes (Elt Ideal) d [⟨Rect.unit (s := S256x4096) ![0, 0] S256x4096.size h, p⟩]) = p := by
  refine (View.read_writes_eq_canon _ _ _ fun y => View.cover_of_tiled _ S256x4096.size (by rfl) y).trans ?_
  simp (disch := decide) only [View.canon_cons_unit_lit']

set_option maxHeartbeats 1000000 in
/-- At a prompt's point the body fills the prompt's block and leaves the samples'. -/
theorem run_prompt (c : Dev nD) (i : grid0.Coords) (a0 : Memref sig .tc .vmem S256x4096 .f32) (h0 : a0.IsWhole) (a1 : Memref sig .tc .vmem S1x4096 .f32) (h1 : a1.IsWhole)
    (a2 : Memref sig .tc .vmem S1x4096 .f32) (h2 : a2.IsWhole) (a3 : Memref sig .tc .vmem S256x4096 .f32) (h3 : a3.IsWhole) (a4 : Memref sig .tc .vmem S256x4096 .f32) (h4 : a4.IsWhole)
    (hp : k0_cond1 i = 1#1) (hs : ¬ k0_cond2 i = 1#1) (x0 : FVec Ideal S256x4096 .f32) (x1 x2 : FVec Ideal S1x4096 .f32) (y : FVec Ideal S256x4096 .f32) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) a4 fullShare y
        ∗ (iprop(owns (c : Thread nD τ) a0 fullShare x0 ∗ owns (c : Thread nD τ) a1 fullShare x1 ∗ owns (c : Thread nD τ) a2 fullShare x2
            ∗ owns (c : Thread nD τ) a3 fullShare (k0_pay1 (F := Ideal) x0 x1 x2) ∗ owns (c : Thread nD τ) a4 fullShare y) -∗ K ⟨⟩))
      ⊢ wp frame (wpE (defs₀ (F := Ideal)) Variants.none c none) E (cc0_ln2 i a0 h0 a1 h1 a2 h2 a3 h3 a4 h4) K := by
  simp only [cc0_ln2_eq_skeleton]; unfold cc0_ln2_skel
  unfold owns
  iintro ⟨⟨%f0, %e0, H0⟩, ⟨%f1, %e1, H1⟩, ⟨%f2, %e2, H2⟩, ⟨%d3, %f3, -, H3⟩, ⟨%f4, %e4, H4⟩, Hk⟩
  obtain rfl := h0.eq_unread e0; obtain rfl := h1.eq_unread e1; obtain rfl := h2.eq_unread e2; obtain rfl := h4.eq_unread e4
  sl_exec (disch := first | sl_exact hp | sl_exact hs)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    refine (whole_store _ _ _ _).trans ?_
    simp (disch := decide) only [View.readAt_eq_ld, h0.read_unread, h1.read_unread, h2.read_unread, View.ld_unit_lit']
  iexists _; isplitr; · ipureintro; exact h4.read_unread _
  iexact H4

set_option maxHeartbeats 1000000 in
/-- At a samples' point it fills the samples' block and leaves the prompt's. -/
theorem run_sample (c : Dev nD) (i : grid0.Coords) (a0 : Memref sig .tc .vmem S256x4096 .f32) (h0 : a0.IsWhole) (a1 : Memref sig .tc .vmem S1x4096 .f32) (h1 : a1.IsWhole)
    (a2 : Memref sig .tc .vmem S1x4096 .f32) (h2 : a2.IsWhole) (a3 : Memref sig .tc .vmem S256x4096 .f32) (h3 : a3.IsWhole) (a4 : Memref sig .tc .vmem S256x4096 .f32) (h4 : a4.IsWhole)
    (hp : ¬ k0_cond1 i = 1#1) (hs : k0_cond2 i = 1#1) (x0 : FVec Ideal S256x4096 .f32) (x1 x2 : FVec Ideal S1x4096 .f32) (y : FVec Ideal S256x4096 .f32) (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare y ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare y ∗ owns (c : Thread nD τ) a4 fullShare (k0_pay1 (F := Ideal) x0 x1 x2)) -∗ K ⟨⟩))
      ⊢ wp frame (wpE (defs₀ (F := Ideal)) Variants.none c none) E (cc0_ln2 i a0 h0 a1 h1 a2 h2 a3 h3 a4 h4) K := by
  simp only [cc0_ln2_eq_skeleton]; unfold cc0_ln2_skel
  unfold owns
  iintro ⟨⟨%f0, %e0, H0⟩, ⟨%f1, %e1, H1⟩, ⟨%f2, %e2, H2⟩, ⟨%f3, %e3, H3⟩, ⟨%d4, %f4, -, H4⟩, Hk⟩
  obtain rfl := h0.eq_unread e0; obtain rfl := h1.eq_unread e1; obtain rfl := h2.eq_unread e2; obtain rfl := h3.eq_unread e3
  sl_exec (disch := first | sl_exact hp | sl_exact hs)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr; swap; · iexact H4
  ipureintro
  sl_unfold_words
  refine (whole_store _ _ _ _).trans ?_
  simp (disch := decide) only [View.readAt_eq_ld, h0.read_unread, h1.read_unread, h2.read_unread, View.ld_unit_lit']

/-! ### The schedule -/

theorem prompt_iff : ∀ t : Fin cfg0.N, k0_cond1 (grid0.coords t) = 1#1 ↔ t.val < 32 :=
  (by decide +kernel : ∀ t : Fin grid0.N, k0_cond1 (grid0.coords t) = 1#1 ↔ t.val < 32)

theorem sample_iff : ∀ t : Fin cfg0.N, k0_cond2 (grid0.coords t) = 1#1 ↔ 32 ≤ t.val :=
  (by decide +kernel : ∀ t : Fin grid0.N, k0_cond2 (grid0.coords t) = 1#1 ↔ 32 ≤ t.val)

theorem idle_3 : ∀ t : Fin cfg0.N, cfg0.idle 3 (cfg0.grid.coords t) = decide (32 ≤ t.val) :=
  (by decide +kernel : ∀ t : Fin grid0.N, idle0 3 (grid0.coords t) = decide (32 ≤ t.val))

theorem idle_4 : ∀ t : Fin cfg0.N, cfg0.idle 4 (cfg0.grid.coords t) = decide (t.val < 32) :=
  (by decide +kernel : ∀ t : Fin grid0.N, idle0 4 (grid0.coords t) = decide (t.val < 32))

theorem flush_3 : ∀ t : Fin cfg0.N, (cfg0.win 3).flush t = (decide (t.val < 31) || decide (t.val = 35)) :=
  (by decide +kernel : ∀ t : Fin grid0.N, win0_3.flush t = (decide (t.val < 31) || decide (t.val = 35)))

theorem flush_4 : ∀ t : Fin cfg0.N, (cfg0.win 4).flush t = decide (32 ≤ t.val) :=
  (by decide +kernel : ∀ t : Fin grid0.N, win0_4.flush t = decide (32 ≤ t.val))

variable (m : (ℓ : Loc nD τ sig) → Buf (Elt Ideal) ℓ) (ρ : Dev nD → PrngReg)

/-! ### The proof data -/

/-- The block the body computes at point `t`. -/
def norm (c : Dev nD) (t : Fin cfg0.N) : FVec Ideal S256x4096 .f32 := k0_pay1 (iblk m c 0 t) (iblk m c 1 t) (iblk m c 2 t)

/-- The last prompt's point not after `t`. -/
def held (t : Fin cfg0.N) : Fin cfg0.N := ⟨min t.val 31, Nat.lt_of_le_of_lt (Nat.min_le_left _ _) t.isLt⟩

theorem held_of_lt (t : Fin cfg0.N) (h : t.val < 32) : held t = t := Fin.ext (Nat.min_eq_left (by omega))

/-- The proof data: inputs keep their blocks, the prompt's block is the last computed for it, the samples' the point's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => norm m c (held t)
    | ⟨4, _⟩ => norm m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = norm m c (held t) := by dsimp only [dats]
theorem after_4 (c : Dev nD) (t : Fin cfg0.N) : (dats m 0 c).after 4 t = norm m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- From the samples' first point on, the prompt's buffer holds the last block computed for it. -/
theorem before_3 (c : Dev nD) : ∀ (n : Nat) (h : 32 + n < cfg0.N) (d), (dats m 0 c).before 3 ⟨32 + n, h⟩ d = norm m c ⟨31, by show 31 < 36; omega⟩
  | 0, h, d => by
    rw [Dat.before_of_pos _ 3 _ (by show 32 + 0 ≠ 0; omega) ((cfg0.win 3).fetch_out rfl _), flush_3, if_neg (by
      show ¬ (decide (32 + 0 - 1 < 31) || decide (32 + 0 - 1 = 35)) = true
      simp)]
    unfold Dat.left
    rw [idle_3, show decide (32 ≤ 32 + 0 - 1) = false from rfl]
    show (dats m 0 c).kept 3 _ d = _
    unfold Dat.kept
    rw [after_3]
    dsimp
    rfl
  | n + 1, h, d => by
    have hN : 32 + (n + 1) < 36 := h
    rw [Dat.before_of_pos _ 3 _ (by show 32 + (n + 1) ≠ 0; omega) ((cfg0.win 3).fetch_out rfl _), flush_3, if_neg (by
      show ¬ (decide (32 + (n + 1) - 1 < 31) || decide (32 + (n + 1) - 1 = 35)) = true
      simp only [Bool.or_eq_true, decide_eq_true_eq]; omega)]
    unfold Dat.left
    rw [idle_3, show decide (32 ≤ 32 + (n + 1) - 1) = true from decide_eq_true (by omega)]
    exact before_3 c n (by show 32 + n < 36; omega) d

/-! ### The body's obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t
    ∗ (dats m 0 c).leavesExact 4 t)

/-- What the body leaves in the prompt's buffer. -/
theorem leaves_3 (c : Dev nD) (t : Fin cfg0.N) (h : t.val < 32) : (dats m 0 c).leavesExact 3 t = owns (c : Thread nD τ) (win0_3.stage (cfg0.slots t 3)) fullShare (norm m c t) := by
  unfold Dat.leavesExact
  rw [idle_3, decide_eq_false (by omega), after_3, held_of_lt t h]

theorem keeps_3 (c : Dev nD) (t : Fin cfg0.N) (h : 32 ≤ t.val) (d) :
    owns (c : Thread nD τ) (win0_3.stage (cfg0.slots t 3)) fullShare ((dats m 0 c).before 3 t d) ⊢ ((dats m 0 c).leavesExact 3 t : sProp 𝕄) := by
  unfold Dat.leavesExact
  rw [idle_3, decide_eq_true h, flush_3]
  by_cases h5 : t.val = 35
  · rw [decide_eq_true h5, Bool.or_true, after_3]
    have e : (dats m 0 c).before 3 t d = norm m c (held t) := by
      obtain ⟨v, hv⟩ := t
      obtain rfl : v = 32 + 3 := h5
      exact (before_3 m c 3 hv d).trans rfl
    rw [e]
  · rw [decide_eq_false (show ¬ t.val < 31 by omega), decide_eq_false h5]
    show _ ⊢ iprop(∃ d, owns (c : Thread nD τ) (win0_3.stage (cfg0.slots t 3)) fullShare ((dats m 0 c).before 3 t d))
    iintro H
    iexists d
    iexact H

/-- What it leaves in the samples'. -/
theorem leaves_4 (c : Dev nD) (t : Fin cfg0.N) (h : 32 ≤ t.val) : (dats m 0 c).leavesExact 4 t = owns (c : Thread nD τ) (win0_4.stage (cfg0.slots t 4)) fullShare (norm m c t) := by
  unfold Dat.leavesExact
  rw [idle_4, decide_eq_false (by omega), after_4]

theorem keeps_4 (c : Dev nD) (t : Fin cfg0.N) (h : t.val < 32) (d) :
    owns (c : Thread nD τ) (win0_4.stage (cfg0.slots t 4)) fullShare ((dats m 0 c).before 4 t d) ⊢ ((dats m 0 c).leavesExact 4 t : sProp 𝕄) := by
  unfold Dat.leavesExact
  rw [idle_4, decide_eq_true h, flush_4, decide_eq_false (by omega)]
  show _ ⊢ iprop(∃ d, owns (c : Thread nD τ) (win0_4.stage (cfg0.slots t 4)) fullShare ((dats m 0 c).before 4 t d))
  iintro H
  iexists d
  iexact H

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, show (dats m 0 c).Φ t.succ = (dats m 0 c).Φ t.castSucc from rfl, after_0, after_1, after_2]
  iintro ⟨HΦ, Ho, ⟨%d0, H0⟩, ⟨%d1, H1⟩, ⟨%d2, H2⟩, ⟨%d3, H3⟩, ⟨%d4, H4⟩⟩
  by_cases h : t.val < 32
  · rw [leaves_3 m c t h]
    iapply (run_prompt c (grid0.coords t) _ _ _ _ _ _ _ _ _ _ ((prompt_iff t).mpr h) (fun e => absurd ((sample_iff t).mp e) (by omega)) (iblk m c 0 t) (iblk m c 1 t) (iblk m c 2 t) ((dats m 0 c).before 4 t d4) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (keeps_4 m c t h d4)
    iexact H4
  · have h' : 32 ≤ t.val := by omega
    rw [leaves_4 m c t h']
    iapply (run_sample c (grid0.coords t) _ _ _ _ _ _ _ _ _ _ (fun e => absurd ((prompt_iff t).mp e) h) ((sample_iff t).mpr h') (iblk m c 0 t) (iblk m c 1 t) (iblk m c 2 t) ((dats m 0 c).before 3 t d3) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (keeps_3 m c t h' d3)
      iexact H3
    iexact H4

/-- The body table's row at point `t`'s slots is the body at the point. -/
theorem row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row]
  exact triple_restated (sound_body m c t) rfl .rfl fun _ => .rfl

set_option backward.isDefEq.respectTransparency.types false in
/-- The launch: every window's array ends as the proof data says, and every counter at zero. -/
theorem run_all : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := Ideal))) (s₀ m ρ) (Pipeline.FramePost cfgs (dats m) 0 (V m)) :=
  (θ_run defs _ _).mono (fun _ h => h.1) (run_all m ρ)

theorem run_sem : θ_run defs (onTc (τ := τ) (main (F := Ideal))) (s₀ m ρ) (fun r => r.2.sem = fun _ => 0) :=
  (θ_run defs _ _).mono (fun _ h => h.2) (run_all m ρ)

/-- The arguments end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

end Cert.Kernel9Ideal.Last

end
-- ==== Proof.Value9.lean ====
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.LastRun
public import proofs.«01_k».proof.Proof.Spec
public import proofs.«01_k».proof.Proof.Rows

@[expose] public section

set_option maxRecDepth 16384

/-! The last norm: the two arrays the launch leaves, entry by entry. -/

noncomputable section

namespace Cert.Kernel9Ideal.Last

open Cert.Kernel9Ideal Cert.Kernel9Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![(held t).val, 0] ∧ win0_4.index t = ![t.val - 32, 0] :=
  (by decide +kernel : ∀ t : Fin grid0.N, _)

theorem lt (t : Fin cfg0.N) : t.val < 36 := t.isLt

/-- The array row of a block's. -/
abbrev rowOf (t : Fin cfg0.N) (r : Fin 256) : Fin 9216 := ⟨256 * t.val + r.val, by have := lt t; omega⟩

/-- The result over the arguments the memory holds. -/
def val (c : Dev nD) (R : Fin 9216) (J : Fin 4096) : EReal :=
  Spec.norm (fun k => m ((c : Thread nD τ).loc main_arg0) (ix2 R k)) (m ((c : Thread nD τ).loc main_arg1)) (m ((c : Thread nD τ).loc main_arg2)) J

theorem x_blk (c : Dev nD) (t : Fin cfg0.N) (r : Fin 256) (k : Fin 4096) : iblk m c 0 t (ix2 r k) = m ((c : Thread nD τ).loc main_arg0) (ix2 (rowOf t r) k) := by
  rw [← V_main_arg0 m c]
  unfold iblk
  blk_ext [idx t]

theorem g_blk (c : Dev nD) (t : Fin cfg0.N) (k : Fin 4096) : iblk m c 1 t (ix2 0 k) = m ((c : Thread nD τ).loc main_arg1) (ix2 0 k) := by
  rw [← V_main_arg1 m c]
  unfold iblk
  blk_ext [idx t]

theorem b_blk (c : Dev nD) (t : Fin cfg0.N) (k : Fin 4096) : iblk m c 2 t (ix2 0 k) = m ((c : Thread nD τ).loc main_arg2) (ix2 0 k) := by
  rw [← V_main_arg2 m c]
  unfold iblk
  blk_ext [idx t]

/-- The body's value over the blocks' entries. -/
theorem body_val (x : FVec Ideal S256x4096 .f32) (g b : FVec Ideal S1x4096 .f32) (r : Fin 256) (j : Fin 4096) (row : Fin 4096 → EReal) (g' b' : Spec.M2 1 4096)
    (hx : ∀ k, x (ix2 r k) = row k) (hg : g (ix2 0 j) = g' (ix2 0 j)) (hb : b (ix2 0 j) = b' (ix2 0 j)) : (k0_pay1 (F := Ideal) x g b (ix2 r j) : EReal) = Spec.norm row g' b' j := by
  unfold Spec.norm Spec.var Spec.mean
  simp only [← hx, ← hg, ← hb]
  pointwise [k0_pay1]
  rfl

theorem pt (c : Dev nD) (t : Fin cfg0.N) (r : Fin 256) (j : Fin 4096) : (norm m c t (ix2 r j) : EReal) = val m c (rowOf t r) j :=
  body_val _ _ _ r j _ _ _ (fun k => x_blk m c t r k) (g_blk m c t j) (b_blk m c t j)

/-- The prompt's array. -/
theorem final_p (c : Dev nD) : (dats m 0 c).arrAt 3 (cfgs 0).N = fun i => val m c ⟨(i 0).val, by have := (i 0).isLt; change (i 0).val < 8192 at this; omega⟩ (i 1) := by
  refine (dats m 0 c).arrAt_eq_of_covers 3 _ (by decide +kernel) fun t _ y => ?_
  blk_simp
  rw [after_3]
  idx_vars y
  refine (pt m c (held t) _ _).trans ?_
  refine congrArg₂ (val m c) (Fin.ext ?_) (Fin.ext ?_)
  · blk_simp [idx t]; show 256 * (held t).val + y0.val = (held t).val * 256 + y0.val; omega
  · blk_simp [idx t]

/-- The samples' array. -/
theorem final_s (c : Dev nD) : (dats m 0 c).arrAt 4 (cfgs 0).N = fun i => val m c ⟨8192 + (i 0).val, by have := (i 0).isLt; change (i 0).val < 1024 at this; omega⟩ (i 1) := by
  refine (dats m 0 c).arrAt_eq_of_covers 4 _ (by decide +kernel) fun t hf y => ?_
  have ht : 32 ≤ t.val := by rw [flush_4] at hf; exact of_decide_eq_true hf
  blk_simp
  rw [after_4]
  idx_vars y
  refine (pt m c t _ _).trans ?_
  refine congrArg₂ (val m c) (Fin.ext ?_) (Fin.ext ?_)
  · blk_simp [idx t]; show 256 * t.val + y0.val = 8192 + ((t.val - 32) * 256 + y0.val); omega
  · blk_simp [idx t]

end Cert.Kernel9Ideal.Last

end
-- ==== Proof.Plain9.lean ====
module

public import proofs.«01_k».proof.Proof.Gen.Reference9Ideal.Read
public import proofs.«01_k».proof.Proof.Gen.Reference9Ideal.Run
public import proofs.«01_k».proof.Proof.Spec
public import proofs.«01_k».proof.Proof.Rows
public import Idealize.ShloMosaic.Lib.Pipeline.ValueKit

@[expose] public section

set_option maxRecDepth 16384

/-! The reference of the last norm, entry by entry. -/

noncomputable section

namespace Cert.Reference9Ideal.Val

open Cert.Reference9Ideal Cert.Reference9Ideal.Gen Cert.Reference9Ideal.Read
open Idealize.ShloMosaic Idealize.ShloMosaic.TcCoe Idealize.ShloMosaic.Tactic

variable (x0 : (⟨S9216x4096, .f32⟩ : BufTy).Contents (Elt Ideal)) (x1 : (⟨S1x4096, .f32⟩ : BufTy).Contents (Elt Ideal)) (x2 : (⟨S1x4096, .f32⟩ : BufTy).Contents (Elt Ideal))

theorem mean_val (R : Fin 9216) : val_main_v5 (F := Ideal) x0 (ix2 R 0) = Spec.mean (fun k => x0 (ix2 R k)) := by
  unfold Spec.mean Spec.width
  pointwise [val_main_v5, val_main_v4, val_main_v3, val_main_v2, val_main_cst, val_main_cst_0]
  try rfl

theorem var_val (R : Fin 9216) : val_main_v12 (F := Ideal) x0 (ix2 R 0) = Spec.var (fun k => x0 (ix2 R k)) := by
  unfold Spec.var Spec.width
  rw [← mean_val]
  pointwise [val_main_v12, val_main_v11, val_main_v10, val_main_v9, val_main_v8, val_main_v7, val_main_v6, val_main_cst_1, val_main_cst_2]
  try rfl

theorem main_v25_val (R : Fin 9216) (J : Fin 4096) : val_main_v25 (F := Ideal) x0 x1 x2 (ix2 R J) = Spec.norm (fun k => x0 (ix2 R k)) x1 x2 J := by
  unfold Spec.norm
  rw [← var_val, ← mean_val]
  pointwise [val_main_v25, val_main_v24, val_main_v23, val_main_v22, val_main_v21, val_main_v20, val_main_v19, val_main_v18, val_main_v17, val_main_v16, val_main_v15, val_main_cst_3, val_main_v14, val_main_v13, val_main_v1, val_main_v0]
  try rfl

theorem main_v26_val (R : Fin 8192) (J : Fin 4096) : val_main_v26 (F := Ideal) x0 x1 x2 (ix2 R J) = Spec.norm (fun k => x0 (ix2 (⟨R.val, by omega⟩ : Fin 9216) k)) x1 x2 J := by
  rw [← main_v25_val]
  pointwise [val_main_v26]
  try rfl

theorem main_v27_val (R : Fin 1024) (J : Fin 4096) : val_main_v27 (F := Ideal) x0 x1 x2 (ix2 R J) = Spec.norm (fun k => x0 (ix2 (⟨8192 + R.val, by omega⟩ : Fin 9216) k)) x1 x2 J := by
  rw [← main_v25_val]
  pointwise [val_main_v27]
  try rfl

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v26) = (fun i => Spec.norm (fun k => m ((c : Thread nD τ).loc main_arg0) (ix2 (⟨(i 0).val, by have := (i 0).isLt; change (i 0).val < 8192 at this; omega⟩ : Fin 9216) k)) (m ((c : Thread nD τ).loc main_arg1)) (m ((c : Thread nD τ).loc main_arg2)) (i 1))
      ∧ r.2.mem ((c : Thread nD τ).loc main_v27) = (fun i => Spec.norm (fun k => m ((c : Thread nD τ).loc main_arg0) (ix2 (⟨8192 + (i 0).val, by have := (i 0).isLt; change (i 0).val < 1024 at this; omega⟩ : Fin 9216) k)) (m ((c : Thread nD τ).loc main_arg1)) (m ((c : Thread nD τ).loc main_arg2)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans ((val_main_v26_eq _ _ _).trans (funext fun i => (congrArg _ (ix2_eta i)).trans (main_v26_val (m ((c : Thread nD τ).loc main_arg0)) (m ((c : Thread nD τ).loc main_arg1)) (m ((c : Thread nD τ).loc main_arg2)) (i 0) (i 1)))),
      (h c).2.1.trans ((val_main_v27_eq _ _ _).trans (funext fun i => (congrArg _ (ix2_eta i)).trans (main_v27_val (m ((c : Thread nD τ).loc main_arg0)) (m ((c : Thread nD τ).loc main_arg1)) (m ((c : Thread nD τ).loc main_arg2)) (i 0) (i 1)))),
      (h c).2.2⟩)
    (Cert.Reference9Ideal.Value.run m ρ)

/-- The reference names no counter, so every one is at zero. -/
theorem sems (s : MemSt nD τ sig (Elt Ideal)) : s.sem = fun _ => 0 := sem_eq_zero_of_no_sems rfl s

end Cert.Reference9Ideal.Val

end
-- ==== Proof.Claim9.lean ====
/- The claims about the ln2 call (programs Kernel9, Kernel9Ideal and Reference9Ideal). -/
module

public import proofs.«01_k».proof.Defs
public import proofs.«01_k».proof.Proof.LastKeep
public import proofs.«01_k».proof.Proof.Value9
public import proofs.«01_k».proof.Proof.Plain9
public import Idealize.ShloMosaic.Lib.Claim
public import Idealize.ShloMosaic.Adequacy
public import Idealize.ShloMosaic.Init

@[expose] public section

noncomputable section

namespace Cert.Proof

open Idealize.ShloMosaic Idealize.SL.Sem

theorem quiescent9 : Cert.quiescent_Kernel9 := fun m ρ _ => Cert.Kernel9.Keep.frame m ρ

theorem quiescent_ideal9 : Cert.quiescent_Kernel9Ideal := by
  intro m g _
  run_from Cert.Kernel9Ideal.Last.frame m g & Cert.Kernel9Ideal.Last.run_sem m g

theorem quiescent_ref9 : Cert.quiescent_Reference9Ideal := fun m ρ _ =>
  (θ_run Cert.Reference9Ideal.defs _ _).mono (fun r h => ⟨fun c => (h c).2.2, Cert.Reference9Ideal.Val.sems _⟩) (Cert.Reference9Ideal.Val.run m ρ)

theorem algebraic9 : Cert.algebraic_Kernel9Ideal_Reference9Ideal := by
  pair_intro
  · run_from Cert.Kernel9Ideal.Last.run_post m g & Cert.Kernel9Ideal.Last.frame m g
  · refine (θ_run Cert.Reference9Ideal.defs _ _).mono (fun r h c => ?_) (Cert.Reference9Ideal.Val.run m' g')
    obtain ⟨h0, h1, ha⟩ := h c
    obtain ⟨a0, a1, a2⟩ := hagree c
    refine ⟨h0.trans ?_, h1.trans ?_, ha⟩
    · rw [a0, a1, a2]; exact (Cert.Kernel9Ideal.Last.final_p m c).symm
    · rw [a0, a1, a2]; exact (Cert.Kernel9Ideal.Last.final_s m c).symm

end Cert.Proof

end
-- ==== Proof.GateSpec.lean ====
module

public import Idealize.ShloMosaic.Lib.KernelVsHost
public import proofs.«01_k».proof.Proof.Spec

@[expose] public section

/-! The gates of the attention's three branches, as plain sums over the arguments. -/

noncomputable section

namespace Cert.Spec

open Idealize.ShloMosaic

/-- The forty-eight columns of the gates, then columns of zeros. -/
def gateCol (w : M3 1 4096 19504) (k : Fin 4096) (J : Fin 128) : EReal :=
  if h : J.val < 48 then w (ix3 0 k ⟨11264 + J.val, by omega⟩) else 0

/-- A gate of a row. -/
def gates (xp : M3 1 8192 4096) (xs : M3 128 8 4096) (w : M3 1 4096 19504) (R : Fin 9216) (J : Fin 48) : EReal :=
  Ideal.logistic (∑ k : Fin 4096, row xp xs R k * w (ix3 0 k ⟨11264 + J.val, by omega⟩))

/-- The columns of the gates, out of the matrix. -/
theorem gateCol_of (w : M3 1 4096 19504) (k : Fin 4096) (J : Fin 48) : gateCol w k ⟨J.val, by omega⟩ = w (ix3 0 k ⟨11264 + J.val, by omega⟩) :=
  dif_pos J.isLt

/-- The forty-eight columns cut out of the matrix and padded with zeros. -/
theorem gateCol_pad (w : M3 1 4096 19504) (x : M2 4096 19504) (hx : ∀ k j, x (ix2 k j) = w (ix3 0 k j)) (z : (⟨0, ![]⟩ : Shape).Idx → EReal) (hz : ∀ i, z i = 0) (hs hp hu)
    (k : Fin 4096) (J : Fin 128) :
    pad (s := ⟨2, ![4096, 48]⟩) ⟨2, ![4096, 128]⟩ ![0, 0] ![0, 80] ![0, 0] (extractStridedSlice ⟨2, ![4096, 48]⟩ ![0, 11264] x hs) z hp hu (ix2 k J) = gateCol w k J := by
  unfold gateCol
  by_cases h : J.val < 48
  · rw [dif_pos h, ← hx]
    refine (pad_apply_of_inside _ _ _ _ _ hp hu _ (ix2 k ⟨J.val, h⟩) fun a => ?_).trans
      (extractStridedSlice_apply _ _ hs _ (ix2 k ⟨11264 + J.val, by omega⟩) fun a => ?_)
    · fin_cases a
      · show k.val = 0 + k.val * (0 + 1); omega
      · show J.val = 0 + J.val * (0 + 1); omega
    · fin_cases a
      · show k.val = 0 + k.val; omega
      · rfl
  · rw [dif_neg h]
    refine (pad_apply_of_not_inside _ _ _ _ _ hp hu _ 1 fun hin => h ?_).trans (hz _)
    have h2 : (J.val - 0) / (0 + 1) < 48 := hin.2.2
    omega

end Cert.Spec

end
-- ==== Proof.Value10.lean ====
module

public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.GateSpec

@[expose] public section

set_option maxRecDepth 16384

/-! The gates of the attention's branches: the array the launch leaves, entry by entry. -/

noncomputable section

namespace Cert.Kernel10Ideal.Val

open Cert.Kernel10Ideal Cert.Kernel10Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt (t : Fin cfg0.N) : t.val < 9 := t.isLt

/-- The array row of a block's. -/
abbrev rowOf (t : Fin cfg0.N) (r : Fin 1024) : Fin 9216 := ⟨1024 * t.val + r.val, by have := lt t; omega⟩

/-- The launch's array over the arguments the memory holds, with the columns of padding. -/
def val (c : Dev nD) (R : Fin 9216) (J : Fin 128) : EReal :=
  Ideal.logistic (∑ k : Fin 4096, Spec.row (m ((c : Thread nD τ).loc main_arg0)) (m ((c : Thread nD τ).loc main_arg1)) R k * Spec.gateCol (m ((c : Thread nD τ).loc main_arg2)) k J)

theorem x_entry (c : Dev nD) (R : Fin 9216) (k : Fin 4096) :
    V m c main_v4 (ix2 R k) = Spec.row (m ((c : Thread nD τ).loc main_arg0)) (m ((c : Thread nD τ).loc main_arg1)) R k := by
  entry_read
  exact Spec.row_join (m ((c : Thread nD τ).loc main_arg0)) (m ((c : Thread nD τ).loc main_arg1)) concatenates_S8192x4096_S1024x4096_S9216x4096_d0 shapeCasts_S1x8192x4096_S8192x4096 shapeCasts_S128x8x4096_S1024x4096 R k

theorem w_entry (c : Dev nD) (k : Fin 4096) (J : Fin 128) : V m c main_v8 (ix2 k J) = Spec.gateCol (m ((c : Thread nD τ).loc main_arg2)) k J := by
  entry_read
  exact Spec.gateCol_pad (m ((c : Thread nD τ).loc main_arg2)) (shapeCast S4096x19504 (m ((c : Thread nD τ).loc main_arg2)) shapeCasts_S1x4096x19504_S4096x19504)
    (fun k j => Rows.flat_one (m ((c : Thread nD τ).loc main_arg2)) shapeCasts_S1x4096x19504_S4096x19504 k j)
    (sitofp (F := Ideal) .bf16 (constantI S_ 32 0#32)) (fun _ => sitofp_zero (φ := .bf16)) slices_S4096x19504_S4096x48_0_11264 pads_S4096x48_S4096x128_000_0800 h_S_ k J

theorem x_blk (c : Dev nD) (t : Fin cfg0.N) (r : Fin 1024) (k : Fin 4096) :
    iblk m c 0 t (ix2 r k) = Spec.row (m ((c : Thread nD τ).loc main_arg0)) (m ((c : Thread nD τ).loc main_arg1)) (rowOf t r) k := by
  rw [← x_entry m c]
  unfold iblk
  blk_ext [idx t]

theorem w_blk (c : Dev nD) (t : Fin cfg0.N) (k : Fin 4096) (j : Fin 128) : iblk m c 1 t (ix2 k j) = Spec.gateCol (m ((c : Thread nD τ).loc main_arg2)) k j := by
  rw [← w_entry m c]
  unfold iblk
  blk_ext [idx t]

theorem body_val (x : FVec Ideal S1024x4096 .bf16) (w : FVec Ideal S4096x128 .bf16) (r : Fin 1024) (j : Fin 128) (p q : Fin 4096 → EReal)
    (hx : ∀ k, x (ix2 r k) = p k) (hw : ∀ k, w (ix2 k j) = q k) : (k0_pay1 (F := Ideal) x w (ix2 r j) : EReal) = Ideal.logistic (∑ k, p k * q k) := by
  simp only [← hx, ← hw]
  pointwise [k0_pay1]

theorem whole (c : Dev nD) : (dats m 0 c).arrAt 2 (cfgs 0).N = fun i => val m c (i 0) (i 1) := by
  refine (dats m 0 c).arrAt_eq_of_covers 2 _ (by decide +kernel) fun t _ y => ?_
  blk_simp
  rw [after0_2]
  frame_out
  idx_vars y
  refine (body_val _ _ y0 y1 _ _ (fun k => x_blk m c t y0 k) (fun k => w_blk m c t k y1)).trans ?_
  refine congrArg₂ (val m c) (Fin.ext ?_) (Fin.ext ?_)
  · blk_simp [idx t]; show 1024 * t.val + y0.val = _; omega
  · blk_simp [idx t]

/-- The columns kept. -/
theorem final (c : Dev nD) : Pipeline.afterTail₀ cfgs (dats m) 0 (V0 m) [hostOps1] c main_v10
    = fun i => Spec.gates (m ((c : Thread nD τ).loc main_arg0)) (m ((c : Thread nD τ).loc main_arg1)) (m ((c : Thread nD τ).loc main_arg2)) (i 0) (i 1) := by
  have e : Pipeline.withArrays (cfgs 0).spec c (V0 m c) (fun w => (dats m 0 c).arrAt w (cfgs 0).N) (Proc.devRef .tc main_v9) = (dats m 0 c).arrAt 2 (cfgs 0).N :=
    Pipeline.withArrays_arr (cfgs 0).spec (by decide) c (V0 m c) _ 2
  have k : Pipeline.afterTail₀ cfgs (dats m) 0 (V0 m) [hostOps1] c main_v10
      = extractStridedSlice S9216x48 ![0, 0] (Pipeline.withArrays (cfgs 0).spec c (V0 m c) (fun w => (dats m 0 c).arrAt w (cfgs 0).N) (Proc.devRef .tc main_v9)) slices_S9216x128_S9216x48_0_0 := by
    unfold Pipeline.afterTail₀
    show StableHlo.after hostOps1 _ _ = _
    unfold hostOps1
    after_results
  rw [k, e, whole]
  funext i
  have h1 : (i 1).val < 48 := (i 1).isLt
  refine (extractStridedSlice_apply _ _ _ _ (ix2 (i 0) ⟨(i 1).val, by omega⟩) fun a => by fin_cases a <;> (show _ = _ + _; simp [ix2])).trans ?_
  show val m c _ _ = _
  unfold val Spec.gates
  exact congrArg Ideal.logistic (Finset.sum_congr rfl fun k _ => congrArg _ (Spec.gateCol_of _ k (i 1)))

end Cert.Kernel10Ideal.Val

end
-- ==== Proof.Plain10.lean ====
module

public import proofs.«01_k».proof.Proof.Gen.Reference10Ideal.Read
public import proofs.«01_k».proof.Proof.Gen.Reference10Ideal.Run
public import proofs.«01_k».proof.Proof.GateSpec
public import Idealize.ShloMosaic.Lib.Pipeline.ValueKit

@[expose] public section

set_option maxRecDepth 16384

/-! The reference of the gates, entry by entry. -/

noncomputable section

namespace Cert.Reference10Ideal.Val

open Cert.Reference10Ideal Cert.Reference10Ideal.Gen Cert.Reference10Ideal.Read
open Idealize.ShloMosaic Idealize.ShloMosaic.TcCoe Idealize.ShloMosaic.Tactic

variable (x0 : (⟨S1x8192x4096, .f32⟩ : BufTy).Contents (Elt Ideal)) (x1 : (⟨S128x8x4096, .f32⟩ : BufTy).Contents (Elt Ideal)) (x2 : (⟨S1x4096x19504, .f32⟩ : BufTy).Contents (Elt Ideal))

theorem row_val (R : Fin 9216) (k : Fin 4096) : val_main_v2 (F := Ideal) x0 x1 (ix2 R k) = Spec.row x0 x1 R k := by
  unfold val_main_v2 val_main_v0 val_main_v1
  exact Spec.row_join x0 x1 _ _ _ R k

theorem col_val (k : Fin 4096) (J : Fin 48) : val_main_v4 (F := Ideal) x2 (ix2 k J) = x2 (ix3 0 k ⟨11264 + J.val, by omega⟩) := by
  unfold val_main_v4 val_main_v3
  exact (extractStridedSlice_apply _ _ _ _ (ix2 k ⟨11264 + J.val, by omega⟩) fun a => by fin_cases a <;> (show _ = _ + _; simp [ix2])).trans (Rows.flat_one x2 _ k _)

theorem main_v11_val (R : Fin 9216) (J : Fin 48) : val_main_v11 (F := Ideal) x0 x1 x2 (ix2 R J) = Spec.gates x0 x1 x2 R J := by
  unfold Spec.gates
  simp only [← row_val, ← col_val]
  pointwise [val_main_v11, val_main_v10, val_main_v9, val_main_v8, val_main_v7, val_main_v6, val_main_v5, val_main_cst, val_main_cst_0]
  rfl

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its result entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v11) = (fun i => Spec.gates (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans ((val_main_v11_eq _ _ _).trans (funext fun i => (congrArg _ (ix2_eta i)).trans (main_v11_val (m ((c : Thread nD τ).loc main_arg0)) (m ((c : Thread nD τ).loc main_arg1)) (m ((c : Thread nD τ).loc main_arg2)) (i 0) (i 1)))),
      (h c).2⟩)
    (Cert.Reference10Ideal.Value.run m ρ)

/-- The reference names no counter, so every one is at zero. -/
theorem sems (s : MemSt nD τ sig (Elt Ideal)) : s.sem = fun _ => 0 := sem_eq_zero_of_no_sems rfl s

end Cert.Reference10Ideal.Val

end
-- ==== Proof.Claim10.lean ====
/- The claims about the proj_gates call (programs Kernel10, Kernel10Ideal and Reference10Ideal). -/
module

public import proofs.«01_k».proof.Defs
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Value10
public import proofs.«01_k».proof.Proof.Plain10
public import Idealize.ShloMosaic.Lib.Claim
public import Idealize.ShloMosaic.Adequacy
public import Idealize.ShloMosaic.Init

@[expose] public section

noncomputable section

namespace Cert.Proof

open Idealize.ShloMosaic Idealize.SL.Sem

theorem quiescent10 : Cert.quiescent_Kernel10 := fun m ρ _ => Cert.Kernel10.Gen.frame m ρ

theorem quiescent_ideal10 : Cert.quiescent_Kernel10Ideal := fun m ρ _ => Cert.Kernel10Ideal.Gen.frame m ρ

theorem quiescent_ref10 : Cert.quiescent_Reference10Ideal := fun m ρ _ =>
  (θ_run Cert.Reference10Ideal.defs _ _).mono (fun r h => ⟨fun c => (h c).2, Cert.Reference10Ideal.Val.sems _⟩) (Cert.Reference10Ideal.Val.run m ρ)

theorem algebraic10 : Cert.algebraic_Kernel10Ideal_Reference10Ideal := by
  pair_intro
  · run_from Cert.Kernel10Ideal.Gen.run_main m g & Cert.Kernel10Ideal.Gen.unchanged m g
  · refine (θ_run Cert.Reference10Ideal.defs _ _).mono (fun r h c => ?_) (Cert.Reference10Ideal.Val.run m' g')
    obtain ⟨h0, ha⟩ := h c
    obtain ⟨a0, a1, a2⟩ := hagree c
    refine ⟨h0.trans ?_, ha⟩
    rw [a0, a1, a2]; exact (Cert.Kernel10Ideal.Val.final m c).symm

end Cert.Proof

end
-- ==== Proof.CompSpec.lean ====
module

public import Idealize.ShloMosaic.Lib.KernelVsHost
public import proofs.«01_k».proof.Proof.Spec

@[expose] public section

/-! The keys' learned compression, as plain sums over the arguments: chunks of sixteen rows, two neighbours to a block. -/

noncomputable section

namespace Cert.Spec

open Idealize.ShloMosaic

/-- The smooth gate of a hidden unit, with the constants as rounded. -/
def gelu (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * (x * x * x))))

/-- Entry `q` of head `g`'s part of chunk `n`: row `q / 128` of the chunk's sixteen. -/
def chunk (k : M2 8192 512) (n : Fin 512) (g : Fin 4) (q : Fin 2048) : EReal :=
  k (ix2 ⟨16 * n.val + q.val / 128, by omega⟩ ⟨128 * g.val + q.val % 128, by omega⟩)

/-- The position's offset at the first sixteen rows of a block (`s = 0`), and at the last (`s = 1`). -/
def place (pe : M3 1 32 128) (s : Fin 2) (q : Fin 2048) : EReal :=
  pe (ix3 0 ⟨16 * s.val + q.val / 128, by omega⟩ ⟨q.val % 128, by omega⟩)

/-- What a chunk adds to a hidden unit as the first half of a block (`s = 0`), and as the second (`s = 1`). -/
def part (k : M2 8192 512) (pe : M3 1 32 128) (w : M3 1 4096 256) (s : Fin 2) (n : Fin 512) (g : Fin 4) (j : Fin 256) : EReal :=
  (∑ q : Fin 2048, chunk k n g q * w (ix3 0 ⟨2048 * s.val + q.val, by omega⟩ j))
    + ∑ q : Fin 2048, place pe s q * w (ix3 0 ⟨2048 * s.val + q.val, by omega⟩ j)

/-- Head `g`'s entry `d` of the block made of chunks `n` and `n'`. -/
def block (k : M2 8192 512) (pe : M3 1 32 128) (w : M3 1 4096 256) (w2 : M3 1 256 128) (n n' : Fin 512) (g : Fin 4) (d : Fin 128) : EReal :=
  ∑ j : Fin 256, gelu (part k pe w 0 n g j + part k pe w 1 n' g j) * w2 (ix3 0 j d)

/-- The compressed rows. -/
def comp (k : M2 8192 512) (pe : M3 1 32 128) (w : M3 1 4096 256) (w2 : M3 1 256 128) (n : Fin 511) (J : Fin 512) : EReal :=
  block k pe w w2 ⟨n.val, by omega⟩ ⟨n.val + 1, by omega⟩ ⟨J.val / 128, by omega⟩ ⟨J.val % 128, by omega⟩

end Cert.Spec

end
-- ==== Proof.CompBody.lean ====
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.CompSpec

@[expose] public section

set_option maxRecDepth 16384

/-! The compression's body: what it computes of one head, entry by entry. -/

noncomputable section

namespace Cert.Kernel11Ideal.Val

open Cert.Kernel11Ideal Cert.Kernel11Ideal.Gen
open Idealize.ShloMosaic Idealize.ShloMosaic.TcCoe Idealize.ShloMosaic.Tactic

/-- Sixteen row parts side by side. -/
def beside (x : Fin 16 → FVec Ideal S512x128 .bf16) : FVec Ideal S512x2048 .bf16 :=
  concatenate S512x2048 1 [⟨S512x128, shapeCast S512x128 (x 0) shapeCasts_S512x128_S512x128⟩, ⟨S512x128, shapeCast S512x128 (x 1) shapeCasts_S512x128_S512x128⟩, ⟨S512x128, shapeCast S512x128 (x 2) shapeCasts_S512x128_S512x128⟩, ⟨S512x128, shapeCast S512x128 (x 3) shapeCasts_S512x128_S512x128⟩, ⟨S512x128, shapeCast S512x128 (x 4) shapeCasts_S512x128_S512x128⟩, ⟨S512x128, shapeCast S512x128 (x 5) shapeCasts_S512x128_S512x128⟩, ⟨S512x128, shapeCast S512x128 (x 6) shapeCasts_S512x128_S512x128⟩, ⟨S512x128, shapeCast S512x128 (x 7) shapeCasts_S512x128_S512x128⟩, ⟨S512x128, shapeCast S512x128 (x 8) shapeCasts_S512x128_S512x128⟩, ⟨S512x128, shapeCast S512x128 (x 9) shapeCasts_S512x128_S512x128⟩, ⟨S512x128, shapeCast S512x128 (x 10) shapeCasts_S512x128_S512x128⟩, ⟨S512x128, shapeCast S512x128 (x 11) shapeCasts_S512x128_S512x128⟩, ⟨S512x128, shapeCast S512x128 (x 12) shapeCasts_S512x128_S512x128⟩, ⟨S512x128, shapeCast S512x128 (x 13) shapeCasts_S512x128_S512x128⟩, ⟨S512x128, shapeCast S512x128 (x 14) shapeCasts_S512x128_S512x128⟩, ⟨S512x128, shapeCast S512x128 (x 15) shapeCasts_S512x128_S512x128⟩] concatenates_S512x128_S512x128_S512x128_S512x128_S512x128_S512x128_S512x128_S512x128_S512x128_S512x128_S512x128_S512x128_S512x128_S512x128_S512x128_S512x128_S512x2048_d1

/-- A chunk as the first half of a block, -/
def fst (z : FVec Ideal S512x2048 .bf16) (pe : FVec Ideal S2x2048 .f32) (w : FVec Ideal S2048x512 .bf16) : FVec Ideal S512x256 .f32 :=
  addf (extractStridedSlice S512x256 ![0, 0] (matmul dot_S512x2048_S2048x512_S512x512_1_0_0_1_n_n none z (shapeCast S2048x512 w shapeCasts_S2048x512_S2048x512) (constant S512x512 .f32 0x00000000#32)) slices_S512x512_o0_0_S512x256)
    (broadcastTo S512x256 (extractStridedSlice S1x256 ![0, 0] (matmul dot_S8x2048_S2048x256_S8x256_1_0_0_1_n_n none
      (truncf .bf16 (broadcastTo S8x2048 (shapeCast S1x2048 (extractStridedSlice S1x2048 ![0, 0] (shapeCast S2x2048 pe shapeCasts_S2x2048_S2x2048) slices_S2x2048_o0_0_S1x2048) shapeCasts_S1x2048_S1x2048) broadcasts_S1x2048_S8x2048) bitsLt_bf16_f32)
      (extractStridedSlice S2048x256 ![0, 0] (shapeCast S2048x512 w shapeCasts_S2048x512_S2048x512) slices_S2048x512_o0_0_S2048x256) (constant S8x256 .f32 0x00000000#32)) slices_S8x256_o0_0_S1x256) broadcasts_S1x256_S512x256)

/-- and as the second. -/
def snd (z : FVec Ideal S512x2048 .bf16) (pe : FVec Ideal S2x2048 .f32) (w : FVec Ideal S2048x512 .bf16) : FVec Ideal S512x256 .f32 :=
  addf (extractStridedSlice S512x256 ![0, 256] (matmul dot_S512x2048_S2048x512_S512x512_1_0_0_1_n_n none z (shapeCast S2048x512 w shapeCasts_S2048x512_S2048x512) (constant S512x512 .f32 0x00000000#32)) slices_S512x512_o0_256_S512x256)
    (broadcastTo S512x256 (extractStridedSlice S1x256 ![0, 0] (matmul dot_S8x2048_S2048x256_S8x256_1_0_0_1_n_n none
      (truncf .bf16 (broadcastTo S8x2048 (shapeCast S1x2048 (extractStridedSlice S1x2048 ![1, 0] (shapeCast S2x2048 pe shapeCasts_S2x2048_S2x2048) slices_S2x2048_o1_0_S1x2048) shapeCasts_S1x2048_S1x2048) broadcasts_S1x2048_S8x2048) bitsLt_bf16_f32)
      (extractStridedSlice S2048x256 ![0, 256] (shapeCast S2048x512 w shapeCasts_S2048x512_S2048x512) slices_S2048x512_o0_256_S2048x256) (constant S8x256 .f32 0x00000000#32)) slices_S8x256_o0_0_S1x256) broadcasts_S1x256_S512x256)

/-- The hidden units: each chunk's first half and the next chunk's second. -/
def hid (z : FVec Ideal S512x2048 .bf16) (pe : FVec Ideal S2x2048 .f32) (w : FVec Ideal S2048x512 .bf16) : FVec Ideal S512x256 .f32 :=
  addf (fst z pe w) (dynamicRotate 0 511#32 none (snd z pe w) rotates_S512x256_d0)

/-- The hidden units gated and projected. -/
def out (h : FVec Ideal S512x256 .f32) (w2 : FVec Ideal S256x128 .bf16) : FVec Ideal S512x128 .bf16 :=
  truncf .bf16 (matmul dot_S512x256_S256x128_S512x128_1_0_0_1_n_n none
    (truncf .bf16 (mulf h (mulf (broadcast S512x256 (Scalar.ofBits .f32 0x3F000000#32)) (addf (broadcast S512x256 (Scalar.ofBits .f32 0x3F800000#32))
      (tanh (mulf (broadcast S512x256 (Scalar.ofBits .f32 0x3F4C422A#32)) (addf h (mulf (broadcast S512x256 (Scalar.ofBits .f32 0x3D372713#32)) (mulf h (mulf h h))))))))) bitsLt_bf16_f32)
    (shapeCast S256x128 w2 shapeCasts_S256x128_S256x128) (constant S512x128 .f32 0x00000000#32)) bitsLt_bf16_f32

/-- One head's part of the body. -/
def group (x : Fin 16 → FVec Ideal S512x128 .bf16) (pe : FVec Ideal S2x2048 .f32) (w : FVec Ideal S2048x512 .bf16) (w2 : FVec Ideal S256x128 .bf16) : FVec Ideal S512x128 .bf16 :=
  out (hid (beside x) pe w) w2

theorem beside_val (x : Fin 16 → FVec Ideal S512x128 .bf16) (n : Fin 512) (q : Fin 2048) :
    beside x (ix2 n q) = x ⟨q.val / 128, by omega⟩ (ix2 n ⟨q.val % 128, by omega⟩) := by
  refine (concatenate_ofFn_apply (t := S512x2048) (s₁ := S512x128) 1 (fun i : Fin 16 => shapeCast S512x128 (x i) shapeCasts_S512x128_S512x128) concatenates_S512x128_S512x128_S512x128_S512x128_S512x128_S512x128_S512x128_S512x128_S512x128_S512x128_S512x128_S512x128_S512x128_S512x128_S512x128_S512x128_S512x2048_d1 rfl 128 rfl (ix2 n q) ⟨q.val / 128, by omega⟩ rfl
    (ix2 n ⟨q.val % 128, by omega⟩) rfl fun b hb => ?_).trans (shapeCast_apply _ _ _ _ rfl)
  fin_cases b
  · rfl
  · exact absurd rfl hb

theorem fst_val (z : FVec Ideal S512x2048 .bf16) (pe : FVec Ideal S2x2048 .f32) (w : FVec Ideal S2048x512 .bf16) (n : Fin 512) (j : Fin 256) :
    (fst z pe w (ix2 n j) : EReal) = (∑ q : Fin 2048, z (ix2 n q) * w (ix2 q ⟨j.val, by omega⟩)) + ∑ q : Fin 2048, pe (ix2 0 q) * w (ix2 q ⟨j.val, by omega⟩) := by
  pointwise [fst]

theorem snd_val (z : FVec Ideal S512x2048 .bf16) (pe : FVec Ideal S2x2048 .f32) (w : FVec Ideal S2048x512 .bf16) (n : Fin 512) (j : Fin 256) :
    (snd z pe w (ix2 n j) : EReal) = (∑ q : Fin 2048, z (ix2 n q) * w (ix2 q ⟨256 + j.val, by omega⟩)) + ∑ q : Fin 2048, pe (ix2 1 q) * w (ix2 q ⟨256 + j.val, by omega⟩) := by
  pointwise [snd]

/-- The chunk after, around the end. -/
abbrev next (n : Fin 512) : Fin 512 := ⟨(n.val + 1) % 512, by omega⟩

theorem hid_val (z : FVec Ideal S512x2048 .bf16) (pe : FVec Ideal S2x2048 .f32) (w : FVec Ideal S2048x512 .bf16) (n : Fin 512) (j : Fin 256) :
    (hid z pe w (ix2 n j) : EReal) = fst z pe w (ix2 n j) + snd z pe w (ix2 (next n) j) := by
  refine congrArg (fst z pe w (ix2 n j) + ·) (dynamicRotate_apply 0 _ _ _ _ (ix2 (next n) j) fun b => ?_)
  fin_cases b
  · show (n.val + 1) % 512 = (n.val + 512 - 511 % 512) % 512
    omega
  · rfl

theorem out_val (h : FVec Ideal S512x256 .f32) (w2 : FVec Ideal S256x128 .bf16) (n : Fin 512) (d : Fin 128) :
    (out h w2 (ix2 n d) : EReal) = ∑ j : Fin 256, Spec.gelu (h (ix2 n j)) * w2 (ix2 j d) := by
  have e : ∀ x : EReal, Spec.gelu x = x * (Ideal.ofBits .f32 0x3F000000#32 * (Ideal.ofBits .f32 0x3F800000#32
      + Ideal.tanh (Ideal.ofBits .f32 0x3F4C422A#32 * (x + Ideal.ofBits .f32 0x3D372713#32 * (x * (x * x)))))) := fun x => by
    unfold Spec.gelu
    rw [mul_assoc x x x, mul_comm _ x, mul_assoc]
  simp only [e]
  pointwise [out]
  try rfl

/-- One head's part, from what its arguments hold. -/
theorem group_val (x : Fin 16 → FVec Ideal S512x128 .bf16) (pe : FVec Ideal S2x2048 .f32) (w : FVec Ideal S2048x512 .bf16) (w2 : FVec Ideal S256x128 .bf16)
    (K : Spec.M2 8192 512) (PE : Spec.M3 1 32 128) (W : Spec.M3 1 4096 256) (W2 : Spec.M3 1 256 128) (g : Fin 4)
    (hx : ∀ (r : Fin 16) (n : Fin 512) (l : Fin 128), x r (ix2 n l) = K (ix2 ⟨16 * n.val + r.val, by omega⟩ ⟨128 * g.val + l.val, by omega⟩))
    (hpe : ∀ (s : Fin 2) (q : Fin 2048), pe (ix2 s q) = Spec.place PE s q)
    (hw : ∀ (s : Fin 2) (q : Fin 2048) (j : Fin 256), w (ix2 q ⟨256 * s.val + j.val, by omega⟩) = W (ix3 0 ⟨2048 * s.val + q.val, by omega⟩ j))
    (hw2 : ∀ (j : Fin 256) (d : Fin 128), w2 (ix2 j d) = W2 (ix3 0 j d)) (n : Fin 512) (d : Fin 128) :
    (group x pe w w2 (ix2 n d) : EReal) = Spec.block K PE W W2 n (next n) g d := by
  have hz : ∀ (n : Fin 512) (q : Fin 2048), (beside x (ix2 n q) : EReal) = Spec.chunk K n g q := fun n q => (beside_val x n q).trans (hx _ n _)
  have h0 : ∀ (q : Fin 2048) (j : Fin 256), (w (ix2 q ⟨j.val, by omega⟩) : EReal) = W (ix3 0 ⟨2048 * (0 : Fin 2).val + q.val, by show 2048 * 0 + q.val < 4096; omega⟩ j) := fun q j => by
    rw [← hw 0 q j]
    exact congrArg (fun a => w (ix2 q a)) (Fin.ext (by show j.val = 256 * 0 + j.val; omega))
  have h1 : ∀ (q : Fin 2048) (j : Fin 256), (w (ix2 q ⟨256 + j.val, by omega⟩) : EReal) = W (ix3 0 ⟨2048 * (1 : Fin 2).val + q.val, by show 2048 * 1 + q.val < 4096; omega⟩ j) := fun q j => hw 1 q j
  unfold Spec.block Spec.part group
  simp only [out_val, hid_val, fst_val, snd_val, hz, hpe, h0, h1, hw2]

/-- The loads of head 0's sixteen row parts. -/
def rows0 (X : Vec Ideal S512x8192 .bf16) : Fin 16 → FVec Ideal S512x128 .bf16 := ![View.ld X r0_0, View.ld X r0_1, View.ld X r0_2, View.ld X r0_3, View.ld X r0_4, View.ld X r0_5, View.ld X r0_6, View.ld X r0_7, View.ld X r0_8, View.ld X r0_9, View.ld X r0_10, View.ld X r0_11, View.ld X r0_12, View.ld X r0_13, View.ld X r0_14, View.ld X r0_15]

theorem rows0_val (X : Vec Ideal S512x8192 .bf16) (r : Fin 16) (n : Fin 512) (l : Fin 128) :
    rows0 X r (ix2 n l) = X (ix2 n ⟨512 * r.val + 128 * 0 + l.val, by omega⟩) := by
  unfold rows0 View.ld
  fin_cases r <;> exact congrArg X (funext fun d => by fin_cases d <;> exact Fin.ext (by simp [ix2, Rect.unit, Rect.toLoadRect, LoadRect.idx]))

/-- The loads of head 1's sixteen row parts. -/
def rows1 (X : Vec Ideal S512x8192 .bf16) : Fin 16 → FVec Ideal S512x128 .bf16 := ![View.ld X r0_20, View.ld X r0_21, View.ld X r0_22, View.ld X r0_23, View.ld X r0_24, View.ld X r0_25, View.ld X r0_26, View.ld X r0_27, View.ld X r0_28, View.ld X r0_29, View.ld X r0_30, View.ld X r0_31, View.ld X r0_32, View.ld X r0_33, View.ld X r0_34, View.ld X r0_35]

theorem rows1_val (X : Vec Ideal S512x8192 .bf16) (r : Fin 16) (n : Fin 512) (l : Fin 128) :
    rows1 X r (ix2 n l) = X (ix2 n ⟨512 * r.val + 128 * 1 + l.val, by omega⟩) := by
  unfold rows1 View.ld
  fin_cases r <;> exact congrArg X (funext fun d => by fin_cases d <;> exact Fin.ext (by simp [ix2, Rect.unit, Rect.toLoadRect, LoadRect.idx]))

/-- The loads of head 2's sixteen row parts. -/
def rows2 (X : Vec Ideal S512x8192 .bf16) : Fin 16 → FVec Ideal S512x128 .bf16 := ![View.ld X r0_37, View.ld X r0_38, View.ld X r0_39, View.ld X r0_40, View.ld X r0_41, View.ld X r0_42, View.ld X r0_43, View.ld X r0_44, View.ld X r0_45, View.ld X r0_46, View.ld X r0_47, View.ld X r0_48, View.ld X r0_49, View.ld X r0_50, View.ld X r0_51, View.ld X r0_52]

theorem rows2_val (X : Vec Ideal S512x8192 .bf16) (r : Fin 16) (n : Fin 512) (l : Fin 128) :
    rows2 X r (ix2 n l) = X (ix2 n ⟨512 * r.val + 128 * 2 + l.val, by omega⟩) := by
  unfold rows2 View.ld
  fin_cases r <;> exact congrArg X (funext fun d => by fin_cases d <;> exact Fin.ext (by simp [ix2, Rect.unit, Rect.toLoadRect, LoadRect.idx]))

/-- The loads of head 3's sixteen row parts. -/
def rows3 (X : Vec Ideal S512x8192 .bf16) : Fin 16 → FVec Ideal S512x128 .bf16 := ![View.ld X r0_54, View.ld X r0_55, View.ld X r0_56, View.ld X r0_57, View.ld X r0_58, View.ld X r0_59, View.ld X r0_60, View.ld X r0_61, View.ld X r0_62, View.ld X r0_63, View.ld X r0_64, View.ld X r0_65, View.ld X r0_66, View.ld X r0_67, View.ld X r0_68, View.ld X r0_69]

theorem rows3_val (X : Vec Ideal S512x8192 .bf16) (r : Fin 16) (n : Fin 512) (l : Fin 128) :
    rows3 X r (ix2 n l) = X (ix2 n ⟨512 * r.val + 128 * 3 + l.val, by omega⟩) := by
  unfold rows3 View.ld
  fin_cases r <;> exact congrArg X (funext fun d => by fin_cases d <;> exact Fin.ext (by simp [ix2, Rect.unit, Rect.toLoadRect, LoadRect.idx]))

theorem piece0 (x0 : Vec Ideal S512x8192 .bf16) (x1 : Vec Ideal S2x2048 .f32) (x2 : Vec Ideal S2048x512 .bf16) (x3 : Vec Ideal S256x128 .bf16) :
    (k0_pay20 (k0_pay16 (View.ld x3 r0_18)) (k0_pay17 (k0_pay68 x0 x1 x2 x3) (k0_pay69 x0 x1 x2 x3) (k0_pay70 x0 x1 x2 x3) (k0_pay71 x0 x1 x2 x3) (k0_pay72 x0 x1 x2 x3) (k0_pay73 x0 x1 x2 x3) (k0_pay74 x0 x1 x2 x3) (k0_pay75 x0 x1 x2 x3) (k0_pay76 x0 x1 x2 x3) (k0_pay77 x0 x1 x2 x3) (k0_pay78 x0 x1 x2 x3) (k0_pay79 x0 x1 x2 x3) (k0_pay80 x0 x1 x2 x3) (k0_pay81 x0 x1 x2 x3) (View.ld x0 r0_14) (View.ld x0 r0_15) (View.ld x1 r0_16) (View.ld x2 r0_17)) (k0_pay18 (k0_pay68 x0 x1 x2 x3) (k0_pay69 x0 x1 x2 x3) (k0_pay70 x0 x1 x2 x3) (k0_pay71 x0 x1 x2 x3) (k0_pay72 x0 x1 x2 x3) (k0_pay73 x0 x1 x2 x3) (k0_pay74 x0 x1 x2 x3) (k0_pay75 x0 x1 x2 x3) (k0_pay76 x0 x1 x2 x3) (k0_pay77 x0 x1 x2 x3) (k0_pay78 x0 x1 x2 x3) (k0_pay79 x0 x1 x2 x3) (k0_pay80 x0 x1 x2 x3) (k0_pay81 x0 x1 x2 x3) (View.ld x0 r0_14) (View.ld x0 r0_15) (View.ld x1 r0_16) (View.ld x2 r0_17)) (k0_pay19 (F := Ideal)) : FVec Ideal S512x128 .bf16)
      = group (rows0 x0) (View.ld x1 r0_16) (View.ld x2 r0_17) (View.ld x3 r0_18) := rfl

theorem piece1 (x0 : Vec Ideal S512x8192 .bf16) (x1 : Vec Ideal S2x2048 .f32) (x2 : Vec Ideal S2048x512 .bf16) (x3 : Vec Ideal S256x128 .bf16) :
    (k0_pay36 (k0_pay33 (View.ld x3 r0_18)) (k0_pay34 (k0_pay82 x0 x1 x2 x3) (k0_pay83 x0 x1 x2 x3) (k0_pay84 x0 x1 x2 x3) (k0_pay85 x0 x1 x2 x3) (k0_pay86 x0 x1 x2 x3) (k0_pay87 x0 x1 x2 x3) (k0_pay88 x0 x1 x2 x3) (k0_pay89 x0 x1 x2 x3) (k0_pay90 x0 x1 x2 x3) (k0_pay91 x0 x1 x2 x3) (k0_pay92 x0 x1 x2 x3) (k0_pay93 x0 x1 x2 x3) (View.ld x0 r0_32) (View.ld x0 r0_33) (View.ld x0 r0_34) (View.ld x0 r0_35) (View.ld x1 r0_16) (View.ld x2 r0_17)) (k0_pay35 (k0_pay82 x0 x1 x2 x3) (k0_pay83 x0 x1 x2 x3) (k0_pay84 x0 x1 x2 x3) (k0_pay85 x0 x1 x2 x3) (k0_pay86 x0 x1 x2 x3) (k0_pay87 x0 x1 x2 x3) (k0_pay88 x0 x1 x2 x3) (k0_pay89 x0 x1 x2 x3) (k0_pay90 x0 x1 x2 x3) (k0_pay91 x0 x1 x2 x3) (k0_pay92 x0 x1 x2 x3) (k0_pay93 x0 x1 x2 x3) (View.ld x0 r0_32) (View.ld x0 r0_33) (View.ld x0 r0_34) (View.ld x0 r0_35) (View.ld x1 r0_16) (View.ld x2 r0_17)) : FVec Ideal S512x128 .bf16)
      = group (rows1 x0) (View.ld x1 r0_16) (View.ld x2 r0_17) (View.ld x3 r0_18) := rfl

theorem piece2 (x0 : Vec Ideal S512x8192 .bf16) (x1 : Vec Ideal S2x2048 .f32) (x2 : Vec Ideal S2048x512 .bf16) (x3 : Vec Ideal S256x128 .bf16) :
    (k0_pay53 (k0_pay49 (View.ld x3 r0_18)) (k0_pay51 (k0_pay94 x0 x1 x2 x3) (k0_pay95 x0 x1 x2 x3) (k0_pay96 x0 x1 x2 x3) (k0_pay97 x0 x1 x2 x3) (k0_pay98 x0 x1 x2 x3) (k0_pay99 x0 x1 x2 x3) (k0_pay100 x0 x1 x2 x3) (k0_pay101 x0 x1 x2 x3) (k0_pay102 x0 x1 x2 x3) (k0_pay103 x0 x1 x2 x3) (View.ld x0 r0_47) (View.ld x0 r0_48) (View.ld x0 r0_49) (View.ld x0 r0_50) (View.ld x0 r0_51) (View.ld x0 r0_52) (View.ld x1 r0_16) (View.ld x2 r0_17)) (k0_pay52 (k0_pay94 x0 x1 x2 x3) (k0_pay95 x0 x1 x2 x3) (k0_pay96 x0 x1 x2 x3) (k0_pay97 x0 x1 x2 x3) (k0_pay98 x0 x1 x2 x3) (k0_pay99 x0 x1 x2 x3) (k0_pay100 x0 x1 x2 x3) (k0_pay101 x0 x1 x2 x3) (k0_pay102 x0 x1 x2 x3) (k0_pay103 x0 x1 x2 x3) (View.ld x0 r0_47) (View.ld x0 r0_48) (View.ld x0 r0_49) (View.ld x0 r0_50) (View.ld x0 r0_51) (View.ld x0 r0_52) (View.ld x1 r0_16) (View.ld x2 r0_17)) : FVec Ideal S512x128 .bf16)
      = group (rows2 x0) (View.ld x1 r0_16) (View.ld x2 r0_17) (View.ld x3 r0_18) := rfl

theorem piece3 (x0 : Vec Ideal S512x8192 .bf16) (x1 : Vec Ideal S2x2048 .f32) (x2 : Vec Ideal S2048x512 .bf16) (x3 : Vec Ideal S256x128 .bf16) :
    (k0_pay1 (k0_pay62 (k0_pay54 (View.ld x0 r0_54)) (k0_pay55 (View.ld x0 r0_55)) (k0_pay56 (View.ld x0 r0_56)) (k0_pay57 (View.ld x0 r0_57)) (k0_pay58 (View.ld x0 r0_58)) (k0_pay59 (View.ld x0 r0_59)) (k0_pay60 (View.ld x0 r0_60)) (k0_pay61 (View.ld x0 r0_61)) (View.ld x0 r0_62) (View.ld x0 r0_63) (View.ld x0 r0_64) (View.ld x0 r0_65) (View.ld x0 r0_66) (View.ld x0 r0_67) (View.ld x0 r0_68) (View.ld x0 r0_69)) (k0_pay64 (View.ld x2 r0_17)) (k0_pay65 (View.ld x3 r0_18)) (k0_pay66 (View.ld x1 r0_16) (View.ld x2 r0_17)) (k0_pay67 (View.ld x1 r0_16) (View.ld x2 r0_17)) : FVec Ideal S512x128 .bf16)
      = group (rows3 x0) (View.ld x1 r0_16) (View.ld x2 r0_17) (View.ld x3 r0_18) := rfl

end Cert.Kernel11Ideal.Val

end
-- ==== Proof.Value11.lean ====
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.CompBody

@[expose] public section

set_option maxRecDepth 16384

/-! The keys' compression: the array the launch leaves, and the rows kept of it. -/

noncomputable section

namespace Cert.Kernel11Ideal.Val

open Cert.Kernel11Ideal Cert.Kernel11Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The arguments the memory holds. -/
abbrev K (c : Dev nD) : Spec.M2 8192 512 := m ((c : Thread nD τ).loc main_arg0)
abbrev PE (c : Dev nD) : Spec.M3 1 32 128 := m ((c : Thread nD τ).loc main_arg1)
abbrev W1 (c : Dev nD) : Spec.M3 1 4096 256 := m ((c : Thread nD τ).loc main_arg2)
abbrev W2 (c : Dev nD) : Spec.M3 1 256 128 := m ((c : Thread nD τ).loc main_arg3)

/-- The array before its last row is dropped: the last block's second half is the first chunk. -/
def val (c : Dev nD) (n : Fin 512) (J : Fin 512) : EReal :=
  Spec.block (K m c) (PE m c) (W1 m c) (W2 m c) n (next n) ⟨J.val / 128, by omega⟩ ⟨J.val % 128, by omega⟩

theorem k_entry (c : Dev nD) (n : Fin 512) (j : Fin 8192) : V m c main_v9 (ix2 n j) = K m c (ix2 ⟨16 * n.val + j.val / 512, by omega⟩ ⟨j.val % 512, by omega⟩) := by
  entry_read
  refine shapeCast_apply (K m c) shapeCasts_S8192x512_S512x8192 _ _ ?_
  rw [rowMajor_val2 _ 512 rfl, rowMajor_val2 _ 8192 rfl]
  show (16 * n.val + j.val / 512) * 512 + j.val % 512 = n.val * 8192 + j.val
  omega

theorem pe_entry (c : Dev nD) (s : Fin 2) (q : Fin 2048) : V m c main_v7 (ix2 s q) = Spec.place (PE m c) s q := by
  entry_read
  unfold Spec.place
  refine (shapeCast_apply (shapeCast S32x128 (PE m c) shapeCasts_S1x32x128_S32x128) shapeCasts_S32x128_S2x2048 _ (ix2 ⟨16 * s.val + q.val / 128, by omega⟩ ⟨q.val % 128, by omega⟩) ?_).trans (Rows.flat_one (PE m c) shapeCasts_S1x32x128_S32x128 _ _)
  rw [rowMajor_val2 _ 128 rfl, rowMajor_val2 _ 2048 rfl]
  show (16 * s.val + q.val / 128) * 128 + q.val % 128 = s.val * 2048 + q.val
  omega

theorem w2_entry (c : Dev nD) (j : Fin 256) (d : Fin 128) : V m c main_v8 (ix2 j d) = W2 m c (ix3 0 j d) := by
  entry_read
  exact Rows.flat_one (W2 m c) shapeCasts_S1x256x128_S256x128 _ _

/-- Two matrices side by side. -/
theorem beside_fst (x y : S2048x256.Idx → EReal) (h) (q : Fin 2048) (j : Fin 256) :
    concatenate S2048x512 1 [⟨S2048x256, x⟩, ⟨S2048x256, y⟩] h (ix2 q ⟨j.val, by omega⟩) = x (ix2 q j) :=
  concatenate_pair_apply_left (t := S2048x512) 1 x y h _ rfl _ fun b => by fin_cases b <;> rfl

theorem beside_snd (x y : S2048x256.Idx → EReal) (h) (q : Fin 2048) (j : Fin 256) :
    concatenate S2048x512 1 [⟨S2048x256, x⟩, ⟨S2048x256, y⟩] h (ix2 q ⟨256 + j.val, by omega⟩) = y (ix2 q j) :=
  concatenate_pair_apply_right (t := S2048x512) 1 x y h _ rfl rfl _
    (fun b hb => by fin_cases b
                    · rfl
                    · exact absurd rfl hb)
    (by show j.val + 256 = 256 + j.val; omega)

/-- The first matrix, flat; and its two halves side by side. -/
abbrev flat1 (c : Dev nD) : S4096x256.Idx → EReal := shapeCast S4096x256 (W1 m c) shapeCasts_S1x4096x256_S4096x256

/-- The two halves of the first matrix. -/
abbrev half0 (c : Dev nD) : S2048x256.Idx → EReal := extractStridedSlice S2048x256 ![0, 0] (flat1 m c) slices_S4096x256_S2048x256_0_0
abbrev half1 (c : Dev nD) : S2048x256.Idx → EReal := extractStridedSlice S2048x256 ![2048, 0] (flat1 m c) slices_S4096x256_S2048x256_2048_0

theorem w_read (c : Dev nD) (i : S2048x512.Idx) : V m c main_v6 i = concatenate S2048x512 1 [⟨S2048x256, half0 m c⟩, ⟨S2048x256, half1 m c⟩] concatenates_S2048x256_S2048x256_S2048x512_d1 i := by
  entry_read
  rfl

theorem half0_val (c : Dev nD) (q : Fin 2048) (j : Fin 256) (h) : half0 m c (ix2 q j) = W1 m c (ix3 0 ⟨2048 * (0 : Fin 2).val + q.val, h⟩ j) :=
  (extractStridedSlice_apply ![0, 0] (flat1 m c) slices_S4096x256_S2048x256_0_0 _ (ix2 ⟨2048 * 0 + q.val, by omega⟩ j) fun a => by fin_cases a <;> (show _ = _ + _; simp [ix2])).trans (Rows.flat_one (W1 m c) _ _ _)

theorem half1_val (c : Dev nD) (q : Fin 2048) (j : Fin 256) (h) : half1 m c (ix2 q j) = W1 m c (ix3 0 ⟨2048 * (1 : Fin 2).val + q.val, h⟩ j) :=
  (extractStridedSlice_apply ![2048, 0] (flat1 m c) slices_S4096x256_S2048x256_2048_0 _ (ix2 ⟨2048 * 1 + q.val, by omega⟩ j) fun a => by fin_cases a <;> (show _ = _ + _; simp [ix2])).trans (Rows.flat_one (W1 m c) _ _ _)

theorem w_entry0 (c : Dev nD) (q : Fin 2048) (j : Fin 256) (h) : V m c main_v6 (ix2 q ⟨j.val, by omega⟩) = W1 m c (ix3 0 ⟨2048 * (0 : Fin 2).val + q.val, h⟩ j) :=
  (w_read m c _).trans ((beside_fst (half0 m c) (half1 m c) _ q j).trans (half0_val m c q j h))

theorem w_entry1 (c : Dev nD) (q : Fin 2048) (j : Fin 256) (h) : V m c main_v6 (ix2 q ⟨256 + j.val, by omega⟩) = W1 m c (ix3 0 ⟨2048 * (1 : Fin 2).val + q.val, h⟩ j) :=
  (w_read m c _).trans ((beside_snd (half0 m c) (half1 m c) _ q j).trans (half1_val m c q j h))

theorem w_entry (c : Dev nD) (s : Fin 2) (q : Fin 2048) (j : Fin 256) :
    V m c main_v6 (ix2 q ⟨256 * s.val + j.val, by omega⟩) = W1 m c (ix3 0 ⟨2048 * s.val + q.val, by omega⟩ j) := by
  match s with
  | 0 => exact (congrArg (fun a => V m c main_v6 (ix2 q a)) (Fin.ext (by show 256 * 0 + j.val = j.val; omega))).trans (w_entry0 m c q j _)
  | 1 => exact (congrArg (fun a => V m c main_v6 (ix2 q a)) (Fin.ext (by show 256 * 1 + j.val = 256 + j.val; omega))).trans (w_entry1 m c q j _)

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem k_blk (c : Dev nD) (t : Fin cfg0.N) (n : Fin 512) (j : Fin 8192) : iblk m c 0 t (ix2 n j) = K m c (ix2 ⟨16 * n.val + j.val / 512, by omega⟩ ⟨j.val % 512, by omega⟩) := by
  rw [← k_entry m c]
  unfold iblk
  blk_ext [idx t]

theorem pe_blk (c : Dev nD) (t : Fin cfg0.N) (s : Fin 2) (q : Fin 2048) : iblk m c 1 t (ix2 s q) = Spec.place (PE m c) s q := by
  rw [← pe_entry m c]
  unfold iblk
  blk_ext [idx t]

theorem w_blk (c : Dev nD) (t : Fin cfg0.N) (s : Fin 2) (q : Fin 2048) (j : Fin 256) :
    iblk m c 2 t (ix2 q ⟨256 * s.val + j.val, by omega⟩) = W1 m c (ix3 0 ⟨2048 * s.val + q.val, by omega⟩ j) := by
  rw [← w_entry m c]
  unfold iblk
  blk_ext [idx t]

theorem w2_blk (c : Dev nD) (t : Fin cfg0.N) (j : Fin 256) (d : Fin 128) : iblk m c 3 t (ix2 j d) = W2 m c (ix3 0 j d) := by
  rw [← w2_entry m c]
  unfold iblk
  blk_ext [idx t]

/-- The whole loads of the three small operands. -/
theorem ld_pe (X : Vec Ideal S2x2048 .f32) : View.ld X r0_16 = X := View.ld_unit_lit _ X fun a => by fin_cases a <;> rfl
theorem ld_w (X : Vec Ideal S2048x512 .bf16) : View.ld X r0_17 = X := View.ld_unit_lit _ X fun a => by fin_cases a <;> rfl
theorem ld_w2 (X : Vec Ideal S256x128 .bf16) : View.ld X r0_18 = X := View.ld_unit_lit _ X fun a => by fin_cases a <;> rfl

/-- A head's part is the head's columns of the array. -/
theorem head (c : Dev nD) (t : Fin cfg0.N) (g : Fin 4) (x : Fin 16 → FVec Ideal S512x128 .bf16)
    (hx : ∀ (r : Fin 16) (n : Fin 512) (l : Fin 128), x r (ix2 n l) = iblk m c 0 t (ix2 n ⟨512 * r.val + 128 * g.val + l.val, by omega⟩)) (n : Fin 512) (d : Fin 128) :
    (group x (View.ld (iblk m c 1 t) r0_16) (View.ld (iblk m c 2 t) r0_17) (View.ld (iblk m c 3 t) r0_18) (ix2 n d) : EReal) = val m c n ⟨128 * g.val + d.val, by omega⟩ := by
  rw [ld_pe, ld_w, ld_w2]
  refine (group_val x _ _ _ (K m c) (PE m c) (W1 m c) (W2 m c) g (fun r n l => ?_) (pe_blk m c t) (w_blk m c t) (w2_blk m c t) n d).trans ?_
  · refine (hx r n l).trans ((k_blk m c t n _).trans (congrArg₂ (fun a b => K m c (ix2 a b)) (Fin.ext ?_) (Fin.ext ?_)))
    · show 16 * n.val + (512 * r.val + 128 * g.val + l.val) / 512 = 16 * n.val + r.val; omega
    · show (512 * r.val + 128 * g.val + l.val) % 512 = 128 * g.val + l.val; omega
  · unfold val
    refine congrArg₂ (Spec.block _ _ _ _ _ _) (Fin.ext ?_) (Fin.ext ?_)
    · show g.val = (128 * g.val + d.val) / 128; omega
    · show d.val = (128 * g.val + d.val) % 128; omega

theorem canon_val (c : Dev nD) (t : Fin cfg0.N) (n : Fin 512) (J : Fin 512) :
    (out0_4 (F := Ideal) (iblk m c 0 t) (iblk m c 1 t) (iblk m c 2 t) (iblk m c 3 t) (ix2 n J) : EReal) = val m c n J := by
  unfold out0_4
  rw [piece0, piece1, piece2, piece3]
  refine View.canon_apply_of_pieces (Val := Elt Ideal) (S := S512x512) (e := .bf16) (fun y : S512x512.Idx => val m c (y 0) (y 1)) _ (fun p hp x => ?_) (ix2 n J) (cover0_4 _ _ _ _ (ix2 n J))
  simp only [List.mem_cons, List.mem_nil_iff, or_false] at hp
  rcases hp with rfl | rfl | rfl | rfl
  · obtain ⟨a, b, rfl⟩ : ∃ (a : Fin 512) (b : Fin 128), x = ix2 a b := ⟨x 0, x 1, by funext d; fin_cases d <;> rfl⟩
    exact (head m c t 3 _ (rows3_val _) a b).trans (congrArg₂ (val m c) (Fin.ext (by show a.val = 0 + 1 * a.val; omega)) (Fin.ext (by show 128 * 3 + b.val = 384 + 1 * b.val; omega)))
  · obtain ⟨a, b, rfl⟩ : ∃ (a : Fin 512) (b : Fin 128), x = ix2 a b := ⟨x 0, x 1, by funext d; fin_cases d <;> rfl⟩
    exact (head m c t 2 _ (rows2_val _) a b).trans (congrArg₂ (val m c) (Fin.ext (by show a.val = 0 + 1 * a.val; omega)) (Fin.ext (by show 128 * 2 + b.val = 256 + 1 * b.val; omega)))
  · obtain ⟨a, b, rfl⟩ : ∃ (a : Fin 512) (b : Fin 128), x = ix2 a b := ⟨x 0, x 1, by funext d; fin_cases d <;> rfl⟩
    exact (head m c t 1 _ (rows1_val _) a b).trans (congrArg₂ (val m c) (Fin.ext (by show a.val = 0 + 1 * a.val; omega)) (Fin.ext (by show 128 * 1 + b.val = 128 + 1 * b.val; omega)))
  · obtain ⟨a, b, rfl⟩ : ∃ (a : Fin 512) (b : Fin 128), x = ix2 a b := ⟨x 0, x 1, by funext d; fin_cases d <;> rfl⟩
    exact (head m c t 0 _ (rows0_val _) a b).trans (congrArg₂ (val m c) (Fin.ext (by show a.val = 0 + 1 * a.val; omega)) (Fin.ext (by show 128 * 0 + b.val = 0 + 1 * b.val; omega)))

theorem whole (c : Dev nD) : (dats m 0 c).arrAt 4 (cfgs 0).N = fun i => val m c (i 0) (i 1) := by
  refine (dats m 0 c).arrAt_eq_of_covers 4 _ (by decide +kernel) fun t _ y => ?_
  blk_simp
  rw [after0_4]
  idx_vars y
  refine (canon_val m c t y0 y1).trans ?_
  refine congrArg₂ (val m c) (Fin.ext ?_) (Fin.ext ?_)
  · blk_simp [idx t]
  · blk_simp [idx t]

/-- The rows kept. -/
theorem final (c : Dev nD) : Pipeline.afterTail₀ cfgs (dats m) 0 (V0 m) [hostOps1] c main_v11 = fun i => Spec.comp (K m c) (PE m c) (W1 m c) (W2 m c) (i 0) (i 1) := by
  have e : Pipeline.withArrays (cfgs 0).spec c (V0 m c) (fun w => (dats m 0 c).arrAt w (cfgs 0).N) (Proc.devRef .tc main_v10) = (dats m 0 c).arrAt 4 (cfgs 0).N :=
    Pipeline.withArrays_arr (cfgs 0).spec (by decide) c (V0 m c) _ 4
  have k : Pipeline.afterTail₀ cfgs (dats m) 0 (V0 m) [hostOps1] c main_v11
      = extractStridedSlice S511x512 ![0, 0] (Pipeline.withArrays (cfgs 0).spec c (V0 m c) (fun w => (dats m 0 c).arrAt w (cfgs 0).N) (Proc.devRef .tc main_v10)) slices_S512x512_S511x512_0_0 := by
    unfold Pipeline.afterTail₀
    show StableHlo.after hostOps1 _ _ = _
    unfold hostOps1
    after_results
  rw [k, e, whole]
  funext i
  refine (extractStridedSlice_apply _ _ _ _ (ix2 ⟨(i 0).val, by have : (i 0).val < 511 := (i 0).isLt; omega⟩ (i 1)) fun a => by fin_cases a <;> (show _ = _ + _; simp [ix2])).trans ?_
  show val m c _ _ = _
  unfold val Spec.comp
  refine congrArg (fun a => Spec.block _ _ _ _ _ a _ _) (Fin.ext ?_)
  show ((i 0).val + 1) % 512 = (i 0).val + 1
  have : (i 0).val < 511 := (i 0).isLt
  omega

end Cert.Kernel11Ideal.Val

end
-- ==== Proof.Plain11.lean ====
module

public import proofs.«01_k».proof.Proof.Gen.Reference11Ideal.Read
public import proofs.«01_k».proof.Proof.Gen.Reference11Ideal.Run
public import proofs.«01_k».proof.Proof.CompSpec
public import Idealize.ShloMosaic.Lib.Pipeline.ValueKit

@[expose] public section

set_option maxRecDepth 16384

/-! The reference of the compression, entry by entry. -/

noncomputable section

namespace Cert.Reference11Ideal.Val

open Cert.Reference11Ideal Cert.Reference11Ideal.Gen Cert.Reference11Ideal.Read
open Idealize.ShloMosaic Idealize.ShloMosaic.TcCoe Idealize.ShloMosaic.Tactic

variable (x0 : (⟨S8192x512, .bf16⟩ : BufTy).Contents (Elt Ideal)) (x1 : (⟨S1x32x128, .f32⟩ : BufTy).Contents (Elt Ideal)) (x2 : (⟨S1x4096x256, .f32⟩ : BufTy).Contents (Elt Ideal)) (x3 : (⟨S1x256x128, .f32⟩ : BufTy).Contents (Elt Ideal))

theorem chunk_val (n : Fin 512) (g : Fin 4) (q : Fin 2048) : val_main_v3 (F := Ideal) x0 (ix3 n g q) = Spec.chunk x0 n g q := by
  unfold val_main_v3 val_main_v2 val_main_v1 val_main_v0 Spec.chunk
  refine (shapeCast_apply _ _ _ (ix4 n g ⟨q.val / 128, by omega⟩ ⟨q.val % 128, by omega⟩) ?_).trans ?_
  · rw [rowMajor_val4 _ (4 * (16 * 128)) (16 * 128) 128 rfl rfl rfl, rowMajor_val3 _ (4 * 2048) 2048 rfl rfl]
    show n.val * (4 * (16 * 128)) + g.val * (16 * 128) + q.val / 128 * 128 + q.val % 128 = n.val * (4 * 2048) + g.val * 2048 + q.val
    omega
  · refine (transpose_apply _ _ _ _ (ix4 n ⟨q.val / 128, by omega⟩ g ⟨q.val % 128, by omega⟩) fun a => ?_).trans ?_
    · fin_cases a <;> rfl
    · refine (shapeCast_apply _ _ _ (ix2 ⟨16 * n.val + q.val / 128, by omega⟩ ⟨128 * g.val + q.val % 128, by omega⟩) ?_).trans rfl
      rw [rowMajor_val4 _ (16 * (4 * 128)) (4 * 128) 128 rfl rfl rfl, rowMajor_val2 _ 512 rfl]
      show (16 * n.val + q.val / 128) * 512 + (128 * g.val + q.val % 128) = n.val * (16 * (4 * 128)) + q.val / 128 * (4 * 128) + g.val * 128 + q.val % 128
      omega

theorem w_fst (q : Fin 2048) (j : Fin 256) : val_main_v5 (F := Ideal) x2 (ix2 q j) = x2 (ix3 0 ⟨2048 * (0 : Fin 2).val + q.val, by show 2048 * 0 + q.val < 4096; omega⟩ j) := by
  unfold val_main_v5 val_main_v4
  exact (extractStridedSlice_apply _ _ _ _ (ix2 ⟨2048 * 0 + q.val, by omega⟩ j) fun a => by fin_cases a <;> (show _ = _ + _; simp [ix2])).trans (Rows.flat_one x2 _ _ _)

theorem w_snd (q : Fin 2048) (j : Fin 256) : val_main_v7 (F := Ideal) x2 (ix2 q j) = x2 (ix3 0 ⟨2048 * (1 : Fin 2).val + q.val, by show 2048 * 1 + q.val < 4096; omega⟩ j) := by
  unfold val_main_v7 val_main_v6
  exact (extractStridedSlice_apply _ _ _ _ (ix2 ⟨2048 * 1 + q.val, by omega⟩ j) fun a => by fin_cases a <;> (show _ = _ + _; simp [ix2])).trans (Rows.flat_one x2 _ _ _)

theorem place_val (s : Fin 2) (q : Fin 2048) : val_main_v9 (F := Ideal) x1 (ix2 s q) = Spec.place x1 s q := by
  unfold val_main_v9 val_main_v8 Spec.place
  refine (shapeCast_apply _ _ _ (ix2 ⟨16 * s.val + q.val / 128, by omega⟩ ⟨q.val % 128, by omega⟩) ?_).trans (Rows.flat_one x1 _ _ _)
  rw [rowMajor_val2 _ 128 rfl, rowMajor_val2 _ 2048 rfl]
  show (16 * s.val + q.val / 128) * 128 + q.val % 128 = s.val * 2048 + q.val
  omega

theorem part_fst (n : Fin 512) (g : Fin 4) (j : Fin 256) : val_main_v16 (F := Ideal) x0 x1 x2 (ix3 n g j) = Spec.part x0 x1 x2 0 n g j := by
  unfold Spec.part
  simp only [← chunk_val, ← w_fst, ← place_val]
  pointwise [val_main_v16, val_main_v15, val_main_v14, val_main_v13, val_main_v12, val_main_v11, val_main_v10]

theorem part_snd (n : Fin 512) (g : Fin 4) (j : Fin 256) : val_main_v23 (F := Ideal) x0 x1 x2 (ix3 n g j) = Spec.part x0 x1 x2 1 n g j := by
  unfold Spec.part
  simp only [← chunk_val, ← w_snd, ← place_val]
  pointwise [val_main_v23, val_main_v22, val_main_v21, val_main_v20, val_main_v19, val_main_v18, val_main_v17]

theorem unit_val (n : Fin 511) (g : Fin 4) (j : Fin 256) :
    val_main_v39 (F := Ideal) x0 x1 x2 (ix3 n g j) = Spec.gelu (Spec.part x0 x1 x2 0 ⟨n.val, by omega⟩ g j + Spec.part x0 x1 x2 1 ⟨n.val + 1, by omega⟩ g j) := by
  unfold Spec.gelu
  rw [← part_fst, ← part_snd]
  have e : val_main_v26 (F := Ideal) x0 x1 x2 (ix3 n g j) = val_main_v16 (F := Ideal) x0 x1 x2 (ix3 ⟨n.val, by omega⟩ g j) + val_main_v23 (F := Ideal) x0 x1 x2 (ix3 ⟨n.val + 1, by omega⟩ g j) := by
    unfold val_main_v26 val_main_v25 val_main_v24
    refine congrArg₂ (· + ·) (extractStridedSlice_apply _ _ _ _ _ fun a => ?_) (extractStridedSlice_apply _ _ _ _ _ fun a => ?_)
    · fin_cases a <;> (show _ = _ + _; simp [ix3])
    · fin_cases a <;> (show _ = _ + _; simp [ix3, Nat.add_comm])
  rw [← e]
  pointwise [val_main_v39, val_main_v38, val_main_v37, val_main_v36, val_main_v35, val_main_v34, val_main_v33, val_main_v32, val_main_v31, val_main_v30, val_main_v29, val_main_v28, val_main_v27, val_main_cst, val_main_cst_0, val_main_cst_1, val_main_cst_2]
  try rfl

theorem w2_val (j : Fin 256) (d : Fin 128) : val_main_v40 (F := Ideal) x3 (ix2 j d) = x3 (ix3 0 j d) := by
  unfold val_main_v40
  exact Rows.flat_one x3 _ _ _

theorem main_v43_val (n : Fin 511) (J : Fin 512) : val_main_v43 (F := Ideal) x0 x1 x2 x3 (ix2 n J) = Spec.comp x0 x1 x2 x3 n J := by
  unfold val_main_v43 Spec.comp Spec.block
  refine (shapeCast_apply _ _ _ (ix3 n ⟨J.val / 128, by omega⟩ ⟨J.val % 128, by omega⟩) ?_).trans ?_
  · rw [rowMajor_val3 _ (4 * 128) 128 rfl rfl, rowMajor_val2 _ 512 rfl]
    show n.val * (4 * 128) + J.val / 128 * 128 + J.val % 128 = n.val * 512 + J.val
    omega
  · simp only [← unit_val, ← w2_val]
    pointwise [val_main_v42, val_main_v41]

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its result entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v43) = (fun i => Spec.comp (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h c).1.trans ((val_main_v43_eq _ _).trans (funext fun i => (congrArg _ (ix2_eta i)).trans (main_v43_val (m ((c : Thread nD τ).loc main_arg0)) (m ((c : Thread nD τ).loc main_arg1)) (m ((c : Thread nD τ).loc main_arg2)) (m ((c : Thread nD τ).loc main_arg3)) (i 0) (i 1)))),
      (h c).2⟩)
    (Cert.Reference11Ideal.Value.run m ρ)

/-- The reference names no counter, so every one is at zero. -/
theorem sems (s : MemSt nD τ sig (Elt Ideal)) : s.sem = fun _ => 0 := sem_eq_zero_of_no_sems rfl s

end Cert.Reference11Ideal.Val

end
-- ==== Proof.Claim11.lean ====
/- The claims about the compress_k_prompt call (programs Kernel11, Kernel11Ideal and Reference11Ideal). -/
module

public import proofs.«01_k».proof.Defs
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Value11
public import proofs.«01_k».proof.Proof.Plain11
public import Idealize.ShloMosaic.Lib.Claim
public import Idealize.ShloMosaic.Adequacy
public import Idealize.ShloMosaic.Init

@[expose] public section

noncomputable section

namespace Cert.Proof

open Idealize.ShloMosaic Idealize.SL.Sem

theorem quiescent11 : Cert.quiescent_Kernel11 := fun m ρ _ => Cert.Kernel11.Gen.frame m ρ

theorem quiescent_ideal11 : Cert.quiescent_Kernel11Ideal := fun m ρ _ => Cert.Kernel11Ideal.Gen.frame m ρ

theorem quiescent_ref11 : Cert.quiescent_Reference11Ideal := fun m ρ _ =>
  (θ_run Cert.Reference11Ideal.defs _ _).mono (fun r h => ⟨fun c => (h c).2, Cert.Reference11Ideal.Val.sems _⟩) (Cert.Reference11Ideal.Val.run m ρ)

theorem algebraic11 : Cert.algebraic_Kernel11Ideal_Reference11Ideal := by
  pair_intro
  · run_from Cert.Kernel11Ideal.Gen.run_main m g & Cert.Kernel11Ideal.Gen.unchanged m g
  · refine (θ_run Cert.Reference11Ideal.defs _ _).mono (fun r h c => ?_) (Cert.Reference11Ideal.Val.run m' g')
    obtain ⟨h0, ha⟩ := h c
    obtain ⟨a0, a1, a2, a3⟩ := hagree c
    refine ⟨h0.trans ?_, ha⟩
    rw [a0, a1, a2, a3]; exact (Cert.Kernel11Ideal.Val.final m c).symm

end Cert.Proof

end
-- ==== Proof.JoinMerge.lean ====
module

public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Spec
public import proofs.«01_k».proof.Proof.Rows

@[expose] public section

set_option maxRecDepth 16384

/-! The merge inside the chain: the array it leaves, over whatever its arguments hold when it begins. -/

noncomputable section

namespace Cert.Kernel12Ideal.Merge

open Cert.Kernel12Ideal Cert.Kernel12Ideal.Gen
open Idealize.ShloMosaic Idealize.ShloMosaic.TcCoe Idealize.ShloMosaic.Tactic
open Idealize.ShloMosaic.Pipeline (Dat Cfg Window)

-- what the buffers hold when the call begins
variable (V : (c : Dev nD) → (b : Ref sig .tc) → Buf (Elt Ideal) ((c : Thread nD τ).loc b)) (c : Dev nD)
variable (x : Spec.M2 9216 4096) (z : Spec.M2 9216 2048) (op : Spec.M2 8192 2048) (os : Spec.M2 1024 2048) (wc wn : Spec.M3 1 2048 4096) (wg : Spec.M2 4096 8192)

/-- The arguments' entries as the call begins. -/
structure Begins : Prop where
  hx : ∀ R k, V c main_v4 (ix2 R k) = x (ix2 R k)
  hz : ∀ R k, V c main_arg2 (ix2 R k) = z (ix2 R k)
  hp : ∀ R k, V c main_arg3 (ix2 R k) = op (ix2 R k)
  hs : ∀ R k, V c main_arg4 (ix2 R k) = os (ix2 R k)
  hc : ∀ k J, V c main_v8 (ix2 k J) = wc (ix3 0 k J)
  hn : ∀ k J, V c main_v9 (ix2 k J) = wn (ix3 0 k J)
  hg : ∀ k J, V c main_v7 (ix2 k J) = wg (ix2 k J)

theorem idx : ∀ t : Fin cfg0.N, (win0_0.index t = ![t.val / 16, 0] ∧ win0_1.index t = ![t.val / 16, 0]
    ∧ win0_2.index t = ![min (t.val / 16) 15, 0] ∧ win0_3.index t = ![t.val / 16 - 16, 0])
    ∧ (win0_4.index t = ![0, t.val % 16] ∧ win0_5.index t = ![0, t.val % 16] ∧ win0_6.index t = ![0, t.val % 16] ∧ win0_7.index t = ![0, 16 + t.val % 16]
    ∧ win0_8.index t = ![t.val / 16, t.val % 16]) :=
  (by decide +kernel : ∀ t : Fin grid0.N, _)

theorem lt (t : Fin cfg0.N) : t.val < 288 := t.isLt

theorem coords : ∀ t : Fin cfg0.N, (grid0.coords t 0).val = t.val / 16 :=
  (by decide +kernel : ∀ t : Fin grid0.N, _)

/-- The array row and column of a block's. -/
abbrev rowOf (t : Fin cfg0.N) (r : Fin 512) : Fin 9216 := ⟨512 * (t.val / 16) + r.val, by have := lt t; omega⟩
abbrev colOf (t : Fin cfg0.N) (j : Fin 256) : Fin 4096 := ⟨256 * (t.val % 16) + j.val, by omega⟩

/-- The body's value over the blocks' entries. -/
theorem body_val (i : grid0.Coords) (x : FVec Ideal S512x4096 .bf16) (op : FVec Ideal S512x2048 .bf16) (os : FVec Ideal S512x2048 .f32) (z : FVec Ideal S512x2048 .bf16)
    (wc wn : FVec Ideal S2048x256 .f32) (wa wb : FVec Ideal S4096x256 .bf16) (r : Fin 512) (j : Fin 256) (xr ga gb : Fin 4096 → EReal) (zr o pc pn : Fin 2048 → EReal)
    (hx : ∀ k, x (ix2 r k) = xr k) (ho : ∀ k, (if (i 0).val < 16 then op (ix2 r k) else os (ix2 r k)) = o k) (hz : ∀ k, z (ix2 r k) = zr k)
    (hc : ∀ k, wc (ix2 k j) = pc k) (hn : ∀ k, wn (ix2 k j) = pn k) (ha : ∀ k, wa (ix2 k j) = ga k) (hb : ∀ k, wb (ix2 k j) = gb k) :
    (k0_pay1 (F := Ideal) i x op os z wc wn wa wb (ix2 r j) : EReal)
      = Ideal.logistic (∑ k, xr k * ga k) * (∑ k, zr k * pc k) + Ideal.logistic (∑ k, xr k * gb k) * (∑ k, o k * pn k) := by
  simp only [← hx, ← ho, ← hz, ← hc, ← hn, ← ha, ← hb]
  have hi : (i 0).val < 18 := (i 0).isLt
  have hs : Scalar.cmpi .slt (BitVec.ofNat 32 (i 0).val) 16#32 = if (i 0).val < 16 then 1#1 else 0#1 := by
    generalize (i 0).val = n at hi
    interval_cases n <;> rfl
  unfold k0_pay1
  rw [hs]
  by_cases h : (i 0).val < 16
  · simp only [if_pos h]
    pointwise
  · simp only [if_neg h]
    pointwise

section Blocks
variable {V c x z op os wc wn wg} (H : Begins V c x z op os wc wn wg)
include H

theorem x_blk (t : Fin cfg0.N) (r : Fin 512) (k : Fin 4096) : iblk0 V c 0 t (ix2 r k) = x (ix2 (rowOf t r) k) := by
  rw [← H.hx]
  unfold iblk0
  blk_ext [idx t]

theorem z_blk (t : Fin cfg0.N) (r : Fin 512) (k : Fin 2048) : iblk0 V c 1 t (ix2 r k) = z (ix2 (rowOf t r) k) := by
  rw [← H.hz]
  unfold iblk0
  blk_ext [idx t]

/-- Where the rows are the prompt's, the first attention window holds them; -/
theorem p_blk (t : Fin cfg0.N) (h : t.val / 16 < 16) (r : Fin 512) (k : Fin 2048) : iblk0 V c 2 t (ix2 r k) = Spec.att op os (rowOf t r) k := by
  unfold Spec.att
  rw [dif_pos (show (rowOf t r).val < 8192 by show 512 * (t.val / 16) + r.val < 8192; omega), ← H.hp]
  have e := (idx t).1.2.2.1
  rw [Nat.min_eq_left (by omega)] at e
  unfold iblk0
  blk_ext [e]

/-- where they are the samples', the second. -/
theorem s_blk (t : Fin cfg0.N) (h : ¬ t.val / 16 < 16) (r : Fin 512) (k : Fin 2048) : iblk0 V c 3 t (ix2 r k) = Spec.att op os (rowOf t r) k := by
  have ht := lt t
  unfold Spec.att
  rw [dif_neg (show ¬ (rowOf t r).val < 8192 by show ¬ 512 * (t.val / 16) + r.val < 8192; omega), ← H.hs]
  have e : (⟨(rowOf t r).val - 8192, by have := (rowOf t r).isLt; omega⟩ : Fin 1024) = ⟨512 * (t.val / 16 - 16) + r.val, by omega⟩ :=
    Fin.ext (by show 512 * (t.val / 16) + r.val - 8192 = 512 * (t.val / 16 - 16) + r.val; omega)
  rw [e]
  unfold iblk0
  blk_ext [idx t]

theorem wc_blk (t : Fin cfg0.N) (k : Fin 2048) (j : Fin 256) : iblk0 V c 4 t (ix2 k j) = wc (ix3 0 k (colOf t j)) := by
  rw [← H.hc]
  unfold iblk0
  blk_ext [idx t]

theorem wn_blk (t : Fin cfg0.N) (k : Fin 2048) (j : Fin 256) : iblk0 V c 5 t (ix2 k j) = wn (ix3 0 k (colOf t j)) := by
  rw [← H.hn]
  unfold iblk0
  blk_ext [idx t]

theorem ga_blk (t : Fin cfg0.N) (k : Fin 4096) (j : Fin 256) : iblk0 V c 6 t (ix2 k j) = wg (ix2 k ⟨(colOf t j).val, by have := (colOf t j).isLt; omega⟩) := by
  rw [← H.hg]
  unfold iblk0
  blk_ext [idx t]

theorem gb_blk (t : Fin cfg0.N) (k : Fin 4096) (j : Fin 256) : iblk0 V c 7 t (ix2 k j) = wg (ix2 k ⟨4096 + (colOf t j).val, by have := (colOf t j).isLt; omega⟩) := by
  have e : (⟨4096 + (colOf t j).val, by have := (colOf t j).isLt; omega⟩ : Fin 8192) = ⟨256 * (16 + t.val % 16) + j.val, by omega⟩ :=
    Fin.ext (by show 4096 + (256 * (t.val % 16) + j.val) = 256 * (16 + t.val % 16) + j.val; omega)
  rw [e, ← H.hg]
  unfold iblk0
  blk_ext [idx t]

theorem pt (t : Fin cfg0.N) (r : Fin 512) (j : Fin 256) :
    (k0_pay1 (F := Ideal) (grid0.coords t) (iblk0 V c 0 t) (iblk0 V c 2 t) (iblk0 V c 3 t) (iblk0 V c 1 t) (iblk0 V c 4 t) (iblk0 V c 5 t) (iblk0 V c 6 t) (iblk0 V c 7 t) (ix2 r j) : EReal)
      = Spec.merge x z op os wc wn wg (rowOf t r) (colOf t j) :=
  body_val _ _ _ _ _ _ _ _ _ r j _ _ _ _ _ _ _ (fun k => x_blk H t r k) (fun k => by
    rw [coords]
    by_cases h : t.val / 16 < 16
    · rw [if_pos h]; exact p_blk H t h r k
    · rw [if_neg h]; exact s_blk H t h r k) (fun k => z_blk H t r k) (fun k => wc_blk H t k j) (fun k => wn_blk H t k j) (fun k => ga_blk H t k j) (fun k => gb_blk H t k j)

theorem final : (dat0 V c).arrAt 8 cfg0.N = fun i => Spec.merge x z op os wc wn wg (i 0) (i 1) := by
  refine (dat0 V c).arrAt_eq_of_covers 8 _ (by decide +kernel) fun t _ y => ?_
  blk_simp
  rw [after0_8]
  frame_out
  idx_vars y
  refine (pt H t _ _).trans ?_
  refine congrArg₂ (Spec.merge x z op os wc wn wg) (Fin.ext ?_) (Fin.ext ?_)
  · blk_simp [idx t]; show 512 * (t.val / 16) + y0.val = _; omega
  · blk_simp [idx t]; show 256 * (t.val % 16) + y1.val = _; omega

end Blocks

end Cert.Kernel12Ideal.Merge

end
-- ==== Proof.JoinProj.lean ====
module

public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Spec
public import proofs.«01_k».proof.Proof.Rows

@[expose] public section

set_option maxRecDepth 16384

/-! The output projection inside the chain: the array it leaves, over whatever its arguments hold when it begins. -/

noncomputable section

namespace Cert.Kernel12Ideal.Proj

open Cert.Kernel12Ideal Cert.Kernel12Ideal.Gen
open Idealize.ShloMosaic Idealize.ShloMosaic.TcCoe Idealize.ShloMosaic.Tactic
open Idealize.ShloMosaic.Pipeline (Dat Cfg Window)

-- what the buffers hold when the call begins
variable (V : (c : Dev nD) → (b : Ref sig .tc) → Buf (Elt Ideal) ((c : Thread nD τ).loc b)) (c : Dev nD)
variable (mix : Spec.M2 9216 4096) (w : Spec.M3 1 4096 4096) (xp : Spec.M3 1 8192 4096) (xs : Spec.M3 128 8 4096)

/-- The arguments' entries as the call begins. -/
structure Begins : Prop where
  hm : ∀ R k, V c main_v10 (ix2 R k) = mix (ix2 R k)
  hw : ∀ k J, V c main_v12 (ix2 k J) = w (ix3 0 k J)
  hp : ∀ R k, V c main_v13 (ix2 R k) = xp (ix3 0 R k)
  hs : ∀ (R : Fin 1024) k, V c main_v0 (ix2 R k) = xs (ix3 ⟨R.val / 8, by omega⟩ ⟨R.val % 8, by omega⟩ k)

theorem idx : ∀ t : Fin cfg1.N, win1_0.index t = ![t.val / 8, 0] ∧ win1_1.index t = ![0, t.val % 8]
    ∧ win1_2.index t = ![min (t.val / 8) 7, t.val % 8] ∧ win1_3.index t = ![0, t.val % 8] ∧ win1_4.index t = ![t.val / 8, t.val % 8] :=
  (by decide +kernel : ∀ t : Fin grid1.N, _)

theorem lt (t : Fin cfg1.N) : t.val < 72 := t.isLt

theorem coords : ∀ t : Fin cfg1.N, (grid1.coords t 0).val = t.val / 8 :=
  (by decide +kernel : ∀ t : Fin grid1.N, _)

/-- The array row and column of a block's. -/
abbrev rowOf (t : Fin cfg1.N) (r : Fin 1024) : Fin 9216 := ⟨1024 * (t.val / 8) + r.val, by have := lt t; omega⟩
abbrev colOf (t : Fin cfg1.N) (j : Fin 512) : Fin 4096 := ⟨512 * (t.val % 8) + j.val, by omega⟩

theorem body_val (i : grid1.Coords) (hp hs : FVec Ideal S1024x512 .f32) (x : FVec Ideal S1024x4096 .bf16) (w : FVec Ideal S4096x512 .bf16) (r : Fin 1024) (j : Fin 512) (a : EReal) (p q : Fin 4096 → EReal)
    (ha : (if (i 0).val < 8 then hp (ix2 r j) else hs (ix2 r j)) = a) (hx : ∀ k, x (ix2 r k) = p k) (hw : ∀ k, w (ix2 k j) = q k) :
    (k1_pay1 (F := Ideal) i hp hs x w (ix2 r j) : EReal) = Spec.root * a + ∑ k, p k * q k := by
  simp only [← ha, ← hx, ← hw]
  have hi : (i 0).val < 9 := (i 0).isLt
  have hc : Scalar.cmpi .slt (BitVec.ofNat 32 (i 0).val) 8#32 = if (i 0).val < 8 then 1#1 else 0#1 := by
    generalize (i 0).val = n at hi
    interval_cases n <;> rfl
  unfold k1_pay1
  rw [hc]
  by_cases h : (i 0).val < 8
  · rw [if_pos h, if_pos h]
    pointwise
    rfl
  · rw [if_neg h, if_neg h]
    pointwise
    rfl

section Blocks
variable {V c mix w xp xs} (H : Begins V c mix w xp xs)
include H

theorem x_blk (t : Fin cfg1.N) (r : Fin 1024) (k : Fin 4096) : iblk1 V c 0 t (ix2 r k) = mix (ix2 (rowOf t r) k) := by
  rw [← H.hm]
  unfold iblk1
  blk_ext [idx t]

theorem w_blk (t : Fin cfg1.N) (k : Fin 4096) (j : Fin 512) : iblk1 V c 1 t (ix2 k j) = w (ix3 0 k (colOf t j)) := by
  rw [← H.hw]
  unfold iblk1
  blk_ext [idx t]

/-- Where the rows are the prompt's, the first residual window holds them; -/
theorem p_blk (t : Fin cfg1.N) (h : t.val / 8 < 8) (r : Fin 1024) (j : Fin 512) : iblk1 V c 2 t (ix2 r j) = Spec.row xp xs (rowOf t r) (colOf t j) := by
  unfold Spec.row
  rw [dif_pos (show (rowOf t r).val < 8192 by show 1024 * (t.val / 8) + r.val < 8192; omega), ← H.hp]
  have e := (idx t).2.2.1
  rw [Nat.min_eq_left (by omega)] at e
  unfold iblk1
  blk_ext [e]

/-- where they are the samples', the second. -/
theorem s_blk (t : Fin cfg1.N) (h : ¬ t.val / 8 < 8) (r : Fin 1024) (j : Fin 512) : iblk1 V c 3 t (ix2 r j) = Spec.row xp xs (rowOf t r) (colOf t j) := by
  have ht := lt t
  unfold Spec.row
  rw [dif_neg (show ¬ (rowOf t r).val < 8192 by show ¬ 1024 * (t.val / 8) + r.val < 8192; omega)]
  have e : iblk1 V c 3 t (ix2 r j) = V c main_v0 (ix2 r (colOf t j)) := by
    unfold iblk1
    blk_ext [idx t]
  rw [e, H.hs]
  refine congrArg₂ (fun a b => xs (ix3 a b (colOf t j))) (Fin.ext ?_) (Fin.ext ?_)
  · show r.val / 8 = (1024 * (t.val / 8) + r.val - 8192) / 8; omega
  · show r.val % 8 = (1024 * (t.val / 8) + r.val - 8192) % 8; omega

theorem pt (t : Fin cfg1.N) (r : Fin 1024) (j : Fin 512) :
    (k1_pay1 (F := Ideal) (grid1.coords t) (iblk1 V c 2 t) (iblk1 V c 3 t) (iblk1 V c 0 t) (iblk1 V c 1 t) (ix2 r j) : EReal) = Spec.outProj mix w xp xs (rowOf t r) (colOf t j) :=
  body_val _ _ _ _ _ r j _ _ _ (by
    rw [coords]
    by_cases h : t.val / 8 < 8
    · rw [if_pos h]; exact p_blk H t h r j
    · rw [if_neg h]; exact s_blk H t h r j) (fun k => x_blk H t r k) (fun k => w_blk H t k j)

theorem final : (dat1 V c).arrAt 4 cfg1.N = fun i => Spec.outProj mix w xp xs (i 0) (i 1) := by
  refine (dat1 V c).arrAt_eq_of_covers 4 _ (by decide +kernel) fun t _ y => ?_
  blk_simp
  rw [after1_4]
  frame_out
  idx_vars y
  refine (pt H t _ _).trans ?_
  refine congrArg₂ (Spec.outProj mix w xp xs) (Fin.ext ?_) (Fin.ext ?_)
  · blk_simp [idx t]; show 1024 * (t.val / 8) + y0.val = _; omega
  · blk_simp [idx t]; show 512 * (t.val % 8) + y1.val = _; omega

end Blocks

end Cert.Kernel12Ideal.Proj

end
-- ==== Proof.JoinNorm.lean ====
module

public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Spec
public import proofs.«01_k».proof.Proof.Rows

@[expose] public section

set_option maxRecDepth 16384

/-! The first norm inside the chain: the two arrays it leaves, over whatever its arguments hold when it begins. -/

noncomputable section

namespace Cert.Kernel12Ideal.Norm

open Cert.Kernel12Ideal Cert.Kernel12Ideal.Gen
open Idealize.ShloMosaic Idealize.ShloMosaic.TcCoe Idealize.ShloMosaic.Tactic
open Idealize.ShloMosaic.Pipeline (Dat Cfg Window)

-- what the buffers hold when the call begins
variable (V : (c : Dev nD) → (b : Ref sig .tc) → Buf (Elt Ideal) ((c : Thread nD τ).loc b)) (c : Dev nD)
variable (s : Spec.M2 9216 4096) (g b : Spec.M2 1 4096)

/-- The arguments' entries as the call begins. -/
structure Begins : Prop where
  hx : ∀ R k, V c main_v14 (ix2 R k) = s (ix2 R k)
  hg : ∀ k, V c main_arg9 (ix2 0 k) = g (ix2 0 k)
  hb : ∀ k, V c main_arg10 (ix2 0 k) = b (ix2 0 k)

theorem idx : ∀ t : Fin cfg2.N, win2_0.index t = ![t.val, 0] ∧ win2_1.index t = ![0, 0] ∧ win2_2.index t = ![0, 0]
    ∧ win2_3.index t = ![t.val, 0] ∧ win2_4.index t = ![t.val, 0] :=
  (by decide +kernel : ∀ t : Fin grid2.N, _)

theorem lt (t : Fin cfg2.N) : t.val < 36 := t.isLt

/-- The array row of a block's. -/
abbrev rowOf (t : Fin cfg2.N) (r : Fin 256) : Fin 9216 := ⟨256 * t.val + r.val, by have := lt t; omega⟩

/-- The body's value over the blocks' entries. -/
theorem body_val (x : FVec Ideal S256x4096 .f32) (g b : FVec Ideal S1x4096 .f32) (r : Fin 256) (j : Fin 4096) (row : Fin 4096 → EReal) (g' b' : Spec.M2 1 4096)
    (hx : ∀ k, x (ix2 r k) = row k) (hg : g (ix2 0 j) = g' (ix2 0 j)) (hb : b (ix2 0 j) = b' (ix2 0 j)) : (k2_pay1 (F := Ideal) x g b (ix2 r j) : EReal) = Spec.norm row g' b' j := by
  unfold Spec.norm Spec.var Spec.mean
  simp only [← hx, ← hg, ← hb]
  pointwise [k2_pay1]
  rfl

section Blocks
variable {V c s g b} (H : Begins V c s g b)
include H

theorem x_blk (t : Fin cfg2.N) (r : Fin 256) (k : Fin 4096) : iblk2 V c 0 t (ix2 r k) = s (ix2 (rowOf t r) k) := by
  rw [← H.hx]
  unfold iblk2
  blk_ext [idx t]

theorem g_blk (t : Fin cfg2.N) (k : Fin 4096) : iblk2 V c 1 t (ix2 0 k) = g (ix2 0 k) := by
  rw [← H.hg]
  unfold iblk2
  blk_ext [idx t]

theorem b_blk (t : Fin cfg2.N) (k : Fin 4096) : iblk2 V c 2 t (ix2 0 k) = b (ix2 0 k) := by
  rw [← H.hb]
  unfold iblk2
  blk_ext [idx t]

theorem pt (t : Fin cfg2.N) (r : Fin 256) (j : Fin 4096) :
    (k2_pay1 (F := Ideal) (iblk2 V c 0 t) (iblk2 V c 1 t) (iblk2 V c 2 t) (ix2 r j) : EReal) = Spec.norm (fun k => s (ix2 (rowOf t r) k)) g b j :=
  body_val _ _ _ r j _ _ _ (fun k => x_blk H t r k) (g_blk H t j) (b_blk H t j)

theorem final_f : (dat2 V c).arrAt 3 cfg2.N = fun i => Spec.norm (fun k => s (ix2 (i 0) k)) g b (i 1) := by
  refine (dat2 V c).arrAt_eq_of_covers 3 _ (by decide +kernel) fun t _ y => ?_
  blk_simp
  rw [after2_3]
  frame_out
  idx_vars y
  refine (pt H t _ _).trans ?_
  refine congrArg₂ (fun (R : Fin 9216) J => Spec.norm (fun k => s (ix2 R k)) g b J) (Fin.ext ?_) (Fin.ext ?_)
  · blk_simp [idx t]; show 256 * t.val + y0.val = _; omega
  · blk_simp [idx t]

theorem final_b : (dat2 V c).arrAt 4 cfg2.N = fun i => Spec.norm (fun k => s (ix2 (i 0) k)) g b (i 1) := by
  refine (dat2 V c).arrAt_eq_of_covers 4 _ (by decide +kernel) fun t _ y => ?_
  blk_simp
  rw [after2_4]
  frame_out
  idx_vars y
  refine (pt H t _ _).trans ?_
  refine congrArg₂ (fun (R : Fin 9216) J => Spec.norm (fun k => s (ix2 R k)) g b J) (Fin.ext ?_) (Fin.ext ?_)
  · blk_simp [idx t]; show 256 * t.val + y0.val = _; omega
  · blk_simp [idx t]

end Blocks

end Cert.Kernel12Ideal.Norm

end
-- ==== Proof.JoinRun.lean ====
module

public import proofs.«01_k».proof.Proof.JoinMerge
public import proofs.«01_k».proof.Proof.JoinProj
public import proofs.«01_k».proof.Proof.JoinNorm

@[expose] public section

set_option maxRecDepth 16384

/-! The merge, the output projection and the first norm, one after the other: what each finds, and what the last leaves. -/

noncomputable section

namespace Cert.Kernel12Ideal.Chain

open Cert.Kernel12Ideal Cert.Kernel12Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- The three results over the arguments the memory holds. -/
abbrev arg (r : Ref sig .tc) : Buf (Elt Ideal) ((c : Thread nD τ).loc r) := m ((c : Thread nD τ).loc r)
abbrev rows : Spec.M2 9216 4096 := fun i => Spec.row (arg m c main_arg0) (arg m c main_arg1) (i 0) (i 1)
abbrev mixW : Spec.M2 4096 8192 := fun i => arg m c main_arg5 (ix3 0 (i 0) ⟨11312 + (i 1).val, by have := (i 1).isLt; simp at this; omega⟩)
abbrev mix : Spec.M2 9216 4096 := fun i => Spec.merge (rows m c) (arg m c main_arg2) (arg m c main_arg3) (arg m c main_arg4) (arg m c main_arg6) (arg m c main_arg7) (mixW m c) (i 0) (i 1)
abbrev sum : Spec.M2 9216 4096 := fun i => Spec.outProj (mix m c) (arg m c main_arg8) (arg m c main_arg0) (arg m c main_arg1) (i 0) (i 1)
def val (R : Fin 9216) (J : Fin 4096) : EReal := Spec.norm (fun k => sum m c (ix2 R k)) (arg m c main_arg9) (arg m c main_arg10) J

theorem x_entry (R : Fin 9216) (k : Fin 4096) : V1 m ρ c main_v4 (ix2 R k) = rows m c (ix2 R k) := by
  show StableHlo.after hostOps0 (W0 m ρ c) main_v4 (ix2 R k) = _
  entry_read
  show _ = Spec.row (arg m c main_arg0) (arg m c main_arg1) R k
  unfold Spec.row
  by_cases h : R.val < 8192
  · rw [dif_pos h]
    refine (Rows.join_fst _ _ _ R k h).trans ?_
    exact Rows.flat_one (arg m c main_arg0) shapeCasts_S1x8192x4096_S8192x4096 _ _
  · rw [dif_neg h]
    refine (Rows.join_snd _ _ _ R k ⟨R.val - 8192, by omega⟩ (by show R.val = 8192 + (R.val - 8192); omega)).trans ?_
    exact Rows.flat (arg m c main_arg1) shapeCasts_S128x8x4096_S1024x4096 _ _ _ _ (by show R.val - 8192 = (R.val - 8192) / 8 * 8 + (R.val - 8192) % 8; omega)

theorem g_entry (k : Fin 4096) (J : Fin 8192) : V1 m ρ c main_v7 (ix2 k J) = mixW m c (ix2 k J) := by
  show StableHlo.after hostOps0 (W0 m ρ c) main_v7 (ix2 k J) = _
  entry_read
  refine Eq.trans ?_ (Rows.flat_one (arg m c main_arg5) shapeCasts_S1x4096x19504_S4096x19504 k ⟨11312 + J.val, by omega⟩)
  refine congrArg (shapeCast S4096x19504 (arg m c main_arg5) shapeCasts_S1x4096x19504_S4096x19504) (?_ : _ = ix2 k ⟨11312 + J.val, by omega⟩)
  funext a
  fin_cases a
  · exact Fin.ext (by show 0 + k.val = k.val; omega)
  · exact Fin.ext (by show 11312 + J.val = 11312 + J.val; rfl)

theorem c_entry (k : Fin 2048) (J : Fin 4096) : V1 m ρ c main_v8 (ix2 k J) = arg m c main_arg6 (ix3 0 k J) := by
  show StableHlo.after hostOps0 (W0 m ρ c) main_v8 (ix2 k J) = _
  entry_read
  exact Rows.flat_one (arg m c main_arg6) shapeCasts_S1x2048x4096_S2048x4096 _ _

theorem n_entry (k : Fin 2048) (J : Fin 4096) : V1 m ρ c main_v9 (ix2 k J) = arg m c main_arg7 (ix3 0 k J) := by
  show StableHlo.after hostOps0 (W0 m ρ c) main_v9 (ix2 k J) = _
  entry_read
  exact Rows.flat_one (arg m c main_arg7) shapeCasts_S1x2048x4096_S2048x4096 _ _

theorem begins0 : Merge.Begins (V1 m ρ) c (rows m c) (arg m c main_arg2) (arg m c main_arg3) (arg m c main_arg4) (arg m c main_arg6) (arg m c main_arg7) (mixW m c) where
  hx := x_entry m ρ c
  hz R k := congrFun (W1_args m ρ c main_arg2 (by decide)) _
  hp R k := congrFun (W1_args m ρ c main_arg3 (by decide)) _
  hs R k := congrFun (W1_args m ρ c main_arg4 (by decide)) _
  hc := c_entry m ρ c
  hn := n_entry m ρ c
  hg := g_entry m ρ c

theorem mix_at : W2 m ρ c (Proc.devRef .tc main_v10) = mix m c :=
  (W2_arr m ρ c 8).trans (Merge.final (begins0 m ρ c))

theorem w_entry (k : Fin 4096) (J : Fin 4096) : V3 m ρ c main_v12 (ix2 k J) = arg m c main_arg8 (ix3 0 k J) := by
  rw [show arg m c main_arg8 = W2 m ρ c (Proc.devRef .tc main_arg8) from (W2_args m ρ c main_arg8 (by decide)).symm]
  show StableHlo.after hostOps1 (W2 m ρ c) main_v12 (ix2 k J) = _
  entry_read
  exact Rows.flat_one (W2 m ρ c (Proc.devRef .tc main_arg8)) shapeCasts_S1x4096x4096_S4096x4096 _ _

theorem p_entry (R : Fin 8192) (k : Fin 4096) : V3 m ρ c main_v13 (ix2 R k) = arg m c main_arg0 (ix3 0 R k) := by
  rw [show arg m c main_arg0 = W2 m ρ c (Proc.devRef .tc main_arg0) from (W2_args m ρ c main_arg0 (by decide)).symm]
  show StableHlo.after hostOps1 (W2 m ρ c) main_v13 (ix2 R k) = _
  entry_read
  exact Rows.flat_one (W2 m ρ c (Proc.devRef .tc main_arg0)) shapeCasts_S1x8192x4096_S8192x4096 _ _

theorem s_entry (R : Fin 1024) (k : Fin 4096) : V3 m ρ c main_v0 (ix2 R k) = arg m c main_arg1 (ix3 ⟨R.val / 8, by omega⟩ ⟨R.val % 8, by omega⟩ k) := by
  have e : V3 m ρ c main_v0 = W1 m ρ c (Proc.devRef .tc main_v0) :=
    (W3_of m ρ c main_v0 (by decide)).trans (W2_of m ρ c main_v0 (by decide))
  rw [e]
  show StableHlo.after hostOps0 (W0 m ρ c) main_v0 (ix2 R k) = _
  entry_read
  exact Rows.flat (arg m c main_arg1) shapeCasts_S128x8x4096_S1024x4096 _ _ _ _ (by show R.val = R.val / 8 * 8 + R.val % 8; omega)

theorem begins1 : Proj.Begins (V3 m ρ) c (mix m c) (arg m c main_arg8) (arg m c main_arg0) (arg m c main_arg1) where
  hm R k := congrFun ((W3_of m ρ c main_v10 (by decide)).trans (mix_at m ρ c)) _
  hw := w_entry m ρ c
  hp := p_entry m ρ c
  hs := s_entry m ρ c

theorem sum_at : W4 m ρ c (Proc.devRef .tc main_v14) = sum m c :=
  (W4_arr m ρ c 4).trans (Proj.final (begins1 m ρ c))

theorem begins2 : Norm.Begins (V4 m ρ) c (sum m c) (arg m c main_arg9) (arg m c main_arg10) where
  hx R k := congrFun (sum_at m ρ c) _
  hg k := congrFun (W4_args m ρ c main_arg9 (by decide)) _
  hb k := congrFun (W4_args m ρ c main_arg10 (by decide)) _

theorem norm_f : W5 m ρ c (Proc.devRef .tc main_v15_0) = fun i => val m c (i 0) (i 1) :=
  (W5_arr m ρ c 3).trans (Norm.final_f (begins2 m ρ c))

theorem norm_b : W5 m ρ c (Proc.devRef .tc main_v15_1) = fun i => val m c (i 0) (i 1) :=
  (W5_arr m ρ c 4).trans (Norm.final_b (begins2 m ρ c))

section Run

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

local notation "𝕄" => MT nD τ sig Unit (Elt Ideal) ℕ (UR sig nD τ) ℕ

-- the launch rule's implicit arguments are read off the statement
set_option backward.isDefEq.respectTransparency.types false in
/-- The run ends with the last norm's two arrays at their values, and the arguments as they began. -/
theorem run : θ_run defs (onTc (τ := τ) (main (F := Ideal))) ⟨m, fun _ => 0, ρ⟩ (fun r => ∀ c : Dev nD,
      r.2.mem ((c.tc : Thread nD τ).loc main_v15_0) = (fun i => val m c (i 0) (i 1))
      ∧ r.2.mem ((c.tc : Thread nD τ).loc main_v15_1) = (fun i => val m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v15_0 (by decide))).trans (norm_f m ρ c),
       (h c _ (mem_uc main_v15_1 (by decide))).trans (norm_b m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Run

end Cert.Kernel12Ideal.Chain

end
-- ==== Proof.Plain12.lean ====
module

public import proofs.«01_k».proof.Proof.Gen.Reference12Ideal.Read
public import proofs.«01_k».proof.Proof.Gen.Reference12Ideal.Run
public import proofs.«01_k».proof.Proof.Spec
public import proofs.«01_k».proof.Proof.Rows
public import Idealize.ShloMosaic.Lib.Pipeline.ValueKit

@[expose] public section

set_option maxRecDepth 16384

/-! The reference of the merge, the output projection and the first norm in one, entry by entry. -/

noncomputable section

namespace Cert.Reference12Ideal.Val

open Cert.Reference12Ideal Cert.Reference12Ideal.Gen Cert.Reference12Ideal.Read
open Idealize.ShloMosaic Idealize.ShloMosaic.TcCoe Idealize.ShloMosaic.Tactic

variable (x0 : (⟨S1x8192x4096, .f32⟩ : BufTy).Contents (Elt Ideal)) (x1 : (⟨S128x8x4096, .f32⟩ : BufTy).Contents (Elt Ideal)) (x2 : (⟨S9216x2048, .bf16⟩ : BufTy).Contents (Elt Ideal)) (x3 : (⟨S8192x2048, .bf16⟩ : BufTy).Contents (Elt Ideal)) (x4 : (⟨S1024x2048, .f32⟩ : BufTy).Contents (Elt Ideal)) (x5 : (⟨S1x4096x19504, .f32⟩ : BufTy).Contents (Elt Ideal)) (x6 : (⟨S1x2048x4096, .f32⟩ : BufTy).Contents (Elt Ideal)) (x7 : (⟨S1x2048x4096, .f32⟩ : BufTy).Contents (Elt Ideal)) (x8 : (⟨S1x4096x4096, .f32⟩ : BufTy).Contents (Elt Ideal)) (x9 : (⟨S1x4096, .f32⟩ : BufTy).Contents (Elt Ideal)) (x10 : (⟨S1x4096, .f32⟩ : BufTy).Contents (Elt Ideal))

/-- The rows of the prompt, then those of the samples; the columns of the gates; the mix; the sum; its norm. -/
abbrev rows : Spec.M2 9216 4096 := fun i => Spec.row x0 x1 (i 0) (i 1)
abbrev mixW : Spec.M2 4096 8192 := fun i => x5 (ix3 0 (i 0) ⟨11312 + (i 1).val, by have := (i 1).isLt; simp at this; omega⟩)
abbrev mix : Spec.M2 9216 4096 := fun i => Spec.merge (rows x0 x1) x2 x3 x4 x6 x7 (mixW x5) (i 0) (i 1)
abbrev sum : Spec.M2 9216 4096 := fun i => Spec.outProj (mix x0 x1 x2 x3 x4 x5 x6 x7) x8 x0 x1 (i 0) (i 1)
def val (R : Fin 9216) (J : Fin 4096) : EReal := Spec.norm (fun k => sum x0 x1 x2 x3 x4 x5 x6 x7 x8 (ix2 R k)) x9 x10 J

theorem row_val (R : Fin 9216) (k : Fin 4096) : val_main_v2 (F := Ideal) x0 x1 (ix2 R k) = rows x0 x1 (ix2 R k) := by
  unfold val_main_v2 val_main_v0 val_main_v1
  exact Spec.row_join x0 x1 _ _ _ R k

theorem att_val (R : Fin 9216) (k : Fin 2048) : val_main_v4 (F := Ideal) x3 x4 (ix2 R k) = Spec.att x3 x4 R k := by
  unfold val_main_v4 val_main_v3
  exact Spec.att_join x3 x4 _ R k

theorem flat_g (k : Fin 4096) (J : Fin 8192) : val_main_v6 (F := Ideal) x5 (ix2 k J) = mixW x5 (ix2 k J) := by
  unfold val_main_v6 val_main_v5
  refine Eq.trans ?_ (Rows.flat_one x5 shapeCasts_S1x4096x19504_S4096x19504 k ⟨11312 + J.val, by omega⟩)
  refine congrArg (shapeCast S4096x19504 x5 shapeCasts_S1x4096x19504_S4096x19504) (?_ : _ = ix2 k ⟨11312 + J.val, by omega⟩)
  funext a
  fin_cases a
  · exact Fin.ext (by show 0 + k.val = k.val; omega)
  · exact Fin.ext (by show 11312 + J.val = 11312 + J.val; rfl)

theorem flat_c (k : Fin 2048) (J : Fin 4096) : val_main_v17 (F := Ideal) x6 (ix2 k J) = x6 (ix3 0 k J) := by
  unfold val_main_v17
  exact Rows.flat_one x6 _ _ _

theorem flat_n (k : Fin 2048) (J : Fin 4096) : val_main_v26 (F := Ideal) x7 (ix2 k J) = x7 (ix3 0 k J) := by
  unfold val_main_v26
  exact Rows.flat_one x7 _ _ _

theorem flat_w (k : Fin 4096) (J : Fin 4096) : val_main_v32 (F := Ideal) x8 (ix2 k J) = x8 (ix3 0 k J) := by
  unfold val_main_v32
  exact Rows.flat_one x8 _ _ _

theorem gate_val (R : Fin 9216) (J : Fin 8192) : val_main_v7 (F := Ideal) x0 x1 x5 (ix2 R J) = ∑ k : Fin 4096, rows x0 x1 (ix2 R k) * mixW x5 (ix2 k J) := by
  simp only [← row_val]
  pointwise [val_main_v7]
  exact Finset.sum_congr rfl fun k _ => congrArg (val_main_v2 (F := Ideal) x0 x1 (ix2 R k) * ·) (flat_g x5 k J)

theorem conv_val (R : Fin 9216) (J : Fin 4096) : val_main_v18 (F := Ideal) x2 x6 (ix2 R J) = ∑ k : Fin 2048, x2 (ix2 R k) * x6 (ix3 0 k J) := by
  simp only [← flat_c]
  pointwise [val_main_v18, val_main_v16]

theorem nsa_val (R : Fin 9216) (J : Fin 4096) : val_main_v27 (F := Ideal) x3 x4 x7 (ix2 R J) = ∑ k : Fin 2048, Spec.att x3 x4 R k * x7 (ix3 0 k J) := by
  simp only [← flat_n, ← att_val]
  pointwise [val_main_v27]

theorem mix_val (R : Fin 9216) (J : Fin 4096) : val_main_v29 (F := Ideal) x0 x1 x2 x3 x4 x5 x6 x7 (ix2 R J) = mix x0 x1 x2 x3 x4 x5 x6 x7 (ix2 R J) := by
  show _ = Spec.merge (rows x0 x1) x2 x3 x4 x6 x7 (mixW x5) R J
  unfold Spec.merge Spec.gate
  rw [← conv_val, ← nsa_val, ← gate_val, ← gate_val]
  pointwise [val_main_v29, val_main_v28, val_main_v25, val_main_v24, val_main_v23, val_main_v22, val_main_v21, val_main_v20, val_main_v19, val_main_v15, val_main_v14, val_main_v13, val_main_v12, val_main_v11, val_main_v10, val_main_v9, val_main_v8, val_main_cst, val_main_cst_0, val_main_cst_1, val_main_cst_2]
  rfl

theorem sum_val (R : Fin 9216) (J : Fin 4096) : val_main_v34 (F := Ideal) x0 x1 x2 x3 x4 x5 x6 x7 x8 (ix2 R J) = sum x0 x1 x2 x3 x4 x5 x6 x7 x8 (ix2 R J) := by
  show _ = Spec.outProj (mix x0 x1 x2 x3 x4 x5 x6 x7) x8 x0 x1 R J
  have e : Spec.row x0 x1 R J = val_main_v2 (F := Ideal) x0 x1 (ix2 R J) := (row_val x0 x1 R J).symm
  unfold Spec.outProj
  rw [e]
  simp only [← flat_w, ← mix_val]
  pointwise [val_main_v34, val_main_v33, val_main_v31, val_main_v30, val_main_cst_3]
  rfl

theorem mean_val (R : Fin 9216) : val_main_v40 (F := Ideal) x0 x1 x2 x3 x4 x5 x6 x7 x8 (ix2 R 0) = Spec.mean (fun k => sum x0 x1 x2 x3 x4 x5 x6 x7 x8 (ix2 R k)) := by
  simp only [← sum_val]
  unfold Spec.mean Spec.width
  pointwise [val_main_v40, val_main_v39, val_main_v38, val_main_v37, val_main_cst_4, val_main_cst_5]
  try rfl

theorem var_val (R : Fin 9216) : val_main_v47 (F := Ideal) x0 x1 x2 x3 x4 x5 x6 x7 x8 (ix2 R 0) = Spec.var (fun k => sum x0 x1 x2 x3 x4 x5 x6 x7 x8 (ix2 R k)) := by
  unfold Spec.var Spec.width
  rw [← mean_val]
  simp only [← sum_val]
  pointwise [val_main_v47, val_main_v46, val_main_v45, val_main_v44, val_main_v43, val_main_v42, val_main_v41, val_main_cst_6, val_main_cst_7]
  try rfl

theorem norm_val (R : Fin 9216) (J : Fin 4096) : val_main_v60 (F := Ideal) x0 x1 x2 x3 x4 x5 x6 x7 x8 x9 x10 (ix2 R J) = val x0 x1 x2 x3 x4 x5 x6 x7 x8 x9 x10 R J := by
  unfold val Spec.norm
  rw [← var_val, ← mean_val]
  beta_reduce
  rw [← sum_val]
  pointwise [val_main_v60, val_main_v59, val_main_v58, val_main_v57, val_main_v56, val_main_v55, val_main_v54, val_main_v53, val_main_v52, val_main_v51, val_main_v50, val_main_v49, val_main_v48, val_main_cst_8, val_main_v36, val_main_v35]
  try rfl

theorem norm_val_b (R : Fin 9216) (J : Fin 4096) : val_main_v61 (F := Ideal) x0 x1 x2 x3 x4 x5 x6 x7 x8 x9 x10 (ix2 R J) = val x0 x1 x2 x3 x4 x5 x6 x7 x8 x9 x10 R J :=
  norm_val x0 x1 x2 x3 x4 x5 x6 x7 x8 x9 x10 R J

theorem ix2_eta {a b : Nat} (i : (⟨2, ![a, b]⟩ : Shape).Idx) : i = ix2 (i 0) (i 1) := by
  funext d
  fin_cases d <;> rfl

variable (m : (ℓ : Loc nD τ sig) → Buf (Elt Ideal) ℓ)

open Idealize.SL.Sem

/-- The reference's run: its results entry by entry, the arguments as they began. -/
theorem run (ρ : Dev nD → PrngReg) : θ_run defs (onTc (τ := τ) (main (F := Ideal))) ⟨m, fun _ => 0, ρ⟩ (fun r => ∀ c : Dev nD,
      r.2.mem ((c : Thread nD τ).loc main_v60) = (fun i => val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1))
      ∧ r.2.mem ((c : Thread nD τ).loc main_v61) = (fun i => val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c).1.trans ((val_main_v60_eq _ _).trans (funext fun i => (congrArg _ (ix2_eta i)).trans (norm_val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)))),
      (h c).2.1.trans ((val_main_v61_eq _ _).trans (funext fun i => (congrArg _ (ix2_eta i)).trans (norm_val_b (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)))),
      (h c).2.2⟩)
    (Cert.Reference12Ideal.Value.run m ρ)

/-- The reference names no counter, so every one is at zero. -/
theorem sems (s : MemSt nD τ sig (Elt Ideal)) : s.sem = fun _ => 0 := sem_eq_zero_of_no_sems rfl s

end Cert.Reference12Ideal.Val

end
-- ==== Proof.Claim12.lean ====
/- The claims about the merge, the output projection and the first norm in one program (Kernel12, Kernel12Ideal and Reference12Ideal). -/
module

public import proofs.«01_k».proof.Defs
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.JoinRun
public import proofs.«01_k».proof.Proof.Plain12
public import Idealize.ShloMosaic.Lib.Claim
public import Idealize.ShloMosaic.Adequacy
public import Idealize.ShloMosaic.Init

@[expose] public section

noncomputable section

namespace Cert.Proof

open Idealize.ShloMosaic Idealize.SL.Sem

theorem quiescent12 : Cert.quiescent_Kernel12 := fun m ρ _ => Cert.Kernel12.Gen.frame m ρ

theorem quiescent_ideal12 : Cert.quiescent_Kernel12Ideal := fun m ρ _ => Cert.Kernel12Ideal.Gen.frame m ρ

theorem quiescent_ref12 : Cert.quiescent_Reference12Ideal := fun m ρ _ =>
  (θ_run Cert.Reference12Ideal.defs _ _).mono (fun r h => ⟨fun c => (h c).2.2, Cert.Reference12Ideal.Val.sems _⟩) (Cert.Reference12Ideal.Val.run m ρ)

theorem algebraic12 : Cert.algebraic_Kernel12Ideal_Reference12Ideal := by
  pair_intro
  · exact Cert.Kernel12Ideal.Chain.run m g
  · refine (θ_run Cert.Reference12Ideal.defs _ _).mono (fun r h c => ?_) (Cert.Reference12Ideal.Val.run m' g')
    obtain ⟨h0, h1, ha⟩ := h c
    obtain ⟨a0, a1, a2, a3, a4, a5, a6, a7, a8, a9, a10⟩ := hagree c
    refine ⟨h0.trans ?_, h1.trans ?_, ha⟩
    · rw [a0, a1, a2, a3, a4, a5, a6, a7, a8, a9, a10]; rfl
    · rw [a0, a1, a2, a3, a4, a5, a6, a7, a8, a9, a10]; rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import proofs.«01_k».proof.Proof.Claim8
public import proofs.«01_k».proof.Proof.Claim9
public import proofs.«01_k».proof.Proof.Claim10
public import proofs.«01_k».proof.Proof.Claim11
public import proofs.«01_k».proof.Proof.Claim12
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    fun m ρ _ => Cert.Kernel.Gen.frame m ρ,
    fun m ρ _ => Cert.KernelIdeal.Gen.frame m ρ,
    quiescent2,
    quiescent_ideal2,
    quiescent_ref2,
    quiescent3,
    quiescent_ideal3,
    quiescent_ref3,
    quiescent4,
    quiescent_ideal4,
    quiescent_ref4,
    quiescent5,
    quiescent_ideal5,
    quiescent_ref5,
    quiescent6,
    quiescent_ideal6,
    quiescent_ref6,
    quiescent7,
    quiescent_ideal7,
    quiescent_ref7,
    quiescent8,
    quiescent_ideal8,
    quiescent_ref8,
    quiescent9,
    quiescent_ideal9,
    quiescent_ref9,
    quiescent10,
    quiescent_ideal10,
    quiescent_ref10,
    quiescent11,
    quiescent_ideal11,
    quiescent_ref11,
    quiescent12,
    quiescent_ideal12,
    quiescent_ref12,
    trivial,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12⟩

end Cert.Proof

end
